-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_decays_bounded [hPre_decays_bounded : Cert.Pre_decays_bounded.Facts] (m : (ℓ : Loc Cert.MixerIdeal.nD Cert.MixerIdeal.τ Cert.MixerIdeal.sig) → Buf (Elt Ideal) ℓ) : Prop :=
  ∀ c : Dev Cert.MixerIdeal.nD,
    (Cert.Pre_decays_bounded.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_decays_bounded [hPre_decays_bounded : Cert.Pre_decays_bounded.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_decays_bounded.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_HeadProj (m : (ℓ : Loc Cert.HeadProj.nD Cert.HeadProj.τ Cert.HeadProj.sig) → Buf (Elt Bits) ℓ) : Prop :=
  True

def Pre_HeadProjIdeal (m : (ℓ : Loc Cert.HeadProjIdeal.nD Cert.HeadProjIdeal.τ Cert.HeadProjIdeal.sig) → Buf (Elt Ideal) ℓ) : Prop :=
  True

def Pre_HeadProjRefIdeal (m : (ℓ : Loc Cert.HeadProjRefIdeal.nD Cert.HeadProjRefIdeal.τ Cert.HeadProjRefIdeal.sig) → Buf (Elt Ideal) ℓ) : Prop :=
  True

def Pre_RestProj (m : (ℓ : Loc Cert.RestProj.nD Cert.RestProj.τ Cert.RestProj.sig) → Buf (Elt Bits) ℓ) : Prop :=
  True

def Pre_RestProjIdeal (m : (ℓ : Loc Cert.RestProjIdeal.nD Cert.RestProjIdeal.τ Cert.RestProjIdeal.sig) → Buf (Elt Ideal) ℓ) : Prop :=
  True

def Pre_RestProjRefIdeal (m : (ℓ : Loc Cert.RestProjRefIdeal.nD Cert.RestProjRefIdeal.τ Cert.RestProjRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsIdeal_gates_finite [hPre_gates_finite : Cert.Pre_gates_finite.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_gates_finite.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_gates_finite [hPre_gates_finite : Cert.Pre_gates_finite.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_gates_finite.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Dispatch (m : (ℓ : Loc Cert.Dispatch.nD Cert.Dispatch.τ Cert.Dispatch.sig) → Buf (Elt Bits) ℓ) : Prop :=
  True

def Pre_DispatchIdeal (m : (ℓ : Loc Cert.DispatchIdeal.nD Cert.DispatchIdeal.τ Cert.DispatchIdeal.sig) → Buf (Elt Ideal) ℓ) : Prop :=
  True

def Pre_DispatchIdeal_gates_numbers [hPre_gates_numbers : Cert.Pre_gates_numbers.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_gates_numbers.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1))) = (fun _ => 1#1)

def Pre_DispatchRefIdeal (m : (ℓ : Loc Cert.DispatchRefIdeal.nD Cert.DispatchRefIdeal.τ Cert.DispatchRefIdeal.sig) → Buf (Elt Ideal) ℓ) : Prop :=
  True

def Pre_DispatchRefIdeal_gates_numbers [hPre_gates_numbers : Cert.Pre_gates_numbers.Facts] (m : (ℓ : Loc Cert.DispatchRefIdeal.nD Cert.DispatchRefIdeal.τ Cert.DispatchRefIdeal.sig) → Buf (Elt Ideal) ℓ) : Prop :=
  ∀ c : Dev Cert.DispatchRefIdeal.nD,
    (Cert.Pre_gates_numbers.fn (F := Ideal) (m ((c.tc : Thread Cert.DispatchRefIdeal.nD Cert.DispatchRefIdeal.τ).loc Cert.DispatchRefIdeal.main_arg0)) (m ((c.tc : Thread Cert.DispatchRefIdeal.nD Cert.DispatchRefIdeal.τ).loc Cert.DispatchRefIdeal.main_arg1))) = (fun _ => 1#1)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11))
      ∧ r.2.sem = fun _ => 0)

def quiescent_MixerIdeal_pre_decays_bounded [hMixerIdeal : Cert.MixerIdeal.Facts] [hPre_decays_bounded : Cert.Pre_decays_bounded.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_decays_bounded m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11))
      ∧ r.2.sem = fun _ => 0)

def quiescent_MixerRefIdeal_pre_decays_bounded [hMixerRefIdeal : Cert.MixerRefIdeal.Facts] [hPre_decays_bounded : Cert.Pre_decays_bounded.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_decays_bounded m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_HeadProj [hHeadProj : Cert.HeadProj.Facts] : Prop :=
  ∀ (m : (ℓ : Loc Cert.HeadProj.nD Cert.HeadProj.τ Cert.HeadProj.sig) → Buf (Elt Bits) ℓ) (g : Dev Cert.HeadProj.nD → PrngReg), Pre_HeadProj m →
    θ_run (Cert.HeadProj.defs (F := Bits)) (onTc (τ := Cert.HeadProj.τ) (Cert.HeadProj.main (F := Bits))) ⟨m, fun _ => 0, g⟩ (fun r => (∀ c : Dev Cert.HeadProj.nD,
      r.2.mem ((c.tc : Thread Cert.HeadProj.nD Cert.HeadProj.τ).loc Cert.HeadProj.main_arg0) = m ((c.tc : Thread Cert.HeadProj.nD Cert.HeadProj.τ).loc Cert.HeadProj.main_arg0)
      ∧ r.2.mem ((c.tc : Thread Cert.HeadProj.nD Cert.HeadProj.τ).loc Cert.HeadProj.main_arg1) = m ((c.tc : Thread Cert.HeadProj.nD Cert.HeadProj.τ).loc Cert.HeadProj.main_arg1))
      ∧ r.2.sem = fun _ => 0)

def quiescent_HeadProjIdeal [hHeadProjIdeal : Cert.HeadProjIdeal.Facts] : Prop :=
  ∀ (m : (ℓ : Loc Cert.HeadProjIdeal.nD Cert.HeadProjIdeal.τ Cert.HeadProjIdeal.sig) → Buf (Elt Ideal) ℓ) (g : Dev Cert.HeadProjIdeal.nD → PrngReg), Pre_HeadProjIdeal m →
    θ_run (Cert.HeadProjIdeal.defs (F := Ideal)) (onTc (τ := Cert.HeadProjIdeal.τ) (Cert.HeadProjIdeal.main (F := Ideal))) ⟨m, fun _ => 0, g⟩ (fun r => (∀ c : Dev Cert.HeadProjIdeal.nD,
      r.2.mem ((c.tc : Thread Cert.HeadProjIdeal.nD Cert.HeadProjIdeal.τ).loc Cert.HeadProjIdeal.main_arg0) = m ((c.tc : Thread Cert.HeadProjIdeal.nD Cert.HeadProjIdeal.τ).loc Cert.HeadProjIdeal.main_arg0)
      ∧ r.2.mem ((c.tc : Thread Cert.HeadProjIdeal.nD Cert.HeadProjIdeal.τ).loc Cert.HeadProjIdeal.main_arg1) = m ((c.tc : Thread Cert.HeadProjIdeal.nD Cert.HeadProjIdeal.τ).loc Cert.HeadProjIdeal.main_arg1))
      ∧ r.2.sem = fun _ => 0)

def quiescent_HeadProjRefIdeal [hHeadProjRefIdeal : Cert.HeadProjRefIdeal.Facts] : Prop :=
  ∀ (m : (ℓ : Loc Cert.HeadProjRefIdeal.nD Cert.HeadProjRefIdeal.τ Cert.HeadProjRefIdeal.sig) → Buf (Elt Ideal) ℓ) (g : Dev Cert.HeadProjRefIdeal.nD → PrngReg), Pre_HeadProjRefIdeal m →
    θ_run (Cert.HeadProjRefIdeal.defs (F := Ideal)) (onTc (τ := Cert.HeadProjRefIdeal.τ) (Cert.HeadProjRefIdeal.main (F := Ideal))) ⟨m, fun _ => 0, g⟩ (fun r => (∀ c : Dev Cert.HeadProjRefIdeal.nD,
      r.2.mem ((c.tc : Thread Cert.HeadProjRefIdeal.nD Cert.HeadProjRefIdeal.τ).loc Cert.HeadProjRefIdeal.main_arg0) = m ((c.tc : Thread Cert.HeadProjRefIdeal.nD Cert.HeadProjRefIdeal.τ).loc Cert.HeadProjRefIdeal.main_arg0)
      ∧ r.2.mem ((c.tc : Thread Cert.HeadProjRefIdeal.nD Cert.HeadProjRefIdeal.τ).loc Cert.HeadProjRefIdeal.main_arg1) = m ((c.tc : Thread Cert.HeadProjRefIdeal.nD Cert.HeadProjRefIdeal.τ).loc Cert.HeadProjRefIdeal.main_arg1))
      ∧ r.2.sem = fun _ => 0)

def quiescent_RestProj [hRestProj : Cert.RestProj.Facts] : Prop :=
  ∀ (m : (ℓ : Loc Cert.RestProj.nD Cert.RestProj.τ Cert.RestProj.sig) → Buf (Elt Bits) ℓ) (g : Dev Cert.RestProj.nD → PrngReg), Pre_RestProj m →
    θ_run (Cert.RestProj.defs (F := Bits)) (onTc (τ := Cert.RestProj.τ) (Cert.RestProj.main (F := Bits))) ⟨m, fun _ => 0, g⟩ (fun r => (∀ c : Dev Cert.RestProj.nD,
      r.2.mem ((c.tc : Thread Cert.RestProj.nD Cert.RestProj.τ).loc Cert.RestProj.main_arg0) = m ((c.tc : Thread Cert.RestProj.nD Cert.RestProj.τ).loc Cert.RestProj.main_arg0)
      ∧ r.2.mem ((c.tc : Thread Cert.RestProj.nD Cert.RestProj.τ).loc Cert.RestProj.main_arg1) = m ((c.tc : Thread Cert.RestProj.nD Cert.RestProj.τ).loc Cert.RestProj.main_arg1))
      ∧ r.2.sem = fun _ => 0)

def quiescent_RestProjIdeal [hRestProjIdeal : Cert.RestProjIdeal.Facts] : Prop :=
  ∀ (m : (ℓ : Loc Cert.RestProjIdeal.nD Cert.RestProjIdeal.τ Cert.RestProjIdeal.sig) → Buf (Elt Ideal) ℓ) (g : Dev Cert.RestProjIdeal.nD → PrngReg), Pre_RestProjIdeal m →
    θ_run (Cert.RestProjIdeal.defs (F := Ideal)) (onTc (τ := Cert.RestProjIdeal.τ) (Cert.RestProjIdeal.main (F := Ideal))) ⟨m, fun _ => 0, g⟩ (fun r => (∀ c : Dev Cert.RestProjIdeal.nD,
      r.2.mem ((c.tc : Thread Cert.RestProjIdeal.nD Cert.RestProjIdeal.τ).loc Cert.RestProjIdeal.main_arg0) = m ((c.tc : Thread Cert.RestProjIdeal.nD Cert.RestProjIdeal.τ).loc Cert.RestProjIdeal.main_arg0)
      ∧ r.2.mem ((c.tc : Thread Cert.RestProjIdeal.nD Cert.RestProjIdeal.τ).loc Cert.RestProjIdeal.main_arg1) = m ((c.tc : Thread Cert.RestProjIdeal.nD Cert.RestProjIdeal.τ).loc Cert.RestProjIdeal.main_arg1))
      ∧ r.2.sem = fun _ => 0)

def quiescent_RestProjRefIdeal [hRestProjRefIdeal : Cert.RestProjRefIdeal.Facts] : Prop :=
  ∀ (m : (ℓ : Loc Cert.RestProjRefIdeal.nD Cert.RestProjRefIdeal.τ Cert.RestProjRefIdeal.sig) → Buf (Elt Ideal) ℓ) (g : Dev Cert.RestProjRefIdeal.nD → PrngReg), Pre_RestProjRefIdeal m →
    θ_run (Cert.RestProjRefIdeal.defs (F := Ideal)) (onTc (τ := Cert.RestProjRefIdeal.τ) (Cert.RestProjRefIdeal.main (F := Ideal))) ⟨m, fun _ => 0, g⟩ (fun r => (∀ c : Dev Cert.RestProjRefIdeal.nD,
      r.2.mem ((c.tc : Thread Cert.RestProjRefIdeal.nD Cert.RestProjRefIdeal.τ).loc Cert.RestProjRefIdeal.main_arg0) = m ((c.tc : Thread Cert.RestProjRefIdeal.nD Cert.RestProjRefIdeal.τ).loc Cert.RestProjRefIdeal.main_arg0)
      ∧ r.2.mem ((c.tc : Thread Cert.RestProjRefIdeal.nD Cert.RestProjRefIdeal.τ).loc Cert.RestProjRefIdeal.main_arg1) = m ((c.tc : Thread Cert.RestProjRefIdeal.nD Cert.RestProjRefIdeal.τ).loc Cert.RestProjRefIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsIdeal_pre_gates_finite [hExpertsIdeal : Cert.ExpertsIdeal.Facts] [hPre_gates_finite : Cert.Pre_gates_finite.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_gates_finite m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsRefIdeal_pre_gates_finite [hExpertsRefIdeal : Cert.ExpertsRefIdeal.Facts] [hPre_gates_finite : Cert.Pre_gates_finite.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_gates_finite m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_Dispatch [hDispatch : Cert.Dispatch.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (onTc (τ := Cert.Dispatch.τ) (Cert.Dispatch.main (F := Bits))) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1))
      ∧ r.2.sem = fun _ => 0)

def quiescent_DispatchIdeal [hDispatchIdeal : Cert.DispatchIdeal.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ r.2.sem = fun _ => 0)

def quiescent_DispatchIdeal_pre_gates_numbers [hDispatchIdeal : Cert.DispatchIdeal.Facts] [hPre_gates_numbers : Cert.Pre_gates_numbers.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal_gates_numbers m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ r.2.sem = fun _ => 0)

def quiescent_DispatchRefIdeal [hDispatchRefIdeal : Cert.DispatchRefIdeal.Facts] : Prop :=
  ∀ (m : (ℓ : Loc Cert.DispatchRefIdeal.nD Cert.DispatchRefIdeal.τ Cert.DispatchRefIdeal.sig) → Buf (Elt Ideal) ℓ) (g : Dev Cert.DispatchRefIdeal.nD → PrngReg), Pre_DispatchRefIdeal m →
    θ_run (Cert.DispatchRefIdeal.defs (F := Ideal)) (onTc (τ := Cert.DispatchRefIdeal.τ) (Cert.DispatchRefIdeal.main (F := Ideal))) ⟨m, fun _ => 0, g⟩ (fun r => (∀ c : Dev Cert.DispatchRefIdeal.nD,
      r.2.mem ((c.tc : Thread Cert.DispatchRefIdeal.nD Cert.DispatchRefIdeal.τ).loc Cert.DispatchRefIdeal.main_arg0) = m ((c.tc : Thread Cert.DispatchRefIdeal.nD Cert.DispatchRefIdeal.τ).loc Cert.DispatchRefIdeal.main_arg0)
      ∧ r.2.mem ((c.tc : Thread Cert.DispatchRefIdeal.nD Cert.DispatchRefIdeal.τ).loc Cert.DispatchRefIdeal.main_arg1) = m ((c.tc : Thread Cert.DispatchRefIdeal.nD Cert.DispatchRefIdeal.τ).loc Cert.DispatchRefIdeal.main_arg1))
      ∧ r.2.sem = fun _ => 0)

def quiescent_DispatchRefIdeal_pre_gates_numbers [hDispatchRefIdeal : Cert.DispatchRefIdeal.Facts] [hPre_gates_numbers : Cert.Pre_gates_numbers.Facts] : Prop :=
  ∀ (m : (ℓ : Loc Cert.DispatchRefIdeal.nD Cert.DispatchRefIdeal.τ Cert.DispatchRefIdeal.sig) → Buf (Elt Ideal) ℓ) (g : Dev Cert.DispatchRefIdeal.nD → PrngReg), Pre_DispatchRefIdeal_gates_numbers m →
    θ_run (Cert.DispatchRefIdeal.defs (F := Ideal)) (onTc (τ := Cert.DispatchRefIdeal.τ) (Cert.DispatchRefIdeal.main (F := Ideal))) ⟨m, fun _ => 0, g⟩ (fun r => (∀ c : Dev Cert.DispatchRefIdeal.nD,
      r.2.mem ((c.tc : Thread Cert.DispatchRefIdeal.nD Cert.DispatchRefIdeal.τ).loc Cert.DispatchRefIdeal.main_arg0) = m ((c.tc : Thread Cert.DispatchRefIdeal.nD Cert.DispatchRefIdeal.τ).loc Cert.DispatchRefIdeal.main_arg0)
      ∧ r.2.mem ((c.tc : Thread Cert.DispatchRefIdeal.nD Cert.DispatchRefIdeal.τ).loc Cert.DispatchRefIdeal.main_arg1) = m ((c.tc : Thread Cert.DispatchRefIdeal.nD Cert.DispatchRefIdeal.τ).loc Cert.DispatchRefIdeal.main_arg1))
      ∧ r.2.sem = fun _ => 0)

def preserves_Mixer_MixerIdeal : Prop :=
  True

def algebraic_MixerIdeal_MixerRefIdeal_pre_decays_bounded [hMixerIdeal : Cert.MixerIdeal.Facts] [hMixerRefIdeal : Cert.MixerRefIdeal.Facts] [hPre_decays_bounded : Cert.Pre_decays_bounded.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_decays_bounded m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)) →
    ∃ (v0 : (c : Dev Cert.MixerIdeal.nD) → Buf (Elt Ideal) ((c.tc : Thread Cert.MixerIdeal.nD Cert.MixerIdeal.τ).loc Cert.MixerIdeal.main_v26_0)) (v1 : (c : Dev Cert.MixerIdeal.nD) → Buf (Elt Ideal) ((c.tc : Thread Cert.MixerIdeal.nD Cert.MixerIdeal.τ).loc Cert.MixerIdeal.main_v26_1)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v26_0) = v0 c
          ∧ r.2.mem ((c.tc : Thread Cert.MixerIdeal.nD Cert.MixerIdeal.τ).loc Cert.MixerIdeal.main_v26_1) = v1 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v179) = v0 c
          ∧ r.2.mem ((c.tc : Thread Cert.MixerRefIdeal.nD Cert.MixerRefIdeal.τ).loc Cert.MixerRefIdeal.main_v180) = v1 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v29) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v20) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_HeadProj_HeadProjIdeal : Prop :=
  True

def algebraic_HeadProjIdeal_HeadProjRefIdeal [hHeadProjIdeal : Cert.HeadProjIdeal.Facts] [hHeadProjRefIdeal : Cert.HeadProjRefIdeal.Facts] : Prop :=
  ∀ (m : (ℓ : Loc Cert.HeadProjIdeal.nD Cert.HeadProjIdeal.τ Cert.HeadProjIdeal.sig) → Buf (Elt Ideal) ℓ) (g : Dev Cert.HeadProjIdeal.nD → PrngReg)
    (m' : (ℓ : Loc Cert.HeadProjRefIdeal.nD Cert.HeadProjRefIdeal.τ Cert.HeadProjRefIdeal.sig) → Buf (Elt Ideal) ℓ) (g' : Dev Cert.HeadProjRefIdeal.nD → PrngReg), Pre_HeadProjIdeal m →
    (∀ c : Dev Cert.HeadProjIdeal.nD,
      m' ((c.tc : Thread Cert.HeadProjRefIdeal.nD Cert.HeadProjRefIdeal.τ).loc Cert.HeadProjRefIdeal.main_arg0) = m ((c.tc : Thread Cert.HeadProjIdeal.nD Cert.HeadProjIdeal.τ).loc Cert.HeadProjIdeal.main_arg0)
      ∧ m' ((c.tc : Thread Cert.HeadProjRefIdeal.nD Cert.HeadProjRefIdeal.τ).loc Cert.HeadProjRefIdeal.main_arg1) = m ((c.tc : Thread Cert.HeadProjIdeal.nD Cert.HeadProjIdeal.τ).loc Cert.HeadProjIdeal.main_arg1)) →
    ∃ (v0 : (c : Dev Cert.HeadProjIdeal.nD) → Buf (Elt Ideal) ((c.tc : Thread Cert.HeadProjIdeal.nD Cert.HeadProjIdeal.τ).loc Cert.HeadProjIdeal.main_v0_0)) (v1 : (c : Dev Cert.HeadProjIdeal.nD) → Buf (Elt Ideal) ((c.tc : Thread Cert.HeadProjIdeal.nD Cert.HeadProjIdeal.τ).loc Cert.HeadProjIdeal.main_v0_1)),
      θ_run (Cert.HeadProjIdeal.defs (F := Ideal)) (onTc (τ := Cert.HeadProjIdeal.τ) (Cert.HeadProjIdeal.main (F := Ideal))) ⟨m, fun _ => 0, g⟩ (fun r => ∀ c : Dev Cert.HeadProjIdeal.nD,
          r.2.mem ((c.tc : Thread Cert.HeadProjIdeal.nD Cert.HeadProjIdeal.τ).loc Cert.HeadProjIdeal.main_v0_0) = v0 c
          ∧ r.2.mem ((c.tc : Thread Cert.HeadProjIdeal.nD Cert.HeadProjIdeal.τ).loc Cert.HeadProjIdeal.main_v0_1) = v1 c
          ∧ r.2.mem ((c.tc : Thread Cert.HeadProjIdeal.nD Cert.HeadProjIdeal.τ).loc Cert.HeadProjIdeal.main_arg0) = m ((c.tc : Thread Cert.HeadProjIdeal.nD Cert.HeadProjIdeal.τ).loc Cert.HeadProjIdeal.main_arg0)
          ∧ r.2.mem ((c.tc : Thread Cert.HeadProjIdeal.nD Cert.HeadProjIdeal.τ).loc Cert.HeadProjIdeal.main_arg1) = m ((c.tc : Thread Cert.HeadProjIdeal.nD Cert.HeadProjIdeal.τ).loc Cert.HeadProjIdeal.main_arg1))
      ∧ θ_run (Cert.HeadProjRefIdeal.defs (F := Ideal)) (onTc (τ := Cert.HeadProjRefIdeal.τ) (Cert.HeadProjRefIdeal.main (F := Ideal))) ⟨m', fun _ => 0, g'⟩ (fun r => ∀ c : Dev Cert.HeadProjRefIdeal.nD,
          r.2.mem ((c.tc : Thread Cert.HeadProjRefIdeal.nD Cert.HeadProjRefIdeal.τ).loc Cert.HeadProjRefIdeal.main_v4) = v0 c
          ∧ r.2.mem ((c.tc : Thread Cert.HeadProjRefIdeal.nD Cert.HeadProjRefIdeal.τ).loc Cert.HeadProjRefIdeal.main_v5) = v1 c
          ∧ r.2.mem ((c.tc : Thread Cert.HeadProjRefIdeal.nD Cert.HeadProjRefIdeal.τ).loc Cert.HeadProjRefIdeal.main_arg0) = m' ((c.tc : Thread Cert.HeadProjRefIdeal.nD Cert.HeadProjRefIdeal.τ).loc Cert.HeadProjRefIdeal.main_arg0)
          ∧ r.2.mem ((c.tc : Thread Cert.HeadProjRefIdeal.nD Cert.HeadProjRefIdeal.τ).loc Cert.HeadProjRefIdeal.main_arg1) = m' ((c.tc : Thread Cert.HeadProjRefIdeal.nD Cert.HeadProjRefIdeal.τ).loc Cert.HeadProjRefIdeal.main_arg1))

def preserves_RestProj_RestProjIdeal : Prop :=
  True

def algebraic_RestProjIdeal_RestProjRefIdeal [hRestProjIdeal : Cert.RestProjIdeal.Facts] [hRestProjRefIdeal : Cert.RestProjRefIdeal.Facts] : Prop :=
  ∀ (m : (ℓ : Loc Cert.RestProjIdeal.nD Cert.RestProjIdeal.τ Cert.RestProjIdeal.sig) → Buf (Elt Ideal) ℓ) (g : Dev Cert.RestProjIdeal.nD → PrngReg)
    (m' : (ℓ : Loc Cert.RestProjRefIdeal.nD Cert.RestProjRefIdeal.τ Cert.RestProjRefIdeal.sig) → Buf (Elt Ideal) ℓ) (g' : Dev Cert.RestProjRefIdeal.nD → PrngReg), Pre_RestProjIdeal m →
    (∀ c : Dev Cert.RestProjIdeal.nD,
      m' ((c.tc : Thread Cert.RestProjRefIdeal.nD Cert.RestProjRefIdeal.τ).loc Cert.RestProjRefIdeal.main_arg0) = m ((c.tc : Thread Cert.RestProjIdeal.nD Cert.RestProjIdeal.τ).loc Cert.RestProjIdeal.main_arg0)
      ∧ m' ((c.tc : Thread Cert.RestProjRefIdeal.nD Cert.RestProjRefIdeal.τ).loc Cert.RestProjRefIdeal.main_arg1) = m ((c.tc : Thread Cert.RestProjIdeal.nD Cert.RestProjIdeal.τ).loc Cert.RestProjIdeal.main_arg1)) →
    ∃ (v0 : (c : Dev Cert.RestProjIdeal.nD) → Buf (Elt Ideal) ((c.tc : Thread Cert.RestProjIdeal.nD Cert.RestProjIdeal.τ).loc Cert.RestProjIdeal.main_v0)),
      θ_run (Cert.RestProjIdeal.defs (F := Ideal)) (onTc (τ := Cert.RestProjIdeal.τ) (Cert.RestProjIdeal.main (F := Ideal))) ⟨m, fun _ => 0, g⟩ (fun r => ∀ c : Dev Cert.RestProjIdeal.nD,
          r.2.mem ((c.tc : Thread Cert.RestProjIdeal.nD Cert.RestProjIdeal.τ).loc Cert.RestProjIdeal.main_v0) = v0 c
          ∧ r.2.mem ((c.tc : Thread Cert.RestProjIdeal.nD Cert.RestProjIdeal.τ).loc Cert.RestProjIdeal.main_arg0) = m ((c.tc : Thread Cert.RestProjIdeal.nD Cert.RestProjIdeal.τ).loc Cert.RestProjIdeal.main_arg0)
          ∧ r.2.mem ((c.tc : Thread Cert.RestProjIdeal.nD Cert.RestProjIdeal.τ).loc Cert.RestProjIdeal.main_arg1) = m ((c.tc : Thread Cert.RestProjIdeal.nD Cert.RestProjIdeal.τ).loc Cert.RestProjIdeal.main_arg1))
      ∧ θ_run (Cert.RestProjRefIdeal.defs (F := Ideal)) (onTc (τ := Cert.RestProjRefIdeal.τ) (Cert.RestProjRefIdeal.main (F := Ideal))) ⟨m', fun _ => 0, g'⟩ (fun r => ∀ c : Dev Cert.RestProjRefIdeal.nD,
          r.2.mem ((c.tc : Thread Cert.RestProjRefIdeal.nD Cert.RestProjRefIdeal.τ).loc Cert.RestProjRefIdeal.main_v4) = v0 c
          ∧ r.2.mem ((c.tc : Thread Cert.RestProjRefIdeal.nD Cert.RestProjRefIdeal.τ).loc Cert.RestProjRefIdeal.main_arg0) = m' ((c.tc : Thread Cert.RestProjRefIdeal.nD Cert.RestProjRefIdeal.τ).loc Cert.RestProjRefIdeal.main_arg0)
          ∧ r.2.mem ((c.tc : Thread Cert.RestProjRefIdeal.nD Cert.RestProjRefIdeal.τ).loc Cert.RestProjRefIdeal.main_arg1) = m' ((c.tc : Thread Cert.RestProjRefIdeal.nD Cert.RestProjRefIdeal.τ).loc Cert.RestProjRefIdeal.main_arg1))

def preserves_Experts_ExpertsIdeal : Prop :=
  True

def algebraic_ExpertsIdeal_ExpertsRefIdeal_pre_gates_finite [hExpertsIdeal : Cert.ExpertsIdeal.Facts] [hExpertsRefIdeal : Cert.ExpertsRefIdeal.Facts] [hPre_gates_finite : Cert.Pre_gates_finite.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_gates_finite m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v32) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v33) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def preserves_Dispatch_DispatchIdeal : Prop :=
  True

def algebraic_DispatchIdeal_DispatchRefIdeal_pre_gates_numbers [hDispatchIdeal : Cert.DispatchIdeal.Facts] [hDispatchRefIdeal : Cert.DispatchRefIdeal.Facts] [hPre_gates_numbers : Cert.Pre_gates_numbers.Facts] : Prop :=
  ∀ (m : (ℓ : Loc Cert.DispatchIdeal.nD Cert.DispatchIdeal.τ Cert.DispatchIdeal.sig) → Buf (Elt Ideal) ℓ) (g : Dev Cert.DispatchIdeal.nD → PrngReg)
    (m' : (ℓ : Loc Cert.DispatchRefIdeal.nD Cert.DispatchRefIdeal.τ Cert.DispatchRefIdeal.sig) → Buf (Elt Ideal) ℓ) (g' : Dev Cert.DispatchRefIdeal.nD → PrngReg), Pre_DispatchIdeal_gates_numbers m →
    (∀ c : Dev Cert.DispatchIdeal.nD,
      m' ((c.tc : Thread Cert.DispatchRefIdeal.nD Cert.DispatchRefIdeal.τ).loc Cert.DispatchRefIdeal.main_arg0) = m ((c.tc : Thread Cert.DispatchIdeal.nD Cert.DispatchIdeal.τ).loc Cert.DispatchIdeal.main_arg0)
      ∧ m' ((c.tc : Thread Cert.DispatchRefIdeal.nD Cert.DispatchRefIdeal.τ).loc Cert.DispatchRefIdeal.main_arg1) = m ((c.tc : Thread Cert.DispatchIdeal.nD Cert.DispatchIdeal.τ).loc Cert.DispatchIdeal.main_arg1)) →
    ∃ (v0 : (c : Dev Cert.DispatchIdeal.nD) → Buf (Elt Ideal) ((c.tc : Thread Cert.DispatchIdeal.nD Cert.DispatchIdeal.τ).loc Cert.DispatchIdeal.main_v0_0)) (v1 : (c : Dev Cert.DispatchIdeal.nD) → Buf (Elt Ideal) ((c.tc : Thread Cert.DispatchIdeal.nD Cert.DispatchIdeal.τ).loc Cert.DispatchIdeal.main_v0_1)) (v2 : (c : Dev Cert.DispatchIdeal.nD) → Buf (Elt Ideal) ((c.tc : Thread Cert.DispatchIdeal.nD Cert.DispatchIdeal.τ).loc Cert.DispatchIdeal.main_v0_2)) (v3 : (c : Dev Cert.DispatchIdeal.nD) → Buf (Elt Ideal) ((c.tc : Thread Cert.DispatchIdeal.nD Cert.DispatchIdeal.τ).loc Cert.DispatchIdeal.main_v0_3)),
      θ_run (Cert.DispatchIdeal.defs (F := Ideal)) (onTc (τ := Cert.DispatchIdeal.τ) (Cert.DispatchIdeal.main (F := Ideal))) ⟨m, fun _ => 0, g⟩ (fun r => ∀ c : Dev Cert.DispatchIdeal.nD,
          r.2.mem ((c.tc : Thread Cert.DispatchIdeal.nD Cert.DispatchIdeal.τ).loc Cert.DispatchIdeal.main_v0_0) = v0 c
          ∧ r.2.mem ((c.tc : Thread Cert.DispatchIdeal.nD Cert.DispatchIdeal.τ).loc Cert.DispatchIdeal.main_v0_1) = v1 c
          ∧ r.2.mem ((c.tc : Thread Cert.DispatchIdeal.nD Cert.DispatchIdeal.τ).loc Cert.DispatchIdeal.main_v0_2) = v2 c
          ∧ r.2.mem ((c.tc : Thread Cert.DispatchIdeal.nD Cert.DispatchIdeal.τ).loc Cert.DispatchIdeal.main_v0_3) = v3 c
          ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ θ_run (Cert.DispatchRefIdeal.defs (F := Ideal)) (onTc (τ := Cert.DispatchRefIdeal.τ) (Cert.DispatchRefIdeal.main (F := Ideal))) ⟨m', fun _ => 0, g'⟩ (fun r => ∀ c : Dev Cert.DispatchRefIdeal.nD,
          r.2.mem ((c.tc : Thread Cert.DispatchRefIdeal.nD Cert.DispatchRefIdeal.τ).loc Cert.DispatchRefIdeal.main_v43) = v0 c
          ∧ r.2.mem ((c.tc : Thread Cert.DispatchRefIdeal.nD Cert.DispatchRefIdeal.τ).loc Cert.DispatchRefIdeal.main_v39) = v1 c
          ∧ r.2.mem ((c.tc : Thread Cert.DispatchRefIdeal.nD Cert.DispatchRefIdeal.τ).loc Cert.DispatchRefIdeal.main_v24) = v2 c
          ∧ r.2.mem ((c.tc : Thread Cert.DispatchRefIdeal.nD Cert.DispatchRefIdeal.τ).loc Cert.DispatchRefIdeal.main_v42) = v3 c
          ∧ r.2.mem ((c.tc : Thread Cert.DispatchRefIdeal.nD Cert.DispatchRefIdeal.τ).loc Cert.DispatchRefIdeal.main_arg0) = m' ((c.tc : Thread Cert.DispatchRefIdeal.nD Cert.DispatchRefIdeal.τ).loc Cert.DispatchRefIdeal.main_arg0)
          ∧ r.2.mem ((c.tc : Thread Cert.DispatchRefIdeal.nD Cert.DispatchRefIdeal.τ).loc Cert.DispatchRefIdeal.main_arg1) = m' ((c.tc : Thread Cert.DispatchRefIdeal.nD Cert.DispatchRefIdeal.τ).loc Cert.DispatchRefIdeal.main_arg1))

def Claim : Prop :=
  ∃ (hMixer : Cert.Mixer.Facts) (hMixerIdeal : Cert.MixerIdeal.Facts) (hMixerRefIdeal : Cert.MixerRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hHeadProj : Cert.HeadProj.Facts) (hHeadProjIdeal : Cert.HeadProjIdeal.Facts) (hHeadProjRefIdeal : Cert.HeadProjRefIdeal.Facts) (hRestProj : Cert.RestProj.Facts) (hRestProjIdeal : Cert.RestProjIdeal.Facts) (hRestProjRefIdeal : Cert.RestProjRefIdeal.Facts) (hExperts : Cert.Experts.Facts) (hExpertsIdeal : Cert.ExpertsIdeal.Facts) (hExpertsRefIdeal : Cert.ExpertsRefIdeal.Facts) (hCombine : Cert.Combine.Facts) (hCombineIdeal : Cert.CombineIdeal.Facts) (hCombineRefIdeal : Cert.CombineRefIdeal.Facts) (hDispatch : Cert.Dispatch.Facts) (hDispatchIdeal : Cert.DispatchIdeal.Facts) (hDispatchRefIdeal : Cert.DispatchRefIdeal.Facts) (hPre_decays_bounded : Cert.Pre_decays_bounded.Facts) (hPre_gates_finite : Cert.Pre_gates_finite.Facts) (hPre_gates_numbers : Cert.Pre_gates_numbers.Facts),
    quiescent_Mixer (hMixer := hMixer)
    ∧ quiescent_MixerIdeal (hMixerIdeal := hMixerIdeal)
    ∧ quiescent_MixerIdeal_pre_decays_bounded (hMixerIdeal := hMixerIdeal) (hPre_decays_bounded := hPre_decays_bounded)
    ∧ quiescent_MixerRefIdeal (hMixerRefIdeal := hMixerRefIdeal)
    ∧ quiescent_MixerRefIdeal_pre_decays_bounded (hMixerRefIdeal := hMixerRefIdeal) (hPre_decays_bounded := hPre_decays_bounded)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_HeadProj (hHeadProj := hHeadProj)
    ∧ quiescent_HeadProjIdeal (hHeadProjIdeal := hHeadProjIdeal)
    ∧ quiescent_HeadProjRefIdeal (hHeadProjRefIdeal := hHeadProjRefIdeal)
    ∧ quiescent_RestProj (hRestProj := hRestProj)
    ∧ quiescent_RestProjIdeal (hRestProjIdeal := hRestProjIdeal)
    ∧ quiescent_RestProjRefIdeal (hRestProjRefIdeal := hRestProjRefIdeal)
    ∧ quiescent_Experts (hExperts := hExperts)
    ∧ quiescent_ExpertsIdeal (hExpertsIdeal := hExpertsIdeal)
    ∧ quiescent_ExpertsIdeal_pre_gates_finite (hExpertsIdeal := hExpertsIdeal) (hPre_gates_finite := hPre_gates_finite)
    ∧ quiescent_ExpertsRefIdeal (hExpertsRefIdeal := hExpertsRefIdeal)
    ∧ quiescent_ExpertsRefIdeal_pre_gates_finite (hExpertsRefIdeal := hExpertsRefIdeal) (hPre_gates_finite := hPre_gates_finite)
    ∧ quiescent_Combine (hCombine := hCombine)
    ∧ quiescent_CombineIdeal (hCombineIdeal := hCombineIdeal)
    ∧ quiescent_CombineRefIdeal (hCombineRefIdeal := hCombineRefIdeal)
    ∧ quiescent_Dispatch (hDispatch := hDispatch)
    ∧ quiescent_DispatchIdeal (hDispatchIdeal := hDispatchIdeal)
    ∧ quiescent_DispatchIdeal_pre_gates_numbers (hDispatchIdeal := hDispatchIdeal) (hPre_gates_numbers := hPre_gates_numbers)
    ∧ quiescent_DispatchRefIdeal (hDispatchRefIdeal := hDispatchRefIdeal)
    ∧ quiescent_DispatchRefIdeal_pre_gates_numbers (hDispatchRefIdeal := hDispatchRefIdeal) (hPre_gates_numbers := hPre_gates_numbers)
    ∧ preserves_Mixer_MixerIdeal
    ∧ algebraic_MixerIdeal_MixerRefIdeal_pre_decays_bounded (hMixerIdeal := hMixerIdeal) (hMixerRefIdeal := hMixerRefIdeal) (hPre_decays_bounded := hPre_decays_bounded)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_HeadProj_HeadProjIdeal
    ∧ algebraic_HeadProjIdeal_HeadProjRefIdeal (hHeadProjIdeal := hHeadProjIdeal) (hHeadProjRefIdeal := hHeadProjRefIdeal)
    ∧ preserves_RestProj_RestProjIdeal
    ∧ algebraic_RestProjIdeal_RestProjRefIdeal (hRestProjIdeal := hRestProjIdeal) (hRestProjRefIdeal := hRestProjRefIdeal)
    ∧ preserves_Experts_ExpertsIdeal
    ∧ algebraic_ExpertsIdeal_ExpertsRefIdeal_pre_gates_finite (hExpertsIdeal := hExpertsIdeal) (hExpertsRefIdeal := hExpertsRefIdeal) (hPre_gates_finite := hPre_gates_finite)
    ∧ preserves_Combine_CombineIdeal
    ∧ algebraic_CombineIdeal_CombineRefIdeal (hCombineIdeal := hCombineIdeal) (hCombineRefIdeal := hCombineRefIdeal)
    ∧ preserves_Dispatch_DispatchIdeal
    ∧ algebraic_DispatchIdeal_DispatchRefIdeal_pre_gates_numbers (hDispatchIdeal := hDispatchIdeal) (hDispatchRefIdeal := hDispatchRefIdeal) (hPre_gates_numbers := hPre_gates_numbers)
-- ==== Pre_decays_bounded.lean ====
abbrev S16640x2048 : Shape := ⟨2, ![16640, 2048]⟩
abbrev S16640x128 : Shape := ⟨2, ![16640, 128]⟩
abbrev S2x16x512 : Shape := ⟨3, ![2, 16, 512]⟩
abbrev S2x512 : Shape := ⟨2, ![2, 512]⟩
abbrev S65x128x512 : Shape := ⟨3, ![65, 128, 512]⟩
abbrev S16640x3072 : Shape := ⟨2, ![16640, 3072]⟩
abbrev S1024 : Shape := ⟨1, ![1024]⟩
abbrev S4x8x128x128 : Shape := ⟨4, ![4, 8, 128, 128]⟩
abbrev S8x128 : Shape := ⟨2, ![8, 128]⟩
abbrev S_ : Shape := ⟨0, ![]⟩
abbrev S16640x16 : Shape := ⟨2, ![16640, 16]⟩
abbrev S1x16x512 : Shape := ⟨3, ![1, 16, 512]⟩
abbrev S16x512 : Shape := ⟨2, ![16, 512]⟩
abbrev S16640x512 : Shape := ⟨2, ![16640, 512]⟩
abbrev S1x512 : Shape := ⟨2, ![1, 512]⟩
abbrev S512 : Shape := ⟨1, ![512]⟩

class Facts : Prop where
  bcast_S_S16640x128 : S_.BroadcastsInDim S16640x128 (![] : Fin 0 → Fin S16640x128.rank)
  reducesTo_S16640x128_S_d0_1 : S16640x128.ReducesTo [0, 1] S_
  h_S_ : 0 < S_.numel
  bcast_S_S2x16x512 : S_.BroadcastsInDim S2x16x512 (![] : Fin 0 → Fin S2x16x512.rank)
  reducesTo_S2x16x512_S_d0_1_2 : S2x16x512.ReducesTo [0, 1, 2] S_
  bcast_S_S2x512 : S_.BroadcastsInDim S2x512 (![] : Fin 0 → Fin S2x512.rank)
  reducesTo_S2x512_S_d0_1 : S2x512.ReducesTo [0, 1] S_
  slices_S16640x128_S16640x16_0_0 : S16640x128.Slices ![0, 0] S16640x16
  slices_S2x16x512_S1x16x512_0_0_0 : S2x16x512.Slices ![0, 0, 0] S1x16x512
  shapeCasts_S1x16x512_S16x512 : S1x16x512.ShapeCasts S16x512
  slices_S2x512_S1x512_0_0 : S2x512.Slices ![0, 0] S1x512
  shapeCasts_S1x512_S512 : S1x512.ShapeCasts S512
  bcast_S512_S16640x512_1 : S512.BroadcastsInDim S16640x512 (![1] : Fin 1 → Fin S16640x512.rank)
  slices_S16640x128_S16640x16_0_16 : S16640x128.Slices ![0, 16] S16640x16
  slices_S2x16x512_S1x16x512_1_0_0 : S2x16x512.Slices ![1, 0, 0] S1x16x512
  slices_S2x512_S1x512_1_0 : S2x512.Slices ![1, 0] S1x512
  bcast_S_S16640x512 : S_.BroadcastsInDim S16640x512 (![] : Fin 0 → Fin S16640x512.rank)
  reducesTo_S16640x512_S_d0_1 : S16640x512.ReducesTo [0, 1] S_
  dot_S16640x16_S16x512_S16640x512_1_0_0_1_n_n_wf : DotDims.WF S16640x16 S16x512 S16640x512 [1] [0] [0] [1] [] []

variable [Facts]

def dot_S16640x16_S16x512_S16640x512_1_0_0_1_n_n : DotDims S16640x16 S16x512 S16640x512 where
  lhsContracting := [1]
  rhsContracting := [0]
  lhsNonContracting := [0]
  rhsNonContracting := [1]
  lhsBatch := []
  rhsBatch := []
  wf := dot_S16640x16_S16x512_S16640x512_1_0_0_1_n_n_wf
def fn_part1 {F : FTy → Type} [FloatOps F] (main_arg1 : FVec F S16640x128 .f32) (main_arg2 : FVec F S2x16x512 .f32) (main_arg3 : FVec F S2x512 .f32) (main_v13 : IVec S_ 1) (main_v17 : FVec F S16640x512 .f32) : IVec S_ 1 :=
  let main_v18 : FVec F S1x512 .f32 := (extractStridedSlice S1x512 ![0, 0] · slices_S2x512_S1x512_0_0) main_arg3
  let main_v19 : FVec F S512 .f32 := shapeCast S512 main_v18 shapeCasts_S1x512_S512
  let main_v20 : FVec F S16640x512 .f32 := broadcastInDim S16640x512 ![1] bcast_S512_S16640x512_1 main_v19
  let main_v21 : FVec F S16640x512 .f32 := addf main_v17 main_v20
  let main_v22 : FVec F S16640x16 .f32 := (extractStridedSlice S16640x16 ![0, 16] · slices_S16640x128_S16640x16_0_16) main_arg1
  let main_v23 : FVec F S1x16x512 .f32 := (extractStridedSlice S1x16x512 ![1, 0, 0] · slices_S2x16x512_S1x16x512_1_0_0) main_arg2
  let main_v24 : FVec F S16x512 .f32 := shapeCast S16x512 main_v23 shapeCasts_S1x16x512_S16x512
  let main_v25 : FVec F S16640x512 .f32 := (fun l r => Host.dotGeneral dot_S16640x16_S16x512_S16640x512_1_0_0_1_n_n none l r) main_v22 main_v24
  let main_v26 : FVec F S1x512 .f32 := (extractStridedSlice S1x512 ![1, 0] · slices_S2x512_S1x512_1_0) main_arg3
  let main_v27 : FVec F S512 .f32 := shapeCast S512 main_v26 shapeCasts_S1x512_S512
  let main_v28 : FVec F S16640x512 .f32 := broadcastInDim S16640x512 ![1] bcast_S512_S16640x512_1 main_v27
  let main_v29 : FVec F S16640x512 .f32 := addf main_v25 main_v28
  let main_cst_4 : FVec F S_ .f32 := constant S_ .f32 0xC1100000#32
  let main_v30 : FVec F S16640x512 .f32 := broadcastInDim S16640x512 ![] bcast_S_S16640x512 main_cst_4
  let main_v31 : IVec S16640x512 1 := cmpf .oge main_v21 main_v30
  let main_c_5 : IVec S_ 1 := constantI S_ 1 1#1
  let main_v32 : IVec S_ 1 := (fun x v => Host.reduce IntOp.andi x v reducesTo_S16640x512_S_d0_1 h_S_) main_v31 main_c_5
  let main_v33 : IVec S_ 1 := andi main_v13 main_v32
  let main_cst_6 : FVec F S_ .f32 := constant S_ .f32 0xC1100000#32
  let main_v34 : FVec F S16640x512 .f32 := broadcastInDim S16640x512 ![] bcast_S_S16640x512 main_cst_6
  let main_v35 : IVec S16640x512 1 := cmpf .oge main_v29 main_v34
  let main_c_7 : IVec S_ 1 := constantI S_ 1 1#1
  let main_v36 : IVec S_ 1 := (fun x v => Host.reduce IntOp.andi x v reducesTo_S16640x512_S_d0_1 h_S_) main_v35 main_c_7
  let main_v37 : IVec S_ 1 := andi main_v33 main_v36
  main_v37

def fn {F : FTy → Type} [FloatOps F] (main_arg0 : FVec F S16640x2048 .bf16) (main_arg1 : FVec F S16640x128 .f32) (main_arg2 : FVec F S2x16x512 .f32) (main_arg3 : FVec F S2x512 .f32) (main_arg4 : FVec F S65x128x512 .bf16) (main_arg5 : FVec F S65x128x512 .bf16) (main_arg6 : FVec F S16640x3072 .bf16) (main_arg7 : FVec F S1024 .f32) (main_arg8 : FVec F S1024 .f32) (main_arg9 : FVec F S1024 .f32) (main_arg10 : FVec F S4x8x128x128 .f32) (main_arg11 : FVec F S8x128 .f32) : IVec S_ 1 :=
  let main_v0 : FVec F S16640x128 .f32 := Host.absf main_arg1
  let main_cst : FVec F S_ .f32 := constant S_ .f32 0x7F800000#32
  let main_v1 : FVec F S16640x128 .f32 := broadcastInDim S16640x128 ![] bcast_S_S16640x128 main_cst
  let main_v2 : IVec S16640x128 1 := cmpf .olt main_v0 main_v1
  let main_c : IVec S_ 1 := constantI S_ 1 1#1
  let main_v3 : IVec S_ 1 := (fun x v => Host.reduce IntOp.andi x v reducesTo_S16640x128_S_d0_1 h_S_) main_v2 main_c
  let main_v4 : FVec F S2x16x512 .f32 := Host.absf main_arg2
  let main_cst_0 : FVec F S_ .f32 := constant S_ .f32 0x7F800000#32
  let main_v5 : FVec F S2x16x512 .f32 := broadcastInDim S2x16x512 ![] bcast_S_S2x16x512 main_cst_0
  let main_v6 : IVec S2x16x512 1 := cmpf .olt main_v4 main_v5
  let main_c_1 : IVec S_ 1 := constantI S_ 1 1#1
  let main_v7 : IVec S_ 1 := (fun x v => Host.reduce IntOp.andi x v reducesTo_S2x16x512_S_d0_1_2 h_S_) main_v6 main_c_1
  let main_v8 : IVec S_ 1 := andi main_v3 main_v7
  let main_v9 : FVec F S2x512 .f32 := Host.absf main_arg3
  let main_cst_2 : FVec F S_ .f32 := constant S_ .f32 0x7F800000#32
  let main_v10 : FVec F S2x512 .f32 := broadcastInDim S2x512 ![] bcast_S_S2x512 main_cst_2
  let main_v11 : IVec S2x512 1 := cmpf .olt main_v9 main_v10
  let main_c_3 : IVec S_ 1 := constantI S_ 1 1#1
  let main_v12 : IVec S_ 1 := (fun x v => Host.reduce IntOp.andi x v reducesTo_S2x512_S_d0_1 h_S_) main_v11 main_c_3
  let main_v13 : IVec S_ 1 := andi main_v8 main_v12
  let main_v14 : FVec F S16640x16 .f32 := (extractStridedSlice S16640x16 ![0, 0] · slices_S16640x128_S16640x16_0_0) main_arg1
  let main_v15 : FVec F S1x16x512 .f32 := (extractStridedSlice S1x16x512 ![0, 0, 0] · slices_S2x16x512_S1x16x512_0_0_0) main_arg2
  let main_v16 : FVec F S16x512 .f32 := shapeCast S16x512 main_v15 shapeCasts_S1x16x512_S16x512
  let main_v17 : FVec F S16640x512 .f32 := (fun l r => Host.dotGeneral dot_S16640x16_S16x512_S16640x512_1_0_0_1_n_n none l r) main_v14 main_v16
  fn_part1 (F := F) main_arg1 main_arg2 main_arg3 main_v13 main_v17
-- ==== Pre_gates_finite.lean ====
abbrev S16x4160x4096 : Shape := ⟨3, ![16, 4160, 4096]⟩
abbrev S16x4160x128 : Shape := ⟨3, ![16, 4160, 128]⟩
abbrev S4x16x4096x256 : Shape := ⟨4, ![4, 16, 4096, 256]⟩
abbrev S4x16x256x4096 : Shape := ⟨4, ![4, 16, 256, 4096]⟩
abbrev S16x4160x16 : Shape := ⟨3, ![16, 4160, 16]⟩
abbrev S16 : Shape := ⟨1, ![16]⟩
abbrev S16x1x1 : Shape := ⟨3, ![16, 1, 1]⟩
abbrev S1x1x16 : Shape := ⟨3, ![1, 1, 16]⟩
abbrev S16x1x16 : Shape := ⟨3, ![16, 1, 16]⟩
abbrev S_ : Shape := ⟨0, ![]⟩
abbrev S16x4160 : Shape := ⟨2, ![16, 4160]⟩

class Facts : Prop where
  slices_S16x4160x128_S16x4160x16_0_0_0 : S16x4160x128.Slices ![0, 0, 0] S16x4160x16
  slices_S16x4160x128_S16x4160x16_0_0_16 : S16x4160x128.Slices ![0, 0, 16] S16x4160x16
  slices_S16x4160x128_S16x4160x16_0_0_32 : S16x4160x128.Slices ![0, 0, 32] S16x4160x16
  bcast_S16_S16x1x1_0 : S16.BroadcastsInDim S16x1x1 (![0] : Fin 1 → Fin S16x1x1.rank)
  bcast_S16_S1x1x16_2 : S16.BroadcastsInDim S1x1x16 (![2] : Fin 1 → Fin S1x1x16.rank)
  bcast_S16x1x1_S16x1x16_0_1_2 : S16x1x1.BroadcastsInDim S16x1x16 (![0, 1, 2] : Fin 3 → Fin S16x1x16.rank)
  bcast_S1x1x16_S16x1x16_0_1_2 : S1x1x16.BroadcastsInDim S16x1x16 (![0, 1, 2] : Fin 3 → Fin S16x1x16.rank)
  bcast_S16x1x16_S16x4160x16_0_1_2 : S16x1x16.BroadcastsInDim S16x4160x16 (![0, 1, 2] : Fin 3 → Fin S16x4160x16.rank)
  bcast_S_S16x4160x16 : S_.BroadcastsInDim S16x4160x16 (![] : Fin 0 → Fin S16x4160x16.rank)
  reducesTo_S16x4160x16_S16x4160_d2 : S16x4160x16.ReducesTo [2] S16x4160
  h_S_ : 0 < S_.numel
  bcast_S_S16x4160 : S_.BroadcastsInDim S16x4160 (![] : Fin 0 → Fin S16x4160.rank)
  reducesTo_S16x4160_S_d0_1 : S16x4160.ReducesTo [0, 1] S_

variable [Facts]

def fn_where {F : FTy → Type} [FloatOps F] (arg0 : IVec S16x1x16 1) (arg1 : FVec F S16x4160x16 .f32) (arg2 : FVec F S_ .f32) : FVec F S16x4160x16 .f32 :=
  let v0 : FVec F S_ .f32 := id arg2
  let v1 : IVec S16x4160x16 1 := broadcastInDim S16x4160x16 ![0, 1, 2] bcast_S16x1x16_S16x4160x16_0_1_2 arg0
  let v2 : FVec F S16x4160x16 .f32 := broadcastInDim S16x4160x16 ![] bcast_S_S16x4160x16 v0
  let v3 : FVec F S16x4160x16 .f32 := select v1 arg1 v2
  v3

def fn_part1 {F : FTy → Type} [FloatOps F] (main_v16 : IVec S_ 1) (main_v18 : IVec S16x4160 1) : IVec S_ 1 :=
  let main_c_3 : IVec S_ 1 := constantI S_ 1 1#1
  let main_v19 : IVec S_ 1 := (fun x v => Host.reduce IntOp.andi x v reducesTo_S16x4160_S_d0_1 h_S_) main_v18 main_c_3
  let main_v20 : IVec S_ 1 := andi main_v16 main_v19
  main_v20

def fn {F : FTy → Type} [FloatOps F] (main_arg0 : FVec F S16x4160x4096 .bf16) (main_arg1 : FVec F S16x4160x128 .f32) (main_arg2 : FVec F S4x16x4096x256 .bf16) (main_arg3 : FVec F S4x16x4096x256 .bf16) (main_arg4 : FVec F S4x16x256x4096 .bf16) : IVec S_ 1 :=
  let main_v0 : FVec F S16x4160x16 .f32 := (extractStridedSlice S16x4160x16 ![0, 0, 0] · slices_S16x4160x128_S16x4160x16_0_0_0) main_arg1
  let main_v1 : FVec F S16x4160x16 .f32 := (extractStridedSlice S16x4160x16 ![0, 0, 16] · slices_S16x4160x128_S16x4160x16_0_0_16) main_arg1
  let main_v2 : FVec F S16x4160x16 .f32 := addf main_v0 main_v1
  let main_v3 : FVec F S16x4160x16 .f32 := (extractStridedSlice S16x4160x16 ![0, 0, 32] · slices_S16x4160x128_S16x4160x16_0_0_32) main_arg1
  let main_v4 : FVec F S16x4160x16 .f32 := addf main_v2 main_v3
  let main_v5 : IVec S16 32 := iotaInDim S16 32 0
  let main_v6 : IVec S16x1x1 32 := broadcastInDim S16x1x1 ![0] bcast_S16_S16x1x1_0 main_v5
  let main_v7 : IVec S16 32 := iotaInDim S16 32 0
  let main_v8 : IVec S1x1x16 32 := broadcastInDim S1x1x16 ![2] bcast_S16_S1x1x16_2 main_v7
  let main_v9 : IVec S16x1x16 32 := broadcastInDim S16x1x16 ![0, 1, 2] bcast_S16x1x1_S16x1x16_0_1_2 main_v6
  let main_v10 : IVec S16x1x16 32 := broadcastInDim S16x1x16 ![0, 1, 2] bcast_S1x1x16_S16x1x16_0_1_2 main_v8
  let main_v11 : IVec S16x1x16 1 := cmpi .eq main_v9 main_v10
  let main_cst : FVec F S_ .f32 := constant S_ .f32 0x00000000#32
  let main_v12 : FVec F S16x4160x16 .f32 := fn_where (F := F) main_v11 main_v4 main_cst
  let main_cst_0 : FVec F S_ .f32 := constant S_ .f32 0x00000000#32
  let main_v13 : FVec F S16x4160 .f32 := (fun x v => Host.reduceAdd x v reducesTo_S16x4160x16_S16x4160_d2 h_S_) main_v12 main_cst_0
  let main_cst_1 : FVec F S_ .f32 := constant S_ .f32 0x00000000#32
  let main_v14 : FVec F S16x4160 .f32 := broadcastInDim S16x4160 ![] bcast_S_S16x4160 main_cst_1
  let main_v15 : IVec S16x4160 1 := cmpf .oge main_v13 main_v14
  let main_c : IVec S_ 1 := constantI S_ 1 1#1
  let main_v16 : IVec S_ 1 := (fun x v => Host.reduce IntOp.andi x v reducesTo_S16x4160_S_d0_1 h_S_) main_v15 main_c
  let main_cst_2 : FVec F S_ .f32 := constant S_ .f32 0x7F800000#32
  let main_v17 : FVec F S16x4160 .f32 := broadcastInDim S16x4160 ![] bcast_S_S16x4160 main_cst_2
  let main_v18 : IVec S16x4160 1 := cmpf .olt main_v13 main_v17
  fn_part1 (F := F) main_v16 main_v18
-- ==== Pre_gates_numbers.lean ====
abbrev S16640x4096 : Shape := ⟨2, ![16640, 4096]⟩
abbrev S16640x128 : Shape := ⟨2, ![16640, 128]⟩
abbrev S_ : Shape := ⟨0, ![]⟩

class Facts : Prop where
  bcast_S_S16640x128 : S_.BroadcastsInDim S16640x128 (![] : Fin 0 → Fin S16640x128.rank)
  reducesTo_S16640x128_S_d0_1 : S16640x128.ReducesTo [0, 1] S_
  h_S_ : 0 < S_.numel

variable [Facts]

def fn {F : FTy → Type} [FloatOps F] (main_arg0 : FVec F S16640x4096 .bf16) (main_arg1 : FVec F S16640x128 .f32) : IVec S_ 1 :=
  let main_v0 : FVec F S16640x128 .f32 := Host.absf main_arg1
  let main_cst : FVec F S_ .f32 := constant S_ .f32 0x7F800000#32
  let main_v1 : FVec F S16640x128 .f32 := broadcastInDim S16640x128 ![] bcast_S_S16640x128 main_cst
  let main_v2 : IVec S16640x128 1 := cmpf .olt main_v0 main_v1
  let main_c : IVec S_ 1 := constantI S_ 1 1#1
  let main_v3 : IVec S_ 1 := (fun x v => Host.reduce IntOp.andi x v reducesTo_S16640x128_S_d0_1 h_S_) main_v2 main_c
  main_v3
-- ==== Mixer.lean ====
abbrev S16640x2048 : Shape := ⟨2, ![16640, 2048]⟩
abbrev S16640x128 : Shape := ⟨2, ![16640, 128]⟩
abbrev S2x16x512 : Shape := ⟨3, ![2, 16, 512]⟩
abbrev S2x512 : Shape := ⟨2, ![2, 512]⟩
abbrev S65x128x512 : Shape := ⟨3, ![65, 128, 512]⟩
abbrev S16640x3072 : Shape := ⟨2, ![16640, 3072]⟩
abbrev S1024 : Shape := ⟨1, ![1024]⟩
abbrev S4x8x128x128 : Shape := ⟨4, ![4, 8, 128, 128]⟩
abbrev S8x128 : Shape := ⟨2, ![8, 128]⟩
abbrev S_ : Shape := ⟨0, ![]⟩
abbrev S128x1024 : Shape := ⟨2, ![128, 1024]⟩
abbrev S1x16x512 : Shape := ⟨3, ![1, 16, 512]⟩
abbrev S16x512 : Shape := ⟨2, ![16, 512]⟩
abbrev S1 : Shape := ⟨1, ![1]⟩
abbrev S2 : Shape := ⟨1, ![2]⟩
abbrev S1x1024 : Shape := ⟨2, ![1, 1024]⟩
abbrev S8x128x1 : Shape := ⟨3, ![8, 128, 1]⟩
abbrev S8x128x128 : Shape := ⟨3, ![8, 128, 128]⟩
abbrev S128x2048 : Shape := ⟨2, ![128, 2048]⟩
abbrev S16640x512 : Shape := ⟨2, ![16640, 512]⟩
abbrev S65x8x512 : Shape := ⟨3, ![65, 8, 512]⟩
abbrev S256x512 : Shape := ⟨2, ![256, 512]⟩
abbrev S256x1024 : Shape := ⟨2, ![256, 1024]⟩
abbrev S256x128 : Shape := ⟨2, ![256, 128]⟩
abbrev S1x128x512 : Shape := ⟨3, ![1, 128, 512]⟩
abbrev S1x8x512 : Shape := ⟨3, ![1, 8, 512]⟩
abbrev S256x2048 : Shape := ⟨2, ![256, 2048]⟩
abbrev S256x256 : Shape := ⟨2, ![256, 256]⟩
abbrev S1x128 : Shape := ⟨2, ![1, 128]⟩
abbrev S1x512 : Shape := ⟨2, ![1, 512]⟩
abbrev S128x128 : Shape := ⟨2, ![128, 128]⟩
abbrev S1x128x128 : Shape := ⟨3, ![1, 128, 128]⟩
abbrev S6x512 : Shape := ⟨2, ![6, 512]⟩
abbrev S8x512 : Shape := ⟨2, ![8, 512]⟩
abbrev S16640x1024 : Shape := ⟨2, ![16640, 1024]⟩
abbrev S1x8x128x128 : Shape := ⟨4, ![1, 8, 128, 128]⟩
abbrev S256 : Shape := ⟨1, ![256]⟩
abbrev S256x1 : Shape := ⟨2, ![256, 1]⟩
abbrev S1x1x128x128 : Shape := ⟨4, ![1, 1, 128, 128]⟩

abbrev nBuf : Space → Nat
  | .hbm => 53
  | .vmem => 61
  | .smem => 0
  | _ => 0

abbrev bufTy : (tb : Table) → Fin (tcTables nBuf tb) → BufTy
  | .hbm, ⟨0, _⟩ => ⟨S16640x2048, .bf16⟩
  | .hbm, ⟨1, _⟩ => ⟨S16640x128, .f32⟩
  | .hbm, ⟨2, _⟩ => ⟨S2x16x512, .f32⟩
  | .hbm, ⟨3, _⟩ => ⟨S2x512, .f32⟩
  | .hbm, ⟨4, _⟩ => ⟨S65x128x512, .bf16⟩
  | .hbm, ⟨5, _⟩ => ⟨S65x128x512, .bf16⟩
  | .hbm, ⟨6, _⟩ => ⟨S16640x3072, .bf16⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S4x8x128x128, .f32⟩
  | .hbm, ⟨11, _⟩ => ⟨S8x128, .f32⟩
  | .hbm, ⟨12, _⟩ => ⟨S_, .f32⟩
  | .hbm, ⟨13, _⟩ => ⟨S128x1024, .f32⟩
  | .hbm, ⟨14, _⟩ => ⟨S1x16x512, .f32⟩
  | .hbm, ⟨15, _⟩ => ⟨S16x512, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S128x1024, .f32⟩
  | .hbm, ⟨22, _⟩ => ⟨S1x16x512, .f32⟩
  | .hbm, ⟨23, _⟩ => ⟨S16x512, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S128x1024, .f32⟩
  | .hbm, ⟨30, _⟩ => ⟨S1x1024, .f32⟩
  | .hbm, ⟨31, _⟩ => ⟨S8x128x1, .f32⟩
  | .hbm, ⟨32, _⟩ => ⟨S8x128x128, .f32⟩
  | .hbm, ⟨33, _⟩ => ⟨S128x1024, .bf16⟩
  | .hbm, ⟨34, _⟩ => ⟨S128x1024, .f32⟩
  | .hbm, ⟨35, _⟩ => ⟨S128x1024, .f32⟩
  | .hbm, ⟨36, _⟩ => ⟨S128x1024, .bf16⟩
  | .hbm, ⟨37, _⟩ => ⟨S128x2048, .bf16⟩
  | .hbm, ⟨38, _⟩ => ⟨S16640x512, .bf16⟩
  | .hbm, ⟨39, _⟩ => ⟨S16640x512, .bf16⟩
  | .hbm, ⟨40, _⟩ => ⟨S16640x512, .bf16⟩
  | .hbm, ⟨41, _⟩ => ⟨S16640x512, .bf16⟩
  | .hbm, ⟨42, _⟩ => ⟨S16640x512, .bf16⟩
  | .hbm, ⟨43, _⟩ => ⟨S16640x512, .bf16⟩
  | .hbm, ⟨44, _⟩ => ⟨S65x128x512, .f32⟩
  | .hbm, ⟨45, _⟩ => ⟨S65x128x512, .f32⟩
  | .hbm, ⟨46, _⟩ => ⟨S65x8x512, .f32⟩
  | .hbm, ⟨47, _⟩ => ⟨S4x8x128x128, .bf16⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S16640x1024, .bf16⟩
  | .hbm, ⟨52, _⟩ => ⟨S16640x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x128, .f32⟩
  | .local _ .vmem, ⟨7, _⟩ => ⟨S256x128, .f32⟩
  | .local _ .vmem, ⟨8, _⟩ => ⟨S128x2048, .bf16⟩
  | .local _ .vmem, ⟨9, _⟩ => ⟨S1x1024, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S1x128x512, .f32⟩
  | .local _ .vmem, ⟨23, _⟩ => ⟨S1x128x512, .f32⟩
  | .local _ .vmem, ⟨24, _⟩ => ⟨S1x128x512, .f32⟩
  | .local _ .vmem, ⟨25, _⟩ => ⟨S1x128x512, .f32⟩
  | .local _ .vmem, ⟨26, _⟩ => ⟨S1x8x512, .f32⟩
  | .local _ .vmem, ⟨27, _⟩ => ⟨S1x8x512, .f32⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x512, .bf16⟩
  | .local _ .vmem, ⟨36, _⟩ => ⟨S256x512, .bf16⟩
  | .local _ .vmem, ⟨37, _⟩ => ⟨S256x512, .bf16⟩
  | .local _ .vmem, ⟨38, _⟩ => ⟨S256x512, .bf16⟩
  | .local _ .vmem, ⟨39, _⟩ => ⟨S256x512, .bf16⟩
  | .local _ .vmem, ⟨40, _⟩ => ⟨S256x1024, .bf16⟩
  | .local _ .vmem, ⟨41, _⟩ => ⟨S256x1024, .bf16⟩
  | .local _ .vmem, ⟨42, _⟩ => ⟨S1x128x512, .bf16⟩
  | .local _ .vmem, ⟨43, _⟩ => ⟨S1x128x512, .bf16⟩
  | .local _ .vmem, ⟨44, _⟩ => ⟨S1x128x512, .bf16⟩
  | .local _ .vmem, ⟨45, _⟩ => ⟨S1x128x512, .bf16⟩
  | .local _ .vmem, ⟨46, _⟩ => ⟨S256x1024, .bf16⟩
  | .local _ .vmem, ⟨47, _⟩ => ⟨S256x1024, .bf16⟩
  | .local _ .vmem, ⟨48, _⟩ => ⟨S1x1024, .f32⟩
  | .local _ .vmem, ⟨49, _⟩ => ⟨S256x1024, .bf16⟩
  | .local _ .vmem, ⟨50, _⟩ => ⟨S256x1024, .bf16⟩
  | .local _ .vmem, ⟨51, _⟩ => ⟨S256x1024, .bf16⟩
  | .local _ .vmem, ⟨52, _⟩ => ⟨S256x1024, .bf16⟩
  | .local _ .vmem, ⟨53, _⟩ => ⟨S1x1024, .f32⟩
  | .local _ .vmem, ⟨54, _⟩ => ⟨S1x1024, .f32⟩
  | .local _ .vmem, ⟨55, _⟩ => ⟨S1x8x128x128, .bf16⟩
  | .local _ .vmem, ⟨56, _⟩ => ⟨S8x128x128, .f32⟩
  | .local _ .vmem, ⟨57, _⟩ => ⟨S256x1024, .bf16⟩
  | .local _ .vmem, ⟨58, _⟩ => ⟨S256x1024, .bf16⟩
  | .local _ .vmem, ⟨59, _⟩ => ⟨S256x1024, .bf16⟩
  | .local _ .vmem, ⟨60, _⟩ => ⟨S256x1024, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v21_2 : Ref sig .tc := ⟨.hbm, 40, rfl⟩
abbrev main_v21_3 : Ref sig .tc := ⟨.hbm, 41, rfl⟩
abbrev main_v21_4 : Ref sig .tc := ⟨.hbm, 42, rfl⟩
abbrev main_v21_5 : Ref sig .tc := ⟨.hbm, 43, rfl⟩
abbrev main_v21_6 : Ref sig .tc := ⟨.hbm, 44, rfl⟩
abbrev main_v21_7 : Ref sig .tc := ⟨.hbm, 45, rfl⟩
abbrev main_v21_8 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26_0 : Ref sig .tc := ⟨.hbm, 51, rfl⟩
abbrev main_v26_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_stg4_0 : Ref sig .tc := ⟨.vmem, 36, rfl⟩
abbrev cc1_stg4_1 : Ref sig .tc := ⟨.vmem, 37, rfl⟩
abbrev cc1_stg5_0 : Ref sig .tc := ⟨.vmem, 38, rfl⟩
abbrev cc1_stg5_1 : Ref sig .tc := ⟨.vmem, 39, rfl⟩
abbrev cc1_stg6_0 : Ref sig .tc := ⟨.vmem, 40, rfl⟩
abbrev cc1_stg6_1 : Ref sig .tc := ⟨.vmem, 41, rfl⟩
abbrev cc1_stg7_0 : Ref sig .tc := ⟨.vmem, 42, rfl⟩
abbrev cc1_stg7_1 : Ref sig .tc := ⟨.vmem, 43, rfl⟩
abbrev cc1_stg8_0 : Ref sig .tc := ⟨.vmem, 44, rfl⟩
abbrev cc1_stg8_1 : Ref sig .tc := ⟨.vmem, 45, rfl⟩
abbrev cc1_stg9_0 : Ref sig .tc := ⟨.vmem, 46, rfl⟩
abbrev cc1_stg9_1 : Ref sig .tc := ⟨.vmem, 47, rfl⟩
abbrev cc1_stg10_0 : Ref sig .tc := ⟨.vmem, 48, rfl⟩
abbrev cc1_stg11_0 : Ref sig .tc := ⟨.vmem, 49, rfl⟩
abbrev cc1_stg11_1 : Ref sig .tc := ⟨.vmem, 50, rfl⟩
abbrev cc1_stg12_0 : Ref sig .tc := ⟨.vmem, 51, rfl⟩
abbrev cc1_stg12_1 : Ref sig .tc := ⟨.vmem, 52, rfl⟩
abbrev cc1_stg13_0 : Ref sig .tc := ⟨.vmem, 53, rfl⟩
abbrev cc1_stg14_0 : Ref sig .tc := ⟨.vmem, 54, rfl⟩
abbrev cc1_stg15_0 : Ref sig .tc := ⟨.vmem, 55, rfl⟩
abbrev cc1_stg16_0 : Ref sig .tc := ⟨.vmem, 56, rfl⟩
abbrev cc1_stg17_0 : Ref sig .tc := ⟨.vmem, 57, rfl⟩
abbrev cc1_stg17_1 : Ref sig .tc := ⟨.vmem, 58, rfl⟩
abbrev cc1_stg18_0 : Ref sig .tc := ⟨.vmem, 59, rfl⟩
abbrev cc1_stg18_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37
abbrev cc1_sem5_0 : DmaSem sig := 38
abbrev cc1_sem5_1 : DmaSem sig := 39
abbrev cc1_sem6_0 : DmaSem sig := 40
abbrev cc1_sem6_1 : DmaSem sig := 41
abbrev cc1_sem7_0 : DmaSem sig := 42
abbrev cc1_sem7_1 : DmaSem sig := 43
abbrev cc1_sem8_0 : DmaSem sig := 44
abbrev cc1_sem8_1 : DmaSem sig := 45
abbrev cc1_sem9_0 : DmaSem sig := 46
abbrev cc1_sem9_1 : DmaSem sig := 47
abbrev cc1_sem10_0 : DmaSem sig := 48
abbrev cc1_sem11_0 : DmaSem sig := 49
abbrev cc1_sem11_1 : DmaSem sig := 50
abbrev cc1_sem12_0 : DmaSem sig := 51
abbrev cc1_sem12_1 : DmaSem sig := 52
abbrev cc1_sem13_0 : DmaSem sig := 53
abbrev cc1_sem14_0 : DmaSem sig := 54
abbrev cc1_sem15_0 : DmaSem sig := 55
abbrev cc1_sem16_0 : DmaSem sig := 56
abbrev cc1_sem17_0 : DmaSem sig := 57
abbrev cc1_sem17_1 : DmaSem sig := 58
abbrev cc1_sem18_0 : DmaSem sig := 59
abbrev cc1_sem18_1 : DmaSem sig := 60

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![65], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_12 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x8x128x128 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S8x128x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S256x1024 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S256x1024 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]
-- ==== MixerRefIdeal.lean ====
abbrev S16640x2048 : Shape := ⟨2, ![16640, 2048]⟩
abbrev S16640x128 : Shape := ⟨2, ![16640, 128]⟩
abbrev S2x16x512 : Shape := ⟨3, ![2, 16, 512]⟩
abbrev S2x512 : Shape := ⟨2, ![2, 512]⟩
abbrev S65x128x512 : Shape := ⟨3, ![65, 128, 512]⟩
abbrev S16640x3072 : Shape := ⟨2, ![16640, 3072]⟩
abbrev S1024 : Shape := ⟨1, ![1024]⟩
abbrev S4x8x128x128 : Shape := ⟨4, ![4, 8, 128, 128]⟩
abbrev S8x128 : Shape := ⟨2, ![8, 128]⟩
abbrev S16640x512 : Shape := ⟨2, ![16640, 512]⟩
abbrev S65x256x8x64 : Shape := ⟨4, ![65, 256, 8, 64]⟩
abbrev S65x8x256x64 : Shape := ⟨4, ![65, 8, 256, 64]⟩
abbrev S_ : Shape := ⟨0, ![]⟩
abbrev S16640x1024 : Shape := ⟨2, ![16640, 1024]⟩
abbrev S65x256x8x128 : Shape := ⟨4, ![65, 256, 8, 128]⟩
abbrev S65x8x256x128 : Shape := ⟨4, ![65, 8, 256, 128]⟩
abbrev S16640x16 : Shape := ⟨2, ![16640, 16]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S256x256 : Shape := ⟨2, ![256, 256]⟩
abbrev S1x1x256x256x1 : Shape := ⟨5, ![1, 1, 256, 256, 1]⟩
abbrev S65x128x8x64 : Shape := ⟨4, ![65, 128, 8, 64]⟩
abbrev S65x8x64x128 : Shape := ⟨4, ![65, 8, 64, 128]⟩
abbrev S65x8x256x1x64 : Shape := ⟨5, ![65, 8, 256, 1, 64]⟩
abbrev S65x8x1x256x64 : Shape := ⟨5, ![65, 8, 1, 256, 64]⟩
abbrev S65x8x256x256x64 : Shape := ⟨5, ![65, 8, 256, 256, 64]⟩
abbrev S65x8x256x256 : Shape := ⟨4, ![65, 8, 256, 256]⟩
abbrev S65x8x256 : Shape := ⟨3, ![65, 8, 256]⟩
abbrev S65x8x256x1 : Shape := ⟨4, ![65, 8, 256, 1]⟩
abbrev S1x1024 : Shape := ⟨2, ![1, 1024]⟩
abbrev S16640 : Shape := ⟨1, ![16640]⟩
abbrev S16640x1 : Shape := ⟨2, ![16640, 1]⟩
abbrev S130x128x8x128 : Shape := ⟨4, ![130, 128, 8, 128]⟩
abbrev S1x8x128x128 : Shape := ⟨4, ![1, 8, 128, 128]⟩
abbrev S8x128x128 : Shape := ⟨3, ![8, 128, 128]⟩
abbrev S8x130x128x128 : Shape := ⟨4, ![8, 130, 128, 128]⟩
abbrev S128x8 : Shape := ⟨2, ![128, 8]⟩
abbrev S1x128x8x1 : Shape := ⟨4, ![1, 128, 8, 1]⟩

abbrev nBuf : Space → Nat
  | .hbm => 273
  | .vmem => 0
  | .smem => 0
  | _ => 0

abbrev hbmTy0_0 (i : Nat) : BufTy := match i % 128 with
  | 0 => ⟨S16640x2048, .bf16⟩
  | 1 => ⟨S16640x128, .f32⟩
  | 2 => ⟨S2x16x512, .f32⟩
  | 3 => ⟨S2x512, .f32⟩
  | 4 => ⟨S65x128x512, .bf16⟩
  | 5 => ⟨S65x128x512, .bf16⟩
  | 6 => ⟨S16640x3072, .bf16⟩
  | 7 => ⟨S1024, .f32⟩
  | 8 => ⟨S1024, .f32⟩
  | 9 => ⟨S1024, .f32⟩
  | 10 => ⟨S4x8x128x128, .f32⟩
  | 11 => ⟨S8x128, .f32⟩
  | 12 => ⟨S16640x512, .bf16⟩
  | 13 => ⟨S65x256x8x64, .bf16⟩
  | 14 => ⟨S65x8x256x64, .bf16⟩
  | 15 => ⟨S65x8x256x64, .f32⟩
  | 16 => ⟨S_, .f32⟩
  | 17 => ⟨S65x8x256x64, .f32⟩
  | 18 => ⟨S65x8x256x64, .f32⟩
  | 19 => ⟨S16640x512, .bf16⟩
  | 20 => ⟨S65x256x8x64, .bf16⟩
  | 21 => ⟨S65x8x256x64, .bf16⟩
  | 22 => ⟨S65x8x256x64, .f32⟩
  | 23 => ⟨S16640x1024, .bf16⟩
  | 24 => ⟨S65x256x8x128, .bf16⟩
  | 25 => ⟨S65x8x256x128, .bf16⟩
  | 26 => ⟨S65x8x256x128, .f32⟩
  | 27 => ⟨S16640x16, .f32⟩
  | 28 => ⟨S1x16x512, .f32⟩
  | 29 => ⟨S16x512, .f32⟩
  | 30 => ⟨S1x512, .f32⟩
  | 31 => ⟨S512, .f32⟩
  | 32 => ⟨S16640x512, .f32⟩
  | 33 => ⟨S1x512, .f32⟩
  | 34 => ⟨S16640x512, .f32⟩
  | 35 => ⟨S16640x512, .f32⟩
  | 36 => ⟨S16640x512, .f32⟩
  | 37 => ⟨S_, .f32⟩
  | 38 => ⟨S16640x512, .f32⟩
  | 39 => ⟨S16640x512, .f32⟩
  | 40 => ⟨S16640x512, .f32⟩
  | 41 => ⟨S16640x512, .f32⟩
  | 42 => ⟨S16640x512, .i1⟩
  | 43 => ⟨S16640x512, .f32⟩
  | 44 => ⟨S16640x512, .f32⟩
  | 45 => ⟨S16640x512, .f32⟩
  | 46 => ⟨S16640x512, .f32⟩
  | 47 => ⟨S16640x512, .f32⟩
  | 48 => ⟨S16640x512, .f32⟩
  | 49 => ⟨S16640x512, .f32⟩
  | 50 => ⟨S16640x512, .f32⟩
  | 51 => ⟨S16640x512, .f32⟩
  | 52 => ⟨S_, .f32⟩
  | 53 => ⟨S16640x512, .f32⟩
  | 54 => ⟨S16640x512, .f32⟩
  | 55 => ⟨S65x256x8x64, .f32⟩
  | 56 => ⟨S65x8x256x64, .f32⟩
  | 57 => ⟨S16640x16, .f32⟩
  | 58 => ⟨S1x16x512, .f32⟩
  | 59 => ⟨S16x512, .f32⟩
  | 60 => ⟨S1x512, .f32⟩
  | 61 => ⟨S512, .f32⟩
  | 62 => ⟨S16640x512, .f32⟩
  | 63 => ⟨S1x512, .f32⟩
  | 64 => ⟨S16640x512, .f32⟩
  | 65 => ⟨S16640x512, .f32⟩
  | 66 => ⟨S16640x512, .f32⟩
  | 67 => ⟨S_, .f32⟩
  | 68 => ⟨S16640x512, .f32⟩
  | 69 => ⟨S16640x512, .f32⟩
  | 70 => ⟨S16640x512, .f32⟩
  | 71 => ⟨S16640x512, .f32⟩
  | 72 => ⟨S16640x512, .i1⟩
  | 73 => ⟨S16640x512, .f32⟩
  | 74 => ⟨S16640x512, .f32⟩
  | 75 => ⟨S16640x512, .f32⟩
  | 76 => ⟨S16640x512, .f32⟩
  | 77 => ⟨S16640x512, .f32⟩
  | 78 => ⟨S16640x512, .f32⟩
  | 79 => ⟨S16640x512, .f32⟩
  | 80 => ⟨S16640x512, .f32⟩
  | 81 => ⟨S16640x512, .f32⟩
  | 82 => ⟨S_, .f32⟩
  | 83 => ⟨S16640x512, .f32⟩
  | 84 => ⟨S16640x512, .f32⟩
  | 85 => ⟨S65x256x8x64, .f32⟩
  | 86 => ⟨S65x8x256x64, .f32⟩
  | 87 => ⟨S_, .i1⟩
  | 88 => ⟨S256x256, .i1⟩
  | 89 => ⟨S256x256, .i32⟩
  | 90 => ⟨S_, .i32⟩
  | 91 => ⟨S256x256, .i32⟩
  | 92 => ⟨S256x256, .i32⟩
  | 93 => ⟨S256x256, .i32⟩
  | 94 => ⟨S256x256, .i1⟩
  | 95 => ⟨S_, .i1⟩
  | 96 => ⟨S256x256, .i1⟩
  | 97 => ⟨S256x256, .i1⟩
  | 98 => ⟨S1x1x256x256x1, .i1⟩
  | 99 => ⟨S65x128x512, .f32⟩
  | 100 => ⟨S65x128x8x64, .f32⟩
  | 101 => ⟨S65x8x64x128, .f32⟩
  | 102 => ⟨S_, .f32⟩
  | 103 => ⟨S_, .f32⟩
  | 104 => ⟨S65x8x256x64, .f32⟩
  | 105 => ⟨S65x8x256x64, .f32⟩
  | 106 => ⟨S65x8x256x64, .f32⟩
  | 107 => ⟨S65x8x256x128, .f32⟩
  | 108 => ⟨S65x8x256x1x64, .f32⟩
  | 109 => ⟨S65x8x1x256x64, .f32⟩
  | 110 => ⟨S65x8x256x256x64, .f32⟩
  | 111 => ⟨S65x8x256x256x64, .f32⟩
  | 112 => ⟨S65x8x256x256x64, .f32⟩
  | 113 => ⟨S_, .f32⟩
  | 114 => ⟨S_, .f32⟩
  | 115 => ⟨S65x8x256x256x64, .i1⟩
  | 116 => ⟨S65x8x256x256x64, .f32⟩
  | 117 => ⟨S65x8x256x256x64, .f32⟩
  | 118 => ⟨S65x8x256x256x64, .f32⟩
  | 119 => ⟨S65x8x256x1x64, .f32⟩
  | 120 => ⟨S65x8x1x256x64, .f32⟩
  | 121 => ⟨S65x8x256x256x64, .f32⟩
  | 122 => ⟨S65x8x256x256x64, .f32⟩
  | 123 => ⟨S65x8x256x256x64, .f32⟩
  | 124 => ⟨S65x8x256x256x64, .f32⟩
  | 125 => ⟨S_, .f32⟩
  | 126 => ⟨S65x8x256x256, .f32⟩
  | 127 => ⟨S65x8x256x128, .f32⟩
  | _ => ⟨S16640x2048, .bf16⟩

abbrev hbmTy0_1 (i : Nat) : BufTy := match i % 128 with
  | 0 => ⟨S65x8x256x128, .f32⟩
  | 1 => ⟨S65x8x256x64, .f32⟩
  | 2 => ⟨S65x8x256x64, .f32⟩
  | 3 => ⟨S65x8x256x128, .f32⟩
  | 4 => ⟨S65x8x256x64, .f32⟩
  | 5 => ⟨S65x128x512, .f32⟩
  | 6 => ⟨S65x128x8x64, .f32⟩
  | 7 => ⟨S65x8x64x128, .f32⟩
  | 8 => ⟨S_, .f32⟩
  | 9 => ⟨S_, .f32⟩
  | 10 => ⟨S65x8x256x64, .f32⟩
  | 11 => ⟨S65x8x256x64, .f32⟩
  | 12 => ⟨S65x8x256x64, .f32⟩
  | 13 => ⟨S65x8x256x128, .f32⟩
  | 14 => ⟨S65x8x256x1x64, .f32⟩
  | 15 => ⟨S65x8x1x256x64, .f32⟩
  | 16 => ⟨S65x8x256x256x64, .f32⟩
  | 17 => ⟨S65x8x256x256x64, .f32⟩
  | 18 => ⟨S65x8x256x256x64, .f32⟩
  | 19 => ⟨S_, .f32⟩
  | 20 => ⟨S_, .f32⟩
  | 21 => ⟨S65x8x256x256x64, .i1⟩
  | 22 => ⟨S65x8x256x256x64, .f32⟩
  | 23 => ⟨S65x8x256x256x64, .f32⟩
  | 24 => ⟨S65x8x256x256x64, .f32⟩
  | 25 => ⟨S65x8x256x1x64, .f32⟩
  | 26 => ⟨S65x8x1x256x64, .f32⟩
  | 27 => ⟨S65x8x256x256x64, .f32⟩
  | 28 => ⟨S65x8x256x256x64, .f32⟩
  | 29 => ⟨S65x8x256x256x64, .f32⟩
  | 30 => ⟨S65x8x256x256x64, .f32⟩
  | 31 => ⟨S_, .f32⟩
  | 32 => ⟨S65x8x256x256, .f32⟩
  | 33 => ⟨S65x8x256x128, .f32⟩
  | 34 => ⟨S65x8x256x128, .f32⟩
  | 35 => ⟨S65x8x256x128, .f32⟩
  | 36 => ⟨S65x8x256x128, .f32⟩
  | 37 => ⟨S65x8x256x128, .f32⟩
  | 38 => ⟨S_, .f32⟩
  | 39 => ⟨S65x8x256, .f32⟩
  | 40 => ⟨S65x8x256x1, .f32⟩
  | 41 => ⟨S_, .f32⟩
  | 42 => ⟨S65x8x256x1, .f32⟩
  | 43 => ⟨S65x8x256x1, .f32⟩
  | 44 => ⟨S_, .f32⟩
  | 45 => ⟨S65x8x256x1, .f32⟩
  | 46 => ⟨S65x8x256x1, .f32⟩
  | 47 => ⟨S65x8x256x1, .f32⟩
  | 48 => ⟨S65x8x256x128, .f32⟩
  | 49 => ⟨S65x8x256x128, .f32⟩
  | 50 => ⟨S65x256x8x128, .f32⟩
  | 51 => ⟨S16640x1024, .f32⟩
  | 52 => ⟨S1x1024, .f32⟩
  | 53 => ⟨S16640x1024, .f32⟩
  | 54 => ⟨S16640x1024, .f32⟩
  | 55 => ⟨S16640x1024, .bf16⟩
  | 56 => ⟨S16640x1024, .f32⟩
  | 57 => ⟨S16640x1024, .f32⟩
  | 58 => ⟨S16640x1024, .f32⟩
  | 59 => ⟨S_, .f32⟩
  | 60 => ⟨S16640x1024, .f32⟩
  | 61 => ⟨S16640x1024, .f32⟩
  | 62 => ⟨S_, .f32⟩
  | 63 => ⟨S16640x1024, .f32⟩
  | 64 => ⟨S16640x1024, .f32⟩
  | 65 => ⟨S16640x1024, .f32⟩
  | 66 => ⟨S16640x1024, .f32⟩
  | 67 => ⟨S16640x1024, .bf16⟩
  | 68 => ⟨S16640x1024, .f32⟩
  | 69 => ⟨S16640x1024, .f32⟩
  | 70 => ⟨S16640x1024, .f32⟩
  | 71 => ⟨S_, .f32⟩
  | 72 => ⟨S16640x1024, .f32⟩
  | 73 => ⟨S16640x1024, .f32⟩
  | 74 => ⟨S16640x1024, .f32⟩
  | 75 => ⟨S_, .f32⟩
  | 76 => ⟨S16640x1024, .f32⟩
  | 77 => ⟨S16640x1024, .f32⟩
  | 78 => ⟨S16640x1024, .f32⟩
  | 79 => ⟨S_, .f32⟩
  | 80 => ⟨S16640x1024, .f32⟩
  | 81 => ⟨S16640x1024, .f32⟩
  | 82 => ⟨S_, .f32⟩
  | 83 => ⟨S16640x1024, .f32⟩
  | 84 => ⟨S16640x1024, .f32⟩
  | 85 => ⟨S16640x1024, .f32⟩
  | 86 => ⟨S16640x1024, .bf16⟩
  | 87 => ⟨S16640x1024, .f32⟩
  | 88 => ⟨S16640x1024, .f32⟩
  | 89 => ⟨S16640x1024, .f32⟩
  | 90 => ⟨S_, .f32⟩
  | 91 => ⟨S16640x1024, .f32⟩
  | 92 => ⟨S16640x1024, .f32⟩
  | 93 => ⟨S16640x1024, .f32⟩
  | 94 => ⟨S_, .f32⟩
  | 95 => ⟨S16640x1024, .f32⟩
  | 96 => ⟨S16640x1024, .f32⟩
  | 97 => ⟨S16640x1024, .f32⟩
  | 98 => ⟨S_, .f32⟩
  | 99 => ⟨S16640x1024, .f32⟩
  | 100 => ⟨S16640x1024, .f32⟩
  | 101 => ⟨S_, .f32⟩
  | 102 => ⟨S16640x1024, .f32⟩
  | 103 => ⟨S16640x1024, .f32⟩
  | 104 => ⟨S16640x1024, .f32⟩
  | 105 => ⟨S_, .f32⟩
  | 106 => ⟨S16640, .f32⟩
  | 107 => ⟨S16640x1, .f32⟩
  | 108 => ⟨S_, .f32⟩
  | 109 => ⟨S16640x1, .f32⟩
  | 110 => ⟨S16640x1, .f32⟩
  | 111 => ⟨S16640x1024, .f32⟩
  | 112 => ⟨S16640x1024, .f32⟩
  | 113 => ⟨S16640x1024, .f32⟩
  | 114 => ⟨S_, .f32⟩
  | 115 => ⟨S16640, .f32⟩
  | 116 => ⟨S16640x1, .f32⟩
  | 117 => ⟨S_, .f32⟩
  | 118 => ⟨S16640x1, .f32⟩
  | 119 => ⟨S16640x1, .f32⟩
  | 120 => ⟨S_, .f32⟩
  | 121 => ⟨S16640x1, .f32⟩
  | 122 => ⟨S16640x1, .f32⟩
  | 123 => ⟨S16640x1, .f32⟩
  | 124 => ⟨S16640x1024, .f32⟩
  | 125 => ⟨S16640x1024, .f32⟩
  | 126 => ⟨S1x1024, .f32⟩
  | 127 => ⟨S16640x1024, .f32⟩
  | _ => ⟨S16640x2048, .bf16⟩

abbrev hbmTy0_2 (i : Nat) : BufTy := match i % 128 with
  | 0 => ⟨S16640x1024, .f32⟩
  | 1 => ⟨S1x1024, .f32⟩
  | 2 => ⟨S16640x1024, .f32⟩
  | 3 => ⟨S16640x1024, .f32⟩
  | 4 => ⟨S130x128x8x128, .f32⟩
  | 5 => ⟨S1x8x128x128, .f32⟩
  | 6 => ⟨S8x128x128, .f32⟩
  | 7 => ⟨S8x130x128x128, .f32⟩
  | 8 => ⟨S130x128x8x128, .f32⟩
  | 9 => ⟨S128x8, .f32⟩
  | 10 => ⟨S1x128x8x1, .f32⟩
  | 11 => ⟨S130x128x8x128, .f32⟩
  | 12 => ⟨S130x128x8x128, .f32⟩
  | 13 => ⟨S16640x1024, .f32⟩
  | 14 => ⟨S16640x1024, .f32⟩
  | 15 => ⟨S16640x1024, .bf16⟩
  | 16 => ⟨S16640x1024, .bf16⟩
  | _ => ⟨S16640x2048, .bf16⟩

abbrev hbmTy (i : Nat) : BufTy := match i / 128 with
  | 0 => hbmTy0_0 i
  | 1 => hbmTy0_1 i
  | 2 => hbmTy0_2 i
  | _ => ⟨S16640x2048, .bf16⟩

abbrev bufTy : (tb : Table) → Fin (tcTables nBuf tb) → BufTy
  | .hbm, ⟨i, _⟩ => hbmTy i
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v23 : Ref sig .tc := ⟨.hbm, 51, rfl⟩
abbrev main_cst_0 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call1_v0 : Ref sig .tc := ⟨.hbm, 66, rfl⟩
abbrev main_call1_call0_cst : Ref sig .tc := ⟨.hbm, 67, rfl⟩
abbrev main_call1_call0_v0 : Ref sig .tc := ⟨.hbm, 68, rfl⟩
abbrev main_call1_call0_v1 : Ref sig .tc := ⟨.hbm, 69, rfl⟩
abbrev main_call1_call0_v2 : Ref sig .tc := ⟨.hbm, 70, rfl⟩
abbrev main_call1_call0_v3 : Ref sig .tc := ⟨.hbm, 71, rfl⟩
abbrev main_call1_call0_v4 : Ref sig .tc := ⟨.hbm, 72, rfl⟩
abbrev main_call1_call0_v5 : Ref sig .tc := ⟨.hbm, 73, rfl⟩
abbrev main_call1_call0_v6 : Ref sig .tc := ⟨.hbm, 74, rfl⟩
abbrev main_call1_call0_v7 : Ref sig .tc := ⟨.hbm, 75, rfl⟩
abbrev main_call1_call0_v8 : Ref sig .tc := ⟨.hbm, 76, rfl⟩
abbrev main_call1_call0_v9 : Ref sig .tc := ⟨.hbm, 77, rfl⟩
abbrev main_call1_call0_v10 : Ref sig .tc := ⟨.hbm, 78, rfl⟩
abbrev main_call1_call0_v11 : Ref sig .tc := ⟨.hbm, 79, rfl⟩
abbrev main_call1_v1 : Ref sig .tc := ⟨.hbm, 80, rfl⟩
abbrev main_v37 : Ref sig .tc := ⟨.hbm, 81, rfl⟩
abbrev main_cst_1 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_c : Ref sig .tc := ⟨.hbm, 87, rfl⟩
abbrev main_v42 : Ref sig .tc := ⟨.hbm, 88, rfl⟩
abbrev main_call2_v0 : Ref sig .tc := ⟨.hbm, 89, rfl⟩
abbrev main_call2_c : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_c_0 : Ref sig .tc := ⟨.hbm, 95, rfl⟩
abbrev main_call2_v5 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_call3_call0_cst : Ref sig .tc := ⟨.hbm, 102, rfl⟩
abbrev main_call3_call0_v0 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_2 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_cst_3 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_call9_call0_cst : Ref sig .tc := ⟨.hbm, 136, rfl⟩
abbrev main_call9_call0_v0 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_cst_4 : Ref sig .tc := ⟨.hbm, 147, rfl⟩
abbrev main_call10_v0 : Ref sig .tc := ⟨.hbm, 148, rfl⟩
abbrev main_call10_v1 : Ref sig .tc := ⟨.hbm, 149, rfl⟩
abbrev main_call10_v2 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_cst_5 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_cst_6 : Ref sig .tc := ⟨.hbm, 166, rfl⟩
abbrev main_v98 : Ref sig .tc := ⟨.hbm, 167, rfl⟩
abbrev main_v99 : Ref sig .tc := ⟨.hbm, 168, rfl⟩
abbrev main_cst_7 : Ref sig .tc := ⟨.hbm, 169, rfl⟩
abbrev main_v100 : Ref sig .tc := ⟨.hbm, 170, rfl⟩
abbrev main_v101 : Ref sig .tc := ⟨.hbm, 171, rfl⟩
abbrev main_cst_8 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_call12_v0 : Ref sig .tc := ⟨.hbm, 185, rfl⟩
abbrev main_call12_v1 : Ref sig .tc := ⟨.hbm, 186, rfl⟩
abbrev main_call12_cst : Ref sig .tc := ⟨.hbm, 187, rfl⟩
abbrev main_call12_v2 : Ref sig .tc := ⟨.hbm, 188, rfl⟩
abbrev main_call12_v3 : Ref sig .tc := ⟨.hbm, 189, rfl⟩
abbrev main_call12_cst_0 : Ref sig .tc := ⟨.hbm, 190, rfl⟩
abbrev main_call12_v4 : Ref sig .tc := ⟨.hbm, 191, rfl⟩
abbrev main_call12_v5 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_cst_9 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_cst_10 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_cst_11 : Ref sig .tc := ⟨.hbm, 207, rfl⟩
abbrev main_v126 : Ref sig .tc := ⟨.hbm, 208, rfl⟩
abbrev main_v127 : Ref sig .tc := ⟨.hbm, 209, rfl⟩
abbrev main_cst_12 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_cst_13 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_cst_14 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_cst_15 : Ref sig .tc := ⟨.hbm, 226, rfl⟩
abbrev main_v141 : Ref sig .tc := ⟨.hbm, 227, rfl⟩
abbrev main_v142 : Ref sig .tc := ⟨.hbm, 228, rfl⟩
abbrev main_cst_16 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_cst_17 : Ref sig .tc := ⟨.hbm, 233, rfl⟩
abbrev main_v146 : Ref sig .tc := ⟨.hbm, 234, rfl⟩
abbrev main_v147 : Ref sig .tc := ⟨.hbm, 235, rfl⟩
abbrev main_cst_18 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_cst_19 : Ref sig .tc := ⟨.hbm, 242, rfl⟩
abbrev main_v153 : Ref sig .tc := ⟨.hbm, 243, rfl⟩
abbrev main_v154 : Ref sig .tc := ⟨.hbm, 244, rfl⟩
abbrev main_cst_20 : Ref sig .tc := ⟨.hbm, 245, rfl⟩
abbrev main_v155 : Ref sig .tc := ⟨.hbm, 246, rfl⟩
abbrev main_v156 : Ref sig .tc := ⟨.hbm, 247, rfl⟩
abbrev main_cst_21 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩

abbrev nD : Nat := 1
abbrev τ : Topo := Topo.v7x

variable {F : FTy → Type} [FloatOps F]
-- ==== Merge.lean ====
abbrev S16640x4096 : Shape := ⟨2, ![16640, 4096]⟩
abbrev S16640x1024 : Shape := ⟨2, ![16640, 1024]⟩
abbrev S11264x4096 : Shape := ⟨2, ![11264, 4096]⟩
abbrev S4x1024x4096 : Shape := ⟨3, ![4, 1024, 4096]⟩
abbrev S1280x4096 : Shape := ⟨2, ![1280, 4096]⟩
abbrev S1280x1024 : Shape := ⟨2, ![1280, 1024]⟩
abbrev S256x4096 : Shape := ⟨2, ![256, 4096]⟩
abbrev S1x1024x256 : Shape := ⟨3, ![1, 1024, 256]⟩
abbrev S1280x256 : Shape := ⟨2, ![1280, 256]⟩
abbrev S1024x256 : Shape := ⟨2, ![1024, 256]⟩

abbrev nBuf : Space → Nat
  | .hbm => 7
  | .vmem => 16
  | .smem => 0
  | _ => 0

abbrev bufTy : (tb : Table) → Fin (tcTables nBuf tb) → BufTy
  | .hbm, ⟨0, _⟩ => ⟨S16640x4096, .bf16⟩
  | .hbm, ⟨1, _⟩ => ⟨S16640x1024, .bf16⟩
  | .hbm, ⟨2, _⟩ => ⟨S16640x1024, .bf16⟩
  | .hbm, ⟨3, _⟩ => ⟨S11264x4096, .bf16⟩
  | .hbm, ⟨4, _⟩ => ⟨S4x1024x4096, .f32⟩
  | .hbm, ⟨5, _⟩ => ⟨S4x1024x4096, .f32⟩
  | .hbm, ⟨6, _⟩ => ⟨S16640x4096, .bf16⟩
  | .local _ .vmem, ⟨0, _⟩ => ⟨S1280x4096, .bf16⟩
  | .local _ .vmem, ⟨1, _⟩ => ⟨S1280x4096, .bf16⟩
  | .local _ .vmem, ⟨2, _⟩ => ⟨S1280x1024, .bf16⟩
  | .local _ .vmem, ⟨3, _⟩ => ⟨S1280x1024, .bf16⟩
  | .local _ .vmem, ⟨4, _⟩ => ⟨S1280x1024, .bf16⟩
  | .local _ .vmem, ⟨5, _⟩ => ⟨S1280x1024, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1280x256, .bf16⟩
  | .local _ .vmem, ⟨15, _⟩ => ⟨S1280x256, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![13, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1280x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S16640x4096 : Shape := ⟨2, ![16640, 4096]⟩
abbrev S16640x1024 : Shape := ⟨2, ![16640, 1024]⟩
abbrev S11264x4096 : Shape := ⟨2, ![11264, 4096]⟩
abbrev S4x1024x4096 : Shape := ⟨3, ![4, 1024, 4096]⟩
abbrev S8192x4096 : Shape := ⟨2, ![8192, 4096]⟩
abbrev S16640x8192 : Shape := ⟨2, ![16640, 8192]⟩
abbrev S1x1024x4096 : Shape := ⟨3, ![1, 1024, 4096]⟩
abbrev S1024x4096 : Shape := ⟨2, ![1024, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S16640x1024, .bf16⟩
  | .hbm, ⟨2, _⟩ => ⟨S16640x1024, .bf16⟩
  | .hbm, ⟨3, _⟩ => ⟨S11264x4096, .bf16⟩
  | .hbm, ⟨4, _⟩ => ⟨S4x1024x4096, .f32⟩
  | .hbm, ⟨5, _⟩ => ⟨S4x1024x4096, .f32⟩
  | .hbm, ⟨6, _⟩ => ⟨S16640x4096, .f32⟩
  | .hbm, ⟨7, _⟩ => ⟨S8192x4096, .bf16⟩
  | .hbm, ⟨8, _⟩ => ⟨S8192x4096, .f32⟩
  | .hbm, ⟨9, _⟩ => ⟨S16640x8192, .f32⟩
  | .hbm, ⟨10, _⟩ => ⟨S16640x1024, .f32⟩
  | .hbm, ⟨11, _⟩ => ⟨S1x1024x4096, .f32⟩
  | .hbm, ⟨12, _⟩ => ⟨S1024x4096, .f32⟩
  | .hbm, ⟨13, _⟩ => ⟨S16640x4096, .f32⟩
  | .hbm, ⟨14, _⟩ => ⟨S16640x1024, .f32⟩
  | .hbm, ⟨15, _⟩ => ⟨S1x1024x4096, .f32⟩
  | .hbm, ⟨16, _⟩ => ⟨S1024x4096, .f32⟩
  | .hbm, ⟨17, _⟩ => ⟨S16640x4096, .f32⟩
  | .hbm, ⟨18, _⟩ => ⟨S16640x4096, .f32⟩
  | .hbm, ⟨19, _⟩ => ⟨S16640x4096, .f32⟩
  | .hbm, ⟨20, _⟩ => ⟨S16640x4096, .f32⟩
  | .hbm, ⟨21, _⟩ => ⟨S_, .f32⟩
  | .hbm, ⟨22, _⟩ => ⟨S16640x4096, .f32⟩
  | .hbm, ⟨23, _⟩ => ⟨S16640x4096, .f32⟩
  | .hbm, ⟨24, _⟩ => ⟨S_, .f32⟩
  | .hbm, ⟨25, _⟩ => ⟨S16640x4096, .f32⟩
  | .hbm, ⟨26, _⟩ => ⟨S16640x4096, .f32⟩
  | .hbm, ⟨27, _⟩ => ⟨S16640x4096, .f32⟩
  | .hbm, ⟨28, _⟩ => ⟨S16640x4096, .f32⟩
  | .hbm, ⟨29, _⟩ => ⟨S16640x4096, .f32⟩
  | .hbm, ⟨30, _⟩ => ⟨S16640x4096, .f32⟩
  | .hbm, ⟨31, _⟩ => ⟨S_, .f32⟩
  | .hbm, ⟨32, _⟩ => ⟨S16640x4096, .f32⟩
  | .hbm, ⟨33, _⟩ => ⟨S16640x4096, .f32⟩
  | .hbm, ⟨34, _⟩ => ⟨S_, .f32⟩
  | .hbm, ⟨35, _⟩ => ⟨S16640x4096, .f32⟩
  | .hbm, ⟨36, _⟩ => ⟨S16640x4096, .f32⟩
  | .hbm, ⟨37, _⟩ => ⟨S16640x4096, .f32⟩
  | .hbm, ⟨38, _⟩ => ⟨S16640x4096, .f32⟩
  | .hbm, ⟨39, _⟩ => ⟨S16640x4096, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== OutProj.lean ====
abbrev S16640x4096 : Shape := ⟨2, ![16640, 4096]⟩
abbrev S4x4096x4096 : Shape := ⟨3, ![4, 4096, 4096]⟩
abbrev S2x8x4096 : Shape := ⟨3, ![2, 8, 4096]⟩
abbrev S1280x4096 : Shape := ⟨2, ![1280, 4096]⟩
abbrev S1x4096x512 : Shape := ⟨3, ![1, 4096, 512]⟩
abbrev S1280x512 : Shape := ⟨2, ![1280, 512]⟩
abbrev S2x8x512 : Shape := ⟨3, ![2, 8, 512]⟩
abbrev S4096x512 : Shape := ⟨2, ![4096, 512]⟩
abbrev S1280x1 : Shape := ⟨2, ![1280, 1]⟩
abbrev S1x1x512 : Shape := ⟨3, ![1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S16640x4096, .bf16⟩
  | .hbm, ⟨1, _⟩ => ⟨S4x4096x4096, .f32⟩
  | .hbm, ⟨2, _⟩ => ⟨S16640x4096, .f32⟩
  | .hbm, ⟨3, _⟩ => ⟨S2x8x4096, .f32⟩
  | .hbm, ⟨4, _⟩ => ⟨S16640x4096, .f32⟩
  | .local _ .vmem, ⟨0, _⟩ => ⟨S1280x4096, .bf16⟩
  | .local _ .vmem, ⟨1, _⟩ => ⟨S1280x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1280x512, .f32⟩
  | .local _ .vmem, ⟨5, _⟩ => ⟨S1280x512, .f32⟩
  | .local _ .vmem, ⟨6, _⟩ => ⟨S2x8x512, .f32⟩
  | .local _ .vmem, ⟨7, _⟩ => ⟨S2x8x512, .f32⟩
  | .local _ .vmem, ⟨8, _⟩ => ⟨S1280x512, .f32⟩
  | .local _ .vmem, ⟨9, _⟩ => ⟨S1280x512, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S16640x4096 : Shape := ⟨2, ![16640, 4096]⟩
abbrev S4x4096x4096 : Shape := ⟨3, ![4, 4096, 4096]⟩
abbrev S2x8x4096 : Shape := ⟨3, ![2, 8, 4096]⟩
abbrev S1x4096x4096 : Shape := ⟨3, ![1, 4096, 4096]⟩
abbrev S4096x4096 : Shape := ⟨2, ![4096, 4096]⟩
abbrev S256x4096 : Shape := ⟨2, ![256, 4096]⟩
abbrev S1x1x4096 : Shape := ⟨3, ![1, 1, 4096]⟩
abbrev S4096 : Shape := ⟨1, ![4096]⟩
abbrev S1x4096 : Shape := ⟨2, ![1, 4096]⟩
abbrev S16384x4096 : Shape := ⟨2, ![16384, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4x4096x4096, .f32⟩
  | .hbm, ⟨2, _⟩ => ⟨S16640x4096, .f32⟩
  | .hbm, ⟨3, _⟩ => ⟨S2x8x4096, .f32⟩
  | .hbm, ⟨4, _⟩ => ⟨S16640x4096, .f32⟩
  | .hbm, ⟨5, _⟩ => ⟨S1x4096x4096, .f32⟩
  | .hbm, ⟨6, _⟩ => ⟨S4096x4096, .f32⟩
  | .hbm, ⟨7, _⟩ => ⟨S16640x4096, .f32⟩
  | .hbm, ⟨8, _⟩ => ⟨S256x4096, .f32⟩
  | .hbm, ⟨9, _⟩ => ⟨S1x1x4096, .f32⟩
  | .hbm, ⟨10, _⟩ => ⟨S4096, .f32⟩
  | .hbm, ⟨11, _⟩ => ⟨S256x4096, .f32⟩
  | .hbm, ⟨12, _⟩ => ⟨S1x4096, .f32⟩
  | .hbm, ⟨13, _⟩ => ⟨S256x4096, .f32⟩
  | .hbm, ⟨14, _⟩ => ⟨S256x4096, .f32⟩
  | .hbm, ⟨15, _⟩ => ⟨S256x4096, .f32⟩
  | .hbm, ⟨16, _⟩ => ⟨S16384x4096, .f32⟩
  | .hbm, ⟨17, _⟩ => ⟨S1x1x4096, .f32⟩
  | .hbm, ⟨18, _⟩ => ⟨S4096, .f32⟩
  | .hbm, ⟨19, _⟩ => ⟨S16384x4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16640x4096, .f32⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== HeadProj.lean ====
abbrev S16640x4096 : Shape := ⟨2, ![16640, 4096]⟩
abbrev S2176x4096 : Shape := ⟨2, ![2176, 4096]⟩
abbrev S16640x2048 : Shape := ⟨2, ![16640, 2048]⟩
abbrev S16640x128 : Shape := ⟨2, ![16640, 128]⟩
abbrev S1280x4096 : Shape := ⟨2, ![1280, 4096]⟩
abbrev S512x4096 : Shape := ⟨2, ![512, 4096]⟩
abbrev S128x4096 : Shape := ⟨2, ![128, 4096]⟩
abbrev S1280x512 : Shape := ⟨2, ![1280, 512]⟩
abbrev S1280x128 : Shape := ⟨2, ![1280, 128]⟩

abbrev nBuf : Space → Nat
  | .hbm => 4
  | .vmem => 9
  | .smem => 0
  | _ => 0

abbrev bufTy : (tb : Table) → Fin (tcTables nBuf tb) → BufTy
  | .hbm, ⟨0, _⟩ => ⟨S16640x4096, .bf16⟩
  | .hbm, ⟨1, _⟩ => ⟨S2176x4096, .bf16⟩
  | .hbm, ⟨2, _⟩ => ⟨S16640x2048, .bf16⟩
  | .hbm, ⟨3, _⟩ => ⟨S16640x128, .f32⟩
  | .local _ .vmem, ⟨0, _⟩ => ⟨S1280x4096, .bf16⟩
  | .local _ .vmem, ⟨1, _⟩ => ⟨S1280x4096, .bf16⟩
  | .local _ .vmem, ⟨2, _⟩ => ⟨S512x4096, .bf16⟩
  | .local _ .vmem, ⟨3, _⟩ => ⟨S512x4096, .bf16⟩
  | .local _ .vmem, ⟨4, _⟩ => ⟨S128x4096, .bf16⟩
  | .local _ .vmem, ⟨5, _⟩ => ⟨S1280x512, .bf16⟩
  | .local _ .vmem, ⟨6, _⟩ => ⟨S1280x512, .bf16⟩
  | .local _ .vmem, ⟨7, _⟩ => ⟨S1280x128, .f32⟩
  | .local _ .vmem, ⟨8, _⟩ => ⟨S1280x128, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![13, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1280x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1280x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== HeadProjRefIdeal.lean ====
abbrev S16640x4096 : Shape := ⟨2, ![16640, 4096]⟩
abbrev S2176x4096 : Shape := ⟨2, ![2176, 4096]⟩
abbrev S16640x2176 : Shape := ⟨2, ![16640, 2176]⟩
abbrev S16640x2048 : Shape := ⟨2, ![16640, 2048]⟩
abbrev S16640x128 : Shape := ⟨2, ![16640, 128]⟩

abbrev nBuf : Space → Nat
  | .hbm => 8
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S2176x4096, .bf16⟩
  | .hbm, ⟨2, _⟩ => ⟨S16640x4096, .f32⟩
  | .hbm, ⟨3, _⟩ => ⟨S2176x4096, .f32⟩
  | .hbm, ⟨4, _⟩ => ⟨S16640x2176, .f32⟩
  | .hbm, ⟨5, _⟩ => ⟨S16640x2048, .f32⟩
  | .hbm, ⟨6, _⟩ => ⟨S16640x2048, .bf16⟩
  | .hbm, ⟨7, _⟩ => ⟨S16640x128, .f32⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== RestProj.lean ====
abbrev S16640x4096 : Shape := ⟨2, ![16640, 4096]⟩
abbrev S11264x4096 : Shape := ⟨2, ![11264, 4096]⟩
abbrev S16640x3072 : Shape := ⟨2, ![16640, 3072]⟩
abbrev S1280x4096 : Shape := ⟨2, ![1280, 4096]⟩
abbrev S512x4096 : Shape := ⟨2, ![512, 4096]⟩
abbrev S1280x512 : Shape := ⟨2, ![1280, 512]⟩

abbrev nBuf : Space → Nat
  | .hbm => 3
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S11264x4096, .bf16⟩
  | .hbm, ⟨2, _⟩ => ⟨S16640x3072, .bf16⟩
  | .local _ .vmem, ⟨0, _⟩ => ⟨S1280x4096, .bf16⟩
  | .local _ .vmem, ⟨1, _⟩ => ⟨S1280x4096, .bf16⟩
  | .local _ .vmem, ⟨2, _⟩ => ⟨S512x4096, .bf16⟩
  | .local _ .vmem, ⟨3, _⟩ => ⟨S512x4096, .bf16⟩
  | .local _ .vmem, ⟨4, _⟩ => ⟨S1280x512, .bf16⟩
  | .local _ .vmem, ⟨5, _⟩ => ⟨S1280x512, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RestProjRefIdeal.lean ====
abbrev S16640x4096 : Shape := ⟨2, ![16640, 4096]⟩
abbrev S11264x4096 : Shape := ⟨2, ![11264, 4096]⟩
abbrev S16640x11264 : Shape := ⟨2, ![16640, 11264]⟩
abbrev S16640x3072 : Shape := ⟨2, ![16640, 3072]⟩

abbrev nBuf : Space → Nat
  | .hbm => 7
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S11264x4096, .bf16⟩
  | .hbm, ⟨2, _⟩ => ⟨S16640x4096, .f32⟩
  | .hbm, ⟨3, _⟩ => ⟨S11264x4096, .f32⟩
  | .hbm, ⟨4, _⟩ => ⟨S16640x11264, .f32⟩
  | .hbm, ⟨5, _⟩ => ⟨S16640x3072, .f32⟩
  | .hbm, ⟨6, _⟩ => ⟨S16640x3072, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Experts.lean ====
abbrev S16x4160x4096 : Shape := ⟨3, ![16, 4160, 4096]⟩
abbrev S16x4160x128 : Shape := ⟨3, ![16, 4160, 128]⟩
abbrev S4x16x4096x256 : Shape := ⟨4, ![4, 16, 4096, 256]⟩
abbrev S4x16x256x4096 : Shape := ⟨4, ![4, 16, 256, 4096]⟩
abbrev S1x832x4096 : Shape := ⟨3, ![1, 832, 4096]⟩
abbrev S1x1x4096x256 : Shape := ⟨4, ![1, 1, 4096, 256]⟩
abbrev S1x1x256x4096 : Shape := ⟨4, ![1, 1, 256, 4096]⟩
abbrev S1x832x128 : Shape := ⟨3, ![1, 832, 128]⟩
abbrev S1x128 : Shape := ⟨2, ![1, 128]⟩
abbrev S832x128 : Shape := ⟨2, ![832, 128]⟩
abbrev S832 : Shape := ⟨1, ![832]⟩
abbrev S832x1 : Shape := ⟨2, ![832, 1]⟩
abbrev S832x4096 : Shape := ⟨2, ![832, 4096]⟩
abbrev S4096x256 : Shape := ⟨2, ![4096, 256]⟩
abbrev S832x256 : Shape := ⟨2, ![832, 256]⟩
abbrev S256x4096 : Shape := ⟨2, ![256, 4096]⟩

abbrev nBuf : Space → Nat
  | .hbm => 6
  | .vmem => 12
  | .smem => 0
  | _ => 0

abbrev bufTy : (tb : Table) → Fin (tcTables nBuf tb) → BufTy
  | .hbm, ⟨0, _⟩ => ⟨S16x4160x4096, .bf16⟩
  | .hbm, ⟨1, _⟩ => ⟨S16x4160x128, .f32⟩
  | .hbm, ⟨2, _⟩ => ⟨S4x16x4096x256, .bf16⟩
  | .hbm, ⟨3, _⟩ => ⟨S4x16x4096x256, .bf16⟩
  | .hbm, ⟨4, _⟩ => ⟨S4x16x256x4096, .bf16⟩
  | .hbm, ⟨5, _⟩ => ⟨S16x4160x4096, .bf16⟩
  | .local _ .vmem, ⟨0, _⟩ => ⟨S1x832x4096, .bf16⟩
  | .local _ .vmem, ⟨1, _⟩ => ⟨S1x832x4096, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x256, .bf16⟩
  | .local _ .vmem, ⟨5, _⟩ => ⟨S1x1x4096x256, .bf16⟩
  | .local _ .vmem, ⟨6, _⟩ => ⟨S1x1x256x4096, .bf16⟩
  | .local _ .vmem, ⟨7, _⟩ => ⟨S1x1x256x4096, .bf16⟩
  | .local _ .vmem, ⟨8, _⟩ => ⟨S1x832x128, .f32⟩
  | .local _ .vmem, ⟨9, _⟩ => ⟨S1x832x128, .f32⟩
  | .local _ .vmem, ⟨10, _⟩ => ⟨S1x832x4096, .bf16⟩
  | .local _ .vmem, ⟨11, _⟩ => ⟨S1x832x4096, .bf16⟩
  | _, _ => ⟨S16x4160x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x832x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x832x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x832x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ExpertsRefIdeal.lean ====
abbrev S16x4160x4096 : Shape := ⟨3, ![16, 4160, 4096]⟩
abbrev S16x4160x128 : Shape := ⟨3, ![16, 4160, 128]⟩
abbrev S4x16x4096x256 : Shape := ⟨4, ![4, 16, 4096, 256]⟩
abbrev S4x16x256x4096 : Shape := ⟨4, ![4, 16, 256, 4096]⟩
abbrev S1x16x4096x256 : Shape := ⟨4, ![1, 16, 4096, 256]⟩
abbrev S16x4096x256 : Shape := ⟨3, ![16, 4096, 256]⟩
abbrev S16x4160x256 : Shape := ⟨3, ![16, 4160, 256]⟩
abbrev S_ : Shape := ⟨0, ![]⟩
abbrev S1x16x256x4096 : Shape := ⟨4, ![1, 16, 256, 4096]⟩
abbrev S16x256x4096 : Shape := ⟨3, ![16, 256, 4096]⟩
abbrev S16x4160x16 : Shape := ⟨3, ![16, 4160, 16]⟩
abbrev S16 : Shape := ⟨1, ![16]⟩
abbrev S16x1x1 : Shape := ⟨3, ![16, 1, 1]⟩
abbrev S1x1x16 : Shape := ⟨3, ![1, 1, 16]⟩
abbrev S16x1x16 : Shape := ⟨3, ![16, 1, 16]⟩
abbrev S16x4160 : Shape := ⟨2, ![16, 4160]⟩
abbrev S16x4160x1 : Shape := ⟨3, ![16, 4160, 1]⟩

abbrev nBuf : Space → Nat
  | .hbm => 51
  | .vmem => 0
  | .smem => 0
  | _ => 0

abbrev bufTy : (tb : Table) → Fin (tcTables nBuf tb) → BufTy
  | .hbm, ⟨0, _⟩ => ⟨S16x4160x4096, .bf16⟩
  | .hbm, ⟨1, _⟩ => ⟨S16x4160x128, .f32⟩
  | .hbm, ⟨2, _⟩ => ⟨S4x16x4096x256, .bf16⟩
  | .hbm, ⟨3, _⟩ => ⟨S4x16x4096x256, .bf16⟩
  | .hbm, ⟨4, _⟩ => ⟨S4x16x256x4096, .bf16⟩
  | .hbm, ⟨5, _⟩ => ⟨S16x4160x4096, .f32⟩
  | .hbm, ⟨6, _⟩ => ⟨S1x16x4096x256, .bf16⟩
  | .hbm, ⟨7, _⟩ => ⟨S16x4096x256, .bf16⟩
  | .hbm, ⟨8, _⟩ => ⟨S16x4096x256, .f32⟩
  | .hbm, ⟨9, _⟩ => ⟨S16x4160x256, .f32⟩
  | .hbm, ⟨10, _⟩ => ⟨S1x16x4096x256, .bf16⟩
  | .hbm, ⟨11, _⟩ => ⟨S16x4096x256, .bf16⟩
  | .hbm, ⟨12, _⟩ => ⟨S16x4096x256, .f32⟩
  | .hbm, ⟨13, _⟩ => ⟨S16x4160x256, .f32⟩
  | .hbm, ⟨14, _⟩ => ⟨S16x4160x256, .f32⟩
  | .hbm, ⟨15, _⟩ => ⟨S16x4160x256, .f32⟩
  | .hbm, ⟨16, _⟩ => ⟨S_, .f32⟩
  | .hbm, ⟨17, _⟩ => ⟨S16x4160x256, .f32⟩
  | .hbm, ⟨18, _⟩ => ⟨S16x4160x256, .f32⟩
  | .hbm, ⟨19, _⟩ => ⟨S_, .f32⟩
  | .hbm, ⟨20, _⟩ => ⟨S16x4160x256, .f32⟩
  | .hbm, ⟨21, _⟩ => ⟨S16x4160x256, .f32⟩
  | .hbm, ⟨22, _⟩ => ⟨S16x4160x256, .f32⟩
  | .hbm, ⟨23, _⟩ => ⟨S16x4160x256, .f32⟩
  | .hbm, ⟨24, _⟩ => ⟨S1x16x256x4096, .bf16⟩
  | .hbm, ⟨25, _⟩ => ⟨S16x256x4096, .bf16⟩
  | .hbm, ⟨26, _⟩ => ⟨S16x256x4096, .f32⟩
  | .hbm, ⟨27, _⟩ => ⟨S16x4160x4096, .f32⟩
  | .hbm, ⟨28, _⟩ => ⟨S16x4160x16, .f32⟩
  | .hbm, ⟨29, _⟩ => ⟨S16x4160x16, .f32⟩
  | .hbm, ⟨30, _⟩ => ⟨S16x4160x16, .f32⟩
  | .hbm, ⟨31, _⟩ => ⟨S16x4160x16, .f32⟩
  | .hbm, ⟨32, _⟩ => ⟨S16x4160x16, .f32⟩
  | .hbm, ⟨33, _⟩ => ⟨S16, .i32⟩
  | .hbm, ⟨34, _⟩ => ⟨S16x1x1, .i32⟩
  | .hbm, ⟨35, _⟩ => ⟨S16, .i32⟩
  | .hbm, ⟨36, _⟩ => ⟨S1x1x16, .i32⟩
  | .hbm, ⟨37, _⟩ => ⟨S16x1x16, .i32⟩
  | .hbm, ⟨38, _⟩ => ⟨S16x1x16, .i32⟩
  | .hbm, ⟨39, _⟩ => ⟨S16x1x16, .i1⟩
  | .hbm, ⟨40, _⟩ => ⟨S_, .f32⟩
  | .hbm, ⟨41, _⟩ => ⟨S_, .f32⟩
  | .hbm, ⟨42, _⟩ => ⟨S16x4160x16, .i1⟩
  | .hbm, ⟨43, _⟩ => ⟨S16x4160x16, .f32⟩
  | .hbm, ⟨44, _⟩ => ⟨S16x4160x16, .f32⟩
  | .hbm, ⟨45, _⟩ => ⟨S_, .f32⟩
  | .hbm, ⟨46, _⟩ => ⟨S16x4160, .f32⟩
  | .hbm, ⟨47, _⟩ => ⟨S16x4160x1, .f32⟩
  | .hbm, ⟨48, _⟩ => ⟨S16x4160x4096, .f32⟩
  | .hbm, ⟨49, _⟩ => ⟨S16x4160x4096, .f32⟩
  | .hbm, ⟨50, _⟩ => ⟨S16x4160x4096, .bf16⟩
  | _, _ => ⟨S16x4160x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v27 : Ref sig .tc := ⟨.hbm, 44, rfl⟩
abbrev main_cst_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Combine.lean ====
abbrev S16x4160x4096 : Shape := ⟨3, ![16, 4160, 4096]⟩
abbrev S16x16640 : Shape := ⟨2, ![16, 16640]⟩
abbrev S16640x4096 : Shape := ⟨2, ![16640, 4096]⟩
abbrev S2x8x4096 : Shape := ⟨3, ![2, 8, 4096]⟩
abbrev S4096 : Shape := ⟨1, ![4096]⟩
abbrev S1x4096 : Shape := ⟨2, ![1, 4096]⟩
abbrev S16384x4096 : Shape := ⟨2, ![16384, 4096]⟩
abbrev S16x64x4096 : Shape := ⟨3, ![16, 64, 4096]⟩
abbrev S16x256 : Shape := ⟨2, ![16, 256]⟩
abbrev S256x4096 : Shape := ⟨2, ![256, 4096]⟩
abbrev S1x8x4096 : Shape := ⟨3, ![1, 8, 4096]⟩
abbrev S64x256 : Shape := ⟨2, ![64, 256]⟩
abbrev S1x256 : Shape := ⟨2, ![1, 256]⟩
abbrev S1024x256 : Shape := ⟨2, ![1024, 256]⟩
abbrev S1024x4096 : Shape := ⟨2, ![1024, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S16x4160x4096, .bf16⟩
  | .hbm, ⟨1, _⟩ => ⟨S16x16640, .f32⟩
  | .hbm, ⟨2, _⟩ => ⟨S16640x4096, .f32⟩
  | .hbm, ⟨3, _⟩ => ⟨S2x8x4096, .f32⟩
  | .hbm, ⟨4, _⟩ => ⟨S4096, .f32⟩
  | .hbm, ⟨5, _⟩ => ⟨S1x4096, .f32⟩
  | .hbm, ⟨6, _⟩ => ⟨S16384x4096, .f32⟩
  | .local _ .vmem, ⟨0, _⟩ => ⟨S16x64x4096, .bf16⟩
  | .local _ .vmem, ⟨1, _⟩ => ⟨S16x64x4096, .bf16⟩
  | .local _ .vmem, ⟨2, _⟩ => ⟨S16x256, .f32⟩
  | .local _ .vmem, ⟨3, _⟩ => ⟨S16x256, .f32⟩
  | .local _ .vmem, ⟨4, _⟩ => ⟨S256x4096, .f32⟩
  | .local _ .vmem, ⟨5, _⟩ => ⟨S256x4096, .f32⟩
  | .local _ .vmem, ⟨6, _⟩ => ⟨S1x8x4096, .f32⟩
  | .local _ .vmem, ⟨7, _⟩ => ⟨S1x8x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | _, _ => ⟨S16x4160x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 1 := Scalar.cmpi .sge v0 c256_i32_0
  let v2 : BitVec 32 := Scalar.extui v1
  let c0_i32 : BitVec 32 := 0#32
  let c0_i32_1 : BitVec 32 := 0#32
  let c0_i32_2 : BitVec 32 := 0#32
  ![v2.toNat, c0_i32.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S16x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S16x4160x4096 : Shape := ⟨3, ![16, 4160, 4096]⟩
abbrev S16x16640 : Shape := ⟨2, ![16, 16640]⟩
abbrev S16640x4096 : Shape := ⟨2, ![16640, 4096]⟩
abbrev S2x8x4096 : Shape := ⟨3, ![2, 8, 4096]⟩
abbrev S4096 : Shape := ⟨1, ![4096]⟩
abbrev S16x65x64x4096 : Shape := ⟨4, ![16, 65, 64, 4096]⟩
abbrev S16x65x256x1 : Shape := ⟨4, ![16, 65, 256, 1]⟩
abbrev S64 : Shape := ⟨1, ![64]⟩
abbrev S1x1x1x64 : Shape := ⟨4, ![1, 1, 1, 64]⟩
abbrev S16x65x256x64 : Shape := ⟨4, ![16, 65, 256, 64]⟩
abbrev S16x65x256x4096 : Shape := ⟨4, ![16, 65, 256, 4096]⟩
abbrev S_ : Shape := ⟨0, ![]⟩
abbrev S65x256x4096 : Shape := ⟨3, ![65, 256, 4096]⟩
abbrev S16384x4096 : Shape := ⟨2, ![16384, 4096]⟩
abbrev S1x1x4096 : Shape := ⟨3, ![1, 1, 4096]⟩
abbrev S1x4096 : Shape := ⟨2, ![1, 4096]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16x4160x4096, .bf16⟩
  | .hbm, ⟨1, _⟩ => ⟨S16x16640, .f32⟩
  | .hbm, ⟨2, _⟩ => ⟨S16640x4096, .f32⟩
  | .hbm, ⟨3, _⟩ => ⟨S2x8x4096, .f32⟩
  | .hbm, ⟨4, _⟩ => ⟨S4096, .f32⟩
  | .hbm, ⟨5, _⟩ => ⟨S16x4160x4096, .f32⟩
  | .hbm, ⟨6, _⟩ => ⟨S16x65x64x4096, .f32⟩
  | .hbm, ⟨7, _⟩ => ⟨S16x65x256x1, .f32⟩
  | .hbm, ⟨8, _⟩ => ⟨S64, .i32⟩
  | .hbm, ⟨9, _⟩ => ⟨S64, .f32⟩
  | .hbm, ⟨10, _⟩ => ⟨S1x1x1x64, .f32⟩
  | .hbm, ⟨11, _⟩ => ⟨S16x65x256x64, .f32⟩
  | .hbm, ⟨12, _⟩ => ⟨S16x65x256x64, .f32⟩
  | .hbm, ⟨13, _⟩ => ⟨S16x65x256x64, .i1⟩
  | .hbm, ⟨14, _⟩ => ⟨S16x65x256x64, .f32⟩
  | .hbm, ⟨15, _⟩ => ⟨S16x65x256x4096, .f32⟩
  | .hbm, ⟨16, _⟩ => ⟨S_, .f32⟩
  | .hbm, ⟨17, _⟩ => ⟨S65x256x4096, .f32⟩
  | .hbm, ⟨18, _⟩ => ⟨S16640x4096, .f32⟩
  | .hbm, ⟨19, _⟩ => ⟨S16384x4096, .f32⟩
  | .hbm, ⟨20, _⟩ => ⟨S1x1x4096, .f32⟩
  | .hbm, ⟨21, _⟩ => ⟨S4096, .f32⟩
  | .hbm, ⟨22, _⟩ => ⟨S16384x4096, .f32⟩
  | .hbm, ⟨23, _⟩ => ⟨S1x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x4096, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | _, _ => ⟨S16x4160x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Dispatch.lean ====
abbrev S16640x4096 : Shape := ⟨2, ![16640, 4096]⟩
abbrev S16640x128 : Shape := ⟨2, ![16640, 128]⟩
abbrev S16x4160x4096 : Shape := ⟨3, ![16, 4160, 4096]⟩
abbrev S16x4160x128 : Shape := ⟨3, ![16, 4160, 128]⟩
abbrev S16x16640 : Shape := ⟨2, ![16, 16640]⟩
abbrev S65x8x128 : Shape := ⟨3, ![65, 8, 128]⟩
abbrev S256x4096 : Shape := ⟨2, ![256, 4096]⟩
abbrev S256x128 : Shape := ⟨2, ![256, 128]⟩
abbrev S16x64x4096 : Shape := ⟨3, ![16, 64, 4096]⟩
abbrev S16x64x128 : Shape := ⟨3, ![16, 64, 128]⟩
abbrev S16x256 : Shape := ⟨2, ![16, 256]⟩
abbrev S1x8x128 : Shape := ⟨3, ![1, 8, 128]⟩
abbrev S256x256 : Shape := ⟨2, ![256, 256]⟩
abbrev S128 : Shape := ⟨1, ![128]⟩
abbrev S1x128 : Shape := ⟨2, ![1, 128]⟩
abbrev S128x256 : Shape := ⟨2, ![128, 256]⟩
abbrev S8x128 : Shape := ⟨2, ![8, 128]⟩
abbrev S64x256 : Shape := ⟨2, ![64, 256]⟩
abbrev S1x256 : Shape := ⟨2, ![1, 256]⟩
abbrev S1024x256 : Shape := ⟨2, ![1024, 256]⟩
abbrev S1024x4096 : Shape := ⟨2, ![1024, 4096]⟩
abbrev S1024x128 : Shape := ⟨2, ![1024, 128]⟩

abbrev nBuf : Space → Nat
  | .hbm => 6
  | .vmem => 12
  | .smem => 0
  | _ => 0

abbrev bufTy : (tb : Table) → Fin (tcTables nBuf tb) → BufTy
  | .hbm, ⟨0, _⟩ => ⟨S16640x4096, .bf16⟩
  | .hbm, ⟨1, _⟩ => ⟨S16640x128, .f32⟩
  | .hbm, ⟨2, _⟩ => ⟨S16x4160x4096, .bf16⟩
  | .hbm, ⟨3, _⟩ => ⟨S16x4160x128, .f32⟩
  | .hbm, ⟨4, _⟩ => ⟨S16x16640, .f32⟩
  | .hbm, ⟨5, _⟩ => ⟨S65x8x128, .f32⟩
  | .local _ .vmem, ⟨0, _⟩ => ⟨S256x4096, .bf16⟩
  | .local _ .vmem, ⟨1, _⟩ => ⟨S256x4096, .bf16⟩
  | .local _ .vmem, ⟨2, _⟩ => ⟨S256x128, .f32⟩
  | .local _ .vmem, ⟨3, _⟩ => ⟨S256x128, .f32⟩
  | .local _ .vmem, ⟨4, _⟩ => ⟨S16x64x4096, .bf16⟩
  | .local _ .vmem, ⟨5, _⟩ => ⟨S16x64x4096, .bf16⟩
  | .local _ .vmem, ⟨6, _⟩ => ⟨S16x64x128, .f32⟩
  | .local _ .vmem, ⟨7, _⟩ => ⟨S16x64x128, .f32⟩
  | .local _ .vmem, ⟨8, _⟩ => ⟨S16x256, .f32⟩
  | .local _ .vmem, ⟨9, _⟩ => ⟨S16x256, .f32⟩
  | .local _ .vmem, ⟨10, _⟩ => ⟨S1x8x128, .f32⟩
  | .local _ .vmem, ⟨11, _⟩ => ⟨S1x8x128, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DispatchRefIdeal.lean ====
abbrev S16640x4096 : Shape := ⟨2, ![16640, 4096]⟩
abbrev S16640x128 : Shape := ⟨2, ![16640, 128]⟩
abbrev S65x256x4096 : Shape := ⟨3, ![65, 256, 4096]⟩
abbrev S65x256x128 : Shape := ⟨3, ![65, 256, 128]⟩
abbrev S_ : Shape := ⟨0, ![]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x256x256x1 : Shape := ⟨4, ![1, 256, 256, 1]⟩
abbrev S65x1x256x128 : Shape := ⟨4, ![65, 1, 256, 128]⟩
abbrev S65x256x256x128 : Shape := ⟨4, ![65, 256, 256, 128]⟩
abbrev S16640x16 : Shape := ⟨2, ![16640, 16]⟩
abbrev S16x16640 : Shape := ⟨2, ![16, 16640]⟩
abbrev S65x256x16 : Shape := ⟨3, ![65, 256, 16]⟩
abbrev S65x256x16x1 : Shape := ⟨4, ![65, 256, 16, 1]⟩
abbrev S64 : Shape := ⟨1, ![64]⟩
abbrev S1x1x1x64 : Shape := ⟨4, ![1, 1, 1, 64]⟩
abbrev S65x256x16x64 : Shape := ⟨4, ![65, 256, 16, 64]⟩
abbrev S65x4096x16x64 : Shape := ⟨4, ![65, 4096, 16, 64]⟩
abbrev S16x65x64x4096 : Shape := ⟨4, ![16, 65, 64, 4096]⟩
abbrev S16x4160x4096 : Shape := ⟨3, ![16, 4160, 4096]⟩
abbrev S65x128x16x64 : Shape := ⟨4, ![65, 128, 16, 64]⟩
abbrev S16x65x64x128 : Shape := ⟨4, ![16, 65, 64, 128]⟩
abbrev S16x4160x128 : Shape := ⟨3, ![16, 4160, 128]⟩
abbrev S65x128 : Shape := ⟨2, ![65, 128]⟩
abbrev S65x1x128 : Shape := ⟨3, ![65, 1, 128]⟩
abbrev S65x8x128 : Shape := ⟨3, ![65, 8, 128]⟩

abbrev nBuf : Space → Nat
  | .hbm => 53
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S16640x128, .f32⟩
  | .hbm, ⟨2, _⟩ => ⟨S16640x4096, .f32⟩
  | .hbm, ⟨3, _⟩ => ⟨S65x256x4096, .f32⟩
  | .hbm, ⟨4, _⟩ => ⟨S65x256x128, .f32⟩
  | .hbm, ⟨5, _⟩ => ⟨S_, .f32⟩
  | .hbm, ⟨6, _⟩ => ⟨S65x256x128, .f32⟩
  | .hbm, ⟨7, _⟩ => ⟨S65x256x128, .i1⟩
  | .hbm, ⟨8, _⟩ => ⟨S65x256x128, .f32⟩
  | .hbm, ⟨9, _⟩ => ⟨S256, .i32⟩
  | .hbm, ⟨10, _⟩ => ⟨S1x256, .i32⟩
  | .hbm, ⟨11, _⟩ => ⟨S256x1, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S256x256, .f32⟩
  | .hbm, ⟨16, _⟩ => ⟨S1x256x256x1, .f32⟩
  | .hbm, ⟨17, _⟩ => ⟨S65x1x256x128, .f32⟩
  | .hbm, ⟨18, _⟩ => ⟨S65x256x256x128, .f32⟩
  | .hbm, ⟨19, _⟩ => ⟨S65x256x256x128, .f32⟩
  | .hbm, ⟨20, _⟩ => ⟨S65x256x256x128, .f32⟩
  | .hbm, ⟨21, _⟩ => ⟨S_, .f32⟩
  | .hbm, ⟨22, _⟩ => ⟨S65x256x128, .f32⟩
  | .hbm, ⟨23, _⟩ => ⟨S_, .f32⟩
  | .hbm, ⟨24, _⟩ => ⟨S65x256x128, .f32⟩
  | .hbm, ⟨25, _⟩ => ⟨S65x256x128, .i1⟩
  | .hbm, ⟨26, _⟩ => ⟨S_, .f32⟩
  | .hbm, ⟨27, _⟩ => ⟨S_, .f32⟩
  | .hbm, ⟨28, _⟩ => ⟨S65x256x128, .f32⟩
  | .hbm, ⟨29, _⟩ => ⟨S65x256x128, .f32⟩
  | .hbm, ⟨30, _⟩ => ⟨S16640x128, .f32⟩
  | .hbm, ⟨31, _⟩ => ⟨S16640x16, .f32⟩
  | .hbm, ⟨32, _⟩ => ⟨S16x16640, .f32⟩
  | .hbm, ⟨33, _⟩ => ⟨S65x256x16, .f32⟩
  | .hbm, ⟨34, _⟩ => ⟨S65x256x16x1, .f32⟩
  | .hbm, ⟨35, _⟩ => ⟨S64, .i32⟩
  | .hbm, ⟨36, _⟩ => ⟨S64, .f32⟩
  | .hbm, ⟨37, _⟩ => ⟨S1x1x1x64, .f32⟩
  | .hbm, ⟨38, _⟩ => ⟨S65x256x16x64, .f32⟩
  | .hbm, ⟨39, _⟩ => ⟨S65x256x16x64, .f32⟩
  | .hbm, ⟨40, _⟩ => ⟨S65x256x16x64, .i1⟩
  | .hbm, ⟨41, _⟩ => ⟨S65x256x16x64, .f32⟩
  | .hbm, ⟨42, _⟩ => ⟨S65x4096x16x64, .f32⟩
  | .hbm, ⟨43, _⟩ => ⟨S16x65x64x4096, .f32⟩
  | .hbm, ⟨44, _⟩ => ⟨S16x4160x4096, .f32⟩
  | .hbm, ⟨45, _⟩ => ⟨S65x128x16x64, .f32⟩
  | .hbm, ⟨46, _⟩ => ⟨S16x65x64x128, .f32⟩
  | .hbm, ⟨47, _⟩ => ⟨S16x4160x128, .f32⟩
  | .hbm, ⟨48, _⟩ => ⟨S_, .f32⟩
  | .hbm, ⟨49, _⟩ => ⟨S65x128, .f32⟩
  | .hbm, ⟨50, _⟩ => ⟨S65x1x128, .f32⟩
  | .hbm, ⟨51, _⟩ => ⟨S65x8x128, .f32⟩
  | .hbm, ⟨52, _⟩ => ⟨S16x4160x4096, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Proof.Common.lean ====
/-
  What the value proofs share: indices from their coordinates, and the two products of a block of rows with a weight.
-/
module

public import Idealize.ShloMosaic.Lib.MatmulPlain
public import Idealize.ShloMosaic.Lib.ValueIdx
public import Idealize.ShloMosaic.Lib.Pipeline.Value
public import Idealize.ShloMosaic.PureOps.Ideal.Laws

@[expose] public section

noncomputable section

namespace Cert.Proof

open Idealize.ShloMosaic Idealize.ShloMosaic.ValueIdx
open scoped BigOperators

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- Two indices with equal coordinates are equal: at rank two, three and four. -/
theorem idx2 {n0 n1 : Nat} {i j : (⟨2, ![n0, n1]⟩ : Shape).Idx} (h0 : (i 0).val = (j 0).val) (h1 : (i 1).val = (j 1).val) : i = j := by
  funext a; apply Fin.ext
  match a with
  | ⟨0, _⟩ => exact h0
  | ⟨1, _⟩ => exact h1

theorem idx3 {n0 n1 n2 : Nat} {i j : (⟨3, ![n0, n1, n2]⟩ : Shape).Idx} (h0 : (i 0).val = (j 0).val) (h1 : (i 1).val = (j 1).val)
    (h2 : (i 2).val = (j 2).val) : i = j := by
  funext a; apply Fin.ext
  match a with
  | ⟨0, _⟩ => exact h0
  | ⟨1, _⟩ => exact h1
  | ⟨2, _⟩ => exact h2

theorem idx4 {n0 n1 n2 n3 : Nat} {i j : (⟨4, ![n0, n1, n2, n3]⟩ : Shape).Idx} (h0 : (i 0).val = (j 0).val)
    (h1 : (i 1).val = (j 1).val) (h2 : (i 2).val = (j 2).val) (h3 : (i 3).val = (j 3).val) : i = j := by
  funext a; apply Fin.ext
  match a with
  | ⟨0, _⟩ => exact h0
  | ⟨1, _⟩ => exact h1
  | ⟨2, _⟩ => exact h2
  | ⟨3, _⟩ => exact h3

/-- A product with the right operand's rows, from a zero accumulator. -/
theorem product_rows {M K N : Nat} (x : Vec Ideal ⟨2, ![M, K]⟩ .bf16) (w : Vec Ideal ⟨2, ![N, K]⟩ .bf16) (r : Fin M) (c : Fin N) :
    FloatOps.matmul (F := Ideal) (φ₁ := .bf16) (φ₂ := .bf16) (DotDims.transposedRhs M K N) none x w
      (constant ⟨2, ![M, N]⟩ .f32 0x00000000#32) (ix2 r c) = ∑ k : Fin K, x (ix2 r k) * w (ix2 c k) := by
  rw [Ideal.matmul_transposedRhs_apply, constant_apply]
  show Ideal.ofBits .f32 0x00000000#32 + _ = _
  rw [Ideal.ofBits_zero_f32, zero_add]

/-- A product with the right operand's columns, from a zero accumulator. -/
theorem product_cols {M K N : Nat} (x : Vec Ideal ⟨2, ![M, K]⟩ .bf16) (w : Vec Ideal ⟨2, ![K, N]⟩ .bf16) (r : Fin M) (c : Fin N) :
    FloatOps.matmul (F := Ideal) (φ₁ := .bf16) (φ₂ := .bf16) (DotDims.plain M K N) none x w
      (constant ⟨2, ![M, N]⟩ .f32 0x00000000#32) (ix2 r c) = ∑ k : Fin K, x (ix2 r k) * w (ix2 k c) := by
  rw [Ideal.matmul_plain_apply, constant_apply]
  show Ideal.ofBits .f32 0x00000000#32 + _ = _
  rw [Ideal.ofBits_zero_f32, zero_add]

end Cert.Proof

end
-- ==== Proof.Combine.Body.lean ====
/-
  One grid point of the combine: a block's rows, each with the gated outputs of the slots that name it, normalised.
-/
module

public import proofs.«01_k».proof.Defs
public import proofs.«01_k».proof.Proof.Common
public import proofs.«01_k».proof.Proof.Gen.CombineIdeal.Value
public import Idealize.ShloMosaic.Lib.ValueLayout

@[expose] public section

noncomputable section

namespace Cert.Proof.Combine

open Idealize.ShloMosaic Idealize.ShloMosaic.TcCoe Idealize.SL.Sem Idealize.ShloMosaic.ValueIdx
open Cert.CombineIdeal Cert.CombineIdeal.Gen
open scoped BigOperators

/-- One where a row's slot is `s`, zero elsewhere. -/
def named (p : EReal) (s : Nat) : EReal :=
  Scalar.select (FloatOps.cmpf (F := Ideal) (φ := .f32) .oeq (FloatOps.sitofp (F := Ideal) .f32 (BitVec.ofNat 32 s)) p)
    (Ideal.ofBits .f32 0x3F800000#32) (Ideal.ofBits .f32 0x00000000#32)

/-- The slots of one expert against a block's rows. -/
def piece (x : Vec Ideal S16x256 .f32) (e : Fin 16) : FVec Ideal S64x256 .f32 := fun y => named (x (ix2 e (y 1))) (y 0).val

theorem piece_eq (x : Vec Ideal S16x256 .f32) (e : Fin 16) (h : S16x256.Slices ![e.val, 0] S1x256) :
    select (cmpf .oeq (k0_pay4 (F := Ideal)) (broadcastTo S64x256 (extractStridedSlice S1x256 ![e.val, 0] x h) broadcasts_S1x256_S64x256))
      (broadcast S64x256 (Scalar.ofBits .f32 0x3F800000#32)) (broadcast S64x256 (Scalar.ofBits .f32 0x00000000#32)) = piece x e := by
  funext y
  obtain ⟨s, r, rfl⟩ := (⟨_, _, eq_ix2 y⟩ : ∃ (s : Fin 64) (r : Fin 256), y = ix2 s r)
  have hs : broadcastTo S64x256 (extractStridedSlice S1x256 ![e.val, 0] x h) broadcasts_S1x256_S64x256 (ix2 s r) = x (ix2 e r) := by
    rw [broadcastTo_1b_ab_apply]
    exact extractStridedSlice_apply ![e.val, 0] x h (ix2 0 r) (ix2 e r) fun a => match a with
      | ⟨0, _⟩ => rfl
      | ⟨1, _⟩ => (Nat.zero_add _).symm
  have hi : k0_pay4 (F := Ideal) (ix2 s r) = FloatOps.sitofp (F := Ideal) .f32 (BitVec.ofNat 32 s.val) :=
    congrArg (FloatOps.sitofp (F := Ideal) .f32) (iota_single_apply _ _ _ _ _ _)
  show Scalar.select (FloatOps.cmpf (F := Ideal) (φ := .f32) .oeq (k0_pay4 (F := Ideal) (ix2 s r)) (broadcastTo S64x256 (extractStridedSlice S1x256 ![e.val, 0] x h) broadcasts_S1x256_S64x256 (ix2 s r))) _ _ = _
  rw [hs, hi]
  rfl

/-- All the experts' slots against a block's rows. -/
def stack (x : Vec Ideal S16x256 .f32) : FVec Ideal S1024x256 .f32 :=
  k0_pay2 (k0_pay5 x) (k0_pay6 x) (k0_pay7 x) (k0_pay8 x) (k0_pay9 x) (k0_pay10 x)
    (k0_pay13 (k0_pay11 x) (Scalar.ofBits .f32 0x00000000#32) (k0_pay12 (F := Ideal))) (k0_pay14 x (k0_pay4 (F := Ideal)))
    (k0_pay15 x (k0_pay4 (F := Ideal))) (k0_pay16 x (k0_pay4 (F := Ideal))) (k0_pay17 x (k0_pay4 (F := Ideal)))
    (k0_pay18 x (k0_pay4 (F := Ideal))) (k0_pay19 x (k0_pay4 (F := Ideal))) (k0_pay20 x (k0_pay4 (F := Ideal)))
    (cmpf .oeq (k0_pay4 (F := Ideal)) (k0_pay21 x)) (k0_pay1 x (k0_pay4 (F := Ideal)))

/-- The body's stack of sixteen pieces, the last two still selections. -/
theorem stacked (f : Fin 16 → FVec Ideal S64x256 .f32) (a b : IVec S64x256 1)
    (ha : select a (broadcast S64x256 (Scalar.ofBits (F := Ideal) .f32 0x3F800000#32)) (broadcast S64x256 (Scalar.ofBits (F := Ideal) .f32 0x00000000#32)) = f 14)
    (hb : select b (broadcast S64x256 (Scalar.ofBits (F := Ideal) .f32 0x3F800000#32)) (broadcast S64x256 (Scalar.ofBits (F := Ideal) .f32 0x00000000#32)) = f 15)
    (h : Shape.Concatenates ((List.ofFn fun e : Fin 16 => (⟨S64x256, f e⟩ : (s : Shape) × (s.Idx → EReal))).map (·.1)) S1024x256 0) :
    k0_pay2 (f 0) (f 1) (f 2) (f 3) (f 4) (f 5) (f 6) (f 7) (f 8) (f 9) (f 10) (f 11) (f 12) (f 13) a b
      = concatenate S1024x256 0 (List.ofFn fun e : Fin 16 => (⟨S64x256, f e⟩ : (s : Shape) × (s.Idx → EReal))) h := by
  have hl : (List.ofFn fun e : Fin 16 => (⟨S64x256, f e⟩ : (s : Shape) × (s.Idx → EReal))) = [⟨S64x256, f 0⟩, ⟨S64x256, f 1⟩, ⟨S64x256, f 2⟩, ⟨S64x256, f 3⟩,
    ⟨S64x256, f 4⟩, ⟨S64x256, f 5⟩, ⟨S64x256, f 6⟩, ⟨S64x256, f 7⟩, ⟨S64x256, f 8⟩, ⟨S64x256, f 9⟩, ⟨S64x256, f 10⟩, ⟨S64x256, f 11⟩,
    ⟨S64x256, f 12⟩, ⟨S64x256, f 13⟩, ⟨S64x256, select a (broadcast S64x256 (Scalar.ofBits (F := Ideal) .f32 0x3F800000#32)) (broadcast S64x256 (Scalar.ofBits (F := Ideal) .f32 0x00000000#32))⟩,
    ⟨S64x256, select b (broadcast S64x256 (Scalar.ofBits (F := Ideal) .f32 0x3F800000#32)) (broadcast S64x256 (Scalar.ofBits (F := Ideal) .f32 0x00000000#32))⟩] := by
    rw [ha, hb]
    rfl
  revert h
  rw [hl]
  intro h
  rfl

theorem stack_pieces (x : Vec Ideal S16x256 .f32)
    (h : Shape.Concatenates ((List.ofFn fun e : Fin 16 => (⟨S64x256, piece x e⟩ : (s : Shape) × (s.Idx → EReal))).map (·.1)) S1024x256 0) :
    stack x = concatenate S1024x256 0 (List.ofFn fun e : Fin 16 => (⟨S64x256, piece x e⟩ : (s : Shape) × (s.Idx → EReal))) h := by
  have p0 : k0_pay5 x = piece x 0 := piece_eq x 0 _
  have p1 : k0_pay6 x = piece x 1 := piece_eq x 1 _
  have p2 : k0_pay7 x = piece x 2 := piece_eq x 2 _
  have p3 : k0_pay8 x = piece x 3 := piece_eq x 3 _
  have p4 : k0_pay9 x = piece x 4 := piece_eq x 4 _
  have p5 : k0_pay10 x = piece x 5 := piece_eq x 5 _
  have p6 : k0_pay13 (k0_pay11 x) (Scalar.ofBits .f32 0x00000000#32) (k0_pay12 (F := Ideal)) = piece x 6 := piece_eq x 6 _
  have p7 : k0_pay14 x (k0_pay4 (F := Ideal)) = piece x 7 := piece_eq x 7 _
  have p8 : k0_pay15 x (k0_pay4 (F := Ideal)) = piece x 8 := piece_eq x 8 _
  have p9 : k0_pay16 x (k0_pay4 (F := Ideal)) = piece x 9 := piece_eq x 9 _
  have p10 : k0_pay17 x (k0_pay4 (F := Ideal)) = piece x 10 := piece_eq x 10 _
  have p11 : k0_pay18 x (k0_pay4 (F := Ideal)) = piece x 11 := piece_eq x 11 _
  have p12 : k0_pay19 x (k0_pay4 (F := Ideal)) = piece x 12 := piece_eq x 12 _
  have p13 : k0_pay20 x (k0_pay4 (F := Ideal)) = piece x 13 := piece_eq x 13 _
  have p14 : select (cmpf .oeq (k0_pay4 (F := Ideal)) (k0_pay21 x)) (broadcast S64x256 (Scalar.ofBits .f32 0x3F800000#32))
    (broadcast S64x256 (Scalar.ofBits .f32 0x00000000#32)) = piece x 14 := piece_eq x 14 _
  have p15 : select (k0_pay1 x (k0_pay4 (F := Ideal))) (broadcast S64x256 (Scalar.ofBits .f32 0x3F800000#32))
    (broadcast S64x256 (Scalar.ofBits .f32 0x00000000#32)) = piece x 15 := piece_eq x 15 _
  unfold stack
  rw [p0, p1, p2, p3, p4, p5, p6, p7, p8, p9, p10, p11, p12, p13]
  exact stacked (piece x) _ _ p14 p15 h

theorem stack_apply (x : Vec Ideal S16x256 .f32) (e : Fin 16) (s : Fin 64) (q : Fin 1024) (hq : q.val = 64 * e.val + s.val) (r : Fin 256) :
    stack x (ix2 q r) = named (x (ix2 e r)) s.val := by
  have hs := s.isLt
  rw [stack_pieces x (show Shape.Concatenates (List.ofFn fun _ : Fin 16 => S64x256) S1024x256 0 by decide)]
  refine (concatenate_ofFn_apply (s₁ := S64x256) (t := S1024x256) 0 (fun e : Fin 16 => piece x e) _ rfl 64 rfl (ix2 q r) e
    (by show q.val / 64 = e.val; omega) (ix2 s r) (by show s.val = q.val % 64; omega) (fun b hb => ?_)).trans rfl
  match b with
  | ⟨0, _⟩ => exact absurd rfl hb
  | ⟨1, _⟩ => rfl

/-- The product that contracts both operands' rows, from a zero accumulator. -/
theorem product_both (w : FVec Ideal S1024x256 .bf16) (y : FVec Ideal S1024x4096 .bf16) (r : Fin 256) (d : Fin 4096) :
    FloatOps.matmul (F := Ideal) (φ₁ := .bf16) (φ₂ := .bf16) dot_S1024x256_S1024x4096_S256x4096_0_0_1_1_n_n none w y
      (constant S256x4096 .f32 0x00000000#32) (ix2 r d) = ∑ q : Fin 1024, w (ix2 q r) * y (ix2 q d) := by
  rw [Ideal.matmul_constant_zero_apply, ← Equiv.sum_comp (ValueIdx.contrEquiv1 dot_S1024x256_S1024x4096_S256x4096_0_0_1_1_n_n 1024 rfl rfl).symm]
  refine Finset.sum_congr rfl fun q _ => ?_
  have hk := ValueIdx.contrEquiv1_symm_val dot_S1024x256_S1024x4096_S256x4096_0_0_1_1_n_n 1024 rfl rfl q
  refine congrArg₂ (fun a b : EReal => a * b) (congrArg w (idx2 ?_ ?_)) (congrArg y (idx2 ?_ ?_))
  · exact (DotDims.lhsIdx_val_of_single dot_S1024x256_S1024x4096_S256x4096_0_0_1_1_n_n rfl _ _).trans hk
  · unfold DotDims.lhsIdx
    rw [dif_neg (show ¬(1 : Fin S1024x256.rank) ∈ dot_S1024x256_S1024x4096_S256x4096_0_0_1_1_n_n.lhsBatch by decide),
      dif_pos (show (1 : Fin S1024x256.rank) ∈ dot_S1024x256_S1024x4096_S256x4096_0_0_1_1_n_n.lhsNonContracting by decide)]
    rfl
  · exact (DotDims.rhsIdx_val_of_single dot_S1024x256_S1024x4096_S256x4096_0_0_1_1_n_n rfl _ _).trans hk
  · unfold DotDims.rhsIdx
    rw [dif_neg (show ¬(1 : Fin S1024x4096.rank) ∈ dot_S1024x256_S1024x4096_S256x4096_0_0_1_1_n_n.rhsBatch by decide),
      dif_pos (show (1 : Fin S1024x4096.rank) ∈ dot_S1024x256_S1024x4096_S256x4096_0_0_1_1_n_n.rhsNonContracting by decide)]
    rfl

/-- A sum over all slots, by expert and slot. -/
theorem sum_slots (f : Fin 1024 → EReal) :
    ∑ q : Fin 1024, f q = ∑ e : Fin 16, ∑ s : Fin 64, f ⟨64 * e.val + s.val, by omega⟩ := by
  rw [← Equiv.sum_comp (finProdFinEquiv : Fin 16 × Fin 64 ≃ Fin (16 * 64)) f, Fintype.sum_prod_type]
  refine Finset.sum_congr rfl fun e _ => Finset.sum_congr rfl fun s _ => congrArg f (Fin.ext ?_)
  show s.val + 64 * e.val = 64 * e.val + s.val
  omega

/-- The rows of a block with the experts' outputs. -/
def joined (w : FVec Ideal S1024x256 .f32) (y : Vec Ideal S16x64x4096 .bf16) (x : Vec Ideal S256x4096 .f32) (g : Vec Ideal S1x1x4096 .f32) : FVec Ideal S256x4096 .f32 :=
  addf x (mulf (broadcastTo S256x4096 (shapeCast (α := Elt Ideal .f32) S1x4096 g shapeCasts_S1x1x4096_S1x4096) broadcasts_S1x4096_S256x4096)
    (matmul (φ₁ := .bf16) (φ₂ := .bf16) dot_S1024x256_S1024x4096_S256x4096_0_0_1_1_n_n none (truncf .bf16 w bitsLt_bf16_f32)
      (shapeCast (α := Elt Ideal .bf16) S1024x4096 y shapeCasts_S16x64x4096_S1024x4096) (constant S256x4096 .f32 0x00000000#32)))

theorem joined_apply (w : FVec Ideal S1024x256 .f32) (y : Vec Ideal S16x64x4096 .bf16) (x : Vec Ideal S256x4096 .f32) (g : Vec Ideal S1x1x4096 .f32)
    (r : Fin 256) (d : Fin 4096) : joined w y x g (ix2 r d)
      = x (ix2 r d) + g (ix3 0 0 d) * ∑ e : Fin 16, ∑ s : Fin 64, w (ix2 ⟨64 * e.val + s.val, by omega⟩ r) * y (ix3 e s d) := by
  have hg : broadcastTo S256x4096 (shapeCast (α := Elt Ideal .f32) S1x4096 g shapeCasts_S1x1x4096_S1x4096) broadcasts_S1x4096_S256x4096 (ix2 r d) = g (ix3 0 0 d) := by
    rw [broadcastTo_1b_ab_apply]
    exact (shapeCast_dropUnit_apply ![1, 4096] g shapeCasts_S1x1x4096_S1x4096 (ix2 0 d)).trans (congrArg g (idx3 rfl rfl rfl))
  show x (ix2 r d) + broadcastTo S256x4096 (shapeCast (α := Elt Ideal .f32) S1x4096 g shapeCasts_S1x1x4096_S1x4096) broadcasts_S1x4096_S256x4096 (ix2 r d)
    * FloatOps.matmul (F := Ideal) (φ₁ := .bf16) (φ₂ := .bf16) dot_S1024x256_S1024x4096_S256x4096_0_0_1_1_n_n none w
      (shapeCast (α := Elt Ideal .bf16) S1024x4096 y shapeCasts_S16x64x4096_S1024x4096) (constant S256x4096 .f32 0x00000000#32) (ix2 r d) = _
  rw [hg, product_both, sum_slots]
  refine congrArg (fun z : EReal => x (ix2 r d) + g (ix3 0 0 d) * z) (Finset.sum_congr rfl fun e _ => Finset.sum_congr rfl fun s _ => ?_)
  refine congrArg (fun z : EReal => w (ix2 ⟨64 * e.val + s.val, by omega⟩ r) * z) ?_
  exact shapeCast_apply y _ _ (ix3 e s d) (by
    rw [Shape.rowMajor_val_two, Shape.rowMajor_val_three]
    show (e.val * 64 + s.val) * 4096 + d.val = (64 * e.val + s.val) * 4096 + d.val
    omega)

/-- A row over the root of its mean square, times a gain. -/
def normed (v : Fin 4096 → EReal) (g : EReal) (d : Fin 4096) : EReal :=
  v d * Ideal.rsqrt (Ideal.div (∑ k : Fin 4096, v k * v k) (Ideal.ofBits .f32 0x45800000#32) + Ideal.ofBits .f32 0x358637BD#32) * g

/-- The body's normalisation of the rows. -/
def scaled (v : FVec Ideal S256x4096 .f32) (g : Vec Ideal S1x4096 .f32) : FVec Ideal S256x4096 .f32 :=
  mulf (mulf v (broadcastTo S256x4096 (rsqrt (addf (divf (shapeCast S256x1 (multiReduction .add [1] S256 (mulf v v) 0x00000000#32 reduces_S256x4096_S256 (.inl rfl) rfl) shapeCasts_S256_S256x1)
      (broadcast S256x1 (Scalar.ofBits .f32 0x45800000#32))) (broadcast S256x1 (Scalar.ofBits .f32 0x358637BD#32)))) broadcasts_S256x1_S256x4096))
    (broadcastTo S256x4096 (shapeCast (α := Elt Ideal .f32) S1x4096 g shapeCasts_S1x4096_S1x4096) broadcasts_S1x4096_S256x4096)

theorem squares (v : FVec Ideal S256x4096 .f32) (r : Fin 256) :
    shapeCast S256x1 (multiReduction .add [1] S256 (mulf v v) 0x00000000#32 reduces_S256x4096_S256 (.inl rfl) rfl) shapeCasts_S256_S256x1 (ix2 r 0)
      = ∑ k : Fin 4096, v (ix2 r k) * v (ix2 r k) := by
  rw [shapeCast_apply _ _ (ix2 r 0) (ix1 r) (by rw [Shape.rowMajor_val_one, Shape.rowMajor_val_two]; show r.val = r.val * 1 + 0; omega)]
  refine (Ideal.multiReduction_add_single _ _ _ _ _ _).trans ?_
  refine Finset.sum_congr rfl fun k _ => ?_
  exact congrArg (mulf v v) (idx2 (j := ix2 r k) rfl rfl)

theorem scaled_apply (v : FVec Ideal S256x4096 .f32) (g : Vec Ideal S1x4096 .f32) (r : Fin 256) (d : Fin 4096) :
    scaled v g (ix2 r d) = normed (fun k => v (ix2 r k)) (g (ix2 0 d)) d := by
  have hb : ∀ u : FVec Ideal S256x1 .f32, broadcastTo S256x4096 u broadcasts_S256x1_S256x4096 (ix2 r d) = u (ix2 r 0) := fun u =>
    broadcastTo_apply u broadcasts_S256x1_S256x4096 (ix2 r d) (ix2 r 0) (fun a => match a with
      | ⟨0, _⟩ => rfl
      | ⟨1, _⟩ => rfl)
  have hg : broadcastTo S256x4096 (shapeCast (α := Elt Ideal .f32) S1x4096 g shapeCasts_S1x4096_S1x4096) broadcasts_S1x4096_S256x4096 (ix2 r d) = g (ix2 0 d) := by
    rw [shapeCast_self, broadcastTo_1b_ab_apply]
  unfold scaled normed
  rw [mulf_apply, mulf_apply, hg, hb]
  refine congrArg (fun z : EReal => v (ix2 r d) * z * g (ix2 0 d)) ?_
  exact congrArg (fun z : EReal => Ideal.rsqrt (Ideal.div z (Ideal.ofBits .f32 0x45800000#32) + Ideal.ofBits .f32 0x358637BD#32)) (squares v r)

theorem stored_eq (w : FVec Ideal S1024x256 .f32) (y : Vec Ideal S16x64x4096 .bf16) (x : Vec Ideal S256x4096 .f32) (g : Vec Ideal S1x1x4096 .f32)
    (n : Vec Ideal S1x4096 .f32) : k0_pay3 w y x g n = scaled (joined w y x g) n := rfl

/-- The body's one store at an index. -/
theorem out_apply (x0 : Vec Ideal S16x64x4096 .bf16) (x1 : Vec Ideal S16x256 .f32) (x2 : Vec Ideal S256x4096 .f32) (x3 : Vec Ideal S1x8x4096 .f32)
    (x4 : Vec Ideal S1x4096 .f32) (r : Fin 256) (d : Fin 4096) :
    out0_5 x0 x1 x2 x3 x4 (ix2 r d)
      = normed (fun k => x2 (ix2 r k) + x3 (ix3 0 5 k) * ∑ e : Fin 16, ∑ s : Fin 64, named (x1 (ix2 e r)) s.val * x0 (ix3 e s k)) (x4 (ix2 0 d)) d := by
  unfold out0_5
  rw [View.canon_unit_zero (S := S256x4096) zeros2, View.ld_unit_zero (S := S16x256) zeros2, View.ld_unit_zero (S := S256x4096) zeros2,
    View.ld_unit_zero (S := S16x64x4096) zeros3, View.ld_unit_zero (S := S1x4096) zeros2, stored_eq, scaled_apply]
  refine congrArg (fun v : Fin 4096 → EReal => normed v (x4 (ix2 0 d)) d) (funext fun k => ?_)
  refine (joined_apply (stack x1) x0 x2 (View.ld x3 r0_3) r k).trans ?_
  have h3 : View.ld x3 r0_3 (ix3 0 0 k) = x3 (ix3 0 5 k) := congrArg x3 (idx3 rfl rfl ((Nat.zero_add _).trans (Nat.one_mul _)))
  rw [h3]
  refine congrArg (fun z : EReal => x2 (ix2 r k) + x3 (ix3 0 5 k) * z) (Finset.sum_congr rfl fun e _ => Finset.sum_congr rfl fun s _ => ?_)
  rw [stack_apply x1 e s _ rfl r]

end Cert.Proof.Combine

end
-- ==== Proof.Combine.Same.lean ====
/-
  The combine and the final norm: each row of the stream's own part with the gated outputs of the slots that name it, over the root of
  its mean square. The kernel stacks all experts' slots in one product, the reference sums over the experts.
-/
module

public import proofs.«01_k».proof.Defs
public import proofs.«01_k».proof.Proof.Combine.Body
public import proofs.«01_k».proof.Proof.Gen.CombineRefIdeal.Read
public import Idealize.ShloMosaic.Lib.IdealHost
public import Idealize.ShloMosaic.Lib.StableHlo.RunRead

@[expose] public section

noncomputable section

namespace Cert.Proof.Combine

open Idealize.ShloMosaic Idealize.ShloMosaic.TcCoe Idealize.SL.Sem Idealize.ShloMosaic.ValueIdx
open Cert.CombineIdeal Cert.CombineIdeal.Gen
open scoped BigOperators

/-- Slot `s` of the tile of row `r`. -/
def slotOf (r : Fin 16640) (s : Fin 64) : Fin 4160 := ⟨r.val / 256 * 64 + s.val, by omega⟩

/-- Row `r` of the stream and the gated outputs of the slots that name it. -/
def rowOf (y : Vec Ideal S16x4160x4096 .bf16) (p : Vec Ideal S16x16640 .f32) (x : Vec Ideal S16640x4096 .f32) (g : Vec Ideal S2x8x4096 .f32)
    (r : Fin 16640) (d : Fin 4096) : EReal :=
  x (ix2 r d) + g (ix3 1 5 d) * ∑ e : Fin 16, ∑ s : Fin 64, named (p (ix2 e r)) s.val * y (ix3 e (slotOf r s) d)

/-- The row of the stream under row `r` of the result. -/
def after (r : Fin 16384) : Fin 16640 := ⟨256 + r.val, by omega⟩

/-- The layer's result: the stream's own part, normalised. -/
def finalOf (y : Vec Ideal S16x4160x4096 .bf16) (p : Vec Ideal S16x16640 .f32) (x : Vec Ideal S16640x4096 .f32) (g : Vec Ideal S2x8x4096 .f32)
    (n : Vec Ideal S4096 .f32) : Vec Ideal S16384x4096 .f32 :=
  fun i => normed (rowOf y p x g (after (i 0))) (n (ix1 (i 1))) (i 1)

/-- Where the blocks of a grid point past the first lie. -/
theorem blocks (t : Fin cfg0.N) (ht : 1 ≤ t.val) : (win0_5.index t 0 = t.val - 1 ∧ win0_5.index t 1 = 0)
    ∧ (win0_0.index t 0 = 0 ∧ win0_0.index t 1 = t.val ∧ win0_0.index t 2 = 0)
    ∧ (win0_1.index t 0 = 0 ∧ win0_1.index t 1 = t.val)
    ∧ (win0_2.index t 0 = t.val ∧ win0_2.index t 1 = 0)
    ∧ (win0_3.index t 0 = 1 ∧ win0_3.index t 1 = 0 ∧ win0_3.index t 2 = 0)
    ∧ (win0_4.index t 0 = 0 ∧ win0_4.index t 1 = 0) :=
  (by decide +kernel : ∀ t : Fin grid0.N, 1 ≤ t.val → (win0_5.index t 0 = t.val - 1 ∧ win0_5.index t 1 = 0)
    ∧ (win0_0.index t 0 = 0 ∧ win0_0.index t 1 = t.val ∧ win0_0.index t 2 = 0)
    ∧ (win0_1.index t 0 = 0 ∧ win0_1.index t 1 = t.val)
    ∧ (win0_2.index t 0 = t.val ∧ win0_2.index t 1 = 0)
    ∧ (win0_3.index t 0 = 1 ∧ win0_3.index t 1 = 0 ∧ win0_3.index t 2 = 0)
    ∧ (win0_4.index t 0 = 0 ∧ win0_4.index t 1 = 0)) t ht

/-- The first grid point's rows are not the stream's own; it writes nothing back, every later point does. -/
theorem writes (t : Fin cfg0.N) : win0_5.flush t = decide (1 ≤ t.val) :=
  (by decide +kernel : ∀ t : Fin grid0.N, win0_5.flush t = decide (1 ≤ t.val)) t

/-- Where the output block of point `t` puts its element `(r, d)`. -/
theorem out_at (t : Fin cfg0.N) (ht : 1 ≤ t.val) (r : Fin 256) (d : Fin 4096) :
    (((win0_5.rect t).emb (ix2 r d)) 0).val = (t.val - 1) * 256 + r.val ∧ (((win0_5.rect t).emb (ix2 r d)) 1).val = d.val := by
  obtain ⟨⟨h0, h1⟩, -⟩ := blocks t ht
  refine ⟨?_, (win0_5.rect_emb_val_of_index_zero t 1 h1 _).trans rfl⟩
  refine (win0_5.rect_emb_val t _ 0).trans ?_
  rw [h0]; rfl

variable (m : (ℓ : Loc nD τ sig) → Buf (Elt Ideal) ℓ) (ρ : Dev nD → PrngReg)

/-- The layer's result, of the launch's arguments. -/
abbrev finalAt (c : Dev nD) : Vec Ideal S16384x4096 .f32 :=
  finalOf (m ((c : Thread nD τ).loc main_arg0)) (m ((c : Thread nD τ).loc main_arg1)) (m ((c : Thread nD τ).loc main_arg2))
    (m ((c : Thread nD τ).loc main_arg3)) (m ((c : Thread nD τ).loc main_arg4))

/-- The final gain as a row. -/
theorem gain_row (c : Dev nD) (k : Fin 4096) : ((V m c main_v0 : _) : Vec Ideal S1x4096 .f32) (ix2 0 k)
    = (m ((c : Thread nD τ).loc main_arg4) : Vec Ideal S4096 .f32) (ix1 k) := by
  have e : ((V m c main_v0 : _) : Vec Ideal S1x4096 .f32)
      = shapeCast S1x4096 (m ((c : Thread nD τ).loc main_arg4) : Vec Ideal S4096 .f32) shapeCasts_S4096_S1x4096 := by
    show StableHlo.after hostOps0 _ (Proc.devRef .tc main_v0) = _
    after_reads_simp
    rfl
  rw [e]
  exact shapeCast_a_1a_apply _ _ _ _

/-- Equal parts make equal rows. -/
theorem normed_congr {v v' : Fin 4096 → EReal} {g g' : EReal} {d d' : Fin 4096} (hv : ∀ k, v k = v' k) (hg : g = g') (hd : d = d') :
    normed v g d = normed v' g' d' := by
  obtain rfl : v = v' := funext hv
  rw [hg, hd]

/-- Equal parts make equal elements of a row. -/
theorem sums_congr {x x' g g' : EReal} {p p' : Fin 16 → EReal} {y y' : Fin 16 → Fin 64 → EReal} (hx : x = x') (hg : g = g')
    (hp : ∀ e, p e = p' e) (hy : ∀ e s, y e s = y' e s) :
    x + g * ∑ e : Fin 16, ∑ s : Fin 64, named (p e) s.val * y e s = x' + g' * ∑ e : Fin 16, ∑ s : Fin 64, named (p' e) s.val * y' e s := by
  obtain rfl : p = p' := funext hp
  obtain rfl : y = y' := funext fun e => funext fun s => hy e s
  rw [hx, hg]

/-- What a point writes back is its block of the layer's result. -/
theorem flushed_final (c : Dev nD) (t : Fin cfg0.N) (ht : 1 ≤ t.val) : (dats m 0 c).flushed 5 t
    = ((cfg0.win 5).blk t).view.read (Elt Ideal) (finalAt m c) := by
  obtain ⟨-, ⟨h00, h01, h02⟩, ⟨h10, h11⟩, ⟨h20, h21⟩, ⟨h30, h31, h32⟩, ⟨h40, h41⟩⟩ := blocks t ht
  rw [Value.flushed5]
  funext y
  show out0_5 (iblk m c 0 t) (iblk m c 1 t) (iblk m c 2 t) (iblk m c 3 t) (iblk m c 4 t) y = finalAt m c ((win0_5.rect t).emb y)
  obtain ⟨r, d, rfl⟩ := (⟨_, _, eq_ix2 y⟩ : ∃ (r : Fin 256) (d : Fin 4096), y = ix2 r d)
  obtain ⟨hr, hd⟩ := out_at t ht r d
  generalize hi : (win0_5.rect t).emb (ix2 r d) = i at hr hd
  refine (out_apply (iblk m c 0 t) (iblk m c 1 t) (iblk m c 2 t) (iblk m c 3 t) (iblk m c 4 t) r d).trans ?_
  have hrow : (after (i 0)).val = t.val * 256 + r.val := by show 256 + (i 0).val = _; omega
  have e0 : ∀ (e : Fin 16) (s : Fin 64) (k : Fin 4096), (win0_0.rect t).emb (ix3 e s k) = ix3 e (slotOf (after (i 0)) s) k := fun e s k => idx3
    ((win0_0.rect_emb_val_of_index_zero t 0 h00 _).trans rfl)
    ((win0_0.rect_emb_val t _ 1).trans (by
      have hr' := r.isLt
      rw [h01]; show t.val * 64 + s.val = (after (i 0)).val / 256 * 64 + s.val; omega))
    ((win0_0.rect_emb_val_of_index_zero t 2 h02 _).trans rfl)
  have e1 : ∀ e : Fin 16, (win0_1.rect t).emb (ix2 e r) = ix2 e (after (i 0)) := fun e => idx2
    ((win0_1.rect_emb_val_of_index_zero t 0 h10 _).trans rfl)
    ((win0_1.rect_emb_val t _ 1).trans (by rw [h11]; exact hrow.symm))
  have e2 : ∀ k : Fin 4096, (win0_2.rect t).emb (ix2 r k) = ix2 (after (i 0)) k := fun k => idx2
    ((win0_2.rect_emb_val t _ 0).trans (by rw [h20]; exact hrow.symm))
    ((win0_2.rect_emb_val_of_index_zero t 1 h21 _).trans rfl)
  have e3 : ∀ k : Fin 4096, (win0_3.rect t).emb (ix3 0 5 k) = ix3 1 5 k := fun k => idx3
    ((win0_3.rect_emb_val t _ 0).trans (by rw [h30]; rfl))
    ((win0_3.rect_emb_val_of_index_zero t 1 h31 _).trans rfl) ((win0_3.rect_emb_val_of_index_zero t 2 h32 _).trans rfl)
  have e4 : (win0_4.rect t).emb (ix2 0 d) = ix2 0 d := idx2
    ((win0_4.rect_emb_val_of_index_zero t 0 h40 _).trans rfl) ((win0_4.rect_emb_val_of_index_zero t 1 h41 _).trans rfl)
  have hdi : d = i 1 := Fin.ext hd.symm
  refine normed_congr (fun k => ?_) ?_ hdi
  · refine sums_congr ?_ ?_ (fun e => ?_) (fun e s => ?_)
    · exact (congrFun (V_main_arg2 m c) _).trans (congrArg (m ((c : Thread nD τ).loc main_arg2)) (e2 k))
    · exact (congrFun (V_main_arg3 m c) _).trans (congrArg (m ((c : Thread nD τ).loc main_arg3)) (e3 k))
    · exact (congrFun (V_main_arg1 m c) _).trans (congrArg (m ((c : Thread nD τ).loc main_arg1)) (e1 e))
    · exact (congrFun (V_main_arg0 m c) _).trans (congrArg (m ((c : Thread nD τ).loc main_arg0)) (e0 e s k))
  · refine ((congrArg ((V m c main_v0 : _) : Vec Ideal S1x4096 .f32) e4).trans (gain_row m c d)).trans ?_
    rw [hdi]

/-- The blocks cover the result. -/
theorem covered (i : S16384x4096.Idx) : ∃ t : Fin cfg0.N, (cfg0.win 5).flush t = true ∧ i ∈ ((cfg0.win 5).blk t).view.set := by
  have h0 : (i 0).val < 16384 := (i 0).isLt
  let t : Fin cfg0.N := ⟨(i 0).val / 256 + 1, by show _ < 65; omega⟩
  have ht : t.val = (i 0).val / 256 + 1 := rfl
  obtain ⟨hr, hd⟩ := out_at t (by omega) ⟨(i 0).val % 256, Nat.mod_lt _ (by decide)⟩ (i 1)
  refine ⟨t, (writes t).trans (decide_eq_true (by omega)), ?_⟩
  rw [← (idx2 (hr.trans (by show _ + (i 0).val % 256 = _; omega)) hd : _ = i)]
  exact ((cfg0.win 5).blk t).view.emb_mem_set _

/-- The result of the launch is the layer's result. -/
theorem result (c : Dev nD) : (dats m 0 c).arrAt 5 cfg0.N = finalAt m c :=
  (dats m 0 c).arrAt_eq_of_cover 5 _ (fun t ht => flushed_final m c t (of_decide_eq_true ((writes t).symm.trans ht))) covered

/-- A comparison read as a number, and the selection of one or zero by it. -/
theorem named_eq (p : EReal) (s : Nat) : FloatOps.uitofp (F := Ideal) .f32
    (FloatOps.cmpf (F := Ideal) (φ := .f32) .oeq p (FloatOps.sitofp (F := Ideal) .f32 (BitVec.ofNat 32 s))) = named p s := by
  unfold named
  generalize hq : FloatOps.sitofp (F := Ideal) .f32 (BitVec.ofNat 32 s) = q
  clear hq
  have hc : ∀ a b : EReal, FloatOps.cmpf (F := Ideal) (φ := .f32) .oeq a b = BitVec.ofBool (decide (a = b)) := fun _ _ => rfl
  have hu : ∀ b : BitVec 1, FloatOps.uitofp (F := Ideal) .f32 b = ((b.toNat : ℝ) : EReal) := fun _ => rfl
  rw [hc, hc, hu, Ideal.ofBits_zero_f32, Ideal.ofBits_one_f32]
  by_cases h : p = q
  · rw [decide_eq_true h, decide_eq_true h.symm]
    show (((1 : Nat) : ℝ) : EReal) = 1
    norm_num
  · rw [decide_eq_false h, decide_eq_false (Ne.symm h)]
    show (((0 : Nat) : ℝ) : EReal) = 0
    norm_num

section Reference

open Cert.CombineRefIdeal.Read

variable (y : Vec Ideal S16x4160x4096 .bf16) (p : Vec Ideal S16x16640 .f32) (x : Vec Ideal S16640x4096 .f32) (g : Vec Ideal S2x8x4096 .f32)
  (n : Vec Ideal S4096 .f32)

theorem reference_named (i : Cert.CombineRefIdeal.S16x65x256x64.Idx) (e : Fin 16) (r : Fin 16640) (he : (i 0).val = e.val)
    (hr : (i 1).val * 256 + (i 2).val = r.val) : val_main_v9 (F := Ideal) p i = named (p (ix2 e r)) (i 3).val := by
  rw [val_main_v9_apply, val_main_v8_apply, val_main_v6_apply, val_main_v2_apply, val_main_v7_apply, val_main_v5_apply, val_main_v4_apply, val_main_v3_apply]
  have hr' := r.isLt
  have h : idx_main_v2 (idx_main_v6 i) = ix2 e r := idx2
    (by show ((((i 0).val * 65 + (i 1).val) * 256 + (i 2).val) * 1 + 0) / 16640 = e.val; omega)
    (by show ((((i 0).val * 65 + (i 1).val) * 256 + (i 2).val) * 1 + 0) % 16640 = r.val; omega)
  rw [h]
  exact named_eq _ _

theorem reference_output (i : Cert.CombineRefIdeal.S16x65x64x4096.Idx) (e : Fin 16) (q : Fin 4160) (d : Fin 4096) (he : (i 0).val = e.val)
    (hq : (i 1).val * 64 + (i 2).val = q.val) (hd : (i 3).val = d.val) : val_main_v1 (F := Ideal) y i = y (ix3 e q d) := by
  rw [val_main_v1_apply, val_main_v0_apply]
  have hq' := q.isLt
  have hd' := d.isLt
  refine congrArg y (idx3 ?_ ?_ ?_)
  · show ((((i 0).val * 65 + (i 1).val) * 64 + (i 2).val) * 4096 + (i 3).val) / 17039360 = e.val; omega
  · show ((((i 0).val * 65 + (i 1).val) * 64 + (i 2).val) * 4096 + (i 3).val) / 4096 % 4160 = q.val; omega
  · show ((((i 0).val * 65 + (i 1).val) * 64 + (i 2).val) * 4096 + (i 3).val) % 4096 = d.val; omega

theorem reference_sum (i : Cert.CombineRefIdeal.S16640x4096.Idx) (r : Fin 16640) (d : Fin 4096) (hr : (i 0).val = r.val) (hd : (i 1).val = d.val) :
    val_main_v12 (F := Ideal) y p i = ∑ e : Fin 16, ∑ s : Fin 64, named (p (ix2 e r)) s.val * y (ix3 e (slotOf r s) d) := by
  rw [val_main_v12_apply, val_main_v11_apply, val_main_cst_apply]
  refine (congrArg (fun z : EReal => z + _) Ideal.ofBits_zero_f32).trans ((zero_add _).trans ?_)
  refine Finset.sum_congr rfl fun e _ => ?_
  rw [val_main_v10_apply]
  have hd' := d.isLt
  refine Finset.sum_congr rfl fun s _ => congrArg₂ (fun a b : EReal => a * b) ?_ ?_
  · refine reference_named p _ e r rfl ?_
    show ((i 0).val * 4096 + (i 1).val) / 1048576 * 256 + ((i 0).val * 4096 + (i 1).val) / 4096 % 256 = r.val
    omega
  · refine reference_output y _ e (slotOf r s) d rfl ?_ ?_
    · show ((i 0).val * 4096 + (i 1).val) / 1048576 * 64 + s.val = r.val / 256 * 64 + s.val
      omega
    · show ((i 0).val * 4096 + (i 1).val) % 4096 = d.val
      omega

theorem reference_row (i : Cert.CombineRefIdeal.S16384x4096.Idx) : val_main_v20 (F := Ideal) y p x g i = rowOf y p x g (after (i 0)) (i 1) := by
  rw [val_main_v20_apply, val_main_v13_apply, val_main_v19_apply, val_main_v18_apply, val_main_v17_apply, val_main_v15_apply, val_main_v14_apply,
    val_main_v16_apply, reference_sum y p (idx_main_v16 i) (after (i 0)) (i 1) rfl rfl]
  have h1 : (i 1).val < 4096 := (i 1).isLt
  refine congrArg₂ (fun a b : EReal => a + b * _) (congrArg x (idx2 rfl rfl)) (congrArg g (idx3 rfl rfl ?_))
  show (i 1).val % 4096 = (i 1).val
  omega

theorem reference_squares (i : Cert.CombineRefIdeal.S16384.Idx) : val_main_v22 (F := Ideal) y p x g i
    = ∑ k : Fin 4096, rowOf y p x g (after (i 0)) k * rowOf y p x g (after (i 0)) k := by
  rw [val_main_v22_apply, val_main_cst_0_apply]
  refine (congrArg (fun z : EReal => z + _) Ideal.ofBits_zero_f32).trans ((zero_add _).trans ?_)
  refine Finset.sum_congr rfl fun k _ => ?_
  rw [val_main_v21_apply, reference_row]
  rfl

/-- The reference's result. -/
theorem reference_final : val_main_v33 (F := Ideal) y p x g n = finalOf y p x g n := by
  funext i
  rw [val_main_v33_apply, val_main_v30_apply, val_main_v29_apply, val_main_v28_apply, val_main_v27_apply, val_main_v25_apply, val_main_v23_apply,
    val_main_v24_apply, val_main_cst_1_apply, val_main_v26_apply, val_main_cst_2_apply, val_main_v32_apply, val_main_v31_apply, reference_squares, reference_row]
  exact congrArg (fun z : EReal => rowOf y p x g (after (i 0)) (i 1) * Ideal.rsqrt (Ideal.div
    (∑ k : Fin 4096, rowOf y p x g (after (i 0)) k * rowOf y p x g (after (i 0)) k) (Ideal.ofBits .f32 0x45800000#32) + Ideal.ofBits .f32 0x358637BD#32) * z)
    (congrArg n (funext fun a => match a with | ⟨0, _⟩ => rfl))

end Reference

theorem same : Cert.algebraic_CombineIdeal_CombineRefIdeal := by
  intro m g m' g' _ hagree
  refine ⟨fun c => finalAt m c, ?_, ?_⟩
  · refine (θ_run _ _ _).mono (fun r h c => ?_) (Value.run_blocks m g)
    exact ⟨(h c).1.trans (result m c), (h c).2⟩
  · refine (θ_run _ _ _).mono (fun r h c => ?_) (Cert.CombineRefIdeal.Value.run m' g')
    obtain ⟨h0, h1, h2, h3, h4⟩ := hagree c
    refine ⟨(h c).1.trans ?_, (h c).2⟩
    refine (Cert.CombineRefIdeal.Read.val_main_v33_eq _ _).trans ?_
    rw [h0, h1, h2, h3, h4]
    exact reference_final _ _ _ _ _

end Cert.Proof.Combine

end
-- ==== Proof.Dispatch.Body.lean ====
/-
  One grid point of the dispatch: the rank of each picked row among a tile's rows, and the rows and gates each slot names.
-/
module

public import proofs.«01_k».proof.Defs
public import proofs.«01_k».proof.Proof.Common
public import proofs.«01_k».proof.Proof.Combine.Body
public import proofs.«01_k».proof.Proof.Gen.DispatchIdeal.Value
public import Idealize.ShloMosaic.Lib.ValueLayout

@[expose] public section

noncomputable section

namespace Cert.Proof.Dispatch

open Idealize.ShloMosaic Idealize.ShloMosaic.TcCoe Idealize.SL.Sem Idealize.ShloMosaic.ValueIdx
open Cert.DispatchIdeal Cert.DispatchIdeal.Gen
open Cert.Proof.Combine (named)
open scoped BigOperators

/-- One where a gate is positive, zero elsewhere. -/
def picked (z : EReal) : EReal :=
  Scalar.select (FloatOps.cmpf (F := Ideal) (φ := .f32) .ogt z (Ideal.ofBits .f32 0x00000000#32))
    (Ideal.ofBits .f32 0x3F800000#32) (Ideal.ofBits .f32 0x00000000#32)

/-- One where row `q` comes before row `r`, zero elsewhere. -/
def earlier (r q : Nat) : EReal :=
  Scalar.select (IntOp.cmpi .slt (BitVec.ofNat 32 q) (BitVec.ofNat 32 r)) (Ideal.ofBits .f32 0x3F800000#32) (Ideal.ofBits .f32 0x00000000#32)

/-- The slot of a tile's row `r`: its rank among the picked rows, minus one if it is not picked. -/
def place (z : Fin 256 → EReal) (r : Fin 256) : EReal :=
  Scalar.select (FloatOps.cmpf (F := Ideal) (φ := .f32) .ogt (picked (z r)) (Ideal.ofBits .f32 0x00000000#32))
    (∑ q : Fin 256, earlier r.val q.val * picked (z q)) (Ideal.ofBits .f32 0xBF800000#32)

theorem picked_apply (g : Vec Ideal S256x128 .f32) (y : S256x128.Idx) : k0_pay3 g y = picked (g y) := rfl

/-- Which rows come before which. -/
def order : FVec Ideal S256x256 .bf16 :=
  truncf .bf16 (select (cmpi .slt (iota .tc S256x256 32 [1] iota_S256x256_d1_w32) (iota .tc S256x256 32 [0] iota_S256x256_d0_w32))
    (broadcast S256x256 (Scalar.ofBits (F := Ideal) .f32 0x3F800000#32)) (broadcast S256x256 (Scalar.ofBits (F := Ideal) .f32 0x00000000#32))) bitsLt_bf16_f32

theorem order_apply (r q : Fin 256) : order (ix2 r q) = earlier r.val q.val := by
  have h0 : iota .tc S256x256 32 [0] iota_S256x256_d0_w32 (ix2 r q) = BitVec.ofNat 32 r.val := iota_single_apply _ _ _ _ _ _
  have h1 : iota .tc S256x256 32 [1] iota_S256x256_d1_w32 (ix2 r q) = BitVec.ofNat 32 q.val := iota_single_apply _ _ _ _ _ _
  show Scalar.select (IntOp.cmpi .slt (iota .tc S256x256 32 [1] iota_S256x256_d1_w32 (ix2 r q)) (iota .tc S256x256 32 [0] iota_S256x256_d0_w32 (ix2 r q))) _ _ = _
  rw [h0, h1]
  rfl

/-- The body's slots, before their transpose. -/
def placed (g : Vec Ideal S256x128 .f32) : FVec Ideal S256x128 .f32 :=
  select (cmpf .ogt (k0_pay3 g) (broadcast S256x128 (Scalar.ofBits .f32 0x00000000#32)))
    (FloatOps.matmul (F := Ideal) (φ₁ := .bf16) (φ₂ := .bf16) (DotDims.plain 256 256 128) none order (truncf .bf16 (k0_pay3 g) bitsLt_bf16_f32)
      (constant S256x128 .f32 0x00000000#32)) (broadcast S256x128 (Scalar.ofBits .f32 0xBF800000#32))

theorem placed_apply (g : Vec Ideal S256x128 .f32) (r : Fin 256) (l : Fin 128) : placed g (ix2 r l) = place (fun q => g (ix2 q l)) r := by
  show Scalar.select (FloatOps.cmpf (F := Ideal) (φ := .f32) .ogt (picked (g (ix2 r l))) (Ideal.ofBits .f32 0x00000000#32))
    (FloatOps.matmul (F := Ideal) (φ₁ := .bf16) (φ₂ := .bf16) (DotDims.plain 256 256 128) none order (k0_pay3 g) (constant S256x128 .f32 0x00000000#32) (ix2 r l))
    (Ideal.ofBits .f32 0xBF800000#32) = _
  refine congrArg (fun z : EReal => Scalar.select (FloatOps.cmpf (F := Ideal) (φ := .f32) .ogt (picked (g (ix2 r l))) (Ideal.ofBits .f32 0x00000000#32)) z
    (Ideal.ofBits .f32 0xBF800000#32)) ?_
  refine (product_cols (M := 256) (K := 256) (N := 128) order (k0_pay3 g) r l).trans ?_
  exact Finset.sum_congr rfl fun q _ => congrArg₂ (fun a b : EReal => a * b) (order_apply r q) (picked_apply g _)

theorem slots_eq (g : Vec Ideal S256x128 .f32) : k0_pay4 g
    = extractStridedSlice S16x256 ![0, 0] (transpose S128x256 [1, 0] (placed g) transposes_S256x128_p1_0_S128x256) slices_S128x256_o0_0_S16x256 := rfl

/-- An expert as a column of the gates. -/
def lane (e : Fin 16) : Fin 128 := ⟨e.val, by omega⟩

theorem slots_apply (g : Vec Ideal S256x128 .f32) (e : Fin 16) (r : Fin 256) : k0_pay4 g (ix2 e r) = place (fun q => g (ix2 q (lane e))) r := by
  rw [slots_eq]
  refine (extractStridedSlice_apply ![0, 0] _ slices_S128x256_o0_0_S16x256 (ix2 e r) (ix2 (lane e) r) fun a => match a with
    | ⟨0, _⟩ => (Nat.zero_add _).symm
    | ⟨1, _⟩ => (Nat.zero_add _).symm).trans ?_
  exact (transpose_ix2_apply (placed g) transposes_S256x128_p1_0_S128x256 (lane e) r).trans (placed_apply g r (lane e))

theorem totals_apply (g : Vec Ideal S256x128 .f32) (a : Fin 1) (b : Fin 8) (l : Fin 128) :
    k0_pay5 g (ix3 a b l) = ∑ r : Fin 256, picked (g (ix2 r l)) := by
  show shapeCast S1x8x128 (broadcastTo S8x128 (shapeCast S1x128 (shapeCast S1x128 (multiReduction .add [0] S128 (k0_pay3 g) 0x00000000#32 reduces_S256x128_S128 (.inl rfl) rfl)
    shapeCasts_S128_S1x128) shapeCasts_S1x128_S1x128) broadcasts_S1x128_S8x128) shapeCasts_S8x128_S1x8x128 (ix3 a b l) = _
  have ha := a.isLt
  rw [shapeCast_apply _ _ (ix3 a b l) (ix2 b l) (by
    rw [Shape.rowMajor_val_two, Shape.rowMajor_val_three]; show b.val * 128 + l.val = (a.val * 8 + b.val) * 128 + l.val; omega)]
  rw [broadcastTo_1b_ab_apply, shapeCast_self,
    shapeCast_apply _ _ (ix2 0 l) (ix1 l) (by rw [Shape.rowMajor_val_one, Shape.rowMajor_val_two]; show l.val = 0 * 128 + l.val; omega)]
  refine (Ideal.multiReduction_add_single _ _ _ _ _ _).trans ?_
  refine Finset.sum_congr rfl fun k _ => ?_
  exact congrArg (k0_pay3 g) (idx2 (j := ix2 k l) rfl rfl)

/-- The slots' rows, of all experts, are the combine's. -/
theorem stack_same (x0 : Vec Ideal S256x4096 .bf16) (x1 : Vec Ideal S256x128 .f32) : k0_pay21 x0 x1 = Combine.stack (k0_pay4 x1) := by
  unfold k0_pay21 k0_pay20 k0_pay19
  rw [View.ld_unit_zero (S := S256x128) zeros2]
  rfl

theorem stack_at (x0 : Vec Ideal S256x4096 .bf16) (x1 : Vec Ideal S256x128 .f32) (e : Fin 16) (s : Fin 64) (q : Fin 1024)
    (hq : q.val = 64 * e.val + s.val) (r : Fin 256) : k0_pay21 x0 x1 (ix2 q r) = named (place (fun q => x1 (ix2 q (lane e))) r) s.val := by
  rw [stack_same]
  exact (Combine.stack_apply (k0_pay4 x1) e s q hq r).trans (congrArg (fun p : EReal => named p s.val) (slots_apply x1 e r))

theorem out2_apply (x0 : Vec Ideal S256x4096 .bf16) (x1 : Vec Ideal S256x128 .f32) (e : Fin 16) (s : Fin 64) (d : Fin 4096) :
    out0_2 x0 x1 (ix3 e s d) = ∑ r : Fin 256, named (place (fun q => x1 (ix2 q (lane e))) r) s.val * x0 (ix2 r d) := by
  unfold out0_2
  rw [View.canon_unit_zero (S := S16x64x4096) zeros3, View.ld_unit_zero (S := S256x4096) zeros2]
  show shapeCast S16x64x4096 (FloatOps.matmul (F := Ideal) (φ₁ := .bf16) (φ₂ := .bf16) (DotDims.plain 1024 256 4096) none (k0_pay21 x0 x1) x0
    (constant S1024x4096 .f32 0x00000000#32)) shapeCasts_S1024x4096_S16x64x4096 (ix3 e s d) = _
  rw [shapeCast_apply _ _ (ix3 e s d) (ix2 ⟨64 * e.val + s.val, by omega⟩ d) (by
    rw [Shape.rowMajor_val_two, Shape.rowMajor_val_three]; show (64 * e.val + s.val) * 4096 + d.val = (e.val * 64 + s.val) * 4096 + d.val; omega)]
  refine (product_cols (M := 1024) (K := 256) (N := 4096) (k0_pay21 x0 x1) x0 _ d).trans ?_
  exact Finset.sum_congr rfl fun r _ => congrArg (fun z : EReal => z * x0 (ix2 r d)) (stack_at x0 x1 e s _ rfl r)

/-- The gates in the parts the body multiplies. -/
def parts (g : Vec Ideal S256x128 .f32) : FVec Ideal S256x128 .f32 :=
  addf (addf (addf (broadcast S256x128 (Scalar.ofBits .f32 0x00000000#32)) g) (dynamicRotate 1 16#32 none (subf g g) rotates_S256x128_d1))
    (dynamicRotate 1 32#32 none (subf (subf g g) (subf g g)) rotates_S256x128_d1)

/-- The first part is all of a real gate. -/
theorem parts_eq (g : Vec Ideal S256x128 .f32) (hg : ∀ y, g y = (((g y).toReal : ℝ) : EReal)) : parts g = g := by
  have h : (subf (F := Ideal) (φ := .f32) g g) = fun _ => (0 : EReal) := by
    funext y
    show g y - g y = (0 : EReal)
    rw [hg y, ← EReal.coe_sub, sub_self]
    rfl
  unfold parts
  rw [h]
  funext y
  show Ideal.ofBits .f32 0x00000000#32 + g y + (0 : EReal) + ((0 : EReal) - 0) = g y
  rw [Ideal.ofBits_zero_f32, sub_zero, zero_add, add_zero, add_zero]

theorem out3_apply (x0 : Vec Ideal S256x4096 .bf16) (x1 : Vec Ideal S256x128 .f32) (hg : ∀ y, x1 y = (((x1 y).toReal : ℝ) : EReal))
    (e : Fin 16) (s : Fin 64) (l : Fin 128) :
    out0_3 x0 x1 (ix3 e s l) = ∑ r : Fin 256, named (place (fun q => x1 (ix2 q (lane e))) r) s.val * x1 (ix2 r l) := by
  unfold out0_3
  rw [View.canon_unit_zero (S := S16x64x128) zeros3, View.ld_unit_zero (S := S256x128) zeros2]
  show shapeCast S16x64x128 (FloatOps.matmul (F := Ideal) (φ₁ := .bf16) (φ₂ := .bf16) (DotDims.plain 1024 256 128) none (k0_pay21 x0 x1) (parts x1)
    (constant S1024x128 .f32 0x00000000#32)) shapeCasts_S1024x128_S16x64x128 (ix3 e s l) = _
  rw [parts_eq x1 hg, shapeCast_apply _ _ (ix3 e s l) (ix2 ⟨64 * e.val + s.val, by omega⟩ l) (by
    rw [Shape.rowMajor_val_two, Shape.rowMajor_val_three]; show (64 * e.val + s.val) * 128 + l.val = (e.val * 64 + s.val) * 128 + l.val; omega)]
  refine (product_cols (M := 1024) (K := 256) (N := 128) (k0_pay21 x0 x1) x1 _ l).trans ?_
  exact Finset.sum_congr rfl fun r _ => congrArg (fun z : EReal => z * x1 (ix2 r l)) (stack_at x0 x1 e s _ rfl r)

theorem out4_apply (x0 : Vec Ideal S256x4096 .bf16) (x1 : Vec Ideal S256x128 .f32) (e : Fin 16) (r : Fin 256) :
    out0_4 x0 x1 (ix2 e r) = place (fun q => x1 (ix2 q (lane e))) r := by
  unfold out0_4
  rw [View.canon_unit_zero (S := S16x256) zeros2, View.ld_unit_zero (S := S256x128) zeros2]
  exact slots_apply x1 e r

theorem out5_apply (x0 : Vec Ideal S256x4096 .bf16) (x1 : Vec Ideal S256x128 .f32) (a : Fin 1) (b : Fin 8) (l : Fin 128) :
    out0_5 x0 x1 (ix3 a b l) = ∑ r : Fin 256, picked (x1 (ix2 r l)) := by
  unfold out0_5
  rw [View.canon_unit_zero (S := S1x8x128) zeros3, View.ld_unit_zero (S := S256x128) zeros2]
  exact totals_apply x1 a b l

end Cert.Proof.Dispatch

end
-- ==== Proof.Mixing.Out1.lean ====
/-
  The second kernel's two stores, at an index: a head of the attention from the prepared arrays, and a tile of the
  gated mixing of a chunk's rows.
-/
module

public import proofs.«01_k».proof.Proof.Common
public import proofs.«01_k».proof.Proof.Gen.MixerIdeal.Frame
public import Idealize.ShloMosaic.Lib.Pointwise
public import Idealize.ShloMosaic.Lib.WordCmp
public import Idealize.ShloMosaic.Lib.ValueLayout
public import Idealize.ShloMosaic.Lib.IdealHost

@[expose] public section

noncomputable section

namespace Cert.Proof.Mixing

open Idealize.ShloMosaic hiding ix1 ix2 ix3 ix4 ix5 eq_ix1 eq_ix2 eq_ix3 eq_ix4 eq_ix5
open Idealize.ShloMosaic.ValueIdx
open Cert.MixerIdeal Cert.MixerIdeal.Gen
open scoped BigOperators

/-- The small constant both norms add. -/
abbrev eps : EReal := Ideal.ofBits .f32 0x358637BD#32
/-- A head's width, and a row's, as the norms divide by them. -/
abbrev width : EReal := Ideal.ofBits .f32 0x43000000#32
abbrev across : EReal := Ideal.ofBits .f32 0x44800000#32

/-- A head's row: the causal and the anticausal product inside the block, and what the two states add. -/
def mixed (qf kf qb kb ef eb : Fin 256 → Fin 64 → EReal) (v : Fin 256 → Fin 128 → EReal) (sf sb : Fin 128 → Fin 64 → EReal)
    (i : Fin 256) (c : Fin 128) : EReal :=
  (∑ j : Fin 256, ((if j.val ≤ i.val then ∑ d : Fin 64, qf i d * kf j d else 0) + (if i.val ≤ j.val then ∑ d : Fin 64, qb i d * kb j d else 0)) * v j c)
    + (∑ d : Fin 64, ef i d * sf c d) + ∑ d : Fin 64, eb i d * sb c d

/-- The head's root mean square norm, times the gain and the gate. -/
def normed (o : Fin 128 → EReal) (g r : EReal) (c : Fin 128) : EReal :=
  o c * Ideal.rsqrt (Ideal.div (∑ e : Fin 128, o e * o e) width + eps) * g * (r * Ideal.logistic r)

/-- The rows kept by a mask of lanes. -/
def kept (mask : IVec S1x128 1) (x : FVec Ideal S256x128 .bf16) : FVec Ideal S256x128 .bf16 :=
  select (broadcastTo S256x128 (shapeCast S1x128 mask shapeCasts_S1x128_S1x128) broadcasts_S1x128_S256x128) x
    (broadcast S256x128 (Scalar.ofBits .bf16 0x0000#16))

/-- The weights inside the block. -/
def weights (mask : IVec S1x128 1) (qf kf qb kb : FVec Ideal S256x128 .bf16) : FVec Ideal S256x256 .f32 :=
  addf (select k1_pay2 (matmul dot_S256x128_S256x128_S256x256_1_1_0_0_n_n none qf (kept mask kf) (constant S256x256 .f32 0x00000000#32)) (broadcast S256x256 (Scalar.ofBits .f32 0x00000000#32)))
    (select k1_pay3 (matmul dot_S256x128_S256x128_S256x256_1_1_0_0_n_n none qb (kept mask kb) (constant S256x256 .f32 0x00000000#32)) (broadcast S256x256 (Scalar.ofBits .f32 0x00000000#32)))

/-- The head before its norm. -/
def plain (mask : IVec S1x128 1) (qf kf ef qb kb eb v : FVec Ideal S256x128 .bf16) (sf sb : FVec Ideal S128x128 .bf16) : FVec Ideal S256x128 .f32 :=
  addf (addf (matmul dot_S256x256_S256x128_S256x128_1_0_0_1_n_n none (truncf .bf16 (weights mask qf kf qb kb) bitsLt_bf16_f32) v (constant S256x128 .f32 0x00000000#32))
      (matmul dot_S256x128_S128x128_S256x128_1_1_0_0_n_n none (kept mask ef) sf (constant S256x128 .f32 0x00000000#32)))
    (matmul dot_S256x128_S128x128_S256x128_1_1_0_0_n_n none (kept mask eb) sb (constant S256x128 .f32 0x00000000#32))

/-- The head as stored. -/
def stored (o : FVec Ideal S256x128 .f32) (r : Vec Ideal S256x128 .bf16) (g : Vec Ideal S1x128 .f32) : FVec Ideal S256x128 .bf16 :=
  truncf .bf16 (mulf (mulf (mulf o (broadcastTo S256x128 (rsqrt (addf (divf (shapeCast S256x1
      (multiReduction .add [1] S256 (mulf o o) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
      (broadcastTo S256x128 (shapeCast S1x128 g shapeCasts_S1x128_S1x128) broadcasts_S1x128_S256x128))
    (mulf (extf .f32 r bitsLt_bf16_f32) (logistic (extf .f32 r bitsLt_bf16_f32)))) bitsLt_bf16_f32

/-- One head, from the loads. -/
def head (mask : IVec S1x128 1) (x0 x1 x2 x3 x4 x5 v r : Vec Ideal S256x128 .bf16) (s0 s1 : Vec Ideal S1x128x128 .bf16) (g : Vec Ideal S1x128 .f32) :
    FVec Ideal S256x128 .bf16 :=
  stored (plain mask (shapeCast S256x128 x0 shapeCasts_S256x128_S256x128) (shapeCast S256x128 x1 shapeCasts_S256x128_S256x128)
    (shapeCast S256x128 x2 shapeCasts_S256x128_S256x128) (shapeCast S256x128 x3 shapeCasts_S256x128_S256x128)
    (shapeCast S256x128 x4 shapeCasts_S256x128_S256x128) (shapeCast S256x128 x5 shapeCasts_S256x128_S256x128) v
    (shapeCast S128x128 s0 shapeCasts_S1x128x128_S128x128) (shapeCast S128x128 s1 shapeCasts_S1x128x128_S128x128)) r g

theorem kept_apply (mask : IVec S1x128 1) (b : Nat) (hm : ∀ l : Fin 128, mask (ix2 0 l) = BitVec.ofBool (decide (l.val / 64 = b)))
    (x : FVec Ideal S256x128 .bf16) (i : Fin 256) (l : Fin 128) : kept mask x (ix2 i l) = if l.val / 64 = b then x (ix2 i l) else 0 := by
  unfold kept
  rw [select_apply, shapeCast_self, broadcastTo_1b_ab_apply, hm]
  show Scalar.select _ _ (Ideal.ofBits .bf16 0x0000#16) = _
  rw [Ideal.ofBits_zero_bf16]
  by_cases h : l.val / 64 = b <;> simp [h, Scalar.select]

theorem lower_apply (i j : Fin 256) (a b : EReal) : Scalar.select (k1_pay2 (ix2 i j)) a b = if j.val ≤ i.val then a else b := by
  have := i.isLt
  have := j.isLt
  have e : k1_pay2 (ix2 i j) = BitVec.ofBool (decide (j.val ≤ i.val)) :=
    (congrArg₂ (IntOp.cmpi .sle) (iota_single_apply _ _ _ _ _ _) (iota_single_apply _ _ _ _ _ _)).trans
      (WordCmp.cmpi_sle_ofNat (show j.val < 2 ^ 31 by omega) (show i.val < 2 ^ 31 by omega))
  rw [e]
  by_cases h : j.val ≤ i.val <;> simp [h, Scalar.select]

theorem upper_apply (i j : Fin 256) (a b : EReal) : Scalar.select (k1_pay3 (ix2 i j)) a b = if i.val ≤ j.val then a else b := by
  have := i.isLt
  have := j.isLt
  have e : k1_pay3 (ix2 i j) = BitVec.ofBool (decide (i.val ≤ j.val)) :=
    (congrArg₂ (IntOp.cmpi .sge) (iota_single_apply _ _ _ _ _ _) (iota_single_apply _ _ _ _ _ _)).trans
      (WordCmp.cmpi_sge_ofNat (show j.val < 2 ^ 31 by omega) (show i.val < 2 ^ 31 by omega))
  rw [e]
  by_cases h : i.val ≤ j.val <;> simp [h, Scalar.select]

/-- A sum over the lanes of a pair of heads that keeps one of the two is the sum over that head's lanes. -/
theorem lanes (b : Fin 2) (f : Fin 128 → EReal) (g : Fin 64 → EReal) (h : ∀ d : Fin 64, f ⟨64 * b.val + d.val, by omega⟩ = g d) :
    (∑ l : Fin 128, if l.val / 64 = b.val then f l else 0) = ∑ d : Fin 64, g d := by
  rw [← Finset.sum_filter]
  symm
  refine Finset.sum_bij (fun (d : Fin 64) _ => (⟨64 * b.val + d.val, by omega⟩ : Fin 128)) ?_ ?_ ?_ ?_
  · intro d _
    have := d.isLt
    simp only [Finset.mem_filter, Finset.mem_univ, true_and]
    omega
  · intro d _ e _ hde
    have := congrArg Fin.val hde
    apply Fin.ext
    simpa using this
  · intro l hl
    have hl' := (Finset.mem_filter.mp hl).2
    refine ⟨⟨l.val - 64 * b.val, by have := l.isLt; omega⟩, Finset.mem_univ _, Fin.ext ?_⟩
    show 64 * b.val + (l.val - 64 * b.val) = l.val
    omega
  · intro d _
    exact (h d).symm

theorem logistic_at (x : EReal) : FloatOps.logistic (F := Ideal) (φ := .f32) x = Ideal.logistic x := rfl

/-- The lanes of head `b` of the pair. -/
def lane (b : Fin 2) (d : Fin 64) : Fin 128 := ⟨64 * b.val + d.val, by omega⟩

theorem plain_apply (mask : IVec S1x128 1) (b : Fin 2) (hm : ∀ l : Fin 128, mask (ix2 0 l) = BitVec.ofBool (decide (l.val / 64 = b.val)))
    (qf kf ef qb kb eb v : FVec Ideal S256x128 .bf16) (sf sb : FVec Ideal S128x128 .bf16) (i : Fin 256) (c : Fin 128) :
    plain mask qf kf ef qb kb eb v sf sb (ix2 i c)
      = mixed (fun i d => qf (ix2 i (lane b d))) (fun i d => kf (ix2 i (lane b d))) (fun i d => qb (ix2 i (lane b d))) (fun i d => kb (ix2 i (lane b d)))
        (fun i d => ef (ix2 i (lane b d))) (fun i d => eb (ix2 i (lane b d))) (fun j c => v (ix2 j c)) (fun c d => sf (ix2 c (lane b d))) (fun c d => sb (ix2 c (lane b d))) i c := by
  have hk := kept_apply mask b.val hm
  have hw : ∀ j : Fin 256, weights mask qf kf qb kb (ix2 i j)
      = (if j.val ≤ i.val then ∑ d : Fin 64, qf (ix2 i (lane b d)) * kf (ix2 j (lane b d)) else 0)
        + (if i.val ≤ j.val then ∑ d : Fin 64, qb (ix2 i (lane b d)) * kb (ix2 j (lane b d)) else 0) := by
    intro j
    show Scalar.select (k1_pay2 (ix2 i j)) (FloatOps.matmul (F := Ideal) (φ₁ := .bf16) (φ₂ := .bf16) (DotDims.transposedRhs 256 128 256) none qf (kept mask kf) (constant S256x256 .f32 0x00000000#32) (ix2 i j)) (Ideal.ofBits .f32 0x00000000#32)
      + Scalar.select (k1_pay3 (ix2 i j)) (FloatOps.matmul (F := Ideal) (φ₁ := .bf16) (φ₂ := .bf16) (DotDims.transposedRhs 256 128 256) none qb (kept mask kb) (constant S256x256 .f32 0x00000000#32) (ix2 i j)) (Ideal.ofBits .f32 0x00000000#32) = _
    rw [lower_apply, upper_apply, product_rows, product_rows, Ideal.ofBits_zero_f32]
    simp only [hk, mul_ite, mul_zero]
    rw [lanes b _ (fun d => qf (ix2 i (lane b d)) * kf (ix2 j (lane b d))) (fun d => rfl), lanes b _ (fun d => qb (ix2 i (lane b d)) * kb (ix2 j (lane b d))) (fun d => rfl)]
  show FloatOps.matmul (F := Ideal) (φ₁ := .bf16) (φ₂ := .bf16) (DotDims.plain 256 256 128) none (weights mask qf kf qb kb) v (constant S256x128 .f32 0x00000000#32) (ix2 i c)
      + FloatOps.matmul (F := Ideal) (φ₁ := .bf16) (φ₂ := .bf16) (DotDims.transposedRhs 256 128 128) none (kept mask ef) sf (constant S256x128 .f32 0x00000000#32) (ix2 i c)
      + FloatOps.matmul (F := Ideal) (φ₁ := .bf16) (φ₂ := .bf16) (DotDims.transposedRhs 256 128 128) none (kept mask eb) sb (constant S256x128 .f32 0x00000000#32) (ix2 i c) = _
  rw [product_rows, product_rows, product_cols]
  simp only [hk, ite_mul, zero_mul]
  rw [lanes b _ (fun d => ef (ix2 i (lane b d)) * sf (ix2 c (lane b d))) (fun d => rfl), lanes b _ (fun d => eb (ix2 i (lane b d)) * sb (ix2 c (lane b d))) (fun d => rfl)]
  unfold mixed
  exact congrArg₂ (· + ·) (congrArg₂ (· + ·) (Finset.sum_congr rfl fun j _ => congrArg (· * v (ix2 j c)) (hw j)) rfl) rfl

theorem stored_apply (o : FVec Ideal S256x128 .f32) (r : Vec Ideal S256x128 .bf16) (g : Vec Ideal S1x128 .f32) (i : Fin 256) (c : Fin 128) :
    stored o r g (ix2 i c) = normed (fun e => o (ix2 i e)) (g (ix2 0 c)) (r (ix2 i c)) c := by
  pointwise [stored, normed]
  simp only [ix2_eq_valueIdx]

/-- Head `h`'s columns of the prepared arrays, and of the values. -/
def colq (h : Fin 8) (d : Fin 64) : Fin 512 := ⟨64 * h.val + d.val, by omega⟩
def colv (h : Fin 8) (c : Fin 128) : Fin 1024 := ⟨128 * h.val + c.val, by omega⟩

/-- Head `h` of a block, at row `i` and column `c` of the head. -/
def heads (x0 x1 x2 x3 x4 x5 : Vec Ideal S256x512 .bf16) (x6 : Vec Ideal S256x1024 .bf16) (x7 x8 : Vec Ideal S1x128x512 .bf16)
    (x9 : Vec Ideal S256x1024 .bf16) (x10 : Vec Ideal S1x1024 .f32) (h : Fin 8) (i : Fin 256) (c : Fin 128) : EReal :=
  normed (fun e => mixed (fun i d => x0 (ix2 i (colq h d))) (fun i d => x1 (ix2 i (colq h d))) (fun i d => x3 (ix2 i (colq h d))) (fun i d => x4 (ix2 i (colq h d)))
      (fun i d => x2 (ix2 i (colq h d))) (fun i d => x5 (ix2 i (colq h d))) (fun j c => x6 (ix2 j (colv h c)))
      (fun c d => x7 (ix3 0 c (colq h d))) (fun c d => x8 (ix3 0 c (colq h d))) i e)
    (x10 (ix2 0 (colv h c))) (x9 (ix2 i (colv h c))) c

/-- A block's heads, side by side. -/
def headsAt (x0 x1 x2 x3 x4 x5 : Vec Ideal S256x512 .bf16) (x6 : Vec Ideal S256x1024 .bf16) (x7 x8 : Vec Ideal S1x128x512 .bf16)
    (x9 : Vec Ideal S256x1024 .bf16) (x10 : Vec Ideal S1x1024 .f32) (y : S256x1024.Idx) : EReal :=
  heads x0 x1 x2 x3 x4 x5 x6 x7 x8 x9 x10 ⟨(y 1).val / 128, Nat.div_lt_of_lt_mul (y 1).isLt⟩ (y 0) ⟨(y 1).val % 128, Nat.mod_lt _ (by decide)⟩

theorem headsAt_eq (x0 x1 x2 x3 x4 x5 : Vec Ideal S256x512 .bf16) (x6 : Vec Ideal S256x1024 .bf16) (x7 x8 : Vec Ideal S1x128x512 .bf16)
    (x9 : Vec Ideal S256x1024 .bf16) (x10 : Vec Ideal S1x1024 .f32) (y : S256x1024.Idx) (h : Fin 8) (i : Fin 256) (c : Fin 128)
    (h0 : (y 0).val = i.val) (h1 : (y 1).val = 128 * h.val + c.val) :
    headsAt x0 x1 x2 x3 x4 x5 x6 x7 x8 x9 x10 y = heads x0 x1 x2 x3 x4 x5 x6 x7 x8 x9 x10 h i c := by
  have eh : (⟨(y 1).val / 128, Nat.div_lt_of_lt_mul (y 1).isLt⟩ : Fin 8) = h := Fin.ext (by show (y 1).val / 128 = h.val; omega)
  have ec : (⟨(y 1).val % 128, Nat.mod_lt _ (by decide)⟩ : Fin 128) = c := Fin.ext (by show (y 1).val % 128 = c.val; omega)
  have e0 : y 0 = i := Fin.ext h0
  show heads x0 x1 x2 x3 x4 x5 x6 x7 x8 x9 x10 ⟨(y 1).val / 128, Nat.div_lt_of_lt_mul (y 1).isLt⟩ (y 0) ⟨(y 1).val % 128, Nat.mod_lt _ (by decide)⟩ = _
  exact congr (congr (congrArg (heads x0 x1 x2 x3 x4 x5 x6 x7 x8 x9 x10) eh) e0) ec

/-- The head a store takes is the head of the columns it goes to. -/
theorem head_piece (x0 x1 x2 x3 x4 x5 : Vec Ideal S256x512 .bf16) (x6 : Vec Ideal S256x1024 .bf16) (x7 x8 : Vec Ideal S1x128x512 .bf16)
    (x9 : Vec Ideal S256x1024 .bf16) (x10 : Vec Ideal S1x1024 .f32)
    (mask : IVec S1x128 1) (b : Fin 2) (hm : ∀ l : Fin 128, mask (ix2 0 l) = BitVec.ofBool (decide (l.val / 64 = b.val)))
    (h : Fin 8) (oq oc : Nat) (hq : oq + 64 * b.val = 64 * h.val) (hc : oc = 128 * h.val)
    (iq : ∀ a, (![0, oq] : Fin 2 → Nat) a + S256x128.size a ≤ S256x512.size a) (iv : ∀ a, (![0, oc] : Fin 2 → Nat) a + S256x128.size a ≤ S256x1024.size a)
    (is : ∀ a, (![0, 0, oq] : Fin 3 → Nat) a + S1x128x128.size a ≤ S1x128x512.size a) (ig : ∀ a, (![0, oc] : Fin 2 → Nat) a + S1x128.size a ≤ S1x1024.size a)
    (y : S256x128.Idx) :
    head mask (View.ld x0 (Rect.unit (s := S256x512) ![0, oq] S256x128.size iq)) (View.ld x1 (Rect.unit (s := S256x512) ![0, oq] S256x128.size iq))
      (View.ld x2 (Rect.unit (s := S256x512) ![0, oq] S256x128.size iq)) (View.ld x3 (Rect.unit (s := S256x512) ![0, oq] S256x128.size iq))
      (View.ld x4 (Rect.unit (s := S256x512) ![0, oq] S256x128.size iq)) (View.ld x5 (Rect.unit (s := S256x512) ![0, oq] S256x128.size iq))
      (View.ld x6 (Rect.unit (s := S256x1024) ![0, oc] S256x128.size iv)) (View.ld x9 (Rect.unit (s := S256x1024) ![0, oc] S256x128.size iv))
      (View.ld x7 (Rect.unit (s := S1x128x512) ![0, 0, oq] S1x128x128.size is)) (View.ld x8 (Rect.unit (s := S1x128x512) ![0, 0, oq] S1x128x128.size is))
      (View.ld x10 (Rect.unit (s := S1x1024) ![0, oc] S1x128.size ig)) y
      = headsAt x0 x1 x2 x3 x4 x5 x6 x7 x8 x9 x10 ((Rect.unit (s := S256x1024) ![0, oc] S256x128.size iv).emb y) := by
  obtain ⟨i, c, rfl⟩ := (⟨_, _, eq_ix2 y⟩ : ∃ (i : Fin 256) (c : Fin 128), y = ix2 i c)
  have eq : ∀ (x : Vec Ideal S256x512 .bf16) (i : Fin 256) (d : Fin 64),
      shapeCast S256x128 (View.ld x (Rect.unit (s := S256x512) ![0, oq] S256x128.size iq)) shapeCasts_S256x128_S256x128 (ix2 i (lane b d)) = x (ix2 i (colq h d)) := fun x i d => by
    refine (congrFun (shapeCast_self (s := S256x128) (View.ld x (Rect.unit (s := S256x512) ![0, oq] S256x128.size iq)) shapeCasts_S256x128_S256x128) (ix2 i (lane b d))).trans ?_
    exact congrArg x (idx2 (show 0 + 1 * i.val = i.val by omega) (show oq + 1 * (64 * b.val + d.val) = 64 * h.val + d.val by omega))
  have ev : ∀ (x : Vec Ideal S256x1024 .bf16) (i : Fin 256) (c : Fin 128),
      View.ld x (Rect.unit (s := S256x1024) ![0, oc] S256x128.size iv) (ix2 i c) = x (ix2 i (colv h c)) := fun x i c =>
    congrArg x (idx2 (show 0 + 1 * i.val = i.val by omega) (show oc + 1 * c.val = 128 * h.val + c.val by omega))
  have es : ∀ (x : Vec Ideal S1x128x512 .bf16) (c : Fin 128) (d : Fin 64),
      shapeCast S128x128 (View.ld x (Rect.unit (s := S1x128x512) ![0, 0, oq] S1x128x128.size is)) shapeCasts_S1x128x128_S128x128 (ix2 c (lane b d)) = x (ix3 0 c (colq h d)) := fun x c d => by
    refine (shapeCast_dropUnit_apply ![128, 128] (View.ld x (Rect.unit (s := S1x128x512) ![0, 0, oq] S1x128x128.size is)) shapeCasts_S1x128x128_S128x128 (ix2 c (lane b d))).trans ?_
    exact congrArg x (idx3 rfl (show 0 + 1 * c.val = c.val by omega) (show oq + 1 * (64 * b.val + d.val) = 64 * h.val + d.val by omega))
  have eg : View.ld x10 (Rect.unit (s := S1x1024) ![0, oc] S1x128.size ig) (ix2 0 c) = x10 (ix2 0 (colv h c)) :=
    congrArg x10 (idx2 rfl (show oc + 1 * c.val = 128 * h.val + c.val by omega))
  refine Eq.trans ?_ (headsAt_eq x0 x1 x2 x3 x4 x5 x6 x7 x8 x9 x10 _ h i c (show 0 + 1 * i.val = i.val by omega) (show oc + 1 * c.val = 128 * h.val + c.val by omega)).symm
  unfold head
  rw [stored_apply, eg, ev]
  refine congrArg (fun o => normed o (x10 (ix2 0 (colv h c))) (x9 (ix2 i (colv h c))) c) (funext fun e => (plain_apply mask b hm _ _ _ _ _ _ _ _ _ i e).trans ?_)
  simp only [eq, es]
  exact congrArg (fun v => mixed _ _ _ _ _ _ v _ _ i e) (funext fun j => funext fun c => ev x6 j c)

theorem even_mask (l : Fin 128) : (k1_pay12 : IVec S1x128 1) (ix2 0 l) = BitVec.ofBool (decide (l.val / 64 = (0 : Fin 2).val)) := by
  have hl := l.isLt
  refine (congrArg₂ (IntOp.cmpi .slt) (iota_single_apply _ _ _ _ _ _) rfl).trans
    ((WordCmp.cmpi_slt_ofNat (show l.val < 2 ^ 31 by omega) (show 64 < 2 ^ 31 by omega)).trans ?_)
  exact congrArg BitVec.ofBool (decide_eq_decide.mpr (by show l.val < 64 ↔ l.val / 64 = 0; omega))

theorem odd_mask (l : Fin 128) : (k1_pay18 (iota .tc S1x128 32 [1] iota_S1x128_d1_w32) : IVec S1x128 1) (ix2 0 l) = BitVec.ofBool (decide (l.val / 64 = (1 : Fin 2).val)) := by
  have hl := l.isLt
  refine (congrArg₂ (IntOp.cmpi .sge) (iota_single_apply _ _ _ _ _ _) rfl).trans
    ((WordCmp.cmpi_sge_ofNat (show l.val < 2 ^ 31 by omega) (show 64 < 2 ^ 31 by omega)).trans ?_)
  exact congrArg BitVec.ofBool (decide_eq_decide.mpr (by show 64 ≤ l.val ↔ l.val / 64 = 1; omega))

section
variable (x0 x1 x2 x3 x4 x5 : Vec Ideal S256x512 .bf16) (x6 : Vec Ideal S256x1024 .bf16) (x7 x8 : Vec Ideal S1x128x512 .bf16)
  (x9 : Vec Ideal S256x1024 .bf16) (x10 : Vec Ideal S1x1024 .f32) (x11 x12 : Vec Ideal S256x1024 .bf16) (x13 x14 : Vec Ideal S1x1024 .f32)
  (x15 : Vec Ideal S1x8x128x128 .bf16) (x16 : Vec Ideal S8x128x128 .f32)

/-- The attention's block is its eight heads. -/
theorem out17 (y : S256x1024.Idx) : out1_17 x0 x1 x2 x3 x4 x5 x6 x7 x8 x9 x10 x11 x12 x13 x14 x15 x16 y = headsAt x0 x1 x2 x3 x4 x5 x6 x7 x8 x9 x10 y := by
  have P := head_piece x0 x1 x2 x3 x4 x5 x6 x7 x8 x9 x10
  unfold out1_17
  refine View.canon_apply_of_pieces (Val := Elt Ideal) (e := .bf16) (headsAt x0 x1 x2 x3 x4 x5 x6 x7 x8 x9 x10) _ ?_ y (cover1_17 _ _ _ _ _ _ _ _ y)
  simp only [List.forall_mem_cons]
  refine ⟨fun y => ?_, fun y => ?_, fun y => ?_, fun y => ?_, fun y => ?_, fun y => ?_, fun y => ?_, fun y => ?_, fun p hp => absurd hp List.not_mem_nil⟩
  · exact P _ 1 odd_mask 7 384 896 rfl rfl _ _ _ _ y
  · exact P _ 0 even_mask 6 384 768 rfl rfl _ _ _ _ y
  · exact P _ 1 odd_mask 5 256 640 rfl rfl _ _ _ _ y
  · exact P _ 0 even_mask 4 256 512 rfl rfl _ _ _ _ y
  · exact P _ 1 odd_mask 3 128 384 rfl rfl _ _ _ _ y
  · exact P _ 0 even_mask 2 128 256 rfl rfl _ _ _ _ y
  · exact P _ 1 odd_mask 1 0 128 rfl rfl _ _ _ _ y
  · exact P _ 0 even_mask 0 0 0 rfl rfl _ _ _ _ y

end

end Cert.Proof.Mixing

end
-- ==== Proof.Mixing.Host.lean ====
/-
  What the host operations prepare for the two kernels: the padded up projection of the decays, the biases and the
  norms' rows.
-/
module

public import proofs.«01_k».proof.Proof.Mixing.Out1
public import Idealize.ShloMosaic.Lib.Routing.OpsSet
public import Idealize.ShloMosaic.Lib.Routing.OpsOne
public import Idealize.ShloMosaic.Lib.StableHlo.ReadAt

@[expose] public section

noncomputable section

namespace Cert.Proof.Mixing

open Idealize.ShloMosaic hiding ix1 ix2 ix3 ix4 ix5 eq_ix1 eq_ix2 eq_ix3 eq_ix4 eq_ix5
open Idealize.ShloMosaic.ValueIdx
open Idealize.ShloMosaic.TcCoe Idealize.SL.Sem
open Cert.MixerIdeal Cert.MixerIdeal.Gen
open scoped BigOperators

/-- Where an entry of the placed matrix lands: shifted by the two index words. -/
theorem lands (idx : IVec S2 32) (R0 C0 : Nat) (h0 : (idx (ix1 (0 : Fin 2))).toInt = R0) (h1 : (idx (ix1 (1 : Fin 2))).toInt = C0)
    (a : Fin 16) (b : Fin 512) (r : Fin 128) (c : Fin 1024) :
    scatter_S128x1024_S2_S16x512_01_n_01_0.resultIdx? (ix2 a b) idx = some (ix2 r c) ↔ R0 + a.val = r.val ∧ C0 + b.val = c.val := by
  have w0 : scatter_S128x1024_S2_S16x512_01_n_01_0.window (ix2 a b) 0 = a.val := rfl
  have w1 : scatter_S128x1024_S2_S16x512_01_n_01_0.window (ix2 a b) 1 = b.val := rfl
  have s := Routing.start_pair (R := 128) (C := 1024) scatter_S128x1024_S2_S16x512_01_n_01_0 rfl rfl idx (ix2 a b)
  have s0 := (s 0).trans h0
  have s1 := (s 1).trans h1
  refine (Routing.resultIdx?_ix2 _ _ _ _ _).trans ?_
  rw [s0, s1, w0, w1]
  omega

/-- A matrix placed inside a larger one, at an index. -/
theorem placed {α : Type} (x : S128x1024.Idx → α) (u : S16x512.Idx → α) (idx : IVec S2 32) (R0 C0 : Nat) (h0 : (idx (ix1 (0 : Fin 2))).toInt = R0)
    (h1 : (idx (ix1 (1 : Fin 2))).toInt = C0) (r : Fin 128) (c : Fin 1024) :
    Host.scatter scatter_S128x1024_S2_S16x512_01_n_01_0 (fun _ b => b) x idx u (ix2 r c)
      = if h : (R0 ≤ r.val ∧ r.val < R0 + 16) ∧ C0 ≤ c.val ∧ c.val < C0 + 512 then u (ix2 ⟨r.val - R0, by omega⟩ ⟨c.val - C0, by omega⟩) else x (ix2 r c) := by
  by_cases h : (R0 ≤ r.val ∧ r.val < R0 + 16) ∧ C0 ≤ c.val ∧ c.val < C0 + 512
  · rw [dif_pos h]
    refine Routing.scatter_set_hit _ x idx u _ _ (fun k hk => ?_) (ix2 ⟨r.val - R0, by omega⟩ ⟨c.val - C0, by omega⟩)
      ((lands idx R0 C0 h0 h1 _ _ r c).mpr ⟨by show R0 + (r.val - R0) = r.val; omega, by show C0 + (c.val - C0) = c.val; omega⟩)
    rw [eq_ix2 k] at hk ⊢
    obtain ⟨e0, e1⟩ := (lands idx R0 C0 h0 h1 _ _ r c).mp hk
    exact congrArg u (idx2 (by show (k 0).val = r.val - R0; omega) (by show (k 1).val = c.val - C0; omega))
  · rw [dif_neg h]
    refine Routing.scatter_set_miss _ x idx u _ fun k hk => h ?_
    rw [eq_ix2 k] at hk
    obtain ⟨e0, e1⟩ := (lands idx R0 C0 h0 h1 _ _ r c).mp hk
    have l0 : (k 0).val < 16 := (k 0).isLt
    have l1 : (k 1).val < 512 := (k 1).isLt
    omega

/-- Two index words. -/
def words (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem words_fst (a b : BitVec 32) : words a b (ix1 (0 : Fin 2)) = a := rfl
theorem words_snd (a b : BitVec 32) : words a b (ix1 (1 : Fin 2)) = b := rfl

/-- The two directions' up projections, one above the other and one beside the other. -/
def padded (w : Vec Ideal S2x16x512 .f32) : Vec Ideal S128x1024 .f32 :=
  Host.scatter scatter_S128x1024_S2_S16x512_01_n_01_0 (fun _ b => b)
    (Host.scatter scatter_S128x1024_S2_S16x512_01_n_01_0 (fun _ b => b) (broadcastInDim S128x1024 ![] bcast_S_S128x1024 (constant (F := Ideal) S_ .f32 0x00000000#32))
      (words 0#32 0#32) (shapeCast S16x512 (extractStridedSlice S1x16x512 ![0, 0, 0] w slices_S2x16x512_S1x16x512_0_0_0) shapeCasts_S1x16x512_S16x512))
    (words 16#32 512#32) (shapeCast S16x512 (extractStridedSlice S1x16x512 ![1, 0, 0] w slices_S2x16x512_S1x16x512_1_0_0) shapeCasts_S1x16x512_S16x512)

theorem plane (p : Nat) (hp : p < 2) (w : Vec Ideal S2x16x512 .f32) (h : S2x16x512.Slices ![p, 0, 0] S1x16x512) (r : Fin 16) (c : Fin 512) :
    (shapeCast S16x512 (extractStridedSlice S1x16x512 ![p, 0, 0] w h) shapeCasts_S1x16x512_S16x512 : Vec Ideal S16x512 .f32) (ix2 r c) = w (ix3 ⟨p, hp⟩ r c) := by
  refine (shapeCast_dropUnit_apply ![16, 512] _ shapeCasts_S1x16x512_S16x512 (ix2 r c)).trans ?_
  refine extractStridedSlice_apply ![p, 0, 0] w h _ _ fun a => ?_
  match a with
  | ⟨0, _⟩ => show p = p + 0; omega
  | ⟨1, _⟩ => show r.val = 0 + r.val; omega
  | ⟨2, _⟩ => show c.val = 0 + c.val; omega

theorem padded_apply (w : Vec Ideal S2x16x512 .f32) (r : Fin 128) (c : Fin 1024) : padded w (ix2 r c)
    = if h : (16 ≤ r.val ∧ r.val < 32) ∧ 512 ≤ c.val then w (ix3 1 ⟨r.val - 16, by omega⟩ ⟨c.val - 512, by omega⟩)
      else if h : r.val < 16 ∧ c.val < 512 then w (ix3 0 ⟨r.val, by omega⟩ ⟨c.val, by omega⟩) else 0 := by
  unfold padded
  rw [placed _ _ (words 16#32 512#32) 16 512 (by rw [words_fst]; rfl) (by rw [words_snd]; rfl), placed _ _ (words 0#32 0#32) 0 0 (by rw [words_fst]; rfl) (by rw [words_snd]; rfl)]
  by_cases h : (16 ≤ r.val ∧ r.val < 32) ∧ 512 ≤ c.val
  · rw [dif_pos ⟨h.1, h.2, by omega⟩, dif_pos h]
    exact plane 1 (by omega) w _ _ _
  · rw [dif_neg (by omega), dif_neg h]
    by_cases h' : r.val < 16 ∧ c.val < 512
    · rw [dif_pos ⟨⟨by omega, by omega⟩, by omega, by omega⟩, dif_pos h']
      exact plane 0 (by omega) w _ _ _
    · rw [dif_neg (by omega), dif_neg h']
      show Ideal.ofBits .f32 0x00000000#32 = 0
      exact Ideal.ofBits_zero_f32

variable (m : (ℓ : Loc nD τ sig) → Buf (Elt Ideal) ℓ) (ρ : Dev nD → PrngReg) (c : Dev nD)

/-- An argument array of a device. -/
abbrev argOf (a : Ref sig .tc) : Buf (Elt Ideal) ((c : Thread nD τ).loc a) := m ((c : Thread nD τ).loc a)

/-- The first placement's two index words. -/
theorem first_words (V : Valuation τ sig (Elt Ideal)) :
    concatenate S2 0 [⟨S1, StableHlo.upto hostOps0 V 8 (Proc.tc.devRef main_v3)⟩, ⟨S1, StableHlo.upto hostOps0 V 8 (Proc.tc.devRef main_v4)⟩]
      concatenates_S1_S1_S2_d0 = words 0#32 0#32 := by
  refine congrArg₂ (fun (a b : S1.Idx → BitVec 32) => concatenate S2 0 [⟨S1, a⟩, ⟨S1, b⟩] concatenates_S1_S1_S2_d0) ?_ ?_
  all_goals after_reads_simp

/-- The second placement's two index words. -/
theorem second_words (V : Valuation τ sig (Elt Ideal)) :
    concatenate S2 0 [⟨S1, StableHlo.upto hostOps0 V 16 (Proc.tc.devRef main_v9)⟩, ⟨S1, StableHlo.upto hostOps0 V 16 (Proc.tc.devRef main_v10)⟩]
      concatenates_S1_S1_S2_d0 = words 16#32 512#32 := by
  refine congrArg₂ (fun (a b : S1.Idx → BitVec 32) => concatenate S2 0 [⟨S1, a⟩, ⟨S1, b⟩] concatenates_S1_S1_S2_d0) ?_ ?_
  all_goals after_reads_simp

theorem narrow_up (x : Vec Ideal S128x1024 .f32) : (truncf (F := Ideal) .bf16 x bitsLt_bf16_f32 : S128x1024.Idx → EReal) = x := rfl
theorem left_over (x : Vec Ideal S128x1024 .f32) :
    (truncf (F := Ideal) .bf16 (subf (F := Ideal) x (extf (F := Ideal) .f32 (truncf (F := Ideal) .bf16 x bitsLt_bf16_f32) bitsLt_bf16_f32)) bitsLt_bf16_f32 : S128x1024.Idx → EReal)
      = fun y => (x y - x y : EReal) := rfl

theorem scattered (w : Vec Ideal S2x16x512 .f32) :
    (Host.scatter scatter_S128x1024_S2_S16x512_01_n_01_0 (fun _ b => b)
      (Host.scatter scatter_S128x1024_S2_S16x512_01_n_01_0 (fun _ b => b) (broadcastInDim S128x1024 ![] bcast_S_S128x1024 (constant (F := Ideal) S_ .f32 0x00000000#32))
        (words 0#32 0#32) (fun i => shapeCast main_v2.ty.shape (extractStridedSlice S1x16x512 ![0, 0, 0] w slices_S2x16x512_S1x16x512_0_0_0) shapeCasts_S1x16x512_S16x512 i))
      (words 16#32 512#32) (fun i => shapeCast main_v8.ty.shape (extractStridedSlice S1x16x512 ![1, 0, 0] w slices_S2x16x512_S1x16x512_1_0_0) shapeCasts_S1x16x512_S16x512 i) : Vec Ideal S128x1024 .f32)
      = padded w := rfl

/-- The padded up projection the first kernel is handed, in two halves, the second what is left of the first. -/
theorem host_up (r : Fin 128) (k : Fin 2048) :
    ((V1 m ρ c main_v20 : _) : Vec Ideal S128x2048 .bf16) (ix2 r k)
      = if h : k.val < 1024 then padded (argOf m c main_arg2) (ix2 r ⟨k.val, h⟩)
        else padded (argOf m c main_arg2) (ix2 r ⟨k.val - 1024, by omega⟩) - padded (argOf m c main_arg2) (ix2 r ⟨k.val - 1024, by omega⟩) := by
  have e : ((V1 m ρ c main_v20 : _) : Vec Ideal S128x2048 .bf16)
      = concatenate S128x2048 1 [⟨S128x1024, padded (argOf m c main_arg2)⟩,
          ⟨S128x1024, fun y => padded (argOf m c main_arg2) y - padded (argOf m c main_arg2) y⟩] concatenates_S128x1024_S128x1024_S128x2048_d1 := by
    show StableHlo.after hostOps0 (W0 m ρ c) (Proc.devRef .tc main_v20) = _
    have ea : argOf m c main_arg2 = W0 m ρ c (Proc.devRef .tc main_arg2) := rfl
    rw [ea]
    generalize W0 m ρ c = V
    after_reads_simp
    refine congrArg₂ (fun (a b : S128x1024.Idx → Elt Ideal .bf16) => concatenate S128x2048 1 [⟨S128x1024, a⟩, ⟨S128x1024, b⟩] concatenates_S128x1024_S128x1024_S128x2048_d1) ?_ ?_
    · after_reads_simp
      rw [first_words V, second_words V]
      refine (narrow_up _).trans ?_
      exact scattered (V (Proc.devRef .tc main_arg2))
    · after_reads_simp
      rw [first_words V, second_words V]
      refine (left_over _).trans ?_
      refine congrArg (fun (x : Vec Ideal S128x1024 .f32) => (fun y => (x y - x y : EReal) : S128x1024.Idx → EReal)) ?_
      exact scattered (V (Proc.devRef .tc main_arg2))
  rw [e]
  by_cases h : k.val < 1024
  · rw [dif_pos h]
    exact concatenate_pair_apply_left (s₁ := S128x1024) (s₂ := S128x1024) 1 _ _ _ (ix2 r k) rfl (ix2 r ⟨k.val, h⟩) (fun b => by
      match b with
      | ⟨0, _⟩ => rfl
      | ⟨1, _⟩ => rfl)
  · rw [dif_neg h]
    exact concatenate_pair_apply_right (s₁ := S128x1024) (s₂ := S128x1024) 1 _ _ _ (ix2 r k) rfl rfl (ix2 r ⟨k.val - 1024, by omega⟩) (fun b hb => by
      match b with
      | ⟨0, _⟩ => rfl
      | ⟨1, _⟩ => exact absurd rfl hb) (by show k.val - 1024 + 1024 = k.val; omega)

/-- The biases the first kernel is handed: the two directions' beside each other. -/
theorem host_bias (k : Fin 1024) : ((V1 m ρ c main_v13 : _) : Vec Ideal S1x1024 .f32) (ix2 0 k)
    = (argOf m c main_arg3 : Vec Ideal S2x512 .f32) (ix2 ⟨k.val / 512, by omega⟩ ⟨k.val % 512, by omega⟩) := by
  have e : ((V1 m ρ c main_v13 : _) : Vec Ideal S1x1024 .f32) = shapeCast S1x1024 (argOf m c main_arg3 : Vec Ideal S2x512 .f32) shapeCasts_S2x512_S1x1024 := by
    show StableHlo.after hostOps0 (W0 m ρ c) (Proc.devRef .tc main_v13) = _
    have ea : argOf m c main_arg3 = W0 m ρ c (Proc.devRef .tc main_arg3) := rfl
    rw [ea]
    generalize W0 m ρ c = V
    after_reads_simp
    rfl
  rw [e]
  refine shapeCast_apply _ _ _ _ ?_
  refine (Shape.rowMajor_val_two (d := ![2, 512]) _).trans (Eq.trans ?_ (Shape.rowMajor_val_two (d := ![1, 1024]) _).symm)
  show k.val / 512 * 512 + k.val % 512 = 0 * 1024 + k.val
  omega

/-- The biases of the tiles, the same along a row. -/
theorem host_tile_bias (g : Fin 8) (t d : Fin 128) : ((V1 m ρ c main_v15 : _) : Vec Ideal S8x128x128 .f32) (ix3 g t d)
    = (argOf m c main_arg11 : Vec Ideal S8x128 .f32) (ix2 g t) := by
  have e : ((V1 m ρ c main_v15 : _) : Vec Ideal S8x128x128 .f32)
      = broadcastInDim S8x128x128 ![0, 1, 2] bcast_S8x128x1_S8x128x128_0_1_2 (broadcastInDim S8x128x1 ![0, 1] bcast_S8x128_S8x128x1_0_1 (argOf m c main_arg11 : Vec Ideal S8x128 .f32)) := by
    show StableHlo.after hostOps0 (W0 m ρ c) (Proc.devRef .tc main_v15) = _
    have ea : argOf m c main_arg11 = W0 m ρ c (Proc.devRef .tc main_arg11) := rfl
    rw [ea]
    generalize W0 m ρ c = V
    after_reads_simp
  rw [e]
  exact congrArg (argOf m c main_arg11 : Vec Ideal S8x128 .f32) (idx2 rfl rfl)

/-- An argument the second call's host operations read. -/
theorem arg_between (a : Ref sig .tc) (ha : a ∈ argRefs) : W2 m ρ c (Proc.devRef .tc a) = argOf m c a := W2_args m ρ c a ha

/-- The tiles' weights as the second kernel is handed them. -/
theorem host_tiles : ((V3 m ρ c main_v22 : _) : S4x8x128x128.Idx → EReal) = (argOf m c main_arg10 : Vec Ideal S4x8x128x128 .f32) := by
  show StableHlo.after hostOps1 (W2 m ρ c) (Proc.devRef .tc main_v22) = _
  rw [← arg_between m ρ c main_arg10 (by decide)]
  generalize W2 m ρ c = V
  after_reads_simp
  rfl

/-- The gain as a row. -/
theorem host_row23 (k : Fin 1024) : ((V3 m ρ c main_v23 : _) : Vec Ideal S1x1024 .f32) (ix2 0 k)
    = (argOf m c main_arg7 : Vec Ideal S1024 .f32) (ix1 k) := by
  have e : ((V3 m ρ c main_v23 : _) : Vec Ideal S1x1024 .f32) = shapeCast S1x1024 (argOf m c main_arg7 : Vec Ideal S1024 .f32) shapeCasts_S1024_S1x1024 := by
    show StableHlo.after hostOps1 (W2 m ρ c) (Proc.devRef .tc main_v23) = _
    rw [← arg_between m ρ c main_arg7 (by decide)]
    generalize W2 m ρ c = V
    after_reads_simp
    rfl
  rw [e]
  exact shapeCast_a_1a_apply _ _ _ _

/-- The layer norm's gain as a row. -/
theorem host_row24 (k : Fin 1024) : ((V3 m ρ c main_v24 : _) : Vec Ideal S1x1024 .f32) (ix2 0 k)
    = (argOf m c main_arg8 : Vec Ideal S1024 .f32) (ix1 k) := by
  have e : ((V3 m ρ c main_v24 : _) : Vec Ideal S1x1024 .f32) = shapeCast S1x1024 (argOf m c main_arg8 : Vec Ideal S1024 .f32) shapeCasts_S1024_S1x1024 := by
    show StableHlo.after hostOps1 (W2 m ρ c) (Proc.devRef .tc main_v24) = _
    rw [← arg_between m ρ c main_arg8 (by decide)]
    generalize W2 m ρ c = V
    after_reads_simp
    rfl
  rw [e]
  exact shapeCast_a_1a_apply _ _ _ _

/-- The layer norm's shift as a row. -/
theorem host_row25 (k : Fin 1024) : ((V3 m ρ c main_v25 : _) : Vec Ideal S1x1024 .f32) (ix2 0 k)
    = (argOf m c main_arg9 : Vec Ideal S1024 .f32) (ix1 k) := by
  have e : ((V3 m ρ c main_v25 : _) : Vec Ideal S1x1024 .f32) = shapeCast S1x1024 (argOf m c main_arg9 : Vec Ideal S1024 .f32) shapeCasts_S1024_S1x1024 := by
    show StableHlo.after hostOps1 (W2 m ρ c) (Proc.devRef .tc main_v25) = _
    rw [← arg_between m ρ c main_arg9 (by decide)]
    generalize W2 m ρ c = V
    after_reads_simp
    rfl
  rw [e]
  exact shapeCast_a_1a_apply _ _ _ _

end Cert.Proof.Mixing

end
-- ==== Proof.Mixing.Algebra.lean ====
/-
  The mixing on the extended reals with real decays: the two halves of the kernel's product, taken from a reference row,
  are the two chunks' masked products.
-/
module

public import proofs.«01_k».proof.Proof.Mixing.Out1

@[expose] public section

noncomputable section

namespace Cert.Proof.Mixing

open Idealize.ShloMosaic hiding ix1 ix2 ix3 ix4 ix5 eq_ix1 eq_ix2 eq_ix3 eq_ix4 eq_ix5
open Idealize.ShloMosaic.ValueIdx
open scoped BigOperators

/-- The sum of the decays up to a row, and from a row on. -/
def below (g : Fin 256 → ℝ) (i : Fin 256) : ℝ := ∑ j : Fin 256, if j.val ≤ i.val then g j else 0
def above (g : Fin 256 → ℝ) (i : Fin 256) : ℝ := ∑ j : Fin 256, if i.val ≤ j.val then g j else 0

/-- One direction's chunk: what the state adds, and the masked product. -/
def chunk (keep : Fin 256 → Fin 256 → Prop) [∀ i j, Decidable (keep i j)] (q k : Fin 256 → Fin 64 → EReal) (B : Fin 256 → Fin 64 → ℝ)
    (v : Fin 256 → Fin 128 → EReal) (s : Fin 128 → Fin 64 → EReal) (i : Fin 256) (c : Fin 128) : EReal :=
  (∑ d : Fin 64, q i d * ((Real.exp (B i d) : ℝ) : EReal) * s c d)
    + ∑ j : Fin 256, (∑ d : Fin 64, q i d * k j d * Ideal.exp (if keep i j then ((B i d - B j d : ℝ) : EReal) else ⊥)) * v j c

theorem twice_mul (a v : EReal) : (a + a) * v = a * v + a * v := by
  rcases le_total 0 a with h | h
  · exact EReal.right_distrib_of_nonneg h h
  · have h' : 0 ≤ -a := EReal.neg_nonneg.mpr h
    have e : a + a = -(-a + -a) := by
      induction a with
      | bot => simp
      | top => simp at h
      | coe r => norm_cast; ring
    rw [e, EReal.neg_mul, EReal.right_distrib_of_nonneg h' h', EReal.neg_mul]
    generalize a * v = b
    induction b with
    | bot => simp
    | top => simp
    | coe r => norm_cast; ring

/-- The factors taken from a reference row multiply to the decay between the two rows. -/
theorem from_reference (q k : EReal) (x y r : ℝ) :
    q * ((Real.exp (x - r) : ℝ) : EReal) * (k * ((Real.exp (-(y - r)) : ℝ) : EReal)) = q * k * ((Real.exp (x - y) : ℝ) : EReal) := by
  rw [mul_mul_mul_comm, ← EReal.coe_mul, ← Real.exp_add, show x - r + -(y - r) = x - y by ring]

theorem masked (keep : Prop) [Decidable keep] (q k : Fin 64 → EReal) (x y r : Fin 64 → ℝ) :
    (if keep then ∑ d : Fin 64, q d * ((Real.exp (x d - r d) : ℝ) : EReal) * (k d * ((Real.exp (-(y d - r d)) : ℝ) : EReal)) else 0)
      = ∑ d : Fin 64, q d * k d * Ideal.exp (if keep then ((x d - y d : ℝ) : EReal) else ⊥) := by
  by_cases h : keep
  · simp only [if_pos h]
    exact Finset.sum_congr rfl fun d _ => from_reference _ _ _ _ _
  · simp only [if_neg h]
    exact (Finset.sum_eq_zero fun d _ => mul_zero _).symm

/-- The two halves' sum against a value: off the diagonal one is absent, on it both are equal. -/
theorem halves (i j : Fin 256) (a b v : EReal) (hd : i = j → a = b) :
    ((if j.val ≤ i.val then a else 0) + (if i.val ≤ j.val then b else 0)) * v
      = (if j.val ≤ i.val then a else 0) * v + (if i.val ≤ j.val then b else 0) * v := by
  rcases lt_trichotomy i.val j.val with h | h | h
  · rw [if_neg (by omega), if_pos (by omega), zero_add, zero_mul, zero_add]
  · rw [if_pos (by omega), if_pos (by omega), hd (Fin.ext h), twice_mul]
  · rw [if_pos (by omega), if_neg (by omega), add_zero, zero_mul, add_zero]

/-- A row of the kernel's attention is the sum of the two directions' chunks. -/
theorem mixed_chunks (q k : Fin 256 → Fin 64 → EReal) (A B : Fin 256 → Fin 64 → ℝ) (a b : Fin 64 → ℝ)
    (v : Fin 256 → Fin 128 → EReal) (s t : Fin 128 → Fin 64 → EReal) (i : Fin 256) (c : Fin 128) :
    mixed (fun i d => q i d * ((Real.exp (A i d - a d) : ℝ) : EReal)) (fun j d => k j d * ((Real.exp (-(A j d - a d)) : ℝ) : EReal))
      (fun i d => q i d * ((Real.exp (B i d - b d) : ℝ) : EReal)) (fun j d => k j d * ((Real.exp (-(B j d - b d)) : ℝ) : EReal))
      (fun i d => q i d * ((Real.exp (A i d) : ℝ) : EReal)) (fun i d => q i d * ((Real.exp (B i d) : ℝ) : EReal)) v s t i c
      = chunk (fun i j => j.val ≤ i.val) q k A v s i c + chunk (fun i j => i.val ≤ j.val) q k B v t i c := by
  unfold mixed chunk
  rw [Finset.sum_congr rfl fun j _ => halves i j _ _ (v j c) (fun h => by
    subst h
    refine Finset.sum_congr rfl fun d _ => ?_
    rw [from_reference, from_reference, sub_self, sub_self])]
  rw [Finset.sum_add_distrib]
  simp only [masked]
  generalize (∑ j : Fin 256, (∑ d : Fin 64, q i d * k j d * Ideal.exp (if j.val ≤ i.val then ((A i d - A j d : ℝ) : EReal) else ⊥)) * v j c) = P
  generalize (∑ j : Fin 256, (∑ d : Fin 64, q i d * k j d * Ideal.exp (if i.val ≤ j.val then ((B i d - B j d : ℝ) : EReal) else ⊥)) * v j c) = Q
  generalize (∑ d : Fin 64, q i d * ((Real.exp (A i d) : ℝ) : EReal) * s c d) = X
  generalize (∑ d : Fin 64, q i d * ((Real.exp (B i d) : ℝ) : EReal) * t c d) = Y
  rw [add_comm X P, add_comm Y Q, add_add_add_comm, add_assoc]

/-- A sum of terms at most `5/8` that vanish outside half of the rows is at most 80. -/
theorem half_bound (t : Fin 256 → ℝ) (P : Fin 256 → Prop) [DecidablePred P] (hc : (Finset.univ.filter P).card = 128)
    (h : ∀ j, |t j| ≤ if P j then 5 / 8 else 0) : |∑ j : Fin 256, t j| ≤ 80 := by
  refine (Finset.abs_sum_le_sum_abs _ _).trans ((Finset.sum_le_sum fun j _ => h j).trans ?_)
  rw [← Finset.sum_filter, Finset.sum_const, hc]
  norm_num

theorem low_card : (Finset.univ.filter (fun j : Fin 256 => j.val ≤ 127)).card = 128 := by decide
theorem high_card : (Finset.univ.filter (fun j : Fin 256 => ¬ j.val ≤ 127)).card = 128 := by decide

theorem below_bound (g : Fin 256 → ℝ) (h : ∀ j, |g j| ≤ 5 / 8) (i : Fin 256) : |below g i - below g 127| ≤ 80 := by
  unfold below
  rw [← Finset.sum_sub_distrib]
  have e : ((127 : Fin 256).val) = 127 := rfl
  rcases Nat.lt_or_ge 127 i.val with hi | hi
  · refine half_bound _ (fun j => ¬ j.val ≤ 127) high_card fun j => ?_
    rw [e]
    by_cases hj : j.val ≤ 127
    · simp [hj, show j.val ≤ i.val by omega]
    · by_cases hk : j.val ≤ i.val
      · simpa [hj, hk] using h j
      · simp only [hj, hk]; norm_num
  · refine half_bound _ (fun j => j.val ≤ 127) low_card fun j => ?_
    rw [e]
    by_cases hj : j.val ≤ 127
    · by_cases hk : j.val ≤ i.val
      · simp only [hj, hk]; norm_num
      · simpa [hj, hk] using h j
    · simp [hj, show ¬ j.val ≤ i.val by omega]

theorem above_bound (g : Fin 256 → ℝ) (h : ∀ j, |g j| ≤ 5 / 8) (i : Fin 256) : |above g i - above g 128| ≤ 80 := by
  unfold above
  rw [← Finset.sum_sub_distrib]
  have e : ((128 : Fin 256).val) = 128 := rfl
  rcases Nat.lt_or_ge i.val 128 with hi | hi
  · refine half_bound _ (fun j => j.val ≤ 127) low_card fun j => ?_
    rw [e]
    by_cases hj : j.val ≤ 127
    · by_cases hk : i.val ≤ j.val
      · simpa [hj, hk, show ¬ 128 ≤ j.val by omega] using h j
      · simp only [hj, hk, show ¬ 128 ≤ j.val by omega]; norm_num
    · simp [hj, show i.val ≤ j.val by omega, show 128 ≤ j.val by omega]
  · refine half_bound _ (fun j => ¬ j.val ≤ 127) high_card fun j => ?_
    rw [e]
    by_cases hj : j.val ≤ 127
    · simp [hj, show ¬ i.val ≤ j.val by omega, show ¬ 128 ≤ j.val by omega]
    · by_cases hk : i.val ≤ j.val
      · simp only [hj, hk, show 128 ≤ j.val by omega]; norm_num
      · simpa [hj, hk, show 128 ≤ j.val by omega] using h j

/-- A real sum is the same sum of extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The decay a gate's input gives: a sixteenth of the logarithm of its sigmoid. -/
def decay (z : ℝ) : ℝ := -(max (-z) 0 + Real.log (1 + Real.exp (-|z|))) / 16

theorem decay_bound (z : ℝ) (h : -9 ≤ z) : |decay z| ≤ 5 / 8 := by
  have h1 : 0 ≤ max (-z) 0 := le_max_right _ _
  have h2 : max (-z) 0 ≤ 9 := max_le (by linarith) (by norm_num)
  have h3 : 0 ≤ Real.log (1 + Real.exp (-|z|)) := Real.log_nonneg (by have := Real.exp_pos (-|z|); linarith)
  have h4 : Real.log (1 + Real.exp (-|z|)) ≤ 1 := by
    have e : Real.exp (-|z|) ≤ 1 := Real.exp_le_one_iff.mpr (by have := abs_nonneg z; linarith)
    have p := Real.exp_pos (-|z|)
    have := Real.log_le_sub_one_of_pos (show 0 < 1 + Real.exp (-|z|) by linarith)
    linarith
  unfold decay
  rw [abs_le]
  constructor <;> linarith

theorem coe_max (x y : ℝ) : max (x : EReal) (y : EReal) = ((max x y : ℝ) : EReal) := (EReal.coe_strictMono.monotone.map_max).symm

theorem abs_at (x : ℝ) : max (x : EReal) (-(x : EReal)) = ((|x| : ℝ) : EReal) := by
  rw [← EReal.coe_neg, coe_max]; rfl

theorem log1p_exp (x : ℝ) : Ideal.log1p (Ideal.exp (x : EReal)) = ((Real.log (1 + Real.exp x) : ℝ) : EReal) := by
  have p := Real.exp_pos x
  show Ideal.log (1 + ((Real.exp x : ℝ) : EReal)) = _
  rw [show (1 : EReal) + ((Real.exp x : ℝ) : EReal) = ((1 + Real.exp x : ℝ) : EReal) by rw [EReal.coe_add]; rfl]
  show (if 1 + Real.exp x ≤ 0 then (⊥ : EReal) else _) = _
  rw [if_neg (by linarith)]

theorem sixteenth : Ideal.ofBits .f32 0x3D800000#32 = ((1 / 16 : ℝ) : EReal) := by
  simp [Ideal.ofBits, Ideal.ieee, -EReal.coe_mul]
  norm_num
theorem sixteen : Ideal.ofBits .f32 0x41800000#32 = ((16 : ℝ) : EReal) := by
  simp [Ideal.ofBits, Ideal.ieee, -EReal.coe_mul]
  norm_num
theorem eighty : Ideal.ofBits .f32 0x42A00000#32 = ((80 : ℝ) : EReal) := by
  simp [Ideal.ofBits, Ideal.ieee, -EReal.coe_mul]
  norm_num

/-- The kernel's form of the decay. -/
theorem decay_kernel (z : ℝ) :
    (0 - (max (0 - (z : EReal)) 0 + Ideal.log1p (Ideal.exp (0 - max (z : EReal) (-(z : EReal)))))) * ((1 / 16 : ℝ) : EReal) = ((decay z : ℝ) : EReal) := by
  rw [abs_at, zero_sub, zero_sub, zero_sub, ← EReal.coe_neg, ← EReal.coe_neg, log1p_exp, show (0 : EReal) = ((0 : ℝ) : EReal) from rfl, coe_max,
    ← EReal.coe_add, ← EReal.coe_neg, ← EReal.coe_mul]
  unfold decay
  congr 1
  ring

/-- The reference's form of the decay. -/
theorem decay_reference (z : ℝ) :
    Ideal.div (-(max (-(z : EReal)) 0 + Ideal.log1p (Ideal.exp (-(max (-(z : EReal) - 0) (-(-(z : EReal) - 0))))))) ((16 : ℝ) : EReal) = ((decay z : ℝ) : EReal) := by
  rw [sub_zero, ← EReal.coe_neg, abs_at, ← EReal.coe_neg, log1p_exp, show (0 : EReal) = ((0 : ℝ) : EReal) from rfl, coe_max,
    ← EReal.coe_add, ← EReal.coe_neg, abs_neg]
  unfold Ideal.div
  rw [if_neg (by norm_num), ← EReal.coe_inv, ← EReal.coe_mul]
  unfold decay
  congr 1

end Cert.Proof.Mixing

end
-- ==== Proof.Mixing.Out0.lean ====
/-
  The first kernel's prepared arrays, at an index: the queries and keys times the exponentials of the summed decays.
-/
module

public import proofs.«01_k».proof.Proof.Mixing.Algebra

@[expose] public section

noncomputable section

namespace Cert.Proof.Mixing

open Idealize.ShloMosaic hiding ix1 ix2 ix3 ix4 ix5 eq_ix1 eq_ix2 eq_ix3 eq_ix4 eq_ix5
open Idealize.ShloMosaic.ValueIdx
open Cert.MixerIdeal Cert.MixerIdeal.Gen
open scoped BigOperators

/-- A slice of a matrix, at an index. -/
theorem slice2 {α : Type} {M N M' N' : Nat} (a b : Nat) (x : (⟨2, ![M, N]⟩ : Shape).Idx → α) (h : (⟨2, ![M, N]⟩ : Shape).Slices ![a, b] ⟨2, ![M', N']⟩)
    (i : Fin M') (j : Fin N') (i' : Fin M) (j' : Fin N) (hi : i'.val = a + i.val) (hj : j'.val = b + j.val) :
    extractStridedSlice ⟨2, ![M', N']⟩ ![a, b] x h (ix2 i j) = x (ix2 i' j') := by
  refine extractStridedSlice_apply ![a, b] x h (ix2 i j) (ix2 i' j') fun k => ?_
  match k with
  | ⟨0, _⟩ => exact hi
  | ⟨1, _⟩ => exact hj

/-- The row and the column numbers of the block's square. -/
abbrev rowNo : IVec S256x256 32 := iota .tc S256x256 32 [0] iota_S256x256_d0_w32
abbrev colNo : IVec S256x256 32 := iota .tc S256x256 32 [1] iota_S256x256_d1_w32

theorem bit_value (p : Prop) [Decidable p] :
    (((BitVec.setWidth 32 (BitVec.ofBool (decide p))).toInt : ℝ) : EReal) = if p then 1 else 0 := by
  by_cases h : p
  · simp [h]
  · simp [h]

/-- The triangle of ones as the products take it. -/
theorem lower_ones (i j : Fin 256) :
    (truncf .bf16 (sitofp (F := Ideal) .f32 (extui 32 (cmpi .sle colNo rowNo) natLt_1_32)) bitsLt_bf16_f32 : FVec Ideal S256x256 .bf16) (ix2 i j)
      = if j.val ≤ i.val then 1 else 0 := by
  have := i.isLt
  have := j.isLt
  have e : cmpi .sle colNo rowNo (ix2 i j) = BitVec.ofBool (decide (j.val ≤ i.val)) :=
    (congrArg₂ (IntOp.cmpi .sle) (iota_single_apply _ _ _ _ _ _) (iota_single_apply _ _ _ _ _ _)).trans
      (WordCmp.cmpi_sle_ofNat (show j.val < 2 ^ 31 by omega) (show i.val < 2 ^ 31 by omega))
  refine Eq.trans ?_ (bit_value (j.val ≤ i.val))
  show (((BitVec.setWidth 32 (cmpi .sle colNo rowNo (ix2 i j))).toInt : ℝ) : EReal) = _
  rw [e]

theorem upper_ones (i j : Fin 256) :
    (truncf .bf16 (sitofp (F := Ideal) .f32 (extui 32 (cmpi .sge colNo rowNo) natLt_1_32)) bitsLt_bf16_f32 : FVec Ideal S256x256 .bf16) (ix2 i j)
      = if i.val ≤ j.val then 1 else 0 := by
  have := i.isLt
  have := j.isLt
  have e : cmpi .sge colNo rowNo (ix2 i j) = BitVec.ofBool (decide (i.val ≤ j.val)) :=
    (congrArg₂ (IntOp.cmpi .sge) (iota_single_apply _ _ _ _ _ _) (iota_single_apply _ _ _ _ _ _)).trans
      (WordCmp.cmpi_sge_ofNat (show j.val < 2 ^ 31 by omega) (show i.val < 2 ^ 31 by omega))
  refine Eq.trans ?_ (bit_value (i.val ≤ j.val))
  show (((BitVec.setWidth 32 (cmpi .sge colNo rowNo (ix2 i j))).toInt : ℝ) : EReal) = _
  rw [e]

/-- The columns of the two directions among the decays. -/
def fwd (c : Fin 512) : Fin 1024 := ⟨c.val, by omega⟩
def bwd (c : Fin 512) : Fin 1024 := ⟨512 + c.val, by omega⟩

/-- A triangle of ones against real decays and against what is left of them sums the decays. -/
theorem summed (w : FVec Ideal S256x256 .bf16) (x y : FVec Ideal S256x512 .bf16) (G : Fin 256 → ℝ) (P : Fin 256 → Fin 256 → Prop) [∀ i j, Decidable (P i j)]
    (i : Fin 256) (c : Fin 512) (hw : ∀ j, w (ix2 i j) = if P i j then 1 else 0) (hx : ∀ j, x (ix2 j c) = ((G j : ℝ) : EReal)) (hy : ∀ j, y (ix2 j c) = 0) :
    (addf (matmul dot_S256x256_S256x512_S256x512_1_0_0_1_n_n none w x (constant S256x512 .f32 0x00000000#32))
      (matmul dot_S256x256_S256x512_S256x512_1_0_0_1_n_n none w y (constant S256x512 .f32 0x00000000#32)) : FVec Ideal S256x512 .f32) (ix2 i c)
      = ((∑ j : Fin 256, if P i j then G j else 0 : ℝ) : EReal) := by
  show FloatOps.matmul (F := Ideal) (φ₁ := .bf16) (φ₂ := .bf16) (DotDims.plain 256 256 512) none w x (constant S256x512 .f32 0x00000000#32) (ix2 i c)
    + FloatOps.matmul (F := Ideal) (φ₁ := .bf16) (φ₂ := .bf16) (DotDims.plain 256 256 512) none w y (constant S256x512 .f32 0x00000000#32) (ix2 i c) = _
  rw [product_cols, product_cols, coe_sum]
  simp only [hx, hy, mul_zero, Finset.sum_const_zero, add_zero, hw]
  refine Finset.sum_congr rfl fun j _ => ?_
  by_cases h : P i j <;> simp [h]

theorem sub_self_real (g : ℝ) : ((g : ℝ) : EReal) - ((g : ℝ) : EReal) = 0 := by
  rw [← EReal.coe_sub, sub_self]; rfl

section
variable (z : FVec Ideal S256x1024 .f32) (G : Fin 256 → Fin 1024 → ℝ) (hG : ∀ i c, z (ix2 i c) = ((G i c : ℝ) : EReal))
include hG

theorem pay6_at (i : Fin 256) (c : Fin 512) : k0_pay6 z rowNo colNo (ix2 i c) = ((below (fun j => G j (fwd c)) i : ℝ) : EReal) := by
  have hx : ∀ j : Fin 256, (extractStridedSlice S256x512 ![0, 0] z slices_S256x1024_o0_0_S256x512) (ix2 j c) = ((G j (fwd c) : ℝ) : EReal) := fun j =>
    (slice2 0 0 z slices_S256x1024_o0_0_S256x512 j c j (fwd c) (by omega) (show c.val = 0 + c.val by omega)).trans (hG _ _)
  refine summed _ _ _ (fun j => G j (fwd c)) (fun i j => j.val ≤ i.val) i c (lower_ones i) hx (fun j => ?_)
  show (extractStridedSlice S256x512 ![0, 0] z slices_S256x1024_o0_0_S256x512) (ix2 j c) - (extractStridedSlice S256x512 ![0, 0] z slices_S256x1024_o0_0_S256x512) (ix2 j c) = 0
  rw [hx, sub_self_real]

theorem pay23_at (i : Fin 256) (c : Fin 512) : k0_pay23 z rowNo colNo (ix2 i c) = ((above (fun j => G j (bwd c)) i : ℝ) : EReal) := by
  have hx : ∀ j : Fin 256, (extractStridedSlice S256x512 ![0, 512] z slices_S256x1024_o0_512_S256x512) (ix2 j c) = ((G j (bwd c) : ℝ) : EReal) := fun j =>
    (slice2 0 512 z slices_S256x1024_o0_512_S256x512 j c j (bwd c) (by omega) rfl).trans (hG _ _)
  refine summed _ _ _ (fun j => G j (bwd c)) (fun i j => i.val ≤ j.val) i c (upper_ones i) hx (fun j => ?_)
  show (extractStridedSlice S256x512 ![0, 512] z slices_S256x1024_o0_512_S256x512) (ix2 j c) - (extractStridedSlice S256x512 ![0, 512] z slices_S256x1024_o0_512_S256x512) (ix2 j c) = 0
  rw [hx, sub_self_real]

theorem pay8_at (i : Fin 256) (c : Fin 512) :
    k0_pay8 z rowNo colNo (ix2 i c) = ((below (fun j => G j (fwd c)) i - below (fun j => G j (fwd c)) 127 : ℝ) : EReal) := by
  have h : broadcastTo S256x512 (extractStridedSlice S1x512 ![127, 0] (k0_pay6 z rowNo colNo) slices_S256x512_o127_0_S1x512) broadcasts_S1x512_S256x512 (ix2 i c)
      = ((below (fun j => G j (fwd c)) 127 : ℝ) : EReal) := by
    rw [broadcastTo_1b_ab_apply]
    exact (slice2 127 0 (k0_pay6 z rowNo colNo) slices_S256x512_o127_0_S1x512 0 c 127 c rfl (show c.val = 0 + c.val by omega)).trans (pay6_at z G hG 127 c)
  show k0_pay6 z rowNo colNo (ix2 i c) - broadcastTo S256x512 (extractStridedSlice S1x512 ![127, 0] (k0_pay6 z rowNo colNo) slices_S256x512_o127_0_S1x512) broadcasts_S1x512_S256x512 (ix2 i c) = _
  rw [h, pay6_at z G hG, ← EReal.coe_sub]

theorem pay25_at (i : Fin 256) (c : Fin 512) :
    k0_pay25 z rowNo colNo (ix2 i c) = ((above (fun j => G j (bwd c)) i - above (fun j => G j (bwd c)) 128 : ℝ) : EReal) := by
  have h : broadcastTo S256x512 (extractStridedSlice S1x512 ![128, 0] (k0_pay23 z rowNo colNo) slices_S256x512_o128_0_S1x512) broadcasts_S1x512_S256x512 (ix2 i c)
      = ((above (fun j => G j (bwd c)) 128 : ℝ) : EReal) := by
    rw [broadcastTo_1b_ab_apply]
    exact (slice2 128 0 (k0_pay23 z rowNo colNo) slices_S256x512_o128_0_S1x512 0 c 128 c rfl (show c.val = 0 + c.val by omega)).trans (pay23_at z G hG 128 c)
  show k0_pay23 z rowNo colNo (ix2 i c) - broadcastTo S256x512 (extractStridedSlice S1x512 ![128, 0] (k0_pay23 z rowNo colNo) slices_S256x512_o128_0_S1x512) broadcasts_S1x512_S256x512 (ix2 i c) = _
  rw [h, pay23_at z G hG, ← EReal.coe_sub]

end

/-- A clamp at 80 leaves what is at most 80. -/
theorem clamped (x : ℝ) (h : x ≤ 80) : Ideal.exp (min ((x : ℝ) : EReal) (Ideal.ofBits .f32 0x42A00000#32)) = ((Real.exp x : ℝ) : EReal) := by
  rw [eighty, min_eq_left (EReal.coe_le_coe_iff.mpr h)]
  rfl

theorem clamped_neg (x : ℝ) (h : -80 ≤ x) :
    Ideal.exp (min (Ideal.ofBits .f32 0x00000000#32 - ((x : ℝ) : EReal)) (Ideal.ofBits .f32 0x42A00000#32)) = ((Real.exp (-x) : ℝ) : EReal) := by
  rw [Ideal.ofBits_zero_f32, zero_sub, ← EReal.coe_neg, clamped (-x) (by linarith)]

/-- The scale of the queries. -/
abbrev eighth : EReal := Ideal.ofBits .f32 0x3E000000#32

section
variable (x0 x1 : Vec Ideal S256x512 .bf16) (x2 : Vec Ideal S256x1024 .bf16) (x3 : Vec Ideal S256x128 .f32) (x4 : Vec Ideal S128x2048 .bf16)
  (x5 : Vec Ideal S1x1024 .f32) (G : Fin 256 → Fin 1024 → ℝ) (hG : ∀ i c, k0_pay43 x0 x1 x2 x3 x4 x5 (ix2 i c) = ((G i c : ℝ) : EReal))

theorem whole_load (x : Vec Ideal S256x512 .bf16) : View.ld x r0_4 = x := View.ld_unit_zero (S := S256x512) zeros2 _ x

include hG in
theorem out6 (hb : ∀ i c, |G i c| ≤ 5 / 8) (i : Fin 256) (c : Fin 512) : out0_6 x0 x1 x2 x3 x4 x5 (ix2 i c)
    = x0 (ix2 i c) * eighth * ((Real.exp (below (fun j => G j (fwd c)) i - below (fun j => G j (fwd c)) 127) : ℝ) : EReal) := by
  unfold out0_6
  refine (congrFun (View.canon_unit_zero (S := S256x512) zeros2 _ _) _).trans ?_
  show View.ld x0 r0_4 (ix2 i c) * eighth * Ideal.exp (min (k0_pay8 (k0_pay43 x0 x1 x2 x3 x4 x5) rowNo colNo (ix2 i c)) (Ideal.ofBits .f32 0x42A00000#32)) = _
  rw [whole_load, pay8_at _ G hG, clamped _ (abs_le.mp (below_bound _ (fun j => hb j (fwd c)) i)).2]

include hG in
theorem out7 (hb : ∀ i c, |G i c| ≤ 5 / 8) (i : Fin 256) (c : Fin 512) : out0_7 x0 x1 x2 x3 x4 x5 (ix2 i c)
    = x1 (ix2 i c) * ((Real.exp (-(below (fun j => G j (fwd c)) i - below (fun j => G j (fwd c)) 127)) : ℝ) : EReal) := by
  unfold out0_7
  refine (congrFun (View.canon_unit_zero (S := S256x512) zeros2 _ _) _).trans ?_
  show View.ld x1 r0_4 (ix2 i c) * Ideal.exp (min (Ideal.ofBits .f32 0x00000000#32 - k0_pay8 (k0_pay43 x0 x1 x2 x3 x4 x5) rowNo colNo (ix2 i c)) (Ideal.ofBits .f32 0x42A00000#32)) = _
  rw [whole_load, pay8_at _ G hG, clamped_neg _ (abs_le.mp (below_bound _ (fun j => hb j (fwd c)) i)).1]

include hG in
theorem out8 (i : Fin 256) (c : Fin 512) : out0_8 x0 x1 x2 x3 x4 x5 (ix2 i c)
    = x0 (ix2 i c) * eighth * ((Real.exp (below (fun j => G j (fwd c)) i) : ℝ) : EReal) := by
  unfold out0_8
  refine (congrFun (View.canon_unit_zero (S := S256x512) zeros2 _ _) _).trans ?_
  show View.ld x0 r0_4 (ix2 i c) * eighth * Ideal.exp (k0_pay6 (k0_pay43 x0 x1 x2 x3 x4 x5) rowNo colNo (ix2 i c)) = _
  rw [whole_load, pay6_at _ G hG]
  rfl

include hG in
theorem out9 (hb : ∀ i c, |G i c| ≤ 5 / 8) (i : Fin 256) (c : Fin 512) : out0_9 x0 x1 x2 x3 x4 x5 (ix2 i c)
    = x0 (ix2 i c) * eighth * ((Real.exp (above (fun j => G j (bwd c)) i - above (fun j => G j (bwd c)) 128) : ℝ) : EReal) := by
  unfold out0_9
  refine (congrFun (View.canon_unit_zero (S := S256x512) zeros2 _ _) _).trans ?_
  show View.ld x0 r0_4 (ix2 i c) * eighth * Ideal.exp (min (k0_pay25 (k0_pay43 x0 x1 x2 x3 x4 x5) rowNo colNo (ix2 i c)) (Ideal.ofBits .f32 0x42A00000#32)) = _
  rw [whole_load, pay25_at _ G hG, clamped _ (abs_le.mp (above_bound _ (fun j => hb j (bwd c)) i)).2]

include hG in
theorem out10 (hb : ∀ i c, |G i c| ≤ 5 / 8) (i : Fin 256) (c : Fin 512) : out0_10 x0 x1 x2 x3 x4 x5 (ix2 i c)
    = x1 (ix2 i c) * ((Real.exp (-(above (fun j => G j (bwd c)) i - above (fun j => G j (bwd c)) 128)) : ℝ) : EReal) := by
  unfold out0_10
  refine (congrFun (View.canon_unit_zero (S := S256x512) zeros2 _ _) _).trans ?_
  show View.ld x1 r0_4 (ix2 i c) * Ideal.exp (min (Ideal.ofBits .f32 0x00000000#32 - k0_pay25 (k0_pay43 x0 x1 x2 x3 x4 x5) rowNo colNo (ix2 i c)) (Ideal.ofBits .f32 0x42A00000#32)) = _
  rw [whole_load, pay25_at _ G hG, clamped_neg _ (abs_le.mp (above_bound _ (fun j => hb j (bwd c)) i)).1]

include hG in
theorem out11 (i : Fin 256) (c : Fin 512) : out0_11 x0 x1 x2 x3 x4 x5 (ix2 i c)
    = x0 (ix2 i c) * eighth * ((Real.exp (above (fun j => G j (bwd c)) i) : ℝ) : EReal) := by
  unfold out0_11
  refine (congrFun (View.canon_unit_zero (S := S256x512) zeros2 _ _) _).trans ?_
  show View.ld x0 r0_4 (ix2 i c) * eighth * Ideal.exp (k0_pay23 (k0_pay43 x0 x1 x2 x3 x4 x5) rowNo colNo (ix2 i c)) = _
  rw [whole_load, pay23_at _ G hG]
  rfl

end

/-- The gate's input in a block: the low rank decays through the padded up projection, plus the bias. -/
def gateIn (x3 : Vec Ideal S256x128 .f32) (x4 : Vec Ideal S128x2048 .bf16) (x5 : Vec Ideal S1x1024 .f32) (i : Fin 256) (c : Fin 1024) : EReal :=
  (((∑ r : Fin 128, x3 (ix2 i r) * x4 (ix2 r ⟨c.val, by omega⟩)) + ∑ r : Fin 128, x3 (ix2 i r) * x4 (ix2 r ⟨1024 + c.val, by omega⟩))
    + ∑ r : Fin 128, (x3 (ix2 i r) - x3 (ix2 i r)) * x4 (ix2 r ⟨c.val, by omega⟩)) + x5 (ix2 0 c)

/-- The block's decays, where the gate's input is real. -/
theorem decays_at (x0 x1 : Vec Ideal S256x512 .bf16) (x2 : Vec Ideal S256x1024 .bf16) (x3 : Vec Ideal S256x128 .f32) (x4 : Vec Ideal S128x2048 .bf16)
    (x5 : Vec Ideal S1x1024 .f32) (i : Fin 256) (c : Fin 1024) (z : ℝ) (hz : gateIn x3 x4 x5 i c = ((z : ℝ) : EReal)) :
    k0_pay43 x0 x1 x2 x3 x4 x5 (ix2 i c) = ((decay z : ℝ) : EReal) := by
  have e3 : View.ld x3 r0_0 = x3 := View.ld_unit_zero (S := S256x128) zeros2 _ x3
  have e4 : View.ld x4 r0_1 = x4 := View.ld_unit_zero (S := S128x2048) zeros2 _ x4
  have e5 : View.ld x5 r0_3 = x5 := View.ld_unit_zero (S := S1x1024) zeros2 _ x5
  have w0 : ∀ r : Fin 128, shapeCast S128x2048 x4 shapeCasts_S128x2048_S128x2048 = x4 := fun r => shapeCast_self (s := S128x2048) x4 _
  have w1 : ∀ r : Fin 128, (shapeCast S128x1024 (View.ld x4 r0_2) shapeCasts_S128x1024_S128x1024 : Vec Ideal S128x1024 .bf16) (ix2 r c) = x4 (ix2 r ⟨c.val, by omega⟩) := fun r =>
    (congrFun (shapeCast_self (s := S128x1024) (View.ld x4 r0_2) shapeCasts_S128x1024_S128x1024) (ix2 r c)).trans
      (congrArg x4 (idx2 (show 0 + 1 * r.val = r.val by omega) (show 0 + 1 * c.val = c.val by omega)))
  have m0 : ∀ (n : Nat) (hn : n + c.val < 2048) (hs : S256x2048.Slices ![0, n] S256x1024),
      extractStridedSlice S256x1024 ![0, n] (matmul (F := Ideal) (φ₁ := .bf16) (φ₂ := .bf16) dot_S256x128_S128x2048_S256x2048_1_0_0_1_n_n none (truncf .bf16 x3 bitsLt_bf16_f32)
        (shapeCast (α := Elt Ideal .bf16) S128x2048 x4 shapeCasts_S128x2048_S128x2048) (constant S256x2048 .f32 0x00000000#32)) hs (ix2 i c)
      = ∑ r : Fin 128, x3 (ix2 i r) * x4 (ix2 r ⟨n + c.val, hn⟩) := by
    intro n hn hs
    refine (slice2 0 n _ hs i c i ⟨n + c.val, hn⟩ (by omega) rfl).trans ?_
    rw [w0 0]
    exact product_cols x3 x4 i ⟨n + c.val, hn⟩
  have m1 : matmul (F := Ideal) (φ₁ := .bf16) (φ₂ := .bf16) dot_S256x128_S128x1024_S256x1024_1_0_0_1_n_n none (truncf .bf16 (subf x3 (extf .f32 (truncf .bf16 x3 bitsLt_bf16_f32) bitsLt_bf16_f32)) bitsLt_bf16_f32)
        (shapeCast (α := Elt Ideal .bf16) S128x1024 (View.ld x4 r0_2) shapeCasts_S128x1024_S128x1024) (constant S256x1024 .f32 0x00000000#32) (ix2 i c)
      = ∑ r : Fin 128, (x3 (ix2 i r) - x3 (ix2 i r)) * x4 (ix2 r ⟨c.val, by omega⟩) :=
    (product_cols (fun y => x3 y - x3 y) _ i c).trans (Finset.sum_congr rfl fun r _ => congrArg ((x3 (ix2 i r) - x3 (ix2 i r)) * ·) (w1 r))
  have b : broadcastTo (α := Elt Ideal .f32) S256x1024 (shapeCast S1x1024 x5 shapeCasts_S1x1024_S1x1024) broadcasts_S1x1024_S256x1024 (ix2 i c) = x5 (ix2 0 c) := by
    rw [broadcastTo_1b_ab_apply, shapeCast_self]
  have hz' : extractStridedSlice S256x1024 ![0, 0] (matmul (F := Ideal) (φ₁ := .bf16) (φ₂ := .bf16) dot_S256x128_S128x2048_S256x2048_1_0_0_1_n_n none (truncf .bf16 x3 bitsLt_bf16_f32)
        (shapeCast (α := Elt Ideal .bf16) S128x2048 x4 shapeCasts_S128x2048_S128x2048) (constant S256x2048 .f32 0x00000000#32)) slices_S256x2048_o0_0_S256x1024 (ix2 i c)
      + extractStridedSlice S256x1024 ![0, 1024] (matmul (F := Ideal) (φ₁ := .bf16) (φ₂ := .bf16) dot_S256x128_S128x2048_S256x2048_1_0_0_1_n_n none (truncf .bf16 x3 bitsLt_bf16_f32)
        (shapeCast (α := Elt Ideal .bf16) S128x2048 x4 shapeCasts_S128x2048_S128x2048) (constant S256x2048 .f32 0x00000000#32)) slices_S256x2048_o0_1024_S256x1024 (ix2 i c)
      + matmul (F := Ideal) (φ₁ := .bf16) (φ₂ := .bf16) dot_S256x128_S128x1024_S256x1024_1_0_0_1_n_n none (truncf .bf16 (subf x3 (extf .f32 (truncf .bf16 x3 bitsLt_bf16_f32) bitsLt_bf16_f32)) bitsLt_bf16_f32)
        (shapeCast (α := Elt Ideal .bf16) S128x1024 (View.ld x4 r0_2) shapeCasts_S128x1024_S128x1024) (constant S256x1024 .f32 0x00000000#32) (ix2 i c)
      + broadcastTo (α := Elt Ideal .f32) S256x1024 (shapeCast S1x1024 x5 shapeCasts_S1x1024_S1x1024) broadcasts_S1x1024_S256x1024 (ix2 i c) = ((z : ℝ) : EReal) := by
    rw [m0 0 (by omega), m0 1024 (by omega), m1, b, ← hz]
    simp only [Nat.zero_add]
    rfl
  unfold k0_pay43
  rw [e3, e4, e5]
  have key := decay_kernel z
  rw [← sixteenth] at key
  rw [← hz'] at key
  rw [← key, ← Ideal.ofBits_zero_f32]
  rfl

end Cert.Proof.Mixing

end
-- ==== Proof.Mixing.Arr0.lean ====
/-
  What the two calls of the mixers' program leave in their result arrays, in terms of the blocks each grid point reads.
-/
module

public import proofs.«01_k».proof.Proof.Mixing.Out0

@[expose] public section

noncomputable section

namespace Cert.Proof.Mixing

open Idealize.ShloMosaic hiding ix1 ix2 ix3 ix4 ix5 eq_ix1 eq_ix2 eq_ix3 eq_ix4 eq_ix5
open Idealize.ShloMosaic.ValueIdx
open Idealize.ShloMosaic.TcCoe Idealize.SL.Sem
open Cert.MixerIdeal Cert.MixerIdeal.Gen
open scoped BigOperators

/-- Row `i` of chunk `t`. -/
abbrev row (t : Fin 65) (i : Fin 256) : Fin 16640 := ⟨256 * t.val + i.val, by omega⟩

/-- The grid point of chunk `t`, in either call. -/
abbrev p0 (t : Fin 65) : Fin cfg0.N := ⟨t.val, t.isLt⟩
abbrev p1 (t : Fin 65) : Fin cfg1.N := ⟨t.val, t.isLt⟩

variable (V : (c : Dev nD) → (b : Ref sig .tc) → Buf (Elt Ideal) ((c : Thread nD τ).loc b)) (c : Dev nD)

/-- Where the first call's blocks lie. -/
theorem blocks0 (t : Fin cfg0.N) : (win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) ∧ (win0_0.index t 0 = t.val ∧ win0_0.index t 1 = 0) ∧ (win0_1.index t 0 = t.val ∧ win0_1.index t 1 = 1) ∧ (win0_3.index t 0 = t.val ∧ win0_3.index t 1 = 0) ∧ (win0_4.index t 0 = 0 ∧ win0_4.index t 1 = 0) ∧ (win0_5.index t 0 = 0 ∧ win0_5.index t 1 = 0) :=
  (by decide +kernel : ∀ t : Fin grid0.N, (win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) ∧ (win0_0.index t 0 = t.val ∧ win0_0.index t 1 = 0) ∧ (win0_1.index t 0 = t.val ∧ win0_1.index t 1 = 1) ∧ (win0_3.index t 0 = t.val ∧ win0_3.index t 1 = 0) ∧ (win0_4.index t 0 = 0 ∧ win0_4.index t 1 = 0) ∧ (win0_5.index t 0 = 0 ∧ win0_5.index t 1 = 0)) t

/-- The array whose chunk `t` is `f t`. -/
def stacked (f : Fin 65 → Vec Ideal S256x512 .bf16) : Vec Ideal S16640x512 .bf16 := fun y =>
  f ⟨(y 0).val / 256, Nat.div_lt_of_lt_mul (y 0).isLt⟩ (ix2 (⟨(y 0).val % 256, Nat.mod_lt _ (by decide)⟩ : Fin 256) (y 1 : Fin 512))

theorem stacked_at (f : Fin 65 → Vec Ideal S256x512 .bf16) (t : Fin 65) (r : Fin 256) (d : Fin 512) (y : S16640x512.Idx)
    (h0 : (y 0).val = 256 * t.val + r.val) (h1 : (y 1).val = d.val) : stacked f y = f t (ix2 r d) := by
  have e0 : (⟨(y 0).val / 256, Nat.div_lt_of_lt_mul (y 0).isLt⟩ : Fin 65) = t := Fin.ext (by show (y 0).val / 256 = t.val; omega)
  have e1 : (⟨(y 0).val % 256, Nat.mod_lt _ (by decide)⟩ : Fin 256) = r := Fin.ext (by show (y 0).val % 256 = r.val; omega)
  have e2 : (y 1 : Fin 512) = d := Fin.ext h1
  unfold stacked
  rw [e0, e1, e2]

theorem at0_6 (t : Fin cfg0.N) (r : Fin 256) (d : Fin 512) :
    (((win0_6.rect t).emb (ix2 r d)) 0).val = 256 * t.val + r.val ∧ (((win0_6.rect t).emb (ix2 r d)) 1).val = d.val := by
  obtain ⟨⟨h0, h1⟩, -⟩ := blocks0 t
  constructor
  · refine (win0_6.rect_emb_val t _ 0).trans ?_
    rw [h0]
    show t.val * 256 + r.val = 256 * t.val + r.val
    omega
  · exact (win0_6.rect_emb_val_of_index_zero t 1 h1 _).trans rfl

/-- What the first call's point `t` leaves in its result 0. -/
def left0_6 (T : Fin cfg0.N) : Vec Ideal S256x512 .bf16 := out0_6 (iblk0 V c 0 T) (iblk0 V c 1 T) (iblk0 V c 2 T) (iblk0 V c 3 T) (iblk0 V c 4 T) (iblk0 V c 5 T)

theorem back0_6 (t : Fin cfg0.N) : (dat0 V c).flushed 6 t = (cfg0.win 6).cut (grid0.coords t) (out0_6 (iblk0 V c 0 t) (iblk0 V c 1 t) (iblk0 V c 2 t) (iblk0 V c 3 t) (iblk0 V c 4 t) (iblk0 V c 5 t)) := by
  show (cfg0.win 6).cut (grid0.coords t) ((dat0 V c).after 6 t) = _
  rw [after0_6]

theorem read0_6 (G : Vec Ideal S16640x512 .bf16) (t : Fin cfg0.N) (y : S256x512.Idx) :
    ((cfg0.win 6).blk t).view.read (Elt Ideal) G y = G ((win0_6.rect t).emb y) := rfl
theorem cut0_6 (x : Vec Ideal S256x512 .bf16) (t : Fin cfg0.N) (y : S256x512.Idx) : (cfg0.win 6).cut (grid0.coords t) x y = x y := rfl

theorem placed0_6 (t : Fin cfg0.N) (y : S256x512.Idx) : left0_6 V c t y = stacked (left0_6 V c) ((win0_6.rect t).emb y) := by
  obtain ⟨r, d, rfl⟩ := (⟨_, _, eq_ix2 y⟩ : ∃ (r : Fin 256) (d : Fin 512), y = ix2 r d)
  obtain ⟨h0, h1⟩ := at0_6 t r d
  exact (stacked_at _ t r d _ h0 h1).symm

theorem flushed0_6 (t : Fin cfg0.N) : (dat0 V c).flushed 6 t = ((cfg0.win 6).blk t).view.read (Elt Ideal) (stacked (left0_6 V c)) := by
  rw [back0_6]
  funext y
  refine (cut0_6 _ t y).trans ?_
  refine Eq.trans ?_ (read0_6 _ t y).symm
  exact placed0_6 V c t y

theorem covered0_6 (i : S16640x512.Idx) : ∃ t : Fin cfg0.N, (cfg0.win 6).flush t = true ∧ i ∈ ((cfg0.win 6).blk t).view.set := by
  have l0 : (i 0).val < 16640 := (i 0).isLt
  let t : Fin cfg0.N := ⟨(i 0).val / 256, by show _ < 65; omega⟩
  obtain ⟨h0, h1⟩ := at0_6 t ⟨(i 0).val % 256, Nat.mod_lt _ (by decide)⟩ (i 1)
  refine ⟨t, flush0_6 t, ?_⟩
  rw [← (idx2 (h0.trans (by show 256 * ((i 0).val / 256) + (i 0).val % 256 = _; omega)) h1 : _ = i)]
  exact ((cfg0.win 6).blk t).view.emb_mem_set _

/-- The first call's result 0, at row `i` of chunk `t`. -/
theorem kept0_6 (t : Fin 65) (i : Fin 256) (d : Fin 512) : ((dat0 V c).arrAt 6 cfg0.N : Vec Ideal S16640x512 .bf16) (ix2 (row t i) d) = left0_6 V c (p0 t) (ix2 i d) := by
  rw [(dat0 V c).arrAt_eq_of_cover 6 (stacked (left0_6 V c)) (fun t _ => flushed0_6 V c t) covered0_6]
  exact stacked_at (left0_6 V c) t i d _ rfl rfl

theorem at0_7 (t : Fin cfg0.N) (r : Fin 256) (d : Fin 512) :
    (((win0_7.rect t).emb (ix2 r d)) 0).val = 256 * t.val + r.val ∧ (((win0_7.rect t).emb (ix2 r d)) 1).val = d.val := by
  obtain ⟨-, ⟨h0, h1⟩, -⟩ := blocks0 t
  constructor
  · refine (win0_7.rect_emb_val t _ 0).trans ?_
    rw [h0]
    show t.val * 256 + r.val = 256 * t.val + r.val
    omega
  · exact (win0_7.rect_emb_val_of_index_zero t 1 h1 _).trans rfl

/-- What the first call's point `t` leaves in its result 1. -/
def left0_7 (T : Fin cfg0.N) : Vec Ideal S256x512 .bf16 := out0_7 (iblk0 V c 0 T) (iblk0 V c 1 T) (iblk0 V c 2 T) (iblk0 V c 3 T) (iblk0 V c 4 T) (iblk0 V c 5 T)

theorem back0_7 (t : Fin cfg0.N) : (dat0 V c).flushed 7 t = (cfg0.win 7).cut (grid0.coords t) (out0_7 (iblk0 V c 0 t) (iblk0 V c 1 t) (iblk0 V c 2 t) (iblk0 V c 3 t) (iblk0 V c 4 t) (iblk0 V c 5 t)) := by
  show (cfg0.win 7).cut (grid0.coords t) ((dat0 V c).after 7 t) = _
  rw [after0_7]

theorem read0_7 (G : Vec Ideal S16640x512 .bf16) (t : Fin cfg0.N) (y : S256x512.Idx) :
    ((cfg0.win 7).blk t).view.read (Elt Ideal) G y = G ((win0_7.rect t).emb y) := rfl
theorem cut0_7 (x : Vec Ideal S256x512 .bf16) (t : Fin cfg0.N) (y : S256x512.Idx) : (cfg0.win 7).cut (grid0.coords t) x y = x y := rfl

theorem placed0_7 (t : Fin cfg0.N) (y : S256x512.Idx) : left0_7 V c t y = stacked (left0_7 V c) ((win0_7.rect t).emb y) := by
  obtain ⟨r, d, rfl⟩ := (⟨_, _, eq_ix2 y⟩ : ∃ (r : Fin 256) (d : Fin 512), y = ix2 r d)
  obtain ⟨h0, h1⟩ := at0_7 t r d
  exact (stacked_at _ t r d _ h0 h1).symm

theorem flushed0_7 (t : Fin cfg0.N) : (dat0 V c).flushed 7 t = ((cfg0.win 7).blk t).view.read (Elt Ideal) (stacked (left0_7 V c)) := by
  rw [back0_7]
  funext y
  refine (cut0_7 _ t y).trans ?_
  refine Eq.trans ?_ (read0_7 _ t y).symm
  exact placed0_7 V c t y

theorem covered0_7 (i : S16640x512.Idx) : ∃ t : Fin cfg0.N, (cfg0.win 7).flush t = true ∧ i ∈ ((cfg0.win 7).blk t).view.set := by
  have l0 : (i 0).val < 16640 := (i 0).isLt
  let t : Fin cfg0.N := ⟨(i 0).val / 256, by show _ < 65; omega⟩
  obtain ⟨h0, h1⟩ := at0_7 t ⟨(i 0).val % 256, Nat.mod_lt _ (by decide)⟩ (i 1)
  refine ⟨t, flush0_7 t, ?_⟩
  rw [← (idx2 (h0.trans (by show 256 * ((i 0).val / 256) + (i 0).val % 256 = _; omega)) h1 : _ = i)]
  exact ((cfg0.win 7).blk t).view.emb_mem_set _

/-- The first call's result 1, at row `i` of chunk `t`. -/
theorem kept0_7 (t : Fin 65) (i : Fin 256) (d : Fin 512) : ((dat0 V c).arrAt 7 cfg0.N : Vec Ideal S16640x512 .bf16) (ix2 (row t i) d) = left0_7 V c (p0 t) (ix2 i d) := by
  rw [(dat0 V c).arrAt_eq_of_cover 7 (stacked (left0_7 V c)) (fun t _ => flushed0_7 V c t) covered0_7]
  exact stacked_at (left0_7 V c) t i d _ rfl rfl

theorem at0_8 (t : Fin cfg0.N) (r : Fin 256) (d : Fin 512) :
    (((win0_8.rect t).emb (ix2 r d)) 0).val = 256 * t.val + r.val ∧ (((win0_8.rect t).emb (ix2 r d)) 1).val = d.val := by
  obtain ⟨-, -, ⟨h0, h1⟩, -⟩ := blocks0 t
  constructor
  · refine (win0_8.rect_emb_val t _ 0).trans ?_
    rw [h0]
    show t.val * 256 + r.val = 256 * t.val + r.val
    omega
  · exact (win0_8.rect_emb_val_of_index_zero t 1 h1 _).trans rfl

/-- What the first call's point `t` leaves in its result 2. -/
def left0_8 (T : Fin cfg0.N) : Vec Ideal S256x512 .bf16 := out0_8 (iblk0 V c 0 T) (iblk0 V c 1 T) (iblk0 V c 2 T) (iblk0 V c 3 T) (iblk0 V c 4 T) (iblk0 V c 5 T)

theorem back0_8 (t : Fin cfg0.N) : (dat0 V c).flushed 8 t = (cfg0.win 8).cut (grid0.coords t) (out0_8 (iblk0 V c 0 t) (iblk0 V c 1 t) (iblk0 V c 2 t) (iblk0 V c 3 t) (iblk0 V c 4 t) (iblk0 V c 5 t)) := by
  show (cfg0.win 8).cut (grid0.coords t) ((dat0 V c).after 8 t) = _
  rw [after0_8]

theorem read0_8 (G : Vec Ideal S16640x512 .bf16) (t : Fin cfg0.N) (y : S256x512.Idx) :
    ((cfg0.win 8).blk t).view.read (Elt Ideal) G y = G ((win0_8.rect t).emb y) := rfl
theorem cut0_8 (x : Vec Ideal S256x512 .bf16) (t : Fin cfg0.N) (y : S256x512.Idx) : (cfg0.win 8).cut (grid0.coords t) x y = x y := rfl

theorem placed0_8 (t : Fin cfg0.N) (y : S256x512.Idx) : left0_8 V c t y = stacked (left0_8 V c) ((win0_8.rect t).emb y) := by
  obtain ⟨r, d, rfl⟩ := (⟨_, _, eq_ix2 y⟩ : ∃ (r : Fin 256) (d : Fin 512), y = ix2 r d)
  obtain ⟨h0, h1⟩ := at0_8 t r d
  exact (stacked_at _ t r d _ h0 h1).symm

theorem flushed0_8 (t : Fin cfg0.N) : (dat0 V c).flushed 8 t = ((cfg0.win 8).blk t).view.read (Elt Ideal) (stacked (left0_8 V c)) := by
  rw [back0_8]
  funext y
  refine (cut0_8 _ t y).trans ?_
  refine Eq.trans ?_ (read0_8 _ t y).symm
  exact placed0_8 V c t y

theorem covered0_8 (i : S16640x512.Idx) : ∃ t : Fin cfg0.N, (cfg0.win 8).flush t = true ∧ i ∈ ((cfg0.win 8).blk t).view.set := by
  have l0 : (i 0).val < 16640 := (i 0).isLt
  let t : Fin cfg0.N := ⟨(i 0).val / 256, by show _ < 65; omega⟩
  obtain ⟨h0, h1⟩ := at0_8 t ⟨(i 0).val % 256, Nat.mod_lt _ (by decide)⟩ (i 1)
  refine ⟨t, flush0_8 t, ?_⟩
  rw [← (idx2 (h0.trans (by show 256 * ((i 0).val / 256) + (i 0).val % 256 = _; omega)) h1 : _ = i)]
  exact ((cfg0.win 8).blk t).view.emb_mem_set _

/-- The first call's result 2, at row `i` of chunk `t`. -/
theorem kept0_8 (t : Fin 65) (i : Fin 256) (d : Fin 512) : ((dat0 V c).arrAt 8 cfg0.N : Vec Ideal S16640x512 .bf16) (ix2 (row t i) d) = left0_8 V c (p0 t) (ix2 i d) := by
  rw [(dat0 V c).arrAt_eq_of_cover 8 (stacked (left0_8 V c)) (fun t _ => flushed0_8 V c t) covered0_8]
  exact stacked_at (left0_8 V c) t i d _ rfl rfl

theorem at0_9 (t : Fin cfg0.N) (r : Fin 256) (d : Fin 512) :
    (((win0_9.rect t).emb (ix2 r d)) 0).val = 256 * t.val + r.val ∧ (((win0_9.rect t).emb (ix2 r d)) 1).val = d.val := by
  obtain ⟨-, -, -, ⟨h0, h1⟩, -⟩ := blocks0 t
  constructor
  · refine (win0_9.rect_emb_val t _ 0).trans ?_
    rw [h0]
    show t.val * 256 + r.val = 256 * t.val + r.val
    omega
  · exact (win0_9.rect_emb_val_of_index_zero t 1 h1 _).trans rfl

/-- What the first call's point `t` leaves in its result 3. -/
def left0_9 (T : Fin cfg0.N) : Vec Ideal S256x512 .bf16 := out0_9 (iblk0 V c 0 T) (iblk0 V c 1 T) (iblk0 V c 2 T) (iblk0 V c 3 T) (iblk0 V c 4 T) (iblk0 V c 5 T)

theorem back0_9 (t : Fin cfg0.N) : (dat0 V c).flushed 9 t = (cfg0.win 9).cut (grid0.coords t) (out0_9 (iblk0 V c 0 t) (iblk0 V c 1 t) (iblk0 V c 2 t) (iblk0 V c 3 t) (iblk0 V c 4 t) (iblk0 V c 5 t)) := by
  show (cfg0.win 9).cut (grid0.coords t) ((dat0 V c).after 9 t) = _
  rw [after0_9]

theorem read0_9 (G : Vec Ideal S16640x512 .bf16) (t : Fin cfg0.N) (y : S256x512.Idx) :
    ((cfg0.win 9).blk t).view.read (Elt Ideal) G y = G ((win0_9.rect t).emb y) := rfl
theorem cut0_9 (x : Vec Ideal S256x512 .bf16) (t : Fin cfg0.N) (y : S256x512.Idx) : (cfg0.win 9).cut (grid0.coords t) x y = x y := rfl

theorem placed0_9 (t : Fin cfg0.N) (y : S256x512.Idx) : left0_9 V c t y = stacked (left0_9 V c) ((win0_9.rect t).emb y) := by
  obtain ⟨r, d, rfl⟩ := (⟨_, _, eq_ix2 y⟩ : ∃ (r : Fin 256) (d : Fin 512), y = ix2 r d)
  obtain ⟨h0, h1⟩ := at0_9 t r d
  exact (stacked_at _ t r d _ h0 h1).symm

theorem flushed0_9 (t : Fin cfg0.N) : (dat0 V c).flushed 9 t = ((cfg0.win 9).blk t).view.read (Elt Ideal) (stacked (left0_9 V c)) := by
  rw [back0_9]
  funext y
  refine (cut0_9 _ t y).trans ?_
  refine Eq.trans ?_ (read0_9 _ t y).symm
  exact placed0_9 V c t y

theorem covered0_9 (i : S16640x512.Idx) : ∃ t : Fin cfg0.N, (cfg0.win 9).flush t = true ∧ i ∈ ((cfg0.win 9).blk t).view.set := by
  have l0 : (i 0).val < 16640 := (i 0).isLt
  let t : Fin cfg0.N := ⟨(i 0).val / 256, by show _ < 65; omega⟩
  obtain ⟨h0, h1⟩ := at0_9 t ⟨(i 0).val % 256, Nat.mod_lt _ (by decide)⟩ (i 1)
  refine ⟨t, flush0_9 t, ?_⟩
  rw [← (idx2 (h0.trans (by show 256 * ((i 0).val / 256) + (i 0).val % 256 = _; omega)) h1 : _ = i)]
  exact ((cfg0.win 9).blk t).view.emb_mem_set _

/-- The first call's result 3, at row `i` of chunk `t`. -/
theorem kept0_9 (t : Fin 65) (i : Fin 256) (d : Fin 512) : ((dat0 V c).arrAt 9 cfg0.N : Vec Ideal S16640x512 .bf16) (ix2 (row t i) d) = left0_9 V c (p0 t) (ix2 i d) := by
  rw [(dat0 V c).arrAt_eq_of_cover 9 (stacked (left0_9 V c)) (fun t _ => flushed0_9 V c t) covered0_9]
  exact stacked_at (left0_9 V c) t i d _ rfl rfl

theorem at0_10 (t : Fin cfg0.N) (r : Fin 256) (d : Fin 512) :
    (((win0_10.rect t).emb (ix2 r d)) 0).val = 256 * t.val + r.val ∧ (((win0_10.rect t).emb (ix2 r d)) 1).val = d.val := by
  obtain ⟨-, -, -, -, ⟨h0, h1⟩, -⟩ := blocks0 t
  constructor
  · refine (win0_10.rect_emb_val t _ 0).trans ?_
    rw [h0]
    show t.val * 256 + r.val = 256 * t.val + r.val
    omega
  · exact (win0_10.rect_emb_val_of_index_zero t 1 h1 _).trans rfl

/-- What the first call's point `t` leaves in its result 4. -/
def left0_10 (T : Fin cfg0.N) : Vec Ideal S256x512 .bf16 := out0_10 (iblk0 V c 0 T) (iblk0 V c 1 T) (iblk0 V c 2 T) (iblk0 V c 3 T) (iblk0 V c 4 T) (iblk0 V c 5 T)

theorem back0_10 (t : Fin cfg0.N) : (dat0 V c).flushed 10 t = (cfg0.win 10).cut (grid0.coords t) (out0_10 (iblk0 V c 0 t) (iblk0 V c 1 t) (iblk0 V c 2 t) (iblk0 V c 3 t) (iblk0 V c 4 t) (iblk0 V c 5 t)) := by
  show (cfg0.win 10).cut (grid0.coords t) ((dat0 V c).after 10 t) = _
  rw [after0_10]

theorem read0_10 (G : Vec Ideal S16640x512 .bf16) (t : Fin cfg0.N) (y : S256x512.Idx) :
    ((cfg0.win 10).blk t).view.read (Elt Ideal) G y = G ((win0_10.rect t).emb y) := rfl
theorem cut0_10 (x : Vec Ideal S256x512 .bf16) (t : Fin cfg0.N) (y : S256x512.Idx) : (cfg0.win 10).cut (grid0.coords t) x y = x y := rfl

theorem placed0_10 (t : Fin cfg0.N) (y : S256x512.Idx) : left0_10 V c t y = stacked (left0_10 V c) ((win0_10.rect t).emb y) := by
  obtain ⟨r, d, rfl⟩ := (⟨_, _, eq_ix2 y⟩ : ∃ (r : Fin 256) (d : Fin 512), y = ix2 r d)
  obtain ⟨h0, h1⟩ := at0_10 t r d
  exact (stacked_at _ t r d _ h0 h1).symm

theorem flushed0_10 (t : Fin cfg0.N) : (dat0 V c).flushed 10 t = ((cfg0.win 10).blk t).view.read (Elt Ideal) (stacked (left0_10 V c)) := by
  rw [back0_10]
  funext y
  refine (cut0_10 _ t y).trans ?_
  refine Eq.trans ?_ (read0_10 _ t y).symm
  exact placed0_10 V c t y

theorem covered0_10 (i : S16640x512.Idx) : ∃ t : Fin cfg0.N, (cfg0.win 10).flush t = true ∧ i ∈ ((cfg0.win 10).blk t).view.set := by
  have l0 : (i 0).val < 16640 := (i 0).isLt
  let t : Fin cfg0.N := ⟨(i 0).val / 256, by show _ < 65; omega⟩
  obtain ⟨h0, h1⟩ := at0_10 t ⟨(i 0).val % 256, Nat.mod_lt _ (by decide)⟩ (i 1)
  refine ⟨t, flush0_10 t, ?_⟩
  rw [← (idx2 (h0.trans (by show 256 * ((i 0).val / 256) + (i 0).val % 256 = _; omega)) h1 : _ = i)]
  exact ((cfg0.win 10).blk t).view.emb_mem_set _

/-- The first call's result 4, at row `i` of chunk `t`. -/
theorem kept0_10 (t : Fin 65) (i : Fin 256) (d : Fin 512) : ((dat0 V c).arrAt 10 cfg0.N : Vec Ideal S16640x512 .bf16) (ix2 (row t i) d) = left0_10 V c (p0 t) (ix2 i d) := by
  rw [(dat0 V c).arrAt_eq_of_cover 10 (stacked (left0_10 V c)) (fun t _ => flushed0_10 V c t) covered0_10]
  exact stacked_at (left0_10 V c) t i d _ rfl rfl

theorem at0_11 (t : Fin cfg0.N) (r : Fin 256) (d : Fin 512) :
    (((win0_11.rect t).emb (ix2 r d)) 0).val = 256 * t.val + r.val ∧ (((win0_11.rect t).emb (ix2 r d)) 1).val = d.val := by
  obtain ⟨-, -, -, -, -, ⟨h0, h1⟩, -⟩ := blocks0 t
  constructor
  · refine (win0_11.rect_emb_val t _ 0).trans ?_
    rw [h0]
    show t.val * 256 + r.val = 256 * t.val + r.val
    omega
  · exact (win0_11.rect_emb_val_of_index_zero t 1 h1 _).trans rfl

/-- What the first call's point `t` leaves in its result 5. -/
def left0_11 (T : Fin cfg0.N) : Vec Ideal S256x512 .bf16 := out0_11 (iblk0 V c 0 T) (iblk0 V c 1 T) (iblk0 V c 2 T) (iblk0 V c 3 T) (iblk0 V c 4 T) (iblk0 V c 5 T)

theorem back0_11 (t : Fin cfg0.N) : (dat0 V c).flushed 11 t = (cfg0.win 11).cut (grid0.coords t) (out0_11 (iblk0 V c 0 t) (iblk0 V c 1 t) (iblk0 V c 2 t) (iblk0 V c 3 t) (iblk0 V c 4 t) (iblk0 V c 5 t)) := by
  show (cfg0.win 11).cut (grid0.coords t) ((dat0 V c).after 11 t) = _
  rw [after0_11]

theorem read0_11 (G : Vec Ideal S16640x512 .bf16) (t : Fin cfg0.N) (y : S256x512.Idx) :
    ((cfg0.win 11).blk t).view.read (Elt Ideal) G y = G ((win0_11.rect t).emb y) := rfl
theorem cut0_11 (x : Vec Ideal S256x512 .bf16) (t : Fin cfg0.N) (y : S256x512.Idx) : (cfg0.win 11).cut (grid0.coords t) x y = x y := rfl

theorem placed0_11 (t : Fin cfg0.N) (y : S256x512.Idx) : left0_11 V c t y = stacked (left0_11 V c) ((win0_11.rect t).emb y) := by
  obtain ⟨r, d, rfl⟩ := (⟨_, _, eq_ix2 y⟩ : ∃ (r : Fin 256) (d : Fin 512), y = ix2 r d)
  obtain ⟨h0, h1⟩ := at0_11 t r d
  exact (stacked_at _ t r d _ h0 h1).symm

theorem flushed0_11 (t : Fin cfg0.N) : (dat0 V c).flushed 11 t = ((cfg0.win 11).blk t).view.read (Elt Ideal) (stacked (left0_11 V c)) := by
  rw [back0_11]
  funext y
  refine (cut0_11 _ t y).trans ?_
  refine Eq.trans ?_ (read0_11 _ t y).symm
  exact placed0_11 V c t y

theorem covered0_11 (i : S16640x512.Idx) : ∃ t : Fin cfg0.N, (cfg0.win 11).flush t = true ∧ i ∈ ((cfg0.win 11).blk t).view.set := by
  have l0 : (i 0).val < 16640 := (i 0).isLt
  let t : Fin cfg0.N := ⟨(i 0).val / 256, by show _ < 65; omega⟩
  obtain ⟨h0, h1⟩ := at0_11 t ⟨(i 0).val % 256, Nat.mod_lt _ (by decide)⟩ (i 1)
  refine ⟨t, flush0_11 t, ?_⟩
  rw [← (idx2 (h0.trans (by show 256 * ((i 0).val / 256) + (i 0).val % 256 = _; omega)) h1 : _ = i)]
  exact ((cfg0.win 11).blk t).view.emb_mem_set _

/-- The first call's result 5, at row `i` of chunk `t`. -/
theorem kept0_11 (t : Fin 65) (i : Fin 256) (d : Fin 512) : ((dat0 V c).arrAt 11 cfg0.N : Vec Ideal S16640x512 .bf16) (ix2 (row t i) d) = left0_11 V c (p0 t) (ix2 i d) := by
  rw [(dat0 V c).arrAt_eq_of_cover 11 (stacked (left0_11 V c)) (fun t _ => flushed0_11 V c t) covered0_11]
  exact stacked_at (left0_11 V c) t i d _ rfl rfl

end Cert.Proof.Mixing
-- ==== Proof.Mixing.Arr1.lean ====
/-
  What the two calls of the mixers' program leave in their result arrays, in terms of the blocks each grid point reads.
-/
module

public import proofs.«01_k».proof.Proof.Mixing.Arr0

@[expose] public section

noncomputable section

namespace Cert.Proof.Mixing

open Idealize.ShloMosaic hiding ix1 ix2 ix3 ix4 ix5 eq_ix1 eq_ix2 eq_ix3 eq_ix4 eq_ix5
open Idealize.ShloMosaic.ValueIdx
open Idealize.ShloMosaic.TcCoe Idealize.SL.Sem
open Cert.MixerIdeal Cert.MixerIdeal.Gen
open scoped BigOperators

variable (V : (c : Dev nD) → (b : Ref sig .tc) → Buf (Elt Ideal) ((c : Thread nD τ).loc b)) (c : Dev nD)

/-- Where the second call's blocks lie. -/
theorem blocks1 (t : Fin cfg1.N) : (win1_17.index t 0 = t.val ∧ win1_17.index t 1 = 0) ∧ (win1_18.index t 0 = t.val ∧ win1_18.index t 1 = 0) ∧ (win1_0.index t 0 = t.val ∧ win1_0.index t 1 = 0) ∧ (win1_1.index t 0 = t.val ∧ win1_1.index t 1 = 0) ∧ (win1_2.index t 0 = t.val ∧ win1_2.index t 1 = 0) ∧ (win1_3.index t 0 = t.val ∧ win1_3.index t 1 = 0) ∧ (win1_4.index t 0 = t.val ∧ win1_4.index t 1 = 0) ∧ (win1_5.index t 0 = t.val ∧ win1_5.index t 1 = 0) ∧ (win1_6.index t 0 = t.val ∧ win1_6.index t 1 = 1) ∧ (win1_7.index t 0 = t.val ∧ win1_7.index t 1 = 0 ∧ win1_7.index t 2 = 0) ∧ (win1_8.index t 0 = t.val ∧ win1_8.index t 1 = 0 ∧ win1_8.index t 2 = 0) ∧ (win1_9.index t 0 = t.val ∧ win1_9.index t 1 = 0) ∧ (win1_11.index t 0 = t.val ∧ win1_11.index t 1 = 1) ∧ (win1_12.index t 0 = t.val ∧ win1_12.index t 1 = 2) ∧ (win1_10.index t 0 = 0 ∧ win1_10.index t 1 = 0) ∧ (win1_13.index t 0 = 0 ∧ win1_13.index t 1 = 0) ∧ (win1_14.index t 0 = 0 ∧ win1_14.index t 1 = 0) ∧ (win1_15.index t 0 = 0 ∧ win1_15.index t 1 = 0 ∧ win1_15.index t 2 = 0 ∧ win1_15.index t 3 = 0) ∧ (win1_16.index t 0 = 0 ∧ win1_16.index t 1 = 0 ∧ win1_16.index t 2 = 0) :=
  (by decide +kernel : ∀ t : Fin grid1.N, (win1_17.index t 0 = t.val ∧ win1_17.index t 1 = 0) ∧ (win1_18.index t 0 = t.val ∧ win1_18.index t 1 = 0) ∧ (win1_0.index t 0 = t.val ∧ win1_0.index t 1 = 0) ∧ (win1_1.index t 0 = t.val ∧ win1_1.index t 1 = 0) ∧ (win1_2.index t 0 = t.val ∧ win1_2.index t 1 = 0) ∧ (win1_3.index t 0 = t.val ∧ win1_3.index t 1 = 0) ∧ (win1_4.index t 0 = t.val ∧ win1_4.index t 1 = 0) ∧ (win1_5.index t 0 = t.val ∧ win1_5.index t 1 = 0) ∧ (win1_6.index t 0 = t.val ∧ win1_6.index t 1 = 1) ∧ (win1_7.index t 0 = t.val ∧ win1_7.index t 1 = 0 ∧ win1_7.index t 2 = 0) ∧ (win1_8.index t 0 = t.val ∧ win1_8.index t 1 = 0 ∧ win1_8.index t 2 = 0) ∧ (win1_9.index t 0 = t.val ∧ win1_9.index t 1 = 0) ∧ (win1_11.index t 0 = t.val ∧ win1_11.index t 1 = 1) ∧ (win1_12.index t 0 = t.val ∧ win1_12.index t 1 = 2) ∧ (win1_10.index t 0 = 0 ∧ win1_10.index t 1 = 0) ∧ (win1_13.index t 0 = 0 ∧ win1_13.index t 1 = 0) ∧ (win1_14.index t 0 = 0 ∧ win1_14.index t 1 = 0) ∧ (win1_15.index t 0 = 0 ∧ win1_15.index t 1 = 0 ∧ win1_15.index t 2 = 0 ∧ win1_15.index t 3 = 0) ∧ (win1_16.index t 0 = 0 ∧ win1_16.index t 1 = 0 ∧ win1_16.index t 2 = 0)) t

/-- The array whose chunk `t` is `f t`. -/
def stackedWide (f : Fin 65 → Vec Ideal S256x1024 .bf16) : Vec Ideal S16640x1024 .bf16 := fun y =>
  f ⟨(y 0).val / 256, Nat.div_lt_of_lt_mul (y 0).isLt⟩ (ix2 (⟨(y 0).val % 256, Nat.mod_lt _ (by decide)⟩ : Fin 256) (y 1 : Fin 1024))

theorem stackedWide_at (f : Fin 65 → Vec Ideal S256x1024 .bf16) (t : Fin 65) (r : Fin 256) (d : Fin 1024) (y : S16640x1024.Idx)
    (h0 : (y 0).val = 256 * t.val + r.val) (h1 : (y 1).val = d.val) : stackedWide f y = f t (ix2 r d) := by
  have e0 : (⟨(y 0).val / 256, Nat.div_lt_of_lt_mul (y 0).isLt⟩ : Fin 65) = t := Fin.ext (by show (y 0).val / 256 = t.val; omega)
  have e1 : (⟨(y 0).val % 256, Nat.mod_lt _ (by decide)⟩ : Fin 256) = r := Fin.ext (by show (y 0).val % 256 = r.val; omega)
  have e2 : (y 1 : Fin 1024) = d := Fin.ext h1
  unfold stackedWide
  rw [e0, e1, e2]

theorem at1_17 (t : Fin cfg1.N) (r : Fin 256) (d : Fin 1024) :
    (((win1_17.rect t).emb (ix2 r d)) 0).val = 256 * t.val + r.val ∧ (((win1_17.rect t).emb (ix2 r d)) 1).val = d.val := by
  obtain ⟨⟨h0, h1⟩, -⟩ := blocks1 t
  constructor
  · refine (win1_17.rect_emb_val t _ 0).trans ?_
    rw [h0]
    show t.val * 256 + r.val = 256 * t.val + r.val
    omega
  · exact (win1_17.rect_emb_val_of_index_zero t 1 h1 _).trans rfl

/-- What the second call's point `t` leaves in its result 0. -/
def left1_17 (T : Fin cfg1.N) : Vec Ideal S256x1024 .bf16 := out1_17 (iblk1 V c 0 T) (iblk1 V c 1 T) (iblk1 V c 2 T) (iblk1 V c 3 T) (iblk1 V c 4 T) (iblk1 V c 5 T) (iblk1 V c 6 T) (iblk1 V c 7 T) (iblk1 V c 8 T) (iblk1 V c 9 T) (iblk1 V c 10 T) (iblk1 V c 11 T) (iblk1 V c 12 T) (iblk1 V c 13 T) (iblk1 V c 14 T) (iblk1 V c 15 T) (iblk1 V c 16 T)

theorem back1_17 (t : Fin cfg1.N) : (dat1 V c).flushed 17 t = (cfg1.win 17).cut (grid1.coords t) (out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)) := by
  show (cfg1.win 17).cut (grid1.coords t) ((dat1 V c).after 17 t) = _
  rw [after1_17]

theorem read1_17 (G : Vec Ideal S16640x1024 .bf16) (t : Fin cfg1.N) (y : S256x1024.Idx) :
    ((cfg1.win 17).blk t).view.read (Elt Ideal) G y = G ((win1_17.rect t).emb y) := rfl
theorem cut1_17 (x : Vec Ideal S256x1024 .bf16) (t : Fin cfg1.N) (y : S256x1024.Idx) : (cfg1.win 17).cut (grid1.coords t) x y = x y := rfl

theorem placed1_17 (t : Fin cfg1.N) (y : S256x1024.Idx) : left1_17 V c t y = stackedWide (left1_17 V c) ((win1_17.rect t).emb y) := by
  obtain ⟨r, d, rfl⟩ := (⟨_, _, eq_ix2 y⟩ : ∃ (r : Fin 256) (d : Fin 1024), y = ix2 r d)
  obtain ⟨h0, h1⟩ := at1_17 t r d
  exact (stackedWide_at _ t r d _ h0 h1).symm

theorem flushed1_17 (t : Fin cfg1.N) : (dat1 V c).flushed 17 t = ((cfg1.win 17).blk t).view.read (Elt Ideal) (stackedWide (left1_17 V c)) := by
  rw [back1_17]
  funext y
  refine (cut1_17 _ t y).trans ?_
  refine Eq.trans ?_ (read1_17 _ t y).symm
  exact placed1_17 V c t y

theorem covered1_17 (i : S16640x1024.Idx) : ∃ t : Fin cfg1.N, (cfg1.win 17).flush t = true ∧ i ∈ ((cfg1.win 17).blk t).view.set := by
  have l0 : (i 0).val < 16640 := (i 0).isLt
  let t : Fin cfg1.N := ⟨(i 0).val / 256, by show _ < 65; omega⟩
  obtain ⟨h0, h1⟩ := at1_17 t ⟨(i 0).val % 256, Nat.mod_lt _ (by decide)⟩ (i 1)
  refine ⟨t, flush1_17 t, ?_⟩
  rw [← (idx2 (h0.trans (by show 256 * ((i 0).val / 256) + (i 0).val % 256 = _; omega)) h1 : _ = i)]
  exact ((cfg1.win 17).blk t).view.emb_mem_set _

/-- The second call's result 0, at row `i` of chunk `t`. -/
theorem kept1_17 (t : Fin 65) (i : Fin 256) (d : Fin 1024) : ((dat1 V c).arrAt 17 cfg1.N : Vec Ideal S16640x1024 .bf16) (ix2 (row t i) d) = left1_17 V c (p1 t) (ix2 i d) := by
  rw [(dat1 V c).arrAt_eq_of_cover 17 (stackedWide (left1_17 V c)) (fun t _ => flushed1_17 V c t) covered1_17]
  exact stackedWide_at (left1_17 V c) t i d _ rfl rfl

theorem at1_18 (t : Fin cfg1.N) (r : Fin 256) (d : Fin 1024) :
    (((win1_18.rect t).emb (ix2 r d)) 0).val = 256 * t.val + r.val ∧ (((win1_18.rect t).emb (ix2 r d)) 1).val = d.val := by
  obtain ⟨-, ⟨h0, h1⟩, -⟩ := blocks1 t
  constructor
  · refine (win1_18.rect_emb_val t _ 0).trans ?_
    rw [h0]
    show t.val * 256 + r.val = 256 * t.val + r.val
    omega
  · exact (win1_18.rect_emb_val_of_index_zero t 1 h1 _).trans rfl

/-- What the second call's point `t` leaves in its result 1. -/
def left1_18 (T : Fin cfg1.N) : Vec Ideal S256x1024 .bf16 := out1_18 (iblk1 V c 0 T) (iblk1 V c 1 T) (iblk1 V c 2 T) (iblk1 V c 3 T) (iblk1 V c 4 T) (iblk1 V c 5 T) (iblk1 V c 6 T) (iblk1 V c 7 T) (iblk1 V c 8 T) (iblk1 V c 9 T) (iblk1 V c 10 T) (iblk1 V c 11 T) (iblk1 V c 12 T) (iblk1 V c 13 T) (iblk1 V c 14 T) (iblk1 V c 15 T) (iblk1 V c 16 T)

theorem back1_18 (t : Fin cfg1.N) : (dat1 V c).flushed 18 t = (cfg1.win 18).cut (grid1.coords t) (out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)) := by
  show (cfg1.win 18).cut (grid1.coords t) ((dat1 V c).after 18 t) = _
  rw [after1_18]

theorem read1_18 (G : Vec Ideal S16640x1024 .bf16) (t : Fin cfg1.N) (y : S256x1024.Idx) :
    ((cfg1.win 18).blk t).view.read (Elt Ideal) G y = G ((win1_18.rect t).emb y) := rfl
theorem cut1_18 (x : Vec Ideal S256x1024 .bf16) (t : Fin cfg1.N) (y : S256x1024.Idx) : (cfg1.win 18).cut (grid1.coords t) x y = x y := rfl

theorem placed1_18 (t : Fin cfg1.N) (y : S256x1024.Idx) : left1_18 V c t y = stackedWide (left1_18 V c) ((win1_18.rect t).emb y) := by
  obtain ⟨r, d, rfl⟩ := (⟨_, _, eq_ix2 y⟩ : ∃ (r : Fin 256) (d : Fin 1024), y = ix2 r d)
  obtain ⟨h0, h1⟩ := at1_18 t r d
  exact (stackedWide_at _ t r d _ h0 h1).symm

theorem flushed1_18 (t : Fin cfg1.N) : (dat1 V c).flushed 18 t = ((cfg1.win 18).blk t).view.read (Elt Ideal) (stackedWide (left1_18 V c)) := by
  rw [back1_18]
  funext y
  refine (cut1_18 _ t y).trans ?_
  refine Eq.trans ?_ (read1_18 _ t y).symm
  exact placed1_18 V c t y

theorem covered1_18 (i : S16640x1024.Idx) : ∃ t : Fin cfg1.N, (cfg1.win 18).flush t = true ∧ i ∈ ((cfg1.win 18).blk t).view.set := by
  have l0 : (i 0).val < 16640 := (i 0).isLt
  let t : Fin cfg1.N := ⟨(i 0).val / 256, by show _ < 65; omega⟩
  obtain ⟨h0, h1⟩ := at1_18 t ⟨(i 0).val % 256, Nat.mod_lt _ (by decide)⟩ (i 1)
  refine ⟨t, flush1_18 t, ?_⟩
  rw [← (idx2 (h0.trans (by show 256 * ((i 0).val / 256) + (i 0).val % 256 = _; omega)) h1 : _ = i)]
  exact ((cfg1.win 18).blk t).view.emb_mem_set _

/-- The second call's result 1, at row `i` of chunk `t`. -/
theorem kept1_18 (t : Fin 65) (i : Fin 256) (d : Fin 1024) : ((dat1 V c).arrAt 18 cfg1.N : Vec Ideal S16640x1024 .bf16) (ix2 (row t i) d) = left1_18 V c (p1 t) (ix2 i d) := by
  rw [(dat1 V c).arrAt_eq_of_cover 18 (stackedWide (left1_18 V c)) (fun t _ => flushed1_18 V c t) covered1_18]
  exact stackedWide_at (left1_18 V c) t i d _ rfl rfl

theorem block0_0 (t : Fin 65) (i : Fin 256) (j : Fin 512) : (iblk0 V c 0 (p0 t) : Vec Ideal S256x512 .bf16) (ix2 i j) = (V c main_arg0 : Vec Ideal S16640x2048 .bf16) (ix2 (row t i) ⟨j.val, by omega⟩) := by
  obtain ⟨-, -, -, -, -, -, ⟨h0, h1⟩, -⟩ := blocks0 (p0 t)
  show (V c main_arg0 : Vec Ideal S16640x2048 .bf16) ((win0_0.rect (p0 t)).emb (ix2 i j)) = _
  exact congrArg (V c main_arg0 : Vec Ideal S16640x2048 .bf16) (idx2 ((win0_0.rect_emb_val (p0 t) _ 0).trans (by rw [h0]; show t.val * 256 + i.val = 256 * t.val + i.val; omega)) ((win0_0.rect_emb_val_of_index_zero (p0 t) 1 h1 _).trans rfl))

theorem block0_1 (t : Fin 65) (i : Fin 256) (j : Fin 512) : (iblk0 V c 1 (p0 t) : Vec Ideal S256x512 .bf16) (ix2 i j) = (V c main_arg0 : Vec Ideal S16640x2048 .bf16) (ix2 (row t i) ⟨512 + j.val, by omega⟩) := by
  obtain ⟨-, -, -, -, -, -, -, ⟨h0, h1⟩, -⟩ := blocks0 (p0 t)
  show (V c main_arg0 : Vec Ideal S16640x2048 .bf16) ((win0_1.rect (p0 t)).emb (ix2 i j)) = _
  exact congrArg (V c main_arg0 : Vec Ideal S16640x2048 .bf16) (idx2 ((win0_1.rect_emb_val (p0 t) _ 0).trans (by rw [h0]; show t.val * 256 + i.val = 256 * t.val + i.val; omega)) ((win0_1.rect_emb_val (p0 t) _ 1).trans (by rw [h1]; show 1 * 512 + j.val = 512 + j.val; omega)))

theorem block0_3 (t : Fin 65) (i : Fin 256) (j : Fin 128) : (iblk0 V c 3 (p0 t) : Vec Ideal S256x128 .f32) (ix2 i j) = (V c main_arg1 : Vec Ideal S16640x128 .f32) (ix2 (row t i) j) := by
  obtain ⟨-, -, -, -, -, -, -, -, ⟨h0, h1⟩, -⟩ := blocks0 (p0 t)
  show (V c main_arg1 : Vec Ideal S16640x128 .f32) ((win0_3.rect (p0 t)).emb (ix2 i j)) = _
  exact congrArg (V c main_arg1 : Vec Ideal S16640x128 .f32) (idx2 ((win0_3.rect_emb_val (p0 t) _ 0).trans (by rw [h0]; show t.val * 256 + i.val = 256 * t.val + i.val; omega)) ((win0_3.rect_emb_val_of_index_zero (p0 t) 1 h1 _).trans rfl))

theorem block0_4 (t : Fin 65) (i : Fin 128) (j : Fin 2048) : (iblk0 V c 4 (p0 t) : Vec Ideal S128x2048 .bf16) (ix2 i j) = (V c main_v20 : Vec Ideal S128x2048 .bf16) (ix2 i j) := by
  obtain ⟨-, -, -, -, -, -, -, -, -, ⟨h0, h1⟩, -⟩ := blocks0 (p0 t)
  show (V c main_v20 : Vec Ideal S128x2048 .bf16) ((win0_4.rect (p0 t)).emb (ix2 i j)) = _
  exact congrArg (V c main_v20 : Vec Ideal S128x2048 .bf16) (idx2 ((win0_4.rect_emb_val_of_index_zero (p0 t) 0 h0 _).trans rfl) ((win0_4.rect_emb_val_of_index_zero (p0 t) 1 h1 _).trans rfl))

theorem block0_5 (t : Fin 65) (i : Fin 1) (j : Fin 1024) : (iblk0 V c 5 (p0 t) : Vec Ideal S1x1024 .f32) (ix2 i j) = (V c main_v13 : Vec Ideal S1x1024 .f32) (ix2 i j) := by
  obtain ⟨-, -, -, -, -, -, -, -, -, -, h0, h1⟩ := blocks0 (p0 t)
  show (V c main_v13 : Vec Ideal S1x1024 .f32) ((win0_5.rect (p0 t)).emb (ix2 i j)) = _
  exact congrArg (V c main_v13 : Vec Ideal S1x1024 .f32) (idx2 ((win0_5.rect_emb_val_of_index_zero (p0 t) 0 h0 _).trans rfl) ((win0_5.rect_emb_val_of_index_zero (p0 t) 1 h1 _).trans rfl))

theorem block1_0 (t : Fin 65) (i : Fin 256) (j : Fin 512) : (iblk1 V c 0 (p1 t) : Vec Ideal S256x512 .bf16) (ix2 i j) = (V c main_v21_0 : Vec Ideal S16640x512 .bf16) (ix2 (row t i) j) := by
  obtain ⟨-, -, ⟨h0, h1⟩, -⟩ := blocks1 (p1 t)
  show (V c main_v21_0 : Vec Ideal S16640x512 .bf16) ((win1_0.rect (p1 t)).emb (ix2 i j)) = _
  exact congrArg (V c main_v21_0 : Vec Ideal S16640x512 .bf16) (idx2 ((win1_0.rect_emb_val (p1 t) _ 0).trans (by rw [h0]; show t.val * 256 + i.val = 256 * t.val + i.val; omega)) ((win1_0.rect_emb_val_of_index_zero (p1 t) 1 h1 _).trans rfl))

theorem block1_1 (t : Fin 65) (i : Fin 256) (j : Fin 512) : (iblk1 V c 1 (p1 t) : Vec Ideal S256x512 .bf16) (ix2 i j) = (V c main_v21_1 : Vec Ideal S16640x512 .bf16) (ix2 (row t i) j) := by
  obtain ⟨-, -, -, ⟨h0, h1⟩, -⟩ := blocks1 (p1 t)
  show (V c main_v21_1 : Vec Ideal S16640x512 .bf16) ((win1_1.rect (p1 t)).emb (ix2 i j)) = _
  exact congrArg (V c main_v21_1 : Vec Ideal S16640x512 .bf16) (idx2 ((win1_1.rect_emb_val (p1 t) _ 0).trans (by rw [h0]; show t.val * 256 + i.val = 256 * t.val + i.val; omega)) ((win1_1.rect_emb_val_of_index_zero (p1 t) 1 h1 _).trans rfl))

theorem block1_2 (t : Fin 65) (i : Fin 256) (j : Fin 512) : (iblk1 V c 2 (p1 t) : Vec Ideal S256x512 .bf16) (ix2 i j) = (V c main_v21_2 : Vec Ideal S16640x512 .bf16) (ix2 (row t i) j) := by
  obtain ⟨-, -, -, -, ⟨h0, h1⟩, -⟩ := blocks1 (p1 t)
  show (V c main_v21_2 : Vec Ideal S16640x512 .bf16) ((win1_2.rect (p1 t)).emb (ix2 i j)) = _
  exact congrArg (V c main_v21_2 : Vec Ideal S16640x512 .bf16) (idx2 ((win1_2.rect_emb_val (p1 t) _ 0).trans (by rw [h0]; show t.val * 256 + i.val = 256 * t.val + i.val; omega)) ((win1_2.rect_emb_val_of_index_zero (p1 t) 1 h1 _).trans rfl))

theorem block1_3 (t : Fin 65) (i : Fin 256) (j : Fin 512) : (iblk1 V c 3 (p1 t) : Vec Ideal S256x512 .bf16) (ix2 i j) = (V c main_v21_3 : Vec Ideal S16640x512 .bf16) (ix2 (row t i) j) := by
  obtain ⟨-, -, -, -, -, ⟨h0, h1⟩, -⟩ := blocks1 (p1 t)
  show (V c main_v21_3 : Vec Ideal S16640x512 .bf16) ((win1_3.rect (p1 t)).emb (ix2 i j)) = _
  exact congrArg (V c main_v21_3 : Vec Ideal S16640x512 .bf16) (idx2 ((win1_3.rect_emb_val (p1 t) _ 0).trans (by rw [h0]; show t.val * 256 + i.val = 256 * t.val + i.val; omega)) ((win1_3.rect_emb_val_of_index_zero (p1 t) 1 h1 _).trans rfl))

theorem block1_4 (t : Fin 65) (i : Fin 256) (j : Fin 512) : (iblk1 V c 4 (p1 t) : Vec Ideal S256x512 .bf16) (ix2 i j) = (V c main_v21_4 : Vec Ideal S16640x512 .bf16) (ix2 (row t i) j) := by
  obtain ⟨-, -, -, -, -, -, ⟨h0, h1⟩, -⟩ := blocks1 (p1 t)
  show (V c main_v21_4 : Vec Ideal S16640x512 .bf16) ((win1_4.rect (p1 t)).emb (ix2 i j)) = _
  exact congrArg (V c main_v21_4 : Vec Ideal S16640x512 .bf16) (idx2 ((win1_4.rect_emb_val (p1 t) _ 0).trans (by rw [h0]; show t.val * 256 + i.val = 256 * t.val + i.val; omega)) ((win1_4.rect_emb_val_of_index_zero (p1 t) 1 h1 _).trans rfl))

theorem block1_5 (t : Fin 65) (i : Fin 256) (j : Fin 512) : (iblk1 V c 5 (p1 t) : Vec Ideal S256x512 .bf16) (ix2 i j) = (V c main_v21_5 : Vec Ideal S16640x512 .bf16) (ix2 (row t i) j) := by
  obtain ⟨-, -, -, -, -, -, -, ⟨h0, h1⟩, -⟩ := blocks1 (p1 t)
  show (V c main_v21_5 : Vec Ideal S16640x512 .bf16) ((win1_5.rect (p1 t)).emb (ix2 i j)) = _
  exact congrArg (V c main_v21_5 : Vec Ideal S16640x512 .bf16) (idx2 ((win1_5.rect_emb_val (p1 t) _ 0).trans (by rw [h0]; show t.val * 256 + i.val = 256 * t.val + i.val; omega)) ((win1_5.rect_emb_val_of_index_zero (p1 t) 1 h1 _).trans rfl))

theorem block1_6 (t : Fin 65) (i : Fin 256) (j : Fin 1024) : (iblk1 V c 6 (p1 t) : Vec Ideal S256x1024 .bf16) (ix2 i j) = (V c main_arg0 : Vec Ideal S16640x2048 .bf16) (ix2 (row t i) ⟨1024 + j.val, by omega⟩) := by
  obtain ⟨-, -, -, -, -, -, -, -, ⟨h0, h1⟩, -⟩ := blocks1 (p1 t)
  show (V c main_arg0 : Vec Ideal S16640x2048 .bf16) ((win1_6.rect (p1 t)).emb (ix2 i j)) = _
  exact congrArg (V c main_arg0 : Vec Ideal S16640x2048 .bf16) (idx2 ((win1_6.rect_emb_val (p1 t) _ 0).trans (by rw [h0]; show t.val * 256 + i.val = 256 * t.val + i.val; omega)) ((win1_6.rect_emb_val (p1 t) _ 1).trans (by rw [h1]; show 1 * 1024 + j.val = 1024 + j.val; omega)))

theorem block1_7 (t : Fin 65) (j : Fin 128) (k : Fin 512) : (iblk1 V c 7 (p1 t) : Vec Ideal S1x128x512 .bf16) (ix3 0 j k) = (V c main_arg4 : Vec Ideal S65x128x512 .bf16) (ix3 t j k) := by
  obtain ⟨-, -, -, -, -, -, -, -, -, ⟨h0, h1, h2⟩, -⟩ := blocks1 (p1 t)
  show (V c main_arg4 : Vec Ideal S65x128x512 .bf16) ((win1_7.rect (p1 t)).emb (ix3 0 j k)) = _
  exact congrArg (V c main_arg4 : Vec Ideal S65x128x512 .bf16) (idx3 ((win1_7.rect_emb_val (p1 t) _ 0).trans (by rw [h0]; show t.val * 1 + 0 = t.val; omega)) ((win1_7.rect_emb_val_of_index_zero (p1 t) 1 h1 _).trans rfl) ((win1_7.rect_emb_val_of_index_zero (p1 t) 2 h2 _).trans rfl))

theorem block1_8 (t : Fin 65) (j : Fin 128) (k : Fin 512) : (iblk1 V c 8 (p1 t) : Vec Ideal S1x128x512 .bf16) (ix3 0 j k) = (V c main_arg5 : Vec Ideal S65x128x512 .bf16) (ix3 t j k) := by
  obtain ⟨-, -, -, -, -, -, -, -, -, -, ⟨h0, h1, h2⟩, -⟩ := blocks1 (p1 t)
  show (V c main_arg5 : Vec Ideal S65x128x512 .bf16) ((win1_8.rect (p1 t)).emb (ix3 0 j k)) = _
  exact congrArg (V c main_arg5 : Vec Ideal S65x128x512 .bf16) (idx3 ((win1_8.rect_emb_val (p1 t) _ 0).trans (by rw [h0]; show t.val * 1 + 0 = t.val; omega)) ((win1_8.rect_emb_val_of_index_zero (p1 t) 1 h1 _).trans rfl) ((win1_8.rect_emb_val_of_index_zero (p1 t) 2 h2 _).trans rfl))

theorem block1_9 (t : Fin 65) (i : Fin 256) (j : Fin 1024) : (iblk1 V c 9 (p1 t) : Vec Ideal S256x1024 .bf16) (ix2 i j) = (V c main_arg6 : Vec Ideal S16640x3072 .bf16) (ix2 (row t i) ⟨j.val, by omega⟩) := by
  obtain ⟨-, -, -, -, -, -, -, -, -, -, -, ⟨h0, h1⟩, -⟩ := blocks1 (p1 t)
  show (V c main_arg6 : Vec Ideal S16640x3072 .bf16) ((win1_9.rect (p1 t)).emb (ix2 i j)) = _
  exact congrArg (V c main_arg6 : Vec Ideal S16640x3072 .bf16) (idx2 ((win1_9.rect_emb_val (p1 t) _ 0).trans (by rw [h0]; show t.val * 256 + i.val = 256 * t.val + i.val; omega)) ((win1_9.rect_emb_val_of_index_zero (p1 t) 1 h1 _).trans rfl))

theorem block1_11 (t : Fin 65) (i : Fin 256) (j : Fin 1024) : (iblk1 V c 11 (p1 t) : Vec Ideal S256x1024 .bf16) (ix2 i j) = (V c main_arg6 : Vec Ideal S16640x3072 .bf16) (ix2 (row t i) ⟨1024 + j.val, by omega⟩) := by
  obtain ⟨-, -, -, -, -, -, -, -, -, -, -, -, ⟨h0, h1⟩, -⟩ := blocks1 (p1 t)
  show (V c main_arg6 : Vec Ideal S16640x3072 .bf16) ((win1_11.rect (p1 t)).emb (ix2 i j)) = _
  exact congrArg (V c main_arg6 : Vec Ideal S16640x3072 .bf16) (idx2 ((win1_11.rect_emb_val (p1 t) _ 0).trans (by rw [h0]; show t.val * 256 + i.val = 256 * t.val + i.val; omega)) ((win1_11.rect_emb_val (p1 t) _ 1).trans (by rw [h1]; show 1 * 1024 + j.val = 1024 + j.val; omega)))

theorem block1_12 (t : Fin 65) (i : Fin 256) (j : Fin 1024) : (iblk1 V c 12 (p1 t) : Vec Ideal S256x1024 .bf16) (ix2 i j) = (V c main_arg6 : Vec Ideal S16640x3072 .bf16) (ix2 (row t i) ⟨2048 + j.val, by omega⟩) := by
  obtain ⟨-, -, -, -, -, -, -, -, -, -, -, -, -, ⟨h0, h1⟩, -⟩ := blocks1 (p1 t)
  show (V c main_arg6 : Vec Ideal S16640x3072 .bf16) ((win1_12.rect (p1 t)).emb (ix2 i j)) = _
  exact congrArg (V c main_arg6 : Vec Ideal S16640x3072 .bf16) (idx2 ((win1_12.rect_emb_val (p1 t) _ 0).trans (by rw [h0]; show t.val * 256 + i.val = 256 * t.val + i.val; omega)) ((win1_12.rect_emb_val (p1 t) _ 1).trans (by rw [h1]; show 2 * 1024 + j.val = 2048 + j.val; omega)))

theorem block1_10 (t : Fin 65) (i : Fin 1) (j : Fin 1024) : (iblk1 V c 10 (p1 t) : Vec Ideal S1x1024 .f32) (ix2 i j) = (V c main_v23 : Vec Ideal S1x1024 .f32) (ix2 i j) := by
  obtain ⟨-, -, -, -, -, -, -, -, -, -, -, -, -, -, ⟨h0, h1⟩, -⟩ := blocks1 (p1 t)
  show (V c main_v23 : Vec Ideal S1x1024 .f32) ((win1_10.rect (p1 t)).emb (ix2 i j)) = _
  exact congrArg (V c main_v23 : Vec Ideal S1x1024 .f32) (idx2 ((win1_10.rect_emb_val_of_index_zero (p1 t) 0 h0 _).trans rfl) ((win1_10.rect_emb_val_of_index_zero (p1 t) 1 h1 _).trans rfl))

theorem block1_13 (t : Fin 65) (i : Fin 1) (j : Fin 1024) : (iblk1 V c 13 (p1 t) : Vec Ideal S1x1024 .f32) (ix2 i j) = (V c main_v24 : Vec Ideal S1x1024 .f32) (ix2 i j) := by
  obtain ⟨-, -, -, -, -, -, -, -, -, -, -, -, -, -, -, ⟨h0, h1⟩, -⟩ := blocks1 (p1 t)
  show (V c main_v24 : Vec Ideal S1x1024 .f32) ((win1_13.rect (p1 t)).emb (ix2 i j)) = _
  exact congrArg (V c main_v24 : Vec Ideal S1x1024 .f32) (idx2 ((win1_13.rect_emb_val_of_index_zero (p1 t) 0 h0 _).trans rfl) ((win1_13.rect_emb_val_of_index_zero (p1 t) 1 h1 _).trans rfl))

theorem block1_14 (t : Fin 65) (i : Fin 1) (j : Fin 1024) : (iblk1 V c 14 (p1 t) : Vec Ideal S1x1024 .f32) (ix2 i j) = (V c main_v25 : Vec Ideal S1x1024 .f32) (ix2 i j) := by
  obtain ⟨-, -, -, -, -, -, -, -, -, -, -, -, -, -, -, -, ⟨h0, h1⟩, -⟩ := blocks1 (p1 t)
  show (V c main_v25 : Vec Ideal S1x1024 .f32) ((win1_14.rect (p1 t)).emb (ix2 i j)) = _
  exact congrArg (V c main_v25 : Vec Ideal S1x1024 .f32) (idx2 ((win1_14.rect_emb_val_of_index_zero (p1 t) 0 h0 _).trans rfl) ((win1_14.rect_emb_val_of_index_zero (p1 t) 1 h1 _).trans rfl))

theorem block1_15 (t : Fin 65) (j : Fin 8) (k : Fin 128) (l : Fin 128) : (iblk1 V c 15 (p1 t) : Vec Ideal S1x8x128x128 .bf16) (ix4 0 j k l) = (V c main_v22 : Vec Ideal S4x8x128x128 .bf16) (ix4 0 j k l) := by
  obtain ⟨-, -, -, -, -, -, -, -, -, -, -, -, -, -, -, -, -, ⟨h0, h1, h2, h3⟩, -⟩ := blocks1 (p1 t)
  show (V c main_v22 : Vec Ideal S4x8x128x128 .bf16) ((win1_15.rect (p1 t)).emb (ix4 0 j k l)) = _
  exact congrArg (V c main_v22 : Vec Ideal S4x8x128x128 .bf16) (idx4 ((win1_15.rect_emb_val_of_index_zero (p1 t) 0 h0 _).trans rfl) ((win1_15.rect_emb_val_of_index_zero (p1 t) 1 h1 _).trans rfl) ((win1_15.rect_emb_val_of_index_zero (p1 t) 2 h2 _).trans rfl) ((win1_15.rect_emb_val_of_index_zero (p1 t) 3 h3 _).trans rfl))

theorem block1_16 (t : Fin 65) (i : Fin 8) (j : Fin 128) (k : Fin 128) : (iblk1 V c 16 (p1 t) : Vec Ideal S8x128x128 .f32) (ix3 i j k) = (V c main_v15 : Vec Ideal S8x128x128 .f32) (ix3 i j k) := by
  obtain ⟨-, -, -, -, -, -, -, -, -, -, -, -, -, -, -, -, -, -, h0, h1, h2⟩ := blocks1 (p1 t)
  show (V c main_v15 : Vec Ideal S8x128x128 .f32) ((win1_16.rect (p1 t)).emb (ix3 i j k)) = _
  exact congrArg (V c main_v15 : Vec Ideal S8x128x128 .f32) (idx3 ((win1_16.rect_emb_val_of_index_zero (p1 t) 0 h0 _).trans rfl) ((win1_16.rect_emb_val_of_index_zero (p1 t) 1 h1 _).trans rfl) ((win1_16.rect_emb_val_of_index_zero (p1 t) 2 h2 _).trans rfl))

end Cert.Proof.Mixing
-- ==== Proof.Mixing.Gate.lean ====
/-
  The decays of the mixers' program, where its arguments are real: the padded product is the product with the sixteen
  lanes of one direction, and the remainders of the two splits vanish.
-/
module

public import proofs.«01_k».proof.Proof.Mixing.Host
public import proofs.«01_k».proof.Proof.Mixing.Arr1

@[expose] public section

noncomputable section

namespace Cert.Proof.Mixing

open Idealize.ShloMosaic hiding ix1 ix2 ix3 ix4 ix5 eq_ix1 eq_ix2 eq_ix3 eq_ix4 eq_ix5
open Idealize.ShloMosaic.ValueIdx
open Idealize.ShloMosaic.TcCoe Idealize.SL.Sem
open Cert.MixerIdeal Cert.MixerIdeal.Gen
open scoped BigOperators

/-- Lane `r` of direction `p` among the low rank decays. -/
abbrev rank (p : Fin 2) (r : Fin 16) : Fin 128 := ⟨16 * p.val + r.val, by omega⟩

/-- Column `c` of direction `p` among the decays. -/
abbrev side (p : Fin 2) (c : Fin 512) : Fin 1024 := ⟨512 * p.val + c.val, by omega⟩

/-- The input of direction `p`'s gate, of real arguments. -/
def gateReal (D : S16640x128.Idx → ℝ) (W : S2x16x512.Idx → ℝ) (B : S2x512.Idx → ℝ) (p : Fin 2) (n : Fin 16640) (c : Fin 512) : ℝ :=
  (∑ r : Fin 16, D (ix2 n (rank p r)) * W (ix3 p r c)) + B (ix2 p c)

/-- A sum over the padded lanes that keeps one direction's is the sum over that direction's lanes. -/
theorem ranks (p : Fin 2) (f : Fin 128 → ℝ) : (∑ r : Fin 128, if r.val / 16 = p.val then f r else 0) = ∑ r : Fin 16, f (rank p r) := by
  rw [← Finset.sum_filter]
  symm
  refine Finset.sum_bij (fun (d : Fin 16) _ => rank p d) ?_ ?_ ?_ ?_
  · intro d _
    have := d.isLt
    simp only [Finset.mem_filter, Finset.mem_univ, true_and]
    omega
  · intro d _ e _ hde
    have := congrArg Fin.val hde
    apply Fin.ext
    simpa using this
  · intro l hl
    have hl' := (Finset.mem_filter.mp hl).2
    refine ⟨⟨l.val - 16 * p.val, by have := l.isLt; omega⟩, Finset.mem_univ _, Fin.ext ?_⟩
    show 16 * p.val + (l.val - 16 * p.val) = l.val
    omega
  · intro d _
    rfl

/-- The padded up projection of a real one. -/
def padReal (W : S2x16x512.Idx → ℝ) (p : Fin 2) (r : Fin 128) (c : Fin 512) : ℝ :=
  if r.val / 16 = p.val then W (ix3 p ⟨r.val % 16, Nat.mod_lt _ (by decide)⟩ c) else 0

theorem padded_real (w : Vec Ideal S2x16x512 .f32) (W : S2x16x512.Idx → ℝ) (hw : ∀ y, w y = ((W y : ℝ) : EReal)) (p : Fin 2) (r : Fin 128) (c : Fin 512) :
    padded w (ix2 r (side p c)) = ((padReal W p r c : ℝ) : EReal) := by
  rw [padded_apply]
  unfold padReal
  have hp := p.isLt
  have hc := c.isLt
  by_cases h : (16 ≤ r.val ∧ r.val < 32) ∧ 512 ≤ (side p c).val
  · have h1 : p.val = 1 := by have : 512 ≤ 512 * p.val + c.val := h.2; omega
    rw [dif_pos h, hw, if_pos (by omega)]
    exact congrArg (fun y => ((W y : ℝ) : EReal)) (idx3 (show 1 = p.val by omega) (show r.val - 16 = r.val % 16 by omega)
      (show 512 * p.val + c.val - 512 = c.val by omega))
  · rw [dif_neg h]
    by_cases h' : r.val < 16 ∧ (side p c).val < 512
    · have h0 : p.val = 0 := by have : 512 * p.val + c.val < 512 := h'.2; omega
      rw [dif_pos h', hw, if_pos (by omega)]
      exact congrArg (fun y => ((W y : ℝ) : EReal)) (idx3 (show 0 = p.val by omega) (show r.val = r.val % 16 by omega)
        (show 512 * p.val + c.val = c.val by omega))
    · have g : ¬ ((16 ≤ r.val ∧ r.val < 32) ∧ 512 ≤ 512 * p.val + c.val) := h
      have g' : ¬ (r.val < 16 ∧ 512 * p.val + c.val < 512) := h'
      rw [dif_neg h', if_neg (by omega)]
      rfl

/-- A block's gate input, where what it reads is real. -/
theorem gate_real (x3 : Vec Ideal S256x128 .f32) (x4 : Vec Ideal S128x2048 .bf16) (x5 : Vec Ideal S1x1024 .f32) (w : Vec Ideal S2x16x512 .f32)
    (D : S16640x128.Idx → ℝ) (W : S2x16x512.Idx → ℝ) (B : S2x512.Idx → ℝ) (hw : ∀ y, w y = ((W y : ℝ) : EReal))
    (i : Fin 256) (n : Fin 16640) (h3 : ∀ r, x3 (ix2 i r) = ((D (ix2 n r) : ℝ) : EReal))
    (h4 : ∀ (r : Fin 128) (k : Fin 2048), x4 (ix2 r k) = if h : k.val < 1024 then padded w (ix2 r ⟨k.val, h⟩)
      else padded w (ix2 r ⟨k.val - 1024, by omega⟩) - padded w (ix2 r ⟨k.val - 1024, by omega⟩))
    (h5 : ∀ p c, x5 (ix2 0 (side p c)) = ((B (ix2 p c) : ℝ) : EReal)) (p : Fin 2) (c : Fin 512) :
    gateIn x3 x4 x5 i (side p c) = ((gateReal D W B p n c : ℝ) : EReal) := by
  have low : ∀ r : Fin 128, x4 (ix2 r ⟨(side p c).val, by have := (side p c).isLt; omega⟩) = ((padReal W p r c : ℝ) : EReal) := fun r => by
    rw [h4, dif_pos (side p c).isLt]
    exact padded_real w W hw p r c
  have high : ∀ r : Fin 128, x4 (ix2 r ⟨1024 + (side p c).val, by have := (side p c).isLt; omega⟩) = 0 := fun r => by
    rw [h4, dif_neg (by show ¬ 1024 + (side p c).val < 1024; omega)]
    have e : (⟨1024 + (side p c).val - 1024, by have := (side p c).isLt; omega⟩ : Fin 1024) = side p c := Fin.ext (by show 1024 + (side p c).val - 1024 = (side p c).val; omega)
    show padded w (ix2 r (⟨1024 + (side p c).val - 1024, _⟩ : Fin 1024)) - padded w (ix2 r (⟨1024 + (side p c).val - 1024, _⟩ : Fin 1024)) = 0
    rw [e, padded_real w W hw p r c]
    exact sub_self_real _
  unfold gateIn
  simp only [low, high, h3, h5, sub_self_real, zero_mul, mul_zero, Finset.sum_const_zero, add_zero]
  have e : (∑ r : Fin 128, D (ix2 n r) * padReal W p r c) = ∑ r : Fin 16, D (ix2 n (rank p r)) * W (ix3 p r c) := by
    rw [show (∑ r : Fin 128, D (ix2 n r) * padReal W p r c)
        = ∑ r : Fin 128, if r.val / 16 = p.val then D (ix2 n r) * W (ix3 p ⟨r.val % 16, Nat.mod_lt _ (by decide)⟩ c) else 0 from
      Finset.sum_congr rfl fun r _ => by unfold padReal; split_ifs <;> simp, ranks]
    exact Finset.sum_congr rfl fun r _ => congrArg (fun y => D (ix2 n (rank p r)) * W y) (idx3 rfl (by show (16 * p.val + r.val) % 16 = r.val; omega) rfl)
  unfold gateReal
  rw [← e, EReal.coe_add, coe_sum]
  simp only [EReal.coe_mul]

/-- The decays of a chunk, side by side. -/
def decays (D : S16640x128.Idx → ℝ) (W : S2x16x512.Idx → ℝ) (B : S2x512.Idx → ℝ) (t : Fin 65) (j : Fin 256) (c : Fin 1024) : ℝ :=
  decay (gateReal D W B ⟨c.val / 512, by omega⟩ (row t j) ⟨c.val % 512, by omega⟩)

theorem decays_side (D : S16640x128.Idx → ℝ) (W : S2x16x512.Idx → ℝ) (B : S2x512.Idx → ℝ) (t : Fin 65) (j : Fin 256) (p : Fin 2) (c : Fin 512)
    (k : Fin 1024) (hk : k.val = 512 * p.val + c.val) : decays D W B t j k = decay (gateReal D W B p (row t j) c) := by
  have e0 : (⟨k.val / 512, by omega⟩ : Fin 2) = p := Fin.ext (by show k.val / 512 = p.val; omega)
  have e1 : (⟨k.val % 512, by omega⟩ : Fin 512) = c := Fin.ext (by show k.val % 512 = c.val; omega)
  unfold decays
  rw [e0, e1]

/-- One head's decays of direction `p` in chunk `t`. -/
def headDecay (D : S16640x128.Idx → ℝ) (W : S2x16x512.Idx → ℝ) (B : S2x512.Idx → ℝ) (p : Fin 2) (t : Fin 65) (c : Fin 512) (j : Fin 256) : ℝ :=
  decay (gateReal D W B p (row t j) c)

section
variable (m : (ℓ : Loc nD τ sig) → Buf (Elt Ideal) ℓ) (ρ : Dev nD → PrngReg) (c : Dev nD)
  (D : S16640x128.Idx → ℝ) (W : S2x16x512.Idx → ℝ) (B : S2x512.Idx → ℝ)

/-- The packed queries, keys and values. -/
abbrev packed : S16640x2048.Idx → EReal := argOf m c main_arg0

/-- What the claim asks of the arguments: they are real, and the gates' inputs are not below -9. -/
structure Bounded : Prop where
  low : ∀ y, (argOf m c main_arg1 : Vec Ideal S16640x128 .f32) y = ((D y : ℝ) : EReal)
  up : ∀ y, (argOf m c main_arg2 : Vec Ideal S2x16x512 .f32) y = ((W y : ℝ) : EReal)
  bias : ∀ y, (argOf m c main_arg3 : Vec Ideal S2x512 .f32) y = ((B y : ℝ) : EReal)
  floor : ∀ p n k, -9 ≤ gateReal D W B p n k

/-- An argument array a call reads is the launch's. -/
theorem first_arg (a : Ref sig .tc) (ha : a ∈ argRefs) : V1 m ρ c a = argOf m c a := W1_args m ρ c a ha
theorem second_arg (a : Ref sig .tc) (ha : a ∈ argRefs) : V3 m ρ c a = argOf m c a := W3_args m ρ c a ha

variable (b : Bounded m c D W B)
include b

theorem block_decays (t : Fin 65) (i : Fin 256) (k : Fin 1024) :
    k0_pay43 (iblk0 (V1 m ρ) c 0 (p0 t)) (iblk0 (V1 m ρ) c 1 (p0 t)) (iblk0 (V1 m ρ) c 2 (p0 t)) (iblk0 (V1 m ρ) c 3 (p0 t)) (iblk0 (V1 m ρ) c 4 (p0 t))
      (iblk0 (V1 m ρ) c 5 (p0 t)) (ix2 i k) = ((decays D W B t i k : ℝ) : EReal) := by
  have hk : k = side ⟨k.val / 512, by omega⟩ ⟨k.val % 512, by omega⟩ := Fin.ext (by show k.val = 512 * (k.val / 512) + k.val % 512; omega)
  refine decays_at _ _ _ _ _ _ i k _ ?_
  rw [hk]
  refine (gate_real (iblk0 (V1 m ρ) c 3 (p0 t)) (iblk0 (V1 m ρ) c 4 (p0 t)) (iblk0 (V1 m ρ) c 5 (p0 t)) (argOf m c main_arg2) D W B b.up i (row t i) ?_ ?_ ?_ _ _).trans ?_
  · intro r
    rw [block0_3, first_arg m ρ c main_arg1 (by decide)]
    exact b.low _
  · intro r k
    exact (block0_4 _ c t r k).trans (host_up m ρ c r k)
  · intro p k
    refine (block0_5 _ c t 0 (side p k)).trans ((host_bias m ρ c _).trans ((b.bias _).trans ?_))
    exact congrArg (fun y => ((B y : ℝ) : EReal)) (idx2 (show (512 * p.val + k.val) / 512 = p.val by omega) (show (512 * p.val + k.val) % 512 = k.val by omega))
  · exact congrArg (fun z : ℝ => (z : EReal)) (by rw [← hk])

theorem decays_small (t : Fin 65) (i : Fin 256) (k : Fin 1024) : |decays D W B t i k| ≤ 5 / 8 := decay_bound _ (b.floor _ _ _)

/-- The queries, the keys and the values of the packed projection. -/
abbrev queryCol (k : Fin 512) : Fin 2048 := ⟨k.val, by omega⟩
abbrev keyCol (k : Fin 512) : Fin 2048 := ⟨512 + k.val, by omega⟩
abbrev valueCol (k : Fin 1024) : Fin 2048 := ⟨1024 + k.val, by omega⟩

theorem prep6 (t : Fin 65) (i : Fin 256) (k : Fin 512) : (V3 m ρ c main_v21_0 : Vec Ideal S16640x512 .bf16) (ix2 (row t i) k)
    = packed m c (ix2 (row t i) (queryCol k)) * eighth * ((Real.exp (below (headDecay D W B 0 t k) i - below (headDecay D W B 0 t k) 127) : ℝ) : EReal) := by
  have e : (V3 m ρ c main_v21_0 : Vec Ideal S16640x512 .bf16) = (dat0 (V1 m ρ) c).arrAt 6 cfg0.N :=
    (W3_of m ρ c main_v21_0 (by decide)).trans (W2_arr m ρ c 6)
  have g : (fun j => decays D W B t j (fwd k)) = headDecay D W B 0 t k :=
    funext fun j => decays_side D W B t j 0 k _ (by show _ = 512 * 0 + k.val; simp [fwd])
  rw [e, kept0_6]
  unfold left0_6
  refine (out6 _ _ _ _ _ _ (decays D W B t) (block_decays m ρ c D W B b t) (decays_small m c D W B b t) i k).trans ?_
  rw [g, block0_0, first_arg m ρ c main_arg0 (by decide)]

theorem prep7 (t : Fin 65) (i : Fin 256) (k : Fin 512) : (V3 m ρ c main_v21_1 : Vec Ideal S16640x512 .bf16) (ix2 (row t i) k)
    = packed m c (ix2 (row t i) (keyCol k)) * ((Real.exp (-(below (headDecay D W B 0 t k) i - below (headDecay D W B 0 t k) 127)) : ℝ) : EReal) := by
  have e : (V3 m ρ c main_v21_1 : Vec Ideal S16640x512 .bf16) = (dat0 (V1 m ρ) c).arrAt 7 cfg0.N :=
    (W3_of m ρ c main_v21_1 (by decide)).trans (W2_arr m ρ c 7)
  have g : (fun j => decays D W B t j (fwd k)) = headDecay D W B 0 t k :=
    funext fun j => decays_side D W B t j 0 k _ (by show _ = 512 * 0 + k.val; simp [fwd])
  rw [e, kept0_7]
  unfold left0_7
  refine (out7 _ _ _ _ _ _ (decays D W B t) (block_decays m ρ c D W B b t) (decays_small m c D W B b t) i k).trans ?_
  rw [g, block0_1, first_arg m ρ c main_arg0 (by decide)]

theorem prep8 (t : Fin 65) (i : Fin 256) (k : Fin 512) : (V3 m ρ c main_v21_2 : Vec Ideal S16640x512 .bf16) (ix2 (row t i) k)
    = packed m c (ix2 (row t i) (queryCol k)) * eighth * ((Real.exp (below (headDecay D W B 0 t k) i) : ℝ) : EReal) := by
  have e : (V3 m ρ c main_v21_2 : Vec Ideal S16640x512 .bf16) = (dat0 (V1 m ρ) c).arrAt 8 cfg0.N :=
    (W3_of m ρ c main_v21_2 (by decide)).trans (W2_arr m ρ c 8)
  have g : (fun j => decays D W B t j (fwd k)) = headDecay D W B 0 t k :=
    funext fun j => decays_side D W B t j 0 k _ (by show _ = 512 * 0 + k.val; simp [fwd])
  rw [e, kept0_8]
  unfold left0_8
  refine (out8 _ _ _ _ _ _ (decays D W B t) (block_decays m ρ c D W B b t) i k).trans ?_
  rw [g, block0_0, first_arg m ρ c main_arg0 (by decide)]

theorem prep9 (t : Fin 65) (i : Fin 256) (k : Fin 512) : (V3 m ρ c main_v21_3 : Vec Ideal S16640x512 .bf16) (ix2 (row t i) k)
    = packed m c (ix2 (row t i) (queryCol k)) * eighth * ((Real.exp (above (headDecay D W B 1 t k) i - above (headDecay D W B 1 t k) 128) : ℝ) : EReal) := by
  have e : (V3 m ρ c main_v21_3 : Vec Ideal S16640x512 .bf16) = (dat0 (V1 m ρ) c).arrAt 9 cfg0.N :=
    (W3_of m ρ c main_v21_3 (by decide)).trans (W2_arr m ρ c 9)
  have g : (fun j => decays D W B t j (bwd k)) = headDecay D W B 1 t k :=
    funext fun j => decays_side D W B t j 1 k _ (by show _ = 512 * 1 + k.val; simp [bwd])
  rw [e, kept0_9]
  unfold left0_9
  refine (out9 _ _ _ _ _ _ (decays D W B t) (block_decays m ρ c D W B b t) (decays_small m c D W B b t) i k).trans ?_
  rw [g, block0_0, first_arg m ρ c main_arg0 (by decide)]

theorem prep10 (t : Fin 65) (i : Fin 256) (k : Fin 512) : (V3 m ρ c main_v21_4 : Vec Ideal S16640x512 .bf16) (ix2 (row t i) k)
    = packed m c (ix2 (row t i) (keyCol k)) * ((Real.exp (-(above (headDecay D W B 1 t k) i - above (headDecay D W B 1 t k) 128)) : ℝ) : EReal) := by
  have e : (V3 m ρ c main_v21_4 : Vec Ideal S16640x512 .bf16) = (dat0 (V1 m ρ) c).arrAt 10 cfg0.N :=
    (W3_of m ρ c main_v21_4 (by decide)).trans (W2_arr m ρ c 10)
  have g : (fun j => decays D W B t j (bwd k)) = headDecay D W B 1 t k :=
    funext fun j => decays_side D W B t j 1 k _ (by show _ = 512 * 1 + k.val; simp [bwd])
  rw [e, kept0_10]
  unfold left0_10
  refine (out10 _ _ _ _ _ _ (decays D W B t) (block_decays m ρ c D W B b t) (decays_small m c D W B b t) i k).trans ?_
  rw [g, block0_1, first_arg m ρ c main_arg0 (by decide)]

theorem prep11 (t : Fin 65) (i : Fin 256) (k : Fin 512) : (V3 m ρ c main_v21_5 : Vec Ideal S16640x512 .bf16) (ix2 (row t i) k)
    = packed m c (ix2 (row t i) (queryCol k)) * eighth * ((Real.exp (above (headDecay D W B 1 t k) i) : ℝ) : EReal) := by
  have e : (V3 m ρ c main_v21_5 : Vec Ideal S16640x512 .bf16) = (dat0 (V1 m ρ) c).arrAt 11 cfg0.N :=
    (W3_of m ρ c main_v21_5 (by decide)).trans (W2_arr m ρ c 11)
  have g : (fun j => decays D W B t j (bwd k)) = headDecay D W B 1 t k :=
    funext fun j => decays_side D W B t j 1 k _ (by show _ = 512 * 1 + k.val; simp [bwd])
  rw [e, kept0_11]
  unfold left0_11
  refine (out11 _ _ _ _ _ _ (decays D W B t) (block_decays m ρ c D W B b t) i k).trans ?_
  rw [g, block0_0, first_arg m ρ c main_arg0 (by decide)]

end

end Cert.Proof.Mixing
-- ==== Proof.Mixing.Tiles.lean ====
/-
  The second kernel's gated mixing, at an index: each of its sixteen stores is a tile of one array.
-/
module

public import proofs.«01_k».proof.Proof.Mixing.Out1

@[expose] public section

noncomputable section

namespace Cert.Proof.Mixing

open Idealize.ShloMosaic hiding ix1 ix2 ix3 ix4 ix5 eq_ix1 eq_ix2 eq_ix3 eq_ix4 eq_ix5
open Idealize.ShloMosaic.ValueIdx
open Cert.MixerIdeal Cert.MixerIdeal.Gen
open scoped BigOperators

/-- The smooth rectifier, by its hyperbolic tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- A row with its mean taken away. -/
def centred (v : Fin 1024 → EReal) (c : Fin 1024) : EReal := v c - Ideal.div (∑ e : Fin 1024, v e) across

/-- A row's layer norm with its gain and its bias. -/
def layered (v : Fin 1024 → EReal) (g b : EReal) (c : Fin 1024) : EReal :=
  centred v c * Ideal.rsqrt (Ideal.div (∑ e : Fin 1024, centred v e * centred v e) across + eps) * g + b

theorem gelu_apply (x : Vec Ideal S256x1024 .bf16) (i : Fin 256) (c : Fin 1024) : k1_pay77 (k1_pay75 x) (k1_pay76 x) (ix2 i c) = gelu (x (ix2 i c)) := by
  pointwise [k1_pay77, k1_pay76, k1_pay75, gelu]

theorem layered_apply (x : Vec Ideal S256x1024 .bf16) (g b : Vec Ideal S1x1024 .f32) (i : Fin 256) (c : Fin 1024) :
    k1_pay79 (k1_pay78 x g) b (ix2 i c) = layered (fun e => gelu (x (ix2 i e))) (g (ix2 0 c)) (b (ix2 0 c)) c := by
  pointwise [k1_pay79, k1_pay78, layered, centred, gelu]
  simp only [ix2_eq_valueIdx]

/-- A tile as stored: the rows' and columns' part of the gate, times the mixed rows and their bias. -/
def tile (o0 o1 : Nat) (h : S256x1024.Slices ![o0, o1] S128x128) (u : FVec Ideal S256x1024 .f32) (vn : FVec Ideal S256x1024 .bf16)
    (w : Vec Ideal S1x1x128x128 .bf16) (b : Vec Ideal S1x128x128 .f32) : FVec Ideal S128x128 .bf16 :=
  truncf .bf16 (mulf (extractStridedSlice S128x128 ![o0, o1] u h)
    (addf (matmul (φ₁ := .bf16) (φ₂ := .bf16) dot_S128x128_S128x128_S128x128_1_0_0_1_n_n none (shapeCast (α := Elt Ideal .bf16) S128x128 w shapeCasts_S1x1x128x128_S128x128)
        (extractStridedSlice S128x128 ![o0, o1] vn h) (constant S128x128 .f32 0x00000000#32))
      (shapeCast S128x128 b shapeCasts_S1x128x128_S128x128))) bitsLt_bf16_f32

/-- Group `g`'s columns, and chunk `a`'s rows. -/
def rowOf (a : Fin 2) (t : Fin 128) : Fin 256 := ⟨128 * a.val + t.val, by omega⟩

/-- The mixing of a block: chunk `a`, row `t` of the chunk, group `g`, column `c` of the group. -/
def tiles (x11 x12 : Vec Ideal S256x1024 .bf16) (x13 x14 : Vec Ideal S1x1024 .f32) (x15 : Vec Ideal S1x8x128x128 .bf16)
    (x16 : Vec Ideal S8x128x128 .f32) (a : Fin 2) (t : Fin 128) (g : Fin 8) (c : Fin 128) : EReal :=
  gelu (x11 (ix2 (rowOf a t) (colv g c)))
    * ((∑ j : Fin 128, x15 (ix4 0 g t j)
        * layered (fun e => gelu (x12 (ix2 (rowOf a j) e))) (x13 (ix2 0 (colv g c))) (x14 (ix2 0 (colv g c))) (colv g c))
      + x16 (ix3 g t c))

/-- A block's tiles, put together. -/
def tilesAt (x11 x12 : Vec Ideal S256x1024 .bf16) (x13 x14 : Vec Ideal S1x1024 .f32) (x15 : Vec Ideal S1x8x128x128 .bf16)
    (x16 : Vec Ideal S8x128x128 .f32) (y : S256x1024.Idx) : EReal :=
  tiles x11 x12 x13 x14 x15 x16 ⟨(y 0).val / 128, Nat.div_lt_of_lt_mul (y 0).isLt⟩ ⟨(y 0).val % 128, Nat.mod_lt _ (by decide)⟩
    ⟨(y 1).val / 128, Nat.div_lt_of_lt_mul (y 1).isLt⟩ ⟨(y 1).val % 128, Nat.mod_lt _ (by decide)⟩

section
variable (x0 x1 x2 x3 x4 x5 : Vec Ideal S256x512 .bf16) (x6 : Vec Ideal S256x1024 .bf16) (x7 x8 : Vec Ideal S1x128x512 .bf16)
  (x9 : Vec Ideal S256x1024 .bf16) (x10 : Vec Ideal S1x1024 .f32) (x11 x12 : Vec Ideal S256x1024 .bf16) (x13 x14 : Vec Ideal S1x1024 .f32)
  (x15 : Vec Ideal S1x8x128x128 .bf16) (x16 : Vec Ideal S8x128x128 .f32)

theorem tilesAt_eq (y : S256x1024.Idx) (a : Fin 2) (t : Fin 128) (g : Fin 8) (c : Fin 128)
    (h0 : (y 0).val = 128 * a.val + t.val) (h1 : (y 1).val = 128 * g.val + c.val) :
    tilesAt x11 x12 x13 x14 x15 x16 y = tiles x11 x12 x13 x14 x15 x16 a t g c := by
  have ea : (⟨(y 0).val / 128, Nat.div_lt_of_lt_mul (y 0).isLt⟩ : Fin 2) = a := Fin.ext (by show (y 0).val / 128 = a.val; omega)
  have et : (⟨(y 0).val % 128, Nat.mod_lt _ (by decide)⟩ : Fin 128) = t := Fin.ext (by show (y 0).val % 128 = t.val; omega)
  have eg : (⟨(y 1).val / 128, Nat.div_lt_of_lt_mul (y 1).isLt⟩ : Fin 8) = g := Fin.ext (by show (y 1).val / 128 = g.val; omega)
  have ec : (⟨(y 1).val % 128, Nat.mod_lt _ (by decide)⟩ : Fin 128) = c := Fin.ext (by show (y 1).val % 128 = c.val; omega)
  exact congr (congr (congr (congrArg (tiles x11 x12 x13 x14 x15 x16) ea) et) eg) ec

/-- The tile a store takes is the tile of the rows and columns it goes to. -/
theorem tile_piece (a : Fin 2) (g : Fin 8) (o0 o1 n : Nat) (e0 : o0 = 128 * a.val) (e1 : o1 = 128 * g.val) (en : n = g.val)
    (h : S256x1024.Slices ![o0, o1] S128x128)
    (io : ∀ k, (![o0, o1] : Fin 2 → Nat) k + S128x128.size k ≤ S256x1024.size k)
    (iw : ∀ k, (![0, n, 0, 0] : Fin 4 → Nat) k + S1x1x128x128.size k ≤ S1x8x128x128.size k)
    (ib : ∀ k, (![n, 0, 0] : Fin 3 → Nat) k + S1x128x128.size k ≤ S8x128x128.size k)
    (y : S128x128.Idx) :
    tile o0 o1 h (k1_pay77 (k1_pay75 (View.ld x11 r1_24)) (k1_pay76 (View.ld x11 r1_24))) (k1_pay79 (k1_pay78 (View.ld x12 r1_24) (View.ld x13 r1_25)) (View.ld x14 r1_25))
      (View.ld x15 (Rect.unit (s := S1x8x128x128) ![0, n, 0, 0] S1x1x128x128.size iw))
      (View.ld x16 (Rect.unit (s := S8x128x128) ![n, 0, 0] S1x128x128.size ib)) y
      = tilesAt x11 x12 x13 x14 x15 x16 ((Rect.unit (s := S256x1024) ![o0, o1] S128x128.size io).emb y) := by
  obtain ⟨t, c, rfl⟩ := (⟨_, _, eq_ix2 y⟩ : ∃ (t c : Fin 128), y = ix2 t c)
  refine Eq.trans ?_ (tilesAt_eq x11 x12 x13 x14 x15 x16 _ a t g c (show o0 + 1 * t.val = _ by omega) (show o1 + 1 * c.val = _ by omega)).symm
  rw [View.ld_unit_zero (S := S256x1024) zeros2, View.ld_unit_zero (S := S256x1024) zeros2, View.ld_unit_zero (S := S1x1024) zeros2, View.ld_unit_zero (S := S1x1024) zeros2]
  have es : ∀ {α : Type} (x : S256x1024.Idx → α) (j : Fin 128), extractStridedSlice S128x128 ![o0, o1] x h (ix2 j c) = x (ix2 (rowOf a j) (colv g c)) := fun x j =>
    extractStridedSlice_apply _ x h _ _ (fun k => by
      match k with
      | ⟨0, _⟩ => show 128 * a.val + j.val = o0 + j.val; omega
      | ⟨1, _⟩ => show 128 * g.val + c.val = o1 + c.val; omega)
  have ew : ∀ j : Fin 128, shapeCast S128x128 (View.ld x15 (Rect.unit (s := S1x8x128x128) ![0, n, 0, 0] S1x1x128x128.size iw)) shapeCasts_S1x1x128x128_S128x128 (ix2 t j)
      = x15 (ix4 0 g t j) := fun j => by
    refine (congrArg (View.ld x15 (Rect.unit (s := S1x8x128x128) ![0, n, 0, 0] S1x1x128x128.size iw)) (reshapeEquiv_ix2_11ab shapeCasts_S1x1x128x128_S128x128 t j)).trans ?_
    exact congrArg x15 (idx4 rfl (show n + 1 * 0 = g.val by omega) (show 0 + 1 * t.val = t.val by omega) (show 0 + 1 * j.val = j.val by omega))
  have eb : shapeCast S128x128 (View.ld x16 (Rect.unit (s := S8x128x128) ![n, 0, 0] S1x128x128.size ib)) shapeCasts_S1x128x128_S128x128 (ix2 t c) = x16 (ix3 g t c) := by
    refine (shapeCast_dropUnit_apply ![128, 128] _ shapeCasts_S1x128x128_S128x128 (ix2 t c)).trans ?_
    exact congrArg x16 (idx3 (show n + 1 * 0 = g.val by omega) (show 0 + 1 * t.val = t.val by omega) (show 0 + 1 * c.val = c.val by omega))
  show extractStridedSlice S128x128 ![o0, o1] (k1_pay77 (k1_pay75 x11) (k1_pay76 x11)) h (ix2 t c)
    * (FloatOps.matmul (F := Ideal) (φ₁ := .bf16) (φ₂ := .bf16) (DotDims.plain 128 128 128) none _ (extractStridedSlice S128x128 ![o0, o1] (k1_pay79 (k1_pay78 x12 x13) x14) h) (constant S128x128 .f32 0x00000000#32) (ix2 t c)
      + shapeCast S128x128 _ shapeCasts_S1x128x128_S128x128 (ix2 t c)) = _
  rw [product_cols, es, eb, gelu_apply]
  refine congrArg (fun z => gelu (x11 (ix2 (rowOf a t) (colv g c))) * (z + x16 (ix3 g t c))) (Finset.sum_congr rfl fun j _ => ?_)
  rw [ew, es, layered_apply]

/-- The mixing's block is its sixteen tiles. -/
theorem out18 (y : S256x1024.Idx) : out1_18 x0 x1 x2 x3 x4 x5 x6 x7 x8 x9 x10 x11 x12 x13 x14 x15 x16 y = tilesAt x11 x12 x13 x14 x15 x16 y := by
  have P := tile_piece x11 x12 x13 x14 x15 x16
  unfold out1_18
  refine View.canon_apply_of_pieces (Val := Elt Ideal) (e := .bf16) (tilesAt x11 x12 x13 x14 x15 x16) _ ?_ y (cover1_18 _ _ _ _ _ _ _ _ _ _ _ _ _ _ _ _ y)
  simp only [List.forall_mem_cons]
  refine ⟨fun y => ?_, fun y => ?_, fun y => ?_, fun y => ?_, fun y => ?_, fun y => ?_, fun y => ?_, fun y => ?_,
    fun y => ?_, fun y => ?_, fun y => ?_, fun y => ?_, fun y => ?_, fun y => ?_, fun y => ?_, fun y => ?_, fun p hp => absurd hp List.not_mem_nil⟩
  · exact P 1 7 128 896 7 rfl rfl rfl _ _ _ _ y
  · exact P 1 6 128 768 6 rfl rfl rfl _ _ _ _ y
  · exact P 1 5 128 640 5 rfl rfl rfl _ _ _ _ y
  · exact P 1 4 128 512 4 rfl rfl rfl _ _ _ _ y
  · exact P 1 3 128 384 3 rfl rfl rfl _ _ _ _ y
  · exact P 1 2 128 256 2 rfl rfl rfl _ _ _ _ y
  · exact P 1 1 128 128 1 rfl rfl rfl _ _ _ _ y
  · exact P 1 0 128 0 0 rfl rfl rfl _ _ _ _ y
  · exact P 0 7 0 896 7 rfl rfl rfl _ _ _ _ y
  · exact P 0 6 0 768 6 rfl rfl rfl _ _ _ _ y
  · exact P 0 5 0 640 5 rfl rfl rfl _ _ _ _ y
  · exact P 0 4 0 512 4 rfl rfl rfl _ _ _ _ y
  · exact P 0 3 0 384 3 rfl rfl rfl _ _ _ _ y
  · exact P 0 2 0 256 2 rfl rfl rfl _ _ _ _ y
  · exact P 0 1 0 128 1 rfl rfl rfl _ _ _ _ y
  · exact P 0 0 0 0 0 rfl rfl rfl _ _ _ _ y

end

end Cert.Proof.Mixing

end
-- ==== Proof.Mixing.Value.lean ====
/-
  The two results of the mixers' program as functions of its arguments.
-/
module

public import proofs.«01_k».proof.Proof.Mixing.Gate
public import proofs.«01_k».proof.Proof.Mixing.Tiles
public import proofs.«01_k».proof.Proof.Mixing.Algebra

@[expose] public section

noncomputable section

namespace Cert.Proof.Mixing

open Idealize.ShloMosaic hiding ix1 ix2 ix3 ix4 ix5 eq_ix1 eq_ix2 eq_ix3 eq_ix4 eq_ix5
open Idealize.ShloMosaic.ValueIdx
open Idealize.ShloMosaic.TcCoe Idealize.SL.Sem
open Cert.MixerIdeal Cert.MixerIdeal.Gen
open scoped BigOperators

/-- Columns of the packed gates: the linear attention's, the rows' part, the mixed part. -/
abbrev gateCol (k : Fin 1024) : Fin 3072 := ⟨k.val, by omega⟩
abbrev rowsCol (k : Fin 1024) : Fin 3072 := ⟨1024 + k.val, by omega⟩
abbrev mixedCol (k : Fin 1024) : Fin 3072 := ⟨2048 + k.val, by omega⟩

/-- The linear attention's result: chunk `t`, head `h`, row `i` of the chunk, column `c` of the head. -/
def attended (qkv : S16640x2048.Idx → EReal) (D : S16640x128.Idx → ℝ) (W : S2x16x512.Idx → ℝ) (B : S2x512.Idx → ℝ)
    (stf stb : S65x128x512.Idx → EReal) (ruv : S16640x3072.Idx → EReal) (gain : S1024.Idx → EReal)
    (t : Fin 65) (h : Fin 8) (i : Fin 256) (c : Fin 128) : EReal :=
  normed (fun e => chunk (fun i j => j.val ≤ i.val) (fun i d => qkv (ix2 (row t i) (queryCol (colq h d))) * eighth)
        (fun j d => qkv (ix2 (row t j) (keyCol (colq h d)))) (fun i d => below (headDecay D W B 0 t (colq h d)) i)
        (fun j c => qkv (ix2 (row t j) (valueCol (colv h c)))) (fun c d => stf (ix3 t c (colq h d))) i e
      + chunk (fun i j => i.val ≤ j.val) (fun i d => qkv (ix2 (row t i) (queryCol (colq h d))) * eighth)
        (fun j d => qkv (ix2 (row t j) (keyCol (colq h d)))) (fun i d => above (headDecay D W B 1 t (colq h d)) i)
        (fun j c => qkv (ix2 (row t j) (valueCol (colv h c)))) (fun c d => stb (ix3 t c (colq h d))) i e)
    (gain (ix1 (colv h c))) (ruv (ix2 (row t i) (gateCol (colv h c)))) c

/-- The spatial gate's result: chunk `t` of 256 rows, half `a`, row `r` of the half, group `g`, column `c` of the group. -/
def gated (ruv : S16640x3072.Idx → EReal) (lng lnb : S1024.Idx → EReal) (sgw : S4x8x128x128.Idx → EReal) (sgb : S8x128.Idx → EReal)
    (t : Fin 65) (a : Fin 2) (r : Fin 128) (g : Fin 8) (c : Fin 128) : EReal :=
  gelu (ruv (ix2 (row t (rowOf a r)) (rowsCol (colv g c))))
    * ((∑ j : Fin 128, sgw (ix4 0 g r j)
        * layered (fun e => gelu (ruv (ix2 (row t (rowOf a j)) (mixedCol e)))) (lng (ix1 (colv g c))) (lnb (ix1 (colv g c))) (colv g c))
      + sgb (ix2 g r))

section
variable (m : (ℓ : Loc nD τ sig) → Buf (Elt Ideal) ℓ) (ρ : Dev nD → PrngReg) (c : Dev nD)
  (D : S16640x128.Idx → ℝ) (W : S2x16x512.Idx → ℝ) (B : S2x512.Idx → ℝ) (b : Bounded m c D W B)

include b in
theorem kernel_attended (t : Fin 65) (h : Fin 8) (i : Fin 256) (e : Fin 128) :
    ((dat1 (V3 m ρ) c).arrAt 17 cfg1.N : Vec Ideal S16640x1024 .bf16) (ix2 (row t i) (colv h e))
      = attended (argOf m c main_arg0) D W B (argOf m c main_arg4) (argOf m c main_arg5) (argOf m c main_arg6) (argOf m c main_arg7) t h i e := by
  rw [kept1_17]
  unfold left1_17
  rw [out17]
  refine (headsAt_eq _ _ _ _ _ _ _ _ _ _ _ _ h i e rfl rfl).trans ?_
  unfold heads
  have f0 := fun (i : Fin 256) (d : Fin 64) => (block1_0 (V3 m ρ) c t i (colq h d)).trans (prep6 m ρ c D W B b t i (colq h d))
  have f1 := fun (i : Fin 256) (d : Fin 64) => (block1_1 (V3 m ρ) c t i (colq h d)).trans (prep7 m ρ c D W B b t i (colq h d))
  have f2 := fun (i : Fin 256) (d : Fin 64) => (block1_2 (V3 m ρ) c t i (colq h d)).trans (prep8 m ρ c D W B b t i (colq h d))
  have f3 := fun (i : Fin 256) (d : Fin 64) => (block1_3 (V3 m ρ) c t i (colq h d)).trans (prep9 m ρ c D W B b t i (colq h d))
  have f4 := fun (i : Fin 256) (d : Fin 64) => (block1_4 (V3 m ρ) c t i (colq h d)).trans (prep10 m ρ c D W B b t i (colq h d))
  have f5 := fun (i : Fin 256) (d : Fin 64) => (block1_5 (V3 m ρ) c t i (colq h d)).trans (prep11 m ρ c D W B b t i (colq h d))
  simp only [f0, f1, f2, f3, f4, f5]
  have f6 := fun (j : Fin 256) (k : Fin 1024) => (block1_6 (V3 m ρ) c t j k).trans (congrFun (second_arg m ρ c main_arg0 (by decide)) _)
  have f7 := fun (j : Fin 128) (k : Fin 512) => (block1_7 (V3 m ρ) c t j k).trans (congrFun (second_arg m ρ c main_arg4 (by decide)) _)
  have f8 := fun (j : Fin 128) (k : Fin 512) => (block1_8 (V3 m ρ) c t j k).trans (congrFun (second_arg m ρ c main_arg5 (by decide)) _)
  have f9 := fun (j : Fin 256) (k : Fin 1024) => (block1_9 (V3 m ρ) c t j k).trans (congrFun (second_arg m ρ c main_arg6 (by decide)) _)
  have f10 := fun (k : Fin 1024) => (block1_10 (V3 m ρ) c t 0 k).trans (host_row23 m ρ c k)
  simp only [f6, f7, f8, f9, f10]
  unfold attended
  refine congrArg (fun o : Fin 128 → EReal => normed o _ _ e) (funext fun e' => ?_)
  exact mixed_chunks (fun i d => packed m c (ix2 (row t i) (queryCol (colq h d))) * eighth) (fun j d => packed m c (ix2 (row t j) (keyCol (colq h d))))
    (fun i d => below (headDecay D W B 0 t (colq h d)) i) (fun i d => above (headDecay D W B 1 t (colq h d)) i) _ _ _ _ _ i e'

theorem kernel_gated (t : Fin 65) (a : Fin 2) (r : Fin 128) (g : Fin 8) (k : Fin 128) :
    ((dat1 (V3 m ρ) c).arrAt 18 cfg1.N : Vec Ideal S16640x1024 .bf16) (ix2 (row t (rowOf a r)) (colv g k))
      = gated (argOf m c main_arg6) (argOf m c main_arg8) (argOf m c main_arg9) (argOf m c main_arg10) (argOf m c main_arg11) t a r g k := by
  rw [kept1_18]
  unfold left1_18
  rw [out18]
  refine (tilesAt_eq _ _ _ _ _ _ _ a r g k rfl rfl).trans ?_
  unfold tiles
  have f11 := fun (j : Fin 256) (k : Fin 1024) => (block1_11 (V3 m ρ) c t j k).trans (congrFun (second_arg m ρ c main_arg6 (by decide)) _)
  have f12 := fun (j : Fin 256) (k : Fin 1024) => (block1_12 (V3 m ρ) c t j k).trans (congrFun (second_arg m ρ c main_arg6 (by decide)) _)
  have f13 := fun (k : Fin 1024) => (block1_13 (V3 m ρ) c t 0 k).trans (host_row24 m ρ c k)
  have f14 := fun (k : Fin 1024) => (block1_14 (V3 m ρ) c t 0 k).trans (host_row25 m ρ c k)
  have f15 := fun (g : Fin 8) (j k : Fin 128) => (block1_15 (V3 m ρ) c t g j k).trans (congrFun (host_tiles m ρ c) _)
  have f16 := fun (g : Fin 8) (j k : Fin 128) => ((block1_16 (V3 m ρ) c t g j k).trans
    (congrFun ((W3_of m ρ c main_v15 (by decide)).trans (W2_of m ρ c main_v15 (by decide))) _)).trans (host_tile_bias m ρ c g j k)
  simp only [f11, f12, f13, f14, f15, f16]
  rfl

end

end Cert.Proof.Mixing
-- ==== Proof.Mixing.RefTiles.lean ====
/-
  The reference's spatial gate, read at an index.
-/
module

public import proofs.«01_k».proof.Proof.Mixing.Value
public import proofs.«01_k».proof.Proof.Gen.MixerRefIdeal.Read

@[expose] public section

noncomputable section

namespace Cert.Proof.Mixing

open Idealize.ShloMosaic hiding ix1 ix2 ix3 ix4 ix5 eq_ix1 eq_ix2 eq_ix3 eq_ix4 eq_ix5
open Idealize.ShloMosaic.ValueIdx
open Cert.MixerRefIdeal Cert.MixerRefIdeal.Gen Cert.MixerRefIdeal.Read
open scoped BigOperators

theorem idx1 {n : Nat} {i j : (⟨1, ![n]⟩ : Shape).Idx} (h : (i 0).val = (j 0).val) : i = j := by
  funext a; apply Fin.ext
  match a with
  | ⟨0, _⟩ => exact h

section
variable (x6 : Vec Ideal S16640x3072 .bf16) (x8 x9 : Vec Ideal S1024 .f32) (x10 : Vec Ideal S4x8x128x128 .f32) (x11 : Vec Ideal S8x128 .f32)

theorem ref_rows (n : Fin 16640) (k : Fin 1024) : val_main_v130 (F := Ideal) x6 (ix2 n k) = gelu (x6 (ix2 n (rowsCol k))) := by
  have e : val_main_v117 (F := Ideal) x6 (ix2 n k) = x6 (ix2 n (rowsCol k)) := by
    rw [val_main_v117_apply, val_main_v116_apply]
    exact congrArg x6 (idx2 rfl rfl)
  simp only [val_main_v130_apply, val_main_v129_apply, val_main_v128_apply, val_main_cst_12_apply, val_main_v127_apply, val_main_v126_apply,
    val_main_cst_11_apply, val_main_v125_apply, val_main_v124_apply, val_main_v123_apply, val_main_cst_10_apply, val_main_v122_apply,
    val_main_v121_apply, val_main_v120_apply, val_main_cst_9_apply, val_main_v119_apply, val_main_v118_apply, e]
  generalize x6 (ix2 n (rowsCol k)) = x
  show x * (_ * (_ + Ideal.tanh (_ * (x + _ * (x * x * x))))) = gelu x
  unfold gelu
  rw [mul_assoc x x x]
  rfl

theorem ref_mixed (n : Fin 16640) (k : Fin 1024) : val_main_v145 (F := Ideal) x6 (ix2 n k) = gelu (x6 (ix2 n (mixedCol k))) := by
  have e : val_main_v132 (F := Ideal) x6 (ix2 n k) = x6 (ix2 n (mixedCol k)) := by
    rw [val_main_v132_apply, val_main_v131_apply]
    exact congrArg x6 (idx2 rfl rfl)
  simp only [val_main_v145_apply, val_main_v144_apply, val_main_v143_apply, val_main_cst_16_apply, val_main_v142_apply, val_main_v141_apply,
    val_main_cst_15_apply, val_main_v140_apply, val_main_v139_apply, val_main_v138_apply, val_main_cst_14_apply, val_main_v137_apply,
    val_main_v136_apply, val_main_v135_apply, val_main_cst_13_apply, val_main_v134_apply, val_main_v133_apply, e]
  generalize x6 (ix2 n (mixedCol k)) = x
  show x * (_ * (_ + Ideal.tanh (_ * (x + _ * (x * x * x))))) = gelu x
  unfold gelu
  rw [mul_assoc x x x]
  rfl

/-- A row less its mean. -/
theorem ref_centred (n : Fin 16640) (k : Fin 1024) :
    val_main_v151 (F := Ideal) x6 (ix2 n k) = centred (fun e => gelu (x6 (ix2 n (mixedCol e)))) k := by
  have s : val_main_v146 (F := Ideal) x6 (ix1 n) = ∑ e : Fin 1024, gelu (x6 (ix2 n (mixedCol e))) := by
    rw [val_main_v146_apply, val_main_cst_17_apply]
    refine (congrArg₂ (fun a b : EReal => a + b) Ideal.ofBits_zero_f32 (Finset.sum_congr rfl fun e _ => ?_)).trans (zero_add _)
    rw [← ref_mixed]
    exact congrArg (val_main_v145 (F := Ideal) x6) (idx2 rfl rfl)
  have i : idx_main_v147 (idx_main_v150 (ix2 n k)) = ix1 n := idx1 rfl
  simp only [val_main_v151_apply, val_main_v150_apply, val_main_v149_apply, val_main_v148_apply, val_main_cst_18_apply, val_main_v147_apply, i, s,
    ref_mixed]
  rfl

/-- The layer norm. -/
theorem ref_layered (n : Fin 16640) (k : Fin 1024) : val_main_v167 (F := Ideal) x6 x8 x9 (ix2 n k)
    = layered (fun e => gelu (x6 (ix2 n (mixedCol e)))) (x8 (ix1 k)) (x9 (ix1 k)) k := by
  have s : val_main_v153 (F := Ideal) x6 (ix1 n)
      = ∑ e : Fin 1024, centred (fun e => gelu (x6 (ix2 n (mixedCol e)))) e * centred (fun e => gelu (x6 (ix2 n (mixedCol e)))) e := by
    rw [val_main_v153_apply, val_main_cst_19_apply]
    refine (congrArg₂ (fun a b : EReal => a + b) Ideal.ofBits_zero_f32 (Finset.sum_congr rfl fun e _ => ?_)).trans (zero_add _)
    rw [val_main_v152_apply, ← ref_centred]
    exact congrArg (fun i => val_main_v151 (F := Ideal) x6 i * val_main_v151 (F := Ideal) x6 i) (idx2 rfl rfl)
  have i : idx_main_v154 (idx_main_v160 (ix2 n k)) = ix1 n := idx1 rfl
  have i8 : idx_main_v162 (idx_main_v163 (ix2 n k)) = ix1 k := idx1 rfl
  have i9 : idx_main_v165 (idx_main_v166 (ix2 n k)) = ix1 k := idx1 rfl
  simp only [val_main_v167_apply, val_main_v166_apply, val_main_v165_apply, val_main_v164_apply, val_main_v163_apply, val_main_v162_apply,
    val_main_v161_apply, val_main_v160_apply, val_main_v159_apply, val_main_v158_apply, val_main_v157_apply, val_main_cst_21_apply,
    val_main_v156_apply, val_main_v155_apply, val_main_cst_20_apply, val_main_v154_apply, i, i8, i9, s, ref_centred]
  rfl

/-- The reference's second result. -/
theorem ref_gated (t : Fin 65) (a : Fin 2) (r : Fin 128) (g : Fin 8) (k : Fin 128) :
    val_main_v180 (F := Ideal) x6 x8 x9 x10 x11 (ix2 (row t (rowOf a r)) (colv g k)) = gated x6 x8 x9 x10 x11 t a r g k := by
  have ha := a.isLt
  have hr := r.isLt
  have hg := g.isLt
  have hk := k.isLt
  have ht := t.isLt
  let b : Fin 130 := ⟨2 * t.val + a.val, by omega⟩
  have i177 : idx_main_v177 (ix2 (row t (rowOf a r)) (colv g k)) = ix4 b r g k := by
    refine idx4 ?_ ?_ ?_ ?_
    · show ((256 * t.val + (128 * a.val + r.val)) * 1024 + (128 * g.val + k.val)) / 131072 = 2 * t.val + a.val
      omega
    · show ((256 * t.val + (128 * a.val + r.val)) * 1024 + (128 * g.val + k.val)) / 1024 % 128 = r.val
      omega
    · show ((256 * t.val + (128 * a.val + r.val)) * 1024 + (128 * g.val + k.val)) / 128 % 8 = g.val
      omega
    · show ((256 * t.val + (128 * a.val + r.val)) * 1024 + (128 * g.val + k.val)) % 128 = k.val
      omega
  have i172 : idx_main_v172 (ix4 b r g k) = ix4 g b k r := idx4 rfl rfl rfl rfl
  have i173 : idx_main_v173 (idx_main_v174 (idx_main_v175 (ix4 b r g k))) = ix2 g r := idx2 rfl rfl
  have s : val_main_v171 (F := Ideal) x6 x8 x9 x10 (ix4 g b k r)
      = ∑ j : Fin 128, x10 (ix4 0 g r j) * layered (fun e => gelu (x6 (ix2 (row t (rowOf a j)) (mixedCol e)))) (x8 (ix1 (colv g k))) (x9 (ix1 (colv g k))) (colv g k) := by
    rw [val_main_v171_apply]
    refine Finset.sum_congr rfl fun j _ => ?_
    have hj := j.isLt
    have il : idx_main_v168 (lidx_main_v171 (ix4 g b k r) j) = ix2 (row t (rowOf a j)) (colv g k) := by
      refine idx2 ?_ ?_
      · show ((((2 * t.val + a.val) * 128 + j.val) * 8 + g.val) * 128 + k.val) / 1024 = 256 * t.val + (128 * a.val + j.val)
        omega
      · show ((((2 * t.val + a.val) * 128 + j.val) * 8 + g.val) * 128 + k.val) % 1024 = 128 * g.val + k.val
        omega
    have ir : idx_main_v169 (idx_main_v170 (ridx_main_v171 (ix4 g b k r) j)) = ix4 0 g r j := by
      refine idx4 rfl ?_ ?_ ?_
      · show ((g.val * 128 + r.val) * 128 + j.val) / 16384 % 8 = g.val
        omega
      · show ((g.val * 128 + r.val) * 128 + j.val) / 128 % 128 = r.val
        omega
      · show ((g.val * 128 + r.val) * 128 + j.val) % 128 = j.val
        omega
    rw [val_main_v168_apply, val_main_v170_apply, val_main_v169_apply, il, ir, ref_layered]
    exact mul_comm _ _
  simp only [val_main_v180_apply, val_main_v178_apply, val_main_v177_apply, i177, val_main_v176_apply, val_main_v172_apply, i172, s,
    val_main_v175_apply, val_main_v174_apply, val_main_v173_apply, i173, ref_rows]
  rfl

end

end Cert.Proof.Mixing

end
-- ==== Proof.Mixing.RefScan.lean ====
/-
  The reference's two scans, read at an index: the decays, their running sums, and each direction's chunk.
-/
module

public import proofs.«01_k».proof.Proof.Mixing.RefTiles

@[expose] public section

noncomputable section

namespace Cert.Proof.Mixing

open Idealize.ShloMosaic hiding ix1 ix2 ix3 ix4 ix5 eq_ix1 eq_ix2 eq_ix3 eq_ix4 eq_ix5
open Idealize.ShloMosaic.ValueIdx
open Cert.MixerRefIdeal Cert.MixerRefIdeal.Gen Cert.MixerRefIdeal.Read
open scoped BigOperators

theorem idx5 {n0 n1 n2 n3 n4 : Nat} {i j : (⟨5, ![n0, n1, n2, n3, n4]⟩ : Shape).Idx} (h0 : (i 0).val = (j 0).val)
    (h1 : (i 1).val = (j 1).val) (h2 : (i 2).val = (j 2).val) (h3 : (i 3).val = (j 3).val) (h4 : (i 4).val = (j 4).val) : i = j := by
  funext a; apply Fin.ext
  match a with
  | ⟨0, _⟩ => exact h0
  | ⟨1, _⟩ => exact h1
  | ⟨2, _⟩ => exact h2
  | ⟨3, _⟩ => exact h3
  | ⟨4, _⟩ => exact h4

theorem fold_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- A window's positions: the third coordinate is the only one. -/
def positions : (⟨4, ![1, 1, 256, 1]⟩ : Shape).Idx ≃ Fin 256 where
  toFun w := w 2
  invFun k := ix4 0 0 k 0
  left_inv w := idx4 (show 0 = (w 0).val by have h : (w 0).val < 1 := (w 0).isLt; omega) (show 0 = (w 1).val by have h : (w 1).val < 1 := (w 1).isLt; omega)
    rfl (show 0 = (w 3).val by have h : (w 3).val < 1 := (w 3).isLt; omega)
  right_inv _ := rfl

/-- The window sum along the rows of a chunk, padded low by 255, is the running sum. -/
theorem running (x : S65x8x256x64.Idx → EReal) (init : EReal) (h0 : init = 0)
    (h : S65x8x256x64.ReduceWindows ![1, 1, 256, 1] ![1, 1, 1, 1] ![0, 0, 255, 0] ![0, 0, 0, 0] S65x8x256x64)
    (t : Fin 65) (g : Fin 8) (i : Fin 256) (d : Fin 64) :
    Ideal.hostReduceWindowAdd ![1, 1, 256, 1] ![1, 1, 1, 1] ![0, 0, 255, 0] ![0, 0, 0, 0] h x init (ix4 t g i d)
      = ∑ j : Fin 256, if j.val ≤ i.val then x (ix4 t g j d) else 0 := by
  subst h0
  unfold Ideal.hostReduceWindowAdd Host.reduceWindow
  refine (fold_add _ _ _).trans ?_
  rw [zero_add, ← Fin.sum_univ_def]
  refine (Equiv.sum_comp (⟨4, ![1, 1, 256, 1]⟩ : Shape).rowMajor _).symm.trans ?_
  refine (Equiv.sum_comp positions.symm _).symm.trans ?_
  refine Eq.trans (Finset.sum_congr rfl fun k _ => ?_) (Equiv.sum_comp (Equiv.addRight (i + 1)) (fun j : Fin 256 => if j.val ≤ i.val then x (ix4 t g j d) else 0))
  have hi := i.isLt
  have hk := k.isLt
  have ht := t.isLt
  have hg := g.isLt
  have hd := d.isLt
  have e : (k + (i + 1)).val = (k.val + (i.val + 1) % 256) % 256 := by
    rw [Fin.val_add, Fin.val_add]; rfl
  simp only [Equiv.symm_apply_apply]
  split
  · next hin =>
    have h2 : 255 ≤ i.val * 1 + k.val ∧ i.val * 1 + k.val - 255 < 256 := hin 2
    refine Eq.trans (congrArg x (idx4 ?_ ?_ ?_ ?_)) (if_pos (show (k + (i + 1)).val ≤ i.val by omega)).symm
    · show t.val * 1 + 0 - 0 = t.val
      omega
    · show g.val * 1 + 0 - 0 = g.val
      omega
    · show i.val * 1 + k.val - 255 = (k + (i + 1)).val
      omega
    · show d.val * 1 + 0 - 0 = d.val
      omega
  · next hin =>
    refine (if_neg (show ¬ (k + (i + 1)).val ≤ i.val from fun hle => hin fun a => ?_)).symm
    match a with
    | ⟨0, _⟩ => show 0 ≤ t.val * 1 + 0 ∧ t.val * 1 + 0 - 0 < 65; omega
    | ⟨1, _⟩ => show 0 ≤ g.val * 1 + 0 ∧ g.val * 1 + 0 - 0 < 8; omega
    | ⟨2, _⟩ => show 255 ≤ i.val * 1 + k.val ∧ i.val * 1 + k.val - 255 < 256; omega
    | ⟨3, _⟩ => show 0 ≤ d.val * 1 + 0 ∧ d.val * 1 + 0 - 0 < 64; omega

/-- Reversed rows. -/
theorem reversed64 (x : S65x8x256x64.Idx → EReal) (t : Fin 65) (g : Fin 8) (i : Fin 256) (d : Fin 64) :
    Host.reverse [2] x (ix4 t g i d) = x (ix4 t g i.rev d) := congrArg x (idx4 rfl rfl rfl rfl)
theorem reversed128 (x : S65x8x256x128.Idx → EReal) (t : Fin 65) (g : Fin 8) (i : Fin 256) (d : Fin 128) :
    Host.reverse [2] x (ix4 t g i d) = x (ix4 t g i.rev d) := congrArg x (idx4 rfl rfl rfl rfl)

theorem below_rev (f : Fin 256 → ℝ) (i : Fin 256) : below (fun j => f j.rev) i = above f i.rev := by
  unfold below above
  refine Eq.trans (Finset.sum_congr rfl fun j _ => ?_) (Equiv.sum_comp Fin.revPerm (fun j : Fin 256 => if i.rev.val ≤ j.val then f j else 0))
  have hi := i.isLt
  have hj := j.isLt
  have e1 : i.rev.val = 255 - i.val := by rw [Fin.val_rev]; omega
  have e2 : j.rev.val = 255 - j.val := by rw [Fin.val_rev]; omega
  simp only [Fin.revPerm_apply, e1, e2]
  exact if_congr (by omega) rfl rfl

/-- A chunk of reversed rows, taken at the reversed row, is the chunk from the other end. -/
theorem chunk_rev (q k : Fin 256 → Fin 64 → EReal) (A : Fin 256 → Fin 64 → ℝ) (v : Fin 256 → Fin 128 → EReal) (s : Fin 128 → Fin 64 → EReal)
    (i : Fin 256) (c : Fin 128) :
    chunk (fun i j => j.val ≤ i.val) (fun i d => q i.rev d) (fun j d => k j.rev d) (fun i d => A i.rev d) (fun j c => v j.rev c) s i.rev c
      = chunk (fun i j => i.val ≤ j.val) q k A v s i c := by
  unfold chunk
  simp only [Fin.rev_rev]
  refine congrArg₂ (fun a b : EReal => a + b) rfl ?_
  refine Eq.trans (Finset.sum_congr rfl fun j _ => ?_) (Equiv.sum_comp Fin.revPerm (fun j : Fin 256 =>
    (∑ d : Fin 64, q i d * k j d * Ideal.exp (if i.val ≤ j.val then ((A i d - A j d : ℝ) : EReal) else ⊥)) * v j c))
  have hi := i.isLt
  have hj := j.isLt
  have e1 : i.rev.val = 255 - i.val := by rw [Fin.val_rev]; omega
  have e2 : j.rev.val = 255 - j.val := by rw [Fin.val_rev]; omega
  simp only [Fin.revPerm_apply, e1, e2]
  refine congrArg (fun a : EReal => a * v j.rev c) (Finset.sum_congr rfl fun d _ => congrArg (fun a => q i d * k j.rev d * Ideal.exp a) ?_)
  exact if_congr (by omega) rfl rfl

/-- The mask: a row sees itself and the rows before it. -/
theorem ref_mask (i j : Fin 256) : val_main_v43 (F := Ideal) (ix2 i j) = BitVec.ofBool (decide (j.val ≤ i.val)) := by
  have hi := i.isLt
  have hj := j.isLt
  have e : val_main_call2_v4 (F := Ideal) (ix2 i j) = BitVec.ofBool (decide (j.val ≤ i.val)) :=
    (congrArg₂ (IntOp.cmpi .sge) (show BitVec.ofNat 32 i.val + 0#32 = BitVec.ofNat 32 i.val from BitVec.add_zero _) rfl).trans
      (WordCmp.cmpi_sge_ofNat (show i.val < 2 ^ 31 by omega) (show j.val < 2 ^ 31 by omega))
  rw [val_main_v43_apply, e]
  by_cases h : j.val ≤ i.val <;> simp [h, Scalar.select] <;> rfl

theorem select_of (p : Prop) [Decidable p] (a b : EReal) : Scalar.select (BitVec.ofBool (decide p)) a b = if p then a else b := by
  by_cases h : p <;> simp [h, Scalar.select]

theorem never_unequal (y a b : EReal) : Scalar.select (FloatOps.cmpf (F := Ideal) (φ := .f32) .une y y) a b = b := by
  show Scalar.select (BitVec.ofBool (decide (y ≠ y))) a b = b
  rw [select_of, if_neg (fun h => h rfl)]

section
variable (x0 : Vec Ideal S16640x2048 .bf16)

theorem ref_query (t : Fin 65) (g : Fin 8) (i : Fin 256) (d : Fin 64) :
    val_main_v5 (F := Ideal) x0 (ix4 t g i d) = x0 (ix2 (row t i) (queryCol (colq g d))) * eighth := by
  have e : idx_main_v0 (idx_main_v1 (idx_main_v2 (ix4 t g i d))) = ix2 (row t i) (queryCol (colq g d)) := by
    refine idx2 ?_ ?_
    · show (((t.val * 256 + i.val) * 8 + g.val) * 64 + d.val) / 512 = 256 * t.val + i.val
      omega
    · show (((t.val * 256 + i.val) * 8 + g.val) * 64 + d.val) % 512 = 64 * g.val + d.val
      omega
  rw [val_main_v5_apply, val_main_v3_apply, val_main_v2_apply, val_main_v1_apply, val_main_v0_apply, e]
  rfl

theorem ref_key (t : Fin 65) (g : Fin 8) (i : Fin 256) (d : Fin 64) :
    val_main_v9 (F := Ideal) x0 (ix4 t g i d) = x0 (ix2 (row t i) (keyCol (colq g d))) := by
  have e : idx_main_v6 (idx_main_v7 (idx_main_v8 (ix4 t g i d))) = ix2 (row t i) (keyCol (colq g d)) := by
    refine idx2 ?_ ?_
    · show (((t.val * 256 + i.val) * 8 + g.val) * 64 + d.val) / 512 = 256 * t.val + i.val
      omega
    · show 512 + (((t.val * 256 + i.val) * 8 + g.val) * 64 + d.val) % 512 = 512 + (64 * g.val + d.val)
      omega
  rw [val_main_v9_apply, val_main_v8_apply, val_main_v7_apply, val_main_v6_apply, e]
  rfl

theorem ref_value (t : Fin 65) (g : Fin 8) (i : Fin 256) (d : Fin 128) :
    val_main_v13 (F := Ideal) x0 (ix4 t g i d) = x0 (ix2 (row t i) (valueCol (colv g d))) := by
  have e : idx_main_v10 (idx_main_v11 (idx_main_v12 (ix4 t g i d))) = ix2 (row t i) (valueCol (colv g d)) := by
    refine idx2 ?_ ?_
    · show (((t.val * 256 + i.val) * 8 + g.val) * 128 + d.val) / 1024 = 256 * t.val + i.val
      omega
    · show 1024 + (((t.val * 256 + i.val) * 8 + g.val) * 128 + d.val) % 1024 = 1024 + (128 * g.val + d.val)
      omega
  rw [val_main_v13_apply, val_main_v12_apply, val_main_v11_apply, val_main_v10_apply, e]
  rfl

theorem ref_state0 (x4 : Vec Ideal S65x128x512 .bf16) (t : Fin 65) (g : Fin 8) (d : Fin 64) (c : Fin 128) :
    val_main_v47 (F := Ideal) x4 (ix4 t g d c) = x4 (ix3 t c (colq g d)) := by
  have e : idx_main_v46 (idx_main_v47 (ix4 t g d c)) = ix3 t c (colq g d) := by
    refine idx3 ?_ ?_ ?_
    · show (((t.val * 128 + c.val) * 8 + g.val) * 64 + d.val) / 65536 = t.val
      omega
    · show (((t.val * 128 + c.val) * 8 + g.val) * 64 + d.val) / 512 % 128 = c.val
      omega
    · show (((t.val * 128 + c.val) * 8 + g.val) * 64 + d.val) % 512 = 64 * g.val + d.val
      omega
  rw [val_main_v47_apply, val_main_v46_apply, e]
  rfl

theorem ref_state1 (x5 : Vec Ideal S65x128x512 .bf16) (t : Fin 65) (g : Fin 8) (d : Fin 64) (c : Fin 128) :
    val_main_v74 (F := Ideal) x5 (ix4 t g d c) = x5 (ix3 t c (colq g d)) := by
  have e : idx_main_v73 (idx_main_v74 (ix4 t g d c)) = ix3 t c (colq g d) := by
    refine idx3 ?_ ?_ ?_
    · show (((t.val * 128 + c.val) * 8 + g.val) * 64 + d.val) / 65536 = t.val
      omega
    · show (((t.val * 128 + c.val) * 8 + g.val) * 64 + d.val) / 512 % 128 = c.val
      omega
    · show (((t.val * 128 + c.val) * 8 + g.val) * 64 + d.val) % 512 = 64 * g.val + d.val
      omega
  rw [val_main_v74_apply, val_main_v73_apply, e]
  rfl

end

section
variable (x1 : Vec Ideal S16640x128 .f32) (x2 : Vec Ideal S2x16x512 .f32) (x3 : Vec Ideal S2x512 .f32)
  (D : S16640x128.Idx → ℝ) (W : S2x16x512.Idx → ℝ) (B : S2x512.Idx → ℝ)
  (h1 : ∀ y, x1 y = ((D y : ℝ) : EReal)) (h2 : ∀ y, x2 y = ((W y : ℝ) : EReal)) (h3 : ∀ y, x3 y = ((B y : ℝ) : EReal))

include h1 h2 h3

theorem ref_gate0 (n : Fin 16640) (k : Fin 512) : val_main_v22 (F := Ideal) x1 x2 x3 (ix2 n k) = ((gateReal D W B 0 n k : ℝ) : EReal) := by
  have eb : idx_main_v17 (idx_main_v18 (idx_main_v20 (idx_main_v21 (ix2 n k)))) = ix2 0 k :=
    idx2 rfl (show k.val % 512 = k.val by omega)
  have el : ∀ r : Fin 16, idx_main_v14 (lidx_main_v19 (ix2 n k) r) = ix2 n (rank 0 r) := fun r =>
    idx2 rfl (show r.val = 16 * 0 + r.val by omega)
  have er : ∀ r : Fin 16, idx_main_v15 (idx_main_v16 (ridx_main_v19 (ix2 n k) r)) = ix3 0 r k := fun r =>
    idx3 rfl (show (r.val * 512 + k.val) / 512 % 16 = r.val by omega) (show (r.val * 512 + k.val) % 512 = k.val by omega)
  simp only [val_main_v22_apply, val_main_v21_apply, val_main_v20_apply, val_main_v19_apply, val_main_v18_apply, val_main_v17_apply,
    val_main_v16_apply, val_main_v15_apply, val_main_v14_apply, eb, el, er, h1, h2, h3]
  unfold gateReal
  rw [EReal.coe_add, coe_sum]
  simp only [EReal.coe_mul]
  rfl

theorem ref_gate1 (n : Fin 16640) (k : Fin 512) : val_main_v36 (F := Ideal) x1 x2 x3 (ix2 n k) = ((gateReal D W B 1 n k : ℝ) : EReal) := by
  have eb : idx_main_v31 (idx_main_v32 (idx_main_v34 (idx_main_v35 (ix2 n k)))) = ix2 1 k :=
    idx2 rfl (show k.val % 512 = k.val by omega)
  have el : ∀ r : Fin 16, idx_main_v28 (lidx_main_v33 (ix2 n k) r) = ix2 n (rank 1 r) := fun r =>
    idx2 rfl rfl
  have er : ∀ r : Fin 16, idx_main_v29 (idx_main_v30 (ridx_main_v33 (ix2 n k) r)) = ix3 1 r k := fun r =>
    idx3 rfl (show (r.val * 512 + k.val) / 512 % 16 = r.val by omega) (show (r.val * 512 + k.val) % 512 = k.val by omega)
  simp only [val_main_v36_apply, val_main_v35_apply, val_main_v34_apply, val_main_v33_apply, val_main_v32_apply, val_main_v31_apply,
    val_main_v30_apply, val_main_v29_apply, val_main_v28_apply, eb, el, er, h1, h2, h3]
  unfold gateReal
  rw [EReal.coe_add, coe_sum]
  simp only [EReal.coe_mul]
  rfl

theorem ref_decay0 (n : Fin 16640) (k : Fin 512) : val_main_v25 (F := Ideal) x1 x2 x3 (ix2 n k) = ((decay (gateReal D W B 0 n k) : ℝ) : EReal) := by
  rw [val_main_v25_apply, val_main_v23_apply, val_main_call0_v1_apply, val_main_call0_call0_v4_apply]
  rw [never_unequal]
  rw [← decay_reference, ← sixteen, ← ref_gate0 x1 x2 x3 D W B h1 h2 h3 n k, ← Ideal.ofBits_zero_f32]
  rfl

theorem ref_decay1 (n : Fin 16640) (k : Fin 512) : val_main_v39 (F := Ideal) x1 x2 x3 (ix2 n k) = ((decay (gateReal D W B 1 n k) : ℝ) : EReal) := by
  rw [val_main_v39_apply, val_main_v37_apply, val_main_call1_v1_apply, val_main_call1_call0_v4_apply]
  rw [never_unequal]
  rw [← decay_reference, ← sixteen, ← ref_gate1 x1 x2 x3 D W B h1 h2 h3 n k, ← Ideal.ofBits_zero_f32]
  rfl

theorem ref_head0 (t : Fin 65) (g : Fin 8) (j : Fin 256) (d : Fin 64) :
    val_main_v27 (F := Ideal) x1 x2 x3 (ix4 t g j d) = ((headDecay D W B 0 t (colq g d) j : ℝ) : EReal) := by
  have e : idx_main_v26 (idx_main_v27 (ix4 t g j d)) = ix2 (row t j) (colq g d) := by
    refine idx2 ?_ ?_
    · show (((t.val * 256 + j.val) * 8 + g.val) * 64 + d.val) / 512 = 256 * t.val + j.val
      omega
    · show (((t.val * 256 + j.val) * 8 + g.val) * 64 + d.val) % 512 = 64 * g.val + d.val
      omega
  rw [val_main_v27_apply, val_main_v26_apply, e]
  exact ref_decay0 x1 x2 x3 D W B h1 h2 h3 _ _

theorem ref_head1 (t : Fin 65) (g : Fin 8) (j : Fin 256) (d : Fin 64) :
    val_main_v41 (F := Ideal) x1 x2 x3 (ix4 t g j d) = ((headDecay D W B 1 t (colq g d) j : ℝ) : EReal) := by
  have e : idx_main_v40 (idx_main_v41 (ix4 t g j d)) = ix2 (row t j) (colq g d) := by
    refine idx2 ?_ ?_
    · show (((t.val * 256 + j.val) * 8 + g.val) * 64 + d.val) / 512 = 256 * t.val + j.val
      omega
    · show (((t.val * 256 + j.val) * 8 + g.val) * 64 + d.val) % 512 = 64 * g.val + d.val
      omega
  rw [val_main_v41_apply, val_main_v40_apply, e]
  exact ref_decay1 x1 x2 x3 D W B h1 h2 h3 _ _

/-- The running sums of the decays. -/
theorem ref_below (t : Fin 65) (g : Fin 8) (i : Fin 256) (d : Fin 64) :
    val_main_v48 (F := Ideal) x1 x2 x3 (ix4 t g i d) = ((below (headDecay D W B 0 t (colq g d)) i : ℝ) : EReal) := by
  unfold val_main_v48
  refine (running (val_main_v27 (F := Ideal) x1 x2 x3) _ Ideal.ofBits_zero_f32 reduceWindows_S65x8x256x64_S65x8x256x64_w1s1p0_0_w1s1p0_0_w256s1p255_0_w1s1p0_0 t g i d).trans ?_
  unfold below
  rw [coe_sum]
  refine Finset.sum_congr rfl fun j _ => ?_
  rw [ref_head0 x1 x2 x3 D W B h1 h2 h3]
  split_ifs <;> rfl

theorem ref_above (t : Fin 65) (g : Fin 8) (i : Fin 256) (d : Fin 64) :
    val_main_v75 (F := Ideal) x1 x2 x3 (ix4 t g i d) = ((above (headDecay D W B 1 t (colq g d)) i.rev : ℝ) : EReal) := by
  unfold val_main_v75
  refine (running (val_main_v71 (F := Ideal) x1 x2 x3) _ Ideal.ofBits_zero_f32 reduceWindows_S65x8x256x64_S65x8x256x64_w1s1p0_0_w1s1p0_0_w256s1p255_0_w1s1p0_0 t g i d).trans ?_
  rw [← below_rev]
  unfold below
  rw [coe_sum]
  refine Finset.sum_congr rfl fun j _ => ?_
  unfold val_main_v71
  rw [reversed64, ref_head1 x1 x2 x3 D W B h1 h2 h3]
  split_ifs <;> rfl

section
variable (x0 : Vec Ideal S16640x2048 .bf16)

/-- The forward chunk. -/
theorem ref_forward (x4 : Vec Ideal S65x128x512 .bf16) (t : Fin 65) (g : Fin 8) (i : Fin 256) (c : Fin 128) :
    val_main_v67 (F := Ideal) x0 x1 x2 x3 x4 (ix4 t g i c)
      = chunk (fun i j => j.val ≤ i.val) (fun i d => x0 (ix2 (row t i) (queryCol (colq g d))) * eighth)
        (fun j d => x0 (ix2 (row t j) (keyCol (colq g d)))) (fun i d => below (headDecay D W B 0 t (colq g d)) i)
        (fun j c => x0 (ix2 (row t j) (valueCol (colv g c)))) (fun c d => x4 (ix3 t c (colq g d))) i c := by
  have a : val_main_v51 (F := Ideal) x0 x1 x2 x3 x4 (ix4 t g i c) = ∑ d : Fin 64, x0 (ix2 (row t i) (queryCol (colq g d))) * eighth
      * ((Real.exp (below (headDecay D W B 0 t (colq g d)) i) : ℝ) : EReal) * x4 (ix3 t c (colq g d)) := by
    rw [val_main_v51_apply]
    refine Finset.sum_congr rfl fun d _ => ?_
    rw [show lidx_main_v51 (ix4 t g i c) d = ix4 t g i d from idx4 rfl rfl rfl rfl, show ridx_main_v51 (ix4 t g i c) d = ix4 t g d c from idx4 rfl rfl rfl rfl,
      val_main_v50_apply, val_main_v49_apply, ref_query, ref_state0, ref_below x1 x2 x3 D W B h1 h2 h3]
    rfl
  have w : ∀ j : Fin 256, val_main_v65 (F := Ideal) x0 x1 x2 x3 (ix4 t g i j) = ∑ d : Fin 64, x0 (ix2 (row t i) (queryCol (colq g d))) * eighth
      * x0 (ix2 (row t j) (keyCol (colq g d))) * Ideal.exp (if j.val ≤ i.val then
        ((below (headDecay D W B 0 t (colq g d)) i - below (headDecay D W B 0 t (colq g d)) j : ℝ) : EReal) else ⊥) := fun j => by
    rw [val_main_v65_apply, val_main_cst_3_apply]
    refine (congrArg₂ (fun a b : EReal => a + b) Ideal.ofBits_zero_f32 (Finset.sum_congr rfl fun d _ => ?_)).trans (zero_add _)
    rw [show idx_main_v65 (ix4 t g i j) d = ix5 t g i j d from idx5 rfl rfl rfl rfl rfl]
    simp only [val_main_v64_apply, val_main_v63_apply, val_main_v62_apply, val_main_v61_apply, val_main_v60_apply, val_main_v59_apply,
      val_main_v58_apply, val_main_v57_apply, val_main_v56_apply, val_main_v55_apply, val_main_v54_apply, val_main_v53_apply, val_main_v52_apply,
      val_main_call4_v1_apply, val_main_call4_v2_apply, val_main_call4_v0_apply, val_main_cst_2_apply, val_main_v44_apply]
    rw [show idx_main_v59 (idx_main_v61 (ix5 t g i j d)) = ix4 t g i d from idx4 rfl rfl rfl rfl,
      show idx_main_v60 (idx_main_v62 (ix5 t g i j d)) = ix4 t g j d from idx4 rfl rfl rfl rfl,
      show idx_main_v52 (idx_main_v54 (ix5 t g i j d)) = ix4 t g i d from idx4 rfl rfl rfl rfl,
      show idx_main_v53 (idx_main_v55 (ix5 t g i j d)) = ix4 t g j d from idx4 rfl rfl rfl rfl,
      show idx_main_v44 (idx_main_call4_v1 (ix5 t g i j d)) = ix2 i j from idx2 rfl rfl,
      ref_mask, select_of, ref_query, ref_key, ref_below x1 x2 x3 D W B h1 h2 h3, ref_below x1 x2 x3 D W B h1 h2 h3, EReal.coe_sub]
    rfl
  rw [val_main_v67_apply, a, val_main_v66_apply]
  unfold chunk
  refine congrArg₂ (fun a b : EReal => a + b) rfl (Finset.sum_congr rfl fun j _ => ?_)
  rw [show lidx_main_v66 (ix4 t g i c) j = ix4 t g i j from idx4 rfl rfl rfl rfl, show ridx_main_v66 (ix4 t g i c) j = ix4 t g j c from idx4 rfl rfl rfl rfl,
    w, ref_value]

/-- The backward chunk, of the reversed rows. -/
theorem ref_backward (x5 : Vec Ideal S65x128x512 .bf16) (t : Fin 65) (g : Fin 8) (i : Fin 256) (c : Fin 128) :
    val_main_v94 (F := Ideal) x0 x1 x2 x3 x5 (ix4 t g i c)
      = chunk (fun i j => j.val ≤ i.val) (fun i d => x0 (ix2 (row t i.rev) (queryCol (colq g d))) * eighth)
        (fun j d => x0 (ix2 (row t j.rev) (keyCol (colq g d)))) (fun i d => above (headDecay D W B 1 t (colq g d)) i.rev)
        (fun j c => x0 (ix2 (row t j.rev) (valueCol (colv g c)))) (fun c d => x5 (ix3 t c (colq g d))) i c := by
  have q : ∀ (i : Fin 256) (d : Fin 64), val_main_v68 (F := Ideal) x0 (ix4 t g i d) = x0 (ix2 (row t i.rev) (queryCol (colq g d))) * eighth := fun i d => by
    unfold val_main_v68
    rw [reversed64, ref_query]
  have k : ∀ (i : Fin 256) (d : Fin 64), val_main_v69 (F := Ideal) x0 (ix4 t g i d) = x0 (ix2 (row t i.rev) (keyCol (colq g d))) := fun i d => by
    unfold val_main_v69
    rw [reversed64, ref_key]
  have v : ∀ (i : Fin 256) (d : Fin 128), val_main_v70 (F := Ideal) x0 (ix4 t g i d) = x0 (ix2 (row t i.rev) (valueCol (colv g d))) := fun i d => by
    unfold val_main_v70
    rw [reversed128, ref_value]
  have a : val_main_v78 (F := Ideal) x0 x1 x2 x3 x5 (ix4 t g i c) = ∑ d : Fin 64, x0 (ix2 (row t i.rev) (queryCol (colq g d))) * eighth
      * ((Real.exp (above (headDecay D W B 1 t (colq g d)) i.rev) : ℝ) : EReal) * x5 (ix3 t c (colq g d)) := by
    rw [val_main_v78_apply]
    refine Finset.sum_congr rfl fun d _ => ?_
    rw [show lidx_main_v78 (ix4 t g i c) d = ix4 t g i d from idx4 rfl rfl rfl rfl, show ridx_main_v78 (ix4 t g i c) d = ix4 t g d c from idx4 rfl rfl rfl rfl,
      val_main_v77_apply, val_main_v76_apply, q, ref_state1, ref_above x1 x2 x3 D W B h1 h2 h3]
    rfl
  have w : ∀ j : Fin 256, val_main_v92 (F := Ideal) x0 x1 x2 x3 (ix4 t g i j) = ∑ d : Fin 64, x0 (ix2 (row t i.rev) (queryCol (colq g d))) * eighth
      * x0 (ix2 (row t j.rev) (keyCol (colq g d))) * Ideal.exp (if j.val ≤ i.val then
        ((above (headDecay D W B 1 t (colq g d)) i.rev - above (headDecay D W B 1 t (colq g d)) j.rev : ℝ) : EReal) else ⊥) := fun j => by
    rw [val_main_v92_apply, val_main_cst_5_apply]
    refine (congrArg₂ (fun a b : EReal => a + b) Ideal.ofBits_zero_f32 (Finset.sum_congr rfl fun d _ => ?_)).trans (zero_add _)
    rw [show idx_main_v92 (ix4 t g i j) d = ix5 t g i j d from idx5 rfl rfl rfl rfl rfl]
    simp only [val_main_v91_apply, val_main_v90_apply, val_main_v89_apply, val_main_v88_apply, val_main_v87_apply, val_main_v86_apply,
      val_main_v85_apply, val_main_v84_apply, val_main_v83_apply, val_main_v82_apply, val_main_v81_apply, val_main_v80_apply, val_main_v79_apply,
      val_main_call10_v1_apply, val_main_call10_v2_apply, val_main_call10_v0_apply, val_main_cst_4_apply, val_main_v44_apply]
    rw [show idx_main_v86 (idx_main_v88 (ix5 t g i j d)) = ix4 t g i d from idx4 rfl rfl rfl rfl,
      show idx_main_v87 (idx_main_v89 (ix5 t g i j d)) = ix4 t g j d from idx4 rfl rfl rfl rfl,
      show idx_main_v79 (idx_main_v81 (ix5 t g i j d)) = ix4 t g i d from idx4 rfl rfl rfl rfl,
      show idx_main_v80 (idx_main_v82 (ix5 t g i j d)) = ix4 t g j d from idx4 rfl rfl rfl rfl,
      show idx_main_v44 (idx_main_call10_v1 (ix5 t g i j d)) = ix2 i j from idx2 rfl rfl,
      ref_mask, select_of, q, k, ref_above x1 x2 x3 D W B h1 h2 h3, ref_above x1 x2 x3 D W B h1 h2 h3, EReal.coe_sub]
    rfl
  rw [val_main_v94_apply, a, val_main_v93_apply]
  unfold chunk
  refine congrArg₂ (fun a b : EReal => a + b) rfl (Finset.sum_congr rfl fun j _ => ?_)
  rw [show lidx_main_v93 (ix4 t g i c) j = ix4 t g i j from idx4 rfl rfl rfl rfl, show ridx_main_v93 (ix4 t g i c) j = ix4 t g j c from idx4 rfl rfl rfl rfl,
    w, v]

/-- Both directions, the backward one put back in order. -/
theorem ref_both (x4 x5 : Vec Ideal S65x128x512 .bf16) (t : Fin 65) (g : Fin 8) (i : Fin 256) (c : Fin 128) :
    val_main_v96 (F := Ideal) x0 x1 x2 x3 x4 x5 (ix4 t g i c)
      = chunk (fun i j => j.val ≤ i.val) (fun i d => x0 (ix2 (row t i) (queryCol (colq g d))) * eighth)
        (fun j d => x0 (ix2 (row t j) (keyCol (colq g d)))) (fun i d => below (headDecay D W B 0 t (colq g d)) i)
        (fun j c => x0 (ix2 (row t j) (valueCol (colv g c)))) (fun c d => x4 (ix3 t c (colq g d))) i c
      + chunk (fun i j => i.val ≤ j.val) (fun i d => x0 (ix2 (row t i) (queryCol (colq g d))) * eighth)
        (fun j d => x0 (ix2 (row t j) (keyCol (colq g d)))) (fun i d => above (headDecay D W B 1 t (colq g d)) i)
        (fun j c => x0 (ix2 (row t j) (valueCol (colv g c)))) (fun c d => x5 (ix3 t c (colq g d))) i c := by
  rw [val_main_v96_apply, ref_forward x1 x2 x3 D W B h1 h2 h3]
  refine congrArg₂ (fun a b : EReal => a + b) rfl ?_
  unfold val_main_v95
  rw [reversed128, ref_backward x1 x2 x3 D W B h1 h2 h3]
  exact chunk_rev (fun i d => x0 (ix2 (row t i) (queryCol (colq g d))) * eighth) (fun j d => x0 (ix2 (row t j) (keyCol (colq g d))))
    (fun i d => above (headDecay D W B 1 t (colq g d)) i) (fun j c => x0 (ix2 (row t j) (valueCol (colv g c)))) (fun c d => x5 (ix3 t c (colq g d))) i c

/-- The reference's first result. -/
theorem ref_attended (x4 x5 : Vec Ideal S65x128x512 .bf16) (x6 : Vec Ideal S16640x3072 .bf16) (x7 : Vec Ideal S1024 .f32)
    (t : Fin 65) (g : Fin 8) (i : Fin 256) (c : Fin 128) :
    val_main_v179 (F := Ideal) x0 x1 x2 x3 x4 x5 x6 x7 (ix2 (row t i) (colv g c)) = attended x0 D W B x4 x5 x6 x7 t g i c := by
  have e108 : idx_main_v107 (idx_main_v108 (ix2 (row t i) (colv g c))) = ix4 t g i c := by
    refine idx4 ?_ ?_ ?_ ?_
    · show ((256 * t.val + i.val) * 1024 + (128 * g.val + c.val)) / 262144 = t.val
      omega
    · show ((256 * t.val + i.val) * 1024 + (128 * g.val + c.val)) / 128 % 8 = g.val
      omega
    · show ((256 * t.val + i.val) * 1024 + (128 * g.val + c.val)) / 1024 % 256 = i.val
      omega
    · show ((256 * t.val + i.val) * 1024 + (128 * g.val + c.val)) % 128 = c.val
      omega
  have e7 : idx_main_v109 (idx_main_v110 (ix2 (row t i) (colv g c))) = ix1 (colv g c) := idx1 rfl
  have e6 : idx_main_v112 (ix2 (row t i) (colv g c)) = ix2 (row t i) (gateCol (colv g c)) := idx2 rfl rfl
  have e99 : idx_main_v99 (idx_main_v105 (ix4 t g i c)) = ix3 t g i := idx3 rfl rfl rfl
  have s : val_main_v98 (F := Ideal) x0 x1 x2 x3 x4 x5 (ix3 t g i)
      = ∑ e : Fin 128, val_main_v96 (F := Ideal) x0 x1 x2 x3 x4 x5 (ix4 t g i e) * val_main_v96 (F := Ideal) x0 x1 x2 x3 x4 x5 (ix4 t g i e) := by
    rw [val_main_v98_apply, val_main_cst_6_apply]
    refine (congrArg₂ (fun a b : EReal => a + b) Ideal.ofBits_zero_f32 (Finset.sum_congr rfl fun e _ => ?_)).trans (zero_add _)
    rw [val_main_v97_apply]
    exact congrArg (fun i => val_main_v96 (F := Ideal) x0 x1 x2 x3 x4 x5 i * val_main_v96 (F := Ideal) x0 x1 x2 x3 x4 x5 i) (idx4 rfl rfl rfl rfl)
  simp only [val_main_v179_apply, val_main_v115_apply, val_main_v114_apply, val_main_call12_v5_apply, val_main_call12_v4_apply,
    val_main_call12_cst_0_apply, val_main_call12_v3_apply, val_main_call12_v2_apply, val_main_call12_cst_apply, val_main_call12_v1_apply,
    val_main_call12_v0_apply, val_main_v113_apply, val_main_v112_apply, e6, val_main_v111_apply, val_main_v110_apply, val_main_v109_apply, e7,
    val_main_v108_apply, val_main_v107_apply, e108, val_main_v106_apply, val_main_v105_apply, val_main_v104_apply, val_main_v103_apply,
    val_main_v102_apply, val_main_cst_8_apply, val_main_v101_apply, val_main_v100_apply, val_main_cst_7_apply, val_main_v99_apply, e99, s,
    ref_both x1 x2 x3 D W B h1 h2 h3]
  unfold attended normed
  rw [show Ideal.logistic (x6 (ix2 (row t i) (gateCol (colv g c)))) = Ideal.div (Ideal.ofBits .f32 0x3F800000#32)
    (Ideal.ofBits .f32 0x3F800000#32 + Ideal.exp (-x6 (ix2 (row t i) (gateCol (colv g c))))) by rw [Ideal.ofBits_one_f32]; rfl]
  rfl

end

end

end Cert.Proof.Mixing

end
-- ==== Proof.Mixing.Pre.lean ====
/-
  What the precondition says of the arguments: the low rank decays, their up projection and bias are real, and no gate's
  input is below -9.
-/
module

public import proofs.«01_k».proof.Defs
public import proofs.«01_k».proof.Proof.Mixing.RefScan
public import Idealize.ShloMosaic.Lib.ReduceAll

@[expose] public section

noncomputable section

namespace Cert.Proof.Mixing

open Idealize.ShloMosaic hiding ix1 ix2 ix3 ix4 ix5 eq_ix1 eq_ix2 eq_ix3 eq_ix4 eq_ix5
open Idealize.ShloMosaic.ValueIdx
open Idealize.ShloMosaic.TcCoe Idealize.SL.Sem
open scoped BigOperators

/-- The shapes the precondition's operations state. -/
theorem bounded_facts : Cert.Pre_decays_bounded.Facts := by
  constructor <;> decide

theorem infinite : Ideal.ofBits .f32 0x7F800000#32 = (⊤ : EReal) := by
  simp [Ideal.ofBits, Ideal.ieee]

theorem minus_nine : Ideal.ofBits .f32 0xC1100000#32 = ((-9 : ℝ) : EReal) := by
  simp [Ideal.ofBits, Ideal.ieee, -EReal.coe_mul]
  norm_num

/-- An array whose magnitudes are all below infinity is real. -/
theorem real_of_abs (x : EReal) (h : BitVec.ofBool (decide (max x (-x) < Ideal.ofBits .f32 0x7F800000#32)) = 1#1) : x = ((x.toReal : ℝ) : EReal) := by
  have h' : max x (-x) < ⊤ := by
    rw [← infinite]
    by_contra g
    simp [g] at h
  refine (EReal.coe_toReal ?_ ?_).symm
  · rintro rfl; simp at h'
  · rintro rfl; simp at h'

theorem floor_of (z : ℝ) (h : BitVec.ofBool (decide (Ideal.ofBits .f32 0xC1100000#32 ≤ (z : EReal))) = 1#1) : -9 ≤ z := by
  have h' : ((-9 : ℝ) : EReal) ≤ (z : EReal) := by
    rw [← minus_nine]
    by_contra g
    simp [g] at h
  exact EReal.coe_le_coe_iff.mp h'

instance : Subsingleton Cert.Pre_decays_bounded.S_.Idx := ⟨fun a b => funext fun i => i.elim0⟩

section
variable [Cert.Pre_decays_bounded.Facts]
variable (x0 : Vec Ideal Cert.MixerIdeal.S16640x2048 .bf16) (x1 : Vec Ideal Cert.MixerIdeal.S16640x128 .f32) (x2 : Vec Ideal Cert.MixerIdeal.S2x16x512 .f32)
  (x3 : Vec Ideal Cert.MixerIdeal.S2x512 .f32) (x4 x5 : Vec Ideal Cert.MixerIdeal.S65x128x512 .bf16) (x6 : Vec Ideal Cert.MixerIdeal.S16640x3072 .bf16)
  (x7 x8 x9 : Vec Ideal Cert.MixerIdeal.S1024 .f32) (x10 : Vec Ideal Cert.MixerIdeal.S4x8x128x128 .f32) (x11 : Vec Ideal Cert.MixerIdeal.S8x128 .f32)

/-- The precondition, read back. -/
theorem bounded_args (h : Cert.Pre_decays_bounded.fn (F := Ideal) x0 x1 x2 x3 x4 x5 x6 x7 x8 x9 x10 x11 = fun _ => 1#1) :
    ∃ (D : Cert.MixerIdeal.S16640x128.Idx → ℝ) (W : Cert.MixerIdeal.S2x16x512.Idx → ℝ) (B : Cert.MixerIdeal.S2x512.Idx → ℝ),
      (∀ y, x1 y = ((D y : ℝ) : EReal)) ∧ (∀ y, x2 y = ((W y : ℝ) : EReal)) ∧ (∀ y, x3 y = ((B y : ℝ) : EReal))
        ∧ ∀ p n k, -9 ≤ gateReal D W B p n k := by
  have e := congrFun h ValueIdx.ix0
  simp only [Cert.Pre_decays_bounded.fn, Cert.Pre_decays_bounded.fn_part1] at e
  obtain ⟨e, f1⟩ := IntOp.andi_eq_one.1 e
  obtain ⟨e, f0⟩ := IntOp.andi_eq_one.1 e
  obtain ⟨e, r3⟩ := IntOp.andi_eq_one.1 e
  obtain ⟨r1, r2⟩ := IntOp.andi_eq_one.1 e
  have h1 : ∀ y, x1 y = (((x1 y).toReal : ℝ) : EReal) := fun y => real_of_abs _ (Host.reduce_andi_all _ _ _ _ _ r1 y)
  have h2 : ∀ y, x2 y = (((x2 y).toReal : ℝ) : EReal) := fun y => real_of_abs _ (Host.reduce_andi_all _ _ _ _ _ r2 y)
  have h3 : ∀ y, x3 y = (((x3 y).toReal : ℝ) : EReal) := fun y => real_of_abs _ (Host.reduce_andi_all _ _ _ _ _ r3 y)
  refine ⟨fun y => (x1 y).toReal, fun y => (x2 y).toReal, fun y => (x3 y).toReal, h1, h2, h3, fun p n k => ?_⟩
  have g0 := Host.reduce_andi_all _ _ _ _ _ f0 (ix2 n k)
  have g1 := Host.reduce_andi_all _ _ _ _ _ f1 (ix2 n k)
  match p with
  | 0 =>
    refine floor_of _ (Eq.trans (congrArg (fun z : EReal => BitVec.ofBool (decide (Ideal.ofBits .f32 0xC1100000#32 ≤ z))) ?_) g0)
    refine (ref_gate0 x1 x2 x3 _ _ _ h1 h2 h3 n k).symm.trans ?_
    rw [Cert.MixerRefIdeal.Read.val_main_v22_apply, Cert.MixerRefIdeal.Read.val_main_v21_apply, Cert.MixerRefIdeal.Read.val_main_v20_apply]
    refine congrArg₂ (fun a b : EReal => a + b) rfl ?_
    exact (broadcastInDim_apply _ Cert.Pre_decays_bounded.Facts.bcast_S512_S16640x512_1 (Cert.MixerRefIdeal.Read.val_main_v18 (F := Ideal) x3) (ix2 n k) _
      (fun a => match a with | ⟨0, _⟩ => by show k.val = if (512 : Nat) = 1 then 0 else k.val; rw [if_neg (by decide)])).symm
  | 1 =>
    refine floor_of _ (Eq.trans (congrArg (fun z : EReal => BitVec.ofBool (decide (Ideal.ofBits .f32 0xC1100000#32 ≤ z))) ?_) g1)
    refine (ref_gate1 x1 x2 x3 _ _ _ h1 h2 h3 n k).symm.trans ?_
    rw [Cert.MixerRefIdeal.Read.val_main_v36_apply, Cert.MixerRefIdeal.Read.val_main_v35_apply, Cert.MixerRefIdeal.Read.val_main_v34_apply]
    refine congrArg₂ (fun a b : EReal => a + b) rfl ?_
    exact (broadcastInDim_apply _ Cert.Pre_decays_bounded.Facts.bcast_S512_S16640x512_1 (Cert.MixerRefIdeal.Read.val_main_v32 (F := Ideal) x3) (ix2 n k) _
      (fun a => match a with | ⟨0, _⟩ => by show k.val = if (512 : Nat) = 1 then 0 else k.val; rw [if_neg (by decide)])).symm

end

end Cert.Proof.Mixing

end
-- ==== Proof.Dispatch.Same.lean ====
/-
  The dispatch: the slot of each row with each expert, the rows and gates of each slot, and the number of picked rows. The kernel works
  tile by tile and multiplies the gates in parts, which for real gates is the product the reference writes.
-/
module

public import proofs.«01_k».proof.Defs
public import proofs.«01_k».proof.Proof.Dispatch.Body
public import proofs.«01_k».proof.Proof.Combine.Same
public import proofs.«01_k».proof.Proof.Mixing.Pre
public import proofs.«01_k».proof.Proof.Gen.DispatchRefIdeal.Read
public import Idealize.ShloMosaic.Lib.IdealHost

@[expose] public section

noncomputable section

namespace Cert.Proof.Dispatch

open Idealize.ShloMosaic hiding ix1 ix2 ix3 ix4 ix5 eq_ix1 eq_ix2 eq_ix3 eq_ix4 eq_ix5
open Idealize.ShloMosaic.TcCoe Idealize.SL.Sem Idealize.ShloMosaic.ValueIdx
open Cert.DispatchIdeal Cert.DispatchIdeal.Gen
open Cert.Proof.Combine (named)
open scoped BigOperators

/-- Row `r` of tile `n`. -/
def rowAt (n : Fin 65) (r : Fin 256) : Fin 16640 := ⟨n.val * 256 + r.val, by omega⟩

/-- The tile of a row. -/
def tileOfRow (r : Fin 16640) : Fin 65 := ⟨r.val / 256, by omega⟩

/-- A row within its tile. -/
def rowInTile (r : Fin 16640) : Fin 256 := ⟨r.val % 256, Nat.mod_lt _ (by decide)⟩

/-- The tile of a slot. -/
def tileOfSlot (q : Fin 4160) : Fin 65 := ⟨q.val / 64, by omega⟩

/-- One column of a tile's gates. -/
def column (g : Vec Ideal S16640x128 .f32) (n : Fin 65) (l : Fin 128) (r : Fin 256) : EReal := g (ix2 (rowAt n r) l)

/-- What slot `s` of expert `e` in tile `n` takes of a column. -/
def taken (g : Vec Ideal S16640x128 .f32) (n : Fin 65) (e : Fin 16) (s : Nat) (x : Fin 16640 → EReal) : EReal :=
  ∑ r : Fin 256, named (place (column g n (lane e)) r) s * x (rowAt n r)

/-- The rows the slots name. -/
def rowsOf (h : Vec Ideal S16640x4096 .bf16) (g : Vec Ideal S16640x128 .f32) : Vec Ideal S16x4160x4096 .bf16 :=
  fun i => taken g (tileOfSlot (i 1)) (i 0) ((i 1).val % 64) (fun r => h (ix2 r (i 2)))

/-- The gates of the rows the slots name. -/
def gatesOf (g : Vec Ideal S16640x128 .f32) : Vec Ideal S16x4160x128 .f32 :=
  fun i => taken g (tileOfSlot (i 1)) (i 0) ((i 1).val % 64) (fun r => g (ix2 r (i 2)))

/-- Each row's slot with each expert. -/
def placesOf (g : Vec Ideal S16640x128 .f32) : Vec Ideal S16x16640 .f32 :=
  fun i => place (column g (tileOfRow (i 1)) (lane (i 0))) (rowInTile (i 1))

/-- The number of rows of a tile that each column picks. -/
def totalsOf (g : Vec Ideal S16640x128 .f32) : Vec Ideal S65x8x128 .f32 :=
  fun i => ∑ r : Fin 256, picked (column g (i 0) (i 2) r)

/-- Where the blocks of a grid point lie. -/
theorem blocks (t : Fin cfg0.N) : (win0_0.index t 0 = t.val ∧ win0_0.index t 1 = 0) ∧ (win0_1.index t 0 = t.val ∧ win0_1.index t 1 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val)
    ∧ (win0_5.index t 0 = t.val ∧ win0_5.index t 1 = 0 ∧ win0_5.index t 2 = 0) :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val)
    ∧ (win0_5.index t 0 = t.val ∧ win0_5.index t 1 = 0 ∧ win0_5.index t 2 = 0)) t

/-- A grid point's tile. -/
def tile (t : Fin cfg0.N) : Fin 65 := ⟨t.val, t.isLt⟩

/-- Slot `s` of tile `n`. -/
def slotAt (n : Fin 65) (s : Fin 64) : Fin 4160 := ⟨n.val * 64 + s.val, by omega⟩

theorem tileOfSlot_slotAt (n : Fin 65) (s : Fin 64) : tileOfSlot (slotAt n s) = n :=
  Fin.ext (by have hs := s.isLt; show (n.val * 64 + s.val) / 64 = n.val; omega)

theorem slotAt_mod (n : Fin 65) (s : Fin 64) : (slotAt n s).val % 64 = s.val := by
  have hs := s.isLt
  show (n.val * 64 + s.val) % 64 = s.val
  omega

theorem slotAt_tile (q : Fin 4160) : slotAt (tileOfSlot q) ⟨q.val % 64, Nat.mod_lt _ (by decide)⟩ = q :=
  Fin.ext (by show q.val / 64 * 64 + q.val % 64 = q.val; omega)

theorem tileOfRow_rowAt (n : Fin 65) (r : Fin 256) : tileOfRow (rowAt n r) = n :=
  Fin.ext (by have hr := r.isLt; show (n.val * 256 + r.val) / 256 = n.val; omega)

theorem rowInTile_rowAt (n : Fin 65) (r : Fin 256) : rowInTile (rowAt n r) = r :=
  Fin.ext (by have hr := r.isLt; show (n.val * 256 + r.val) % 256 = r.val; omega)

theorem rowAt_tile (r : Fin 16640) : rowAt (tileOfRow r) (rowInTile r) = r :=
  Fin.ext (by show r.val / 256 * 256 + r.val % 256 = r.val; omega)

theorem place2 (t : Fin cfg0.N) (e : Fin 16) (s : Fin 64) (d : Fin 4096) : (win0_2.rect t).emb (ix3 e s d) = ix3 e (slotAt (tile t) s) d := by
  obtain ⟨-, -, ⟨h0, h1, h2⟩, -⟩ := blocks t
  exact idx3 ((win0_2.rect_emb_val_of_index_zero t 0 h0 _).trans rfl) ((win0_2.rect_emb_val t _ 1).trans (by rw [h1]; rfl))
    ((win0_2.rect_emb_val_of_index_zero t 2 h2 _).trans rfl)

theorem place3 (t : Fin cfg0.N) (e : Fin 16) (s : Fin 64) (l : Fin 128) : (win0_3.rect t).emb (ix3 e s l) = ix3 e (slotAt (tile t) s) l := by
  obtain ⟨-, -, -, ⟨h0, h1, h2⟩, -⟩ := blocks t
  exact idx3 ((win0_3.rect_emb_val_of_index_zero t 0 h0 _).trans rfl) ((win0_3.rect_emb_val t _ 1).trans (by rw [h1]; rfl))
    ((win0_3.rect_emb_val_of_index_zero t 2 h2 _).trans rfl)

theorem place4 (t : Fin cfg0.N) (e : Fin 16) (r : Fin 256) : (win0_4.rect t).emb (ix2 e r) = ix2 e (rowAt (tile t) r) := by
  obtain ⟨-, -, -, -, ⟨h0, h1⟩, -⟩ := blocks t
  exact idx2 ((win0_4.rect_emb_val_of_index_zero t 0 h0 _).trans rfl) ((win0_4.rect_emb_val t _ 1).trans (by rw [h1]; rfl))

theorem place5 (t : Fin cfg0.N) (a : Fin 1) (b : Fin 8) (l : Fin 128) : (win0_5.rect t).emb (ix3 a b l) = ix3 (tile t) b l := by
  obtain ⟨-, -, -, -, -, ⟨h0, h1, h2⟩⟩ := blocks t
  have ha := a.isLt
  exact idx3 ((win0_5.rect_emb_val t _ 0).trans (by rw [h0]; show t.val * 1 + a.val = t.val; omega))
    ((win0_5.rect_emb_val_of_index_zero t 1 h1 _).trans rfl) ((win0_5.rect_emb_val_of_index_zero t 2 h2 _).trans rfl)

variable (m : (ℓ : Loc nD τ sig) → Buf (Elt Ideal) ℓ) (ρ : Dev nD → PrngReg)

/-- The rows, of the launch's arguments. -/
abbrev rowsIn (c : Dev nD) : Vec Ideal S16640x4096 .bf16 := m ((c : Thread nD τ).loc main_arg0)

/-- The gates, of the launch's arguments. -/
abbrev gatesIn (c : Dev nD) : Vec Ideal S16640x128 .f32 := m ((c : Thread nD τ).loc main_arg1)

theorem rows_block (c : Dev nD) (t : Fin cfg0.N) (r : Fin 256) (d : Fin 4096) :
    (iblk m c 0 t : Vec Ideal S256x4096 .bf16) (ix2 r d) = rowsIn m c (ix2 (rowAt (tile t) r) d) := by
  obtain ⟨⟨h0, h1⟩, -⟩ := blocks t
  have e : (win0_0.rect t).emb (ix2 r d) = ix2 (rowAt (tile t) r) d :=
    idx2 ((win0_0.rect_emb_val t _ 0).trans (by rw [h0]; rfl)) ((win0_0.rect_emb_val_of_index_zero t 1 h1 _).trans rfl)
  exact (congrFun (V_main_arg0 m c) _).trans (congrArg (m ((c : Thread nD τ).loc main_arg0)) e)

theorem gates_block (c : Dev nD) (t : Fin cfg0.N) (r : Fin 256) (l : Fin 128) :
    (iblk m c 1 t : Vec Ideal S256x128 .f32) (ix2 r l) = column (gatesIn m c) (tile t) l r := by
  obtain ⟨-, ⟨h0, h1⟩, -⟩ := blocks t
  have e : (win0_1.rect t).emb (ix2 r l) = ix2 (rowAt (tile t) r) l :=
    idx2 ((win0_1.rect_emb_val t _ 0).trans (by rw [h0]; rfl)) ((win0_1.rect_emb_val_of_index_zero t 1 h1 _).trans rfl)
  exact (congrFun (V_main_arg1 m c) _).trans (congrArg (m ((c : Thread nD τ).loc main_arg1)) e)

theorem gates_column (c : Dev nD) (t : Fin cfg0.N) (l : Fin 128) :
    (fun q : Fin 256 => (iblk m c 1 t : Vec Ideal S256x128 .f32) (ix2 q l)) = column (gatesIn m c) (tile t) l := funext fun q => gates_block m c t q l

theorem flushed_rows (c : Dev nD) (t : Fin cfg0.N) : (dats m 0 c).flushed 2 t
    = ((cfg0.win 2).blk t).view.read (Elt Ideal) (rowsOf (rowsIn m c) (gatesIn m c)) := by
  rw [Value.flushed2]
  funext y
  show out0_2 (iblk m c 0 t) (iblk m c 1 t) y = rowsOf (rowsIn m c) (gatesIn m c) ((win0_2.rect t).emb y)
  obtain ⟨e, s, d, rfl⟩ := (⟨_, _, _, eq_ix3 y⟩ : ∃ (e : Fin 16) (s : Fin 64) (d : Fin 4096), y = ix3 e s d)
  rw [place2]
  refine (out2_apply (iblk m c 0 t) (iblk m c 1 t) e s d).trans ?_
  show _ = taken (gatesIn m c) (tileOfSlot (slotAt (tile t) s)) e ((slotAt (tile t) s).val % 64) (fun r => rowsIn m c (ix2 r d))
  rw [tileOfSlot_slotAt, slotAt_mod]
  refine Finset.sum_congr rfl fun r _ => congrArg₂ (fun a b : EReal => a * b) ?_ (rows_block m c t r d)
  exact congrArg (fun z : Fin 256 → EReal => named (place z r) s.val) (gates_column m c t (lane e))

theorem flushed_gates (c : Dev nD) (hg : ∀ y, gatesIn m c y = (((gatesIn m c y).toReal : ℝ) : EReal)) (t : Fin cfg0.N) : (dats m 0 c).flushed 3 t
    = ((cfg0.win 3).blk t).view.read (Elt Ideal) (gatesOf (gatesIn m c)) := by
  rw [Value.flushed3]
  funext y
  show out0_3 (iblk m c 0 t) (iblk m c 1 t) y = gatesOf (gatesIn m c) ((win0_3.rect t).emb y)
  obtain ⟨e, s, l, rfl⟩ := (⟨_, _, _, eq_ix3 y⟩ : ∃ (e : Fin 16) (s : Fin 64) (l : Fin 128), y = ix3 e s l)
  rw [place3]
  refine (out3_apply (iblk m c 0 t) (iblk m c 1 t) (fun z => hg ((win0_1.rect t).emb z)) e s l).trans ?_
  show _ = taken (gatesIn m c) (tileOfSlot (slotAt (tile t) s)) e ((slotAt (tile t) s).val % 64) (fun r => gatesIn m c (ix2 r l))
  rw [tileOfSlot_slotAt, slotAt_mod]
  refine Finset.sum_congr rfl fun r _ => congrArg₂ (fun a b : EReal => a * b) ?_ (gates_block m c t r l)
  exact congrArg (fun z : Fin 256 → EReal => named (place z r) s.val) (gates_column m c t (lane e))

theorem flushed_places (c : Dev nD) (t : Fin cfg0.N) : (dats m 0 c).flushed 4 t
    = ((cfg0.win 4).blk t).view.read (Elt Ideal) (placesOf (gatesIn m c)) := by
  rw [Value.flushed4]
  funext y
  show out0_4 (iblk m c 0 t) (iblk m c 1 t) y = placesOf (gatesIn m c) ((win0_4.rect t).emb y)
  obtain ⟨e, r, rfl⟩ := (⟨_, _, eq_ix2 y⟩ : ∃ (e : Fin 16) (r : Fin 256), y = ix2 e r)
  rw [place4]
  refine (out4_apply (iblk m c 0 t) (iblk m c 1 t) e r).trans ?_
  show _ = place (column (gatesIn m c) (tileOfRow (rowAt (tile t) r)) (lane e)) (rowInTile (rowAt (tile t) r))
  rw [tileOfRow_rowAt, rowInTile_rowAt]
  exact congrArg (fun z : Fin 256 → EReal => place z r) (gates_column m c t (lane e))

theorem flushed_totals (c : Dev nD) (t : Fin cfg0.N) : (dats m 0 c).flushed 5 t
    = ((cfg0.win 5).blk t).view.read (Elt Ideal) (totalsOf (gatesIn m c)) := by
  rw [Value.flushed5]
  funext y
  show out0_5 (iblk m c 0 t) (iblk m c 1 t) y = totalsOf (gatesIn m c) ((win0_5.rect t).emb y)
  obtain ⟨a, b, l, rfl⟩ := (⟨_, _, _, eq_ix3 y⟩ : ∃ (a : Fin 1) (b : Fin 8) (l : Fin 128), y = ix3 a b l)
  rw [place5]
  refine (out5_apply (iblk m c 0 t) (iblk m c 1 t) a b l).trans ?_
  exact Finset.sum_congr rfl fun r _ => congrArg picked (gates_block m c t r l)

theorem covered2 (i : S16x4160x4096.Idx) : ∃ t : Fin cfg0.N, (cfg0.win 2).flush t = true ∧ i ∈ ((cfg0.win 2).blk t).view.set := by
  let t : Fin cfg0.N := ⟨(tileOfSlot (i 1)).val, (tileOfSlot (i 1)).isLt⟩
  refine ⟨t, flush0_2 t, ?_⟩
  have h := (place2 t (i 0) ⟨(i 1).val % 64, Nat.mod_lt _ (by decide)⟩ (i 2)).trans
    ((congrArg (fun q => ix3 (i 0) q (i 2)) (slotAt_tile (i 1))).trans (eq_ix3 i).symm)
  rw [← h]
  exact ((cfg0.win 2).blk t).view.emb_mem_set _

theorem covered3 (i : S16x4160x128.Idx) : ∃ t : Fin cfg0.N, (cfg0.win 3).flush t = true ∧ i ∈ ((cfg0.win 3).blk t).view.set := by
  let t : Fin cfg0.N := ⟨(tileOfSlot (i 1)).val, (tileOfSlot (i 1)).isLt⟩
  refine ⟨t, flush0_3 t, ?_⟩
  have h := (place3 t (i 0) ⟨(i 1).val % 64, Nat.mod_lt _ (by decide)⟩ (i 2)).trans
    ((congrArg (fun q => ix3 (i 0) q (i 2)) (slotAt_tile (i 1))).trans (eq_ix3 i).symm)
  rw [← h]
  exact ((cfg0.win 3).blk t).view.emb_mem_set _

theorem covered4 (i : S16x16640.Idx) : ∃ t : Fin cfg0.N, (cfg0.win 4).flush t = true ∧ i ∈ ((cfg0.win 4).blk t).view.set := by
  let t : Fin cfg0.N := ⟨(tileOfRow (i 1)).val, (tileOfRow (i 1)).isLt⟩
  refine ⟨t, flush0_4 t, ?_⟩
  have h := (place4 t (i 0) (rowInTile (i 1))).trans
    ((congrArg (fun q => ix2 (i 0) q) (rowAt_tile (i 1))).trans (eq_ix2 i).symm)
  rw [← h]
  exact ((cfg0.win 4).blk t).view.emb_mem_set _

theorem covered5 (i : S65x8x128.Idx) : ∃ t : Fin cfg0.N, (cfg0.win 5).flush t = true ∧ i ∈ ((cfg0.win 5).blk t).view.set := by
  let t : Fin cfg0.N := ⟨(i 0).val, (i 0).isLt⟩
  refine ⟨t, flush0_5 t, ?_⟩
  have h := (place5 t 0 (i 1) (i 2)).trans (eq_ix3 i).symm
  rw [← h]
  exact ((cfg0.win 5).blk t).view.emb_mem_set _

theorem result2 (c : Dev nD) : (dats m 0 c).arrAt 2 cfg0.N = rowsOf (rowsIn m c) (gatesIn m c) :=
  (dats m 0 c).arrAt_eq_of_cover 2 _ (fun t _ => flushed_rows m c t) covered2

theorem result3 (c : Dev nD) (hg : ∀ y, gatesIn m c y = (((gatesIn m c y).toReal : ℝ) : EReal)) : (dats m 0 c).arrAt 3 cfg0.N = gatesOf (gatesIn m c) :=
  (dats m 0 c).arrAt_eq_of_cover 3 _ (fun t _ => flushed_gates m c hg t) covered3

theorem result4 (c : Dev nD) : (dats m 0 c).arrAt 4 cfg0.N = placesOf (gatesIn m c) :=
  (dats m 0 c).arrAt_eq_of_cover 4 _ (fun t _ => flushed_places m c t) covered4

theorem result5 (c : Dev nD) : (dats m 0 c).arrAt 5 cfg0.N = totalsOf (gatesIn m c) :=
  (dats m 0 c).arrAt_eq_of_cover 5 _ (fun t _ => flushed_totals m c t) covered5

/-- A truth value read as a number is one or zero. -/
theorem number_eq (b : BitVec 1) : FloatOps.uitofp (F := Ideal) .f32 b
    = Scalar.select b (Ideal.ofBits .f32 0x3F800000#32) (Ideal.ofBits .f32 0x00000000#32) := by
  have hb : b = BitVec.ofBool true ∨ b = BitVec.ofBool false := by
    revert b
    decide
  have hu : FloatOps.uitofp (F := Ideal) .f32 b = ((b.toNat : ℝ) : EReal) := rfl
  rw [hu, Ideal.ofBits_zero_f32, Ideal.ofBits_one_f32]
  rcases hb with rfl | rfl
  · show (((1 : Nat) : ℝ) : EReal) = 1
    norm_num
  · show (((0 : Nat) : ℝ) : EReal) = 0
    norm_num

/-- A row is picked exactly when its gate is positive. -/
theorem picked_positive (z : EReal) : FloatOps.cmpf (F := Ideal) (φ := .f32) .ogt (picked z) (Ideal.ofBits .f32 0x00000000#32)
    = FloatOps.cmpf (F := Ideal) (φ := .f32) .ogt z (Ideal.ofBits .f32 0x00000000#32) := by
  have hc : ∀ a b : EReal, FloatOps.cmpf (F := Ideal) (φ := .f32) .ogt a b = BitVec.ofBool (decide (b < a)) := fun _ _ => rfl
  unfold picked
  rw [hc, hc, Ideal.ofBits_zero_f32, Ideal.ofBits_one_f32]
  by_cases h : 0 < z
  · rw [decide_eq_true h]
    show BitVec.ofBool (decide ((0 : EReal) < 1)) = _
    rw [decide_eq_true (zero_lt_one)]
  · rw [decide_eq_false h]
    show BitVec.ofBool (decide ((0 : EReal) < 0)) = _
    rw [decide_eq_false (lt_irrefl _)]

section Reference

open Cert.DispatchRefIdeal.Read

variable (h : Vec Ideal S16640x4096 .bf16) (g : Vec Ideal S16640x128 .f32)

theorem reference_row (i : Cert.DispatchRefIdeal.S65x256x4096.Idx) : val_main_v1 (F := Ideal) h i = h (ix2 (rowAt (i 0) (i 1)) (i 2)) := by
  rw [val_main_v1_apply, val_main_v0_apply]
  have h2 : (i 2).val < 4096 := (i 2).isLt
  refine congrArg h (idx2 ?_ ?_)
  · show (((i 0).val * 256 + (i 1).val) * 4096 + (i 2).val) / 4096 = (i 0).val * 256 + (i 1).val; omega
  · show (((i 0).val * 256 + (i 1).val) * 4096 + (i 2).val) % 4096 = (i 2).val; omega

theorem reference_gate (i : Cert.DispatchRefIdeal.S65x256x128.Idx) : val_main_v2 (F := Ideal) g i = column g (i 0) (i 2) (i 1) := by
  rw [val_main_v2_apply]
  have h2 : (i 2).val < 128 := (i 2).isLt
  refine congrArg g (idx2 ?_ ?_)
  · show (((i 0).val * 256 + (i 1).val) * 128 + (i 2).val) / 128 = (i 0).val * 256 + (i 1).val; omega
  · show (((i 0).val * 256 + (i 1).val) * 128 + (i 2).val) % 128 = (i 2).val; omega

theorem reference_picked (i : Cert.DispatchRefIdeal.S65x256x128.Idx) : val_main_v5 (F := Ideal) g i = picked (column g (i 0) (i 2) (i 1)) := by
  rw [val_main_v5_apply, number_eq, val_main_v4_apply, val_main_v3_apply, val_main_cst_apply, reference_gate]
  rfl

theorem reference_earlier (i : Cert.DispatchRefIdeal.S256x256.Idx) : val_main_v12 (F := Ideal) i = earlier (i 0).val (i 1).val := by
  rw [val_main_v12_apply, number_eq, val_main_v11_apply, val_main_v9_apply, val_main_v7_apply, val_main_v6_apply, val_main_v10_apply, val_main_v8_apply,
    val_main_v6_apply]
  rfl

theorem reference_rank (i : Cert.DispatchRefIdeal.S65x256x128.Idx) : val_main_v18 (F := Ideal) g i
    = ∑ q : Fin 256, earlier (i 1).val q.val * picked (column g (i 0) (i 2) q) := by
  rw [val_main_v18_apply, val_main_cst_0_apply]
  refine (congrArg (fun z : EReal => z + _) Ideal.ofBits_zero_f32).trans ((zero_add _).trans ?_)
  refine Finset.sum_congr rfl fun q _ => ?_
  rw [val_main_v17_apply, val_main_v15_apply, val_main_v13_apply, reference_earlier, val_main_v16_apply, val_main_v14_apply, reference_picked]
  rfl

theorem reference_place (i : Cert.DispatchRefIdeal.S65x256x128.Idx) : val_main_v21 (F := Ideal) g i = place (column g (i 0) (i 2)) (i 1) := by
  rw [val_main_v21_apply, val_main_v20_apply, val_main_v19_apply, val_main_cst_1_apply, val_main_call0_v1_apply, val_main_call0_v0_apply, val_main_cst_2_apply,
    reference_rank, reference_gate]
  unfold place
  rw [picked_positive]
  rfl

theorem reference_named (i : Cert.DispatchRefIdeal.S65x256x16x64.Idx) : val_main_v33 (F := Ideal) g i
    = named (place (column g (i 0) (lane (i 2))) (i 1)) (i 3).val := by
  rw [val_main_v33_apply, val_main_v32_apply, val_main_v30_apply, val_main_v26_apply, val_main_v25_apply, reference_place, val_main_v31_apply, val_main_v29_apply,
    val_main_v28_apply, val_main_v27_apply]
  exact Combine.named_eq _ _

theorem reference_rows : val_main_v43 (F := Ideal) h g = rowsOf h g := by
  funext i
  rw [val_main_v43_apply, val_main_v36_apply, val_main_v35_apply, val_main_v34_apply]
  have h1 : (i 1).val < 4160 := (i 1).isLt
  have h2 : (i 2).val < 4096 := (i 2).isLt
  have e0 : (((i 0).val * 4160 + (i 1).val) * 4096 + (i 2).val) / 17039360 = (i 0).val := by omega
  have e1 : (((i 0).val * 4160 + (i 1).val) * 4096 + (i 2).val) / 262144 % 65 = (i 1).val / 64 := by omega
  have e2 : (((i 0).val * 4160 + (i 1).val) * 4096 + (i 2).val) / 4096 % 64 = (i 1).val % 64 := by omega
  have e3 : (((i 0).val * 4160 + (i 1).val) * 4096 + (i 2).val) % 4096 = (i 2).val := by omega
  show (∑ r : Fin 256, val_main_v1 (F := Ideal) h (lidx_main_v34 (idx_main_v35 (idx_main_v36 i)) r) * val_main_v33 (F := Ideal) g (ridx_main_v34 (idx_main_v35 (idx_main_v36 i)) r) : EReal)
    = ∑ r : Fin 256, named (place (column g (tileOfSlot (i 1)) (lane (i 0))) r) ((i 1).val % 64) * h (ix2 (rowAt (tileOfSlot (i 1)) r) (i 2))
  refine Finset.sum_congr rfl fun r _ => ?_
  rw [reference_row, reference_named]
  refine (mul_comm _ _).trans (congrArg₂ (fun a b : EReal => a * b) ?_ (congrArg h (idx2 ?_ e3)))
  · have n0 : (⟨(((i 0).val * 4160 + (i 1).val) * 4096 + (i 2).val) / 262144 % 65, Nat.mod_lt _ (by decide)⟩ : Fin 65) = tileOfSlot (i 1) := Fin.ext e1
    have n1 : (⟨(((i 0).val * 4160 + (i 1).val) * 4096 + (i 2).val) / 17039360, by rw [e0]; exact (i 0).isLt⟩ : Fin 16) = i 0 := Fin.ext e0
    show named (place (column g ⟨(((i 0).val * 4160 + (i 1).val) * 4096 + (i 2).val) / 262144 % 65, _⟩
      (lane ⟨(((i 0).val * 4160 + (i 1).val) * 4096 + (i 2).val) / 17039360, _⟩)) r) ((((i 0).val * 4160 + (i 1).val) * 4096 + (i 2).val) / 4096 % 64) = _
    rw [n0, n1, e2]
  · show (((i 0).val * 4160 + (i 1).val) * 4096 + (i 2).val) / 262144 % 65 * 256 + r.val = (i 1).val / 64 * 256 + r.val
    rw [e1]

theorem reference_gates : val_main_v39 (F := Ideal) g = gatesOf g := by
  funext i
  rw [val_main_v39_apply, val_main_v38_apply, val_main_v37_apply]
  have h1 : (i 1).val < 4160 := (i 1).isLt
  have h2 : (i 2).val < 128 := (i 2).isLt
  have e0 : (((i 0).val * 4160 + (i 1).val) * 128 + (i 2).val) / 532480 = (i 0).val := by omega
  have e1 : (((i 0).val * 4160 + (i 1).val) * 128 + (i 2).val) / 8192 % 65 = (i 1).val / 64 := by omega
  have e2 : (((i 0).val * 4160 + (i 1).val) * 128 + (i 2).val) / 128 % 64 = (i 1).val % 64 := by omega
  have e3 : (((i 0).val * 4160 + (i 1).val) * 128 + (i 2).val) % 128 = (i 2).val := by omega
  show (∑ r : Fin 256, val_main_v2 (F := Ideal) g (lidx_main_v37 (idx_main_v38 (idx_main_v39 i)) r) * val_main_v33 (F := Ideal) g (ridx_main_v37 (idx_main_v38 (idx_main_v39 i)) r) : EReal)
    = ∑ r : Fin 256, named (place (column g (tileOfSlot (i 1)) (lane (i 0))) r) ((i 1).val % 64) * g (ix2 (rowAt (tileOfSlot (i 1)) r) (i 2))
  refine Finset.sum_congr rfl fun r _ => ?_
  rw [reference_gate, reference_named]
  refine (mul_comm _ _).trans (congrArg₂ (fun a b : EReal => a * b) ?_ (congrArg g (idx2 ?_ e3)))
  · have n0 : (⟨(((i 0).val * 4160 + (i 1).val) * 128 + (i 2).val) / 8192 % 65, Nat.mod_lt _ (by decide)⟩ : Fin 65) = tileOfSlot (i 1) := Fin.ext e1
    have n1 : (⟨(((i 0).val * 4160 + (i 1).val) * 128 + (i 2).val) / 532480, by rw [e0]; exact (i 0).isLt⟩ : Fin 16) = i 0 := Fin.ext e0
    show named (place (column g ⟨(((i 0).val * 4160 + (i 1).val) * 128 + (i 2).val) / 8192 % 65, _⟩
      (lane ⟨(((i 0).val * 4160 + (i 1).val) * 128 + (i 2).val) / 532480, _⟩)) r) ((((i 0).val * 4160 + (i 1).val) * 128 + (i 2).val) / 128 % 64) = _
    rw [n0, n1, e2]
  · show (((i 0).val * 4160 + (i 1).val) * 128 + (i 2).val) / 8192 % 65 * 256 + r.val = (i 1).val / 64 * 256 + r.val
    rw [e1]

theorem reference_places : val_main_v24 (F := Ideal) g = placesOf g := by
  funext i
  rw [val_main_v24_apply, val_main_v23_apply, val_main_v22_apply, reference_place]
  have h0 : (i 0).val < 16 := (i 0).isLt
  have h1 : (i 1).val < 16640 := (i 1).isLt
  have e0 : ((i 1).val * 128 + (i 0).val) / 32768 = (i 1).val / 256 := by omega
  have e1 : ((i 1).val * 128 + (i 0).val) / 128 % 256 = (i 1).val % 256 := by omega
  have e2 : ((i 1).val * 128 + (i 0).val) % 128 = (i 0).val := by omega
  have n0 : (⟨((i 1).val * 128 + (i 0).val) / 32768, by omega⟩ : Fin 65) = tileOfRow (i 1) := Fin.ext e0
  have n1 : (⟨((i 1).val * 128 + (i 0).val) / 128 % 256, Nat.mod_lt _ (by decide)⟩ : Fin 256) = rowInTile (i 1) := Fin.ext e1
  have n2 : (⟨((i 1).val * 128 + (i 0).val) % 128, Nat.mod_lt _ (by decide)⟩ : Fin 128) = lane (i 0) := Fin.ext e2
  show place (column g ⟨((i 1).val * 128 + (i 0).val) / 32768, _⟩ ⟨((i 1).val * 128 + (i 0).val) % 128, _⟩) ⟨((i 1).val * 128 + (i 0).val) / 128 % 256, _⟩ = _
  rw [n0, n1, n2]
  rfl

theorem reference_totals : val_main_v42 (F := Ideal) g = totalsOf g := by
  funext i
  rw [val_main_v42_apply, val_main_v41_apply, val_main_v40_apply, val_main_cst_3_apply]
  refine (congrArg (fun z : EReal => z + _) Ideal.ofBits_zero_f32).trans ((zero_add _).trans ?_)
  exact Finset.sum_congr rfl fun r _ => reference_picked g _

end Reference

/-- The shapes the precondition's operations state. -/
theorem numbers_facts : Cert.Pre_gates_numbers.Facts := by
  constructor <;> decide

instance : Subsingleton Cert.Pre_gates_numbers.S_.Idx := ⟨fun a b => funext fun i => i.elim0⟩

/-- The precondition, read back. -/
theorem numbers_args [Cert.Pre_gates_numbers.Facts] (h : Vec Ideal S16640x4096 .bf16) (g : Vec Ideal S16640x128 .f32)
    (hp : Cert.Pre_gates_numbers.fn (F := Ideal) h g = fun _ => 1#1) (y : S16640x128.Idx) : g y = (((g y).toReal : ℝ) : EReal) := by
  have e := congrFun hp ValueIdx.ix0
  simp only [Cert.Pre_gates_numbers.fn] at e
  exact Mixing.real_of_abs _ (Host.reduce_andi_all _ _ _ _ _ e y)

theorem same [hPre_gates_numbers : Cert.Pre_gates_numbers.Facts] :
    Cert.algebraic_DispatchIdeal_DispatchRefIdeal_pre_gates_numbers := by
  intro m g m' g' hpre hagree
  have hg : ∀ c : Dev nD, ∀ y, gatesIn m c y = (((gatesIn m c y).toReal : ℝ) : EReal) := fun c => numbers_args _ _ (hpre c)
  refine ⟨fun c => rowsOf (rowsIn m c) (gatesIn m c), fun c => gatesOf (gatesIn m c), fun c => placesOf (gatesIn m c), fun c => totalsOf (gatesIn m c), ?_, ?_⟩
  · refine (θ_run _ _ _).mono (fun r h c => ?_) (Value.run_blocks m g)
    obtain ⟨h2, h3, h4, h5, h⟩ := h c
    exact ⟨h2.trans (result2 m c), h3.trans (result3 m c (hg c)), h4.trans (result4 m c), h5.trans (result5 m c), h⟩
  · refine (θ_run _ _ _).mono (fun r h c => ?_) (Cert.DispatchRefIdeal.Value.run m' g')
    obtain ⟨a0, a1⟩ := hagree c
    obtain ⟨h2, h3, h4, h5, h⟩ := h c
    refine ⟨h2.trans ?_, h3.trans ?_, h4.trans ?_, h5.trans ?_, h⟩
    · refine (Cert.DispatchRefIdeal.Read.val_main_v43_eq _ _).trans ?_
      rw [a0, a1]
      exact reference_rows _ _
    · refine (Cert.DispatchRefIdeal.Read.val_main_v39_eq _).trans ?_
      rw [a1]
      exact reference_gates _
    · refine (Cert.DispatchRefIdeal.Read.val_main_v24_eq _).trans ?_
      rw [a1]
      exact reference_places _
    · refine (Cert.DispatchRefIdeal.Read.val_main_v42_eq _).trans ?_
      rw [a1]
      exact reference_totals _

end Cert.Proof.Dispatch

end
-- ==== Proof.Mixing.Run.lean ====
/-
  The run of the two mixers' program: at every final state the two results hold what the second call's write-backs leave,
  and the arguments are unchanged.
-/
module

public import proofs.«01_k».proof.Proof.Gen.MixerIdeal.Frame

@[expose] public section

noncomputable section

namespace Cert.Proof.Mixing

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
variable (m : (ℓ : Loc nD τ sig) → Buf (Elt F) ℓ) (ρ : Dev nD → PrngReg)

set_option maxRecDepth 16384 in
set_option backward.isDefEq.respectTransparency.types false in
/-- The launch, with the two results read off the last boundary. -/
theorem run : θ_run defs (onTc (τ := τ) (main (F := F))) ⟨m, fun _ => 0, ρ⟩ (fun r => ∀ c : Dev nD,
      r.2.mem ((c : Thread nD τ).loc main_v26_0) = (dat1 (V3 m ρ) c).arrAt 17 cfg1.N
      ∧ r.2.mem ((c : Thread nD τ).loc main_v26_1) = (dat1 (V3 m ρ) c).arrAt 18 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => (fun c =>
      ⟨(h c _ (mem_uc main_v26_0 (by decide))).trans (W4_arr m ρ c 17),
       (h c _ (mem_uc main_v26_1 (by decide))).trans (W4_arr m ρ c 18),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩))

end Cert.Proof.Mixing

end
-- ==== Proof.Mixing.Same.lean ====
/-
  The mixers' program and the reference leave the same two arrays, where the precondition holds.
-/
module

public import proofs.«01_k».proof.Proof.Mixing.Pre
public import proofs.«01_k».proof.Proof.Mixing.Run
public import proofs.«01_k».proof.Proof.Gen.MixerRefIdeal.Run
public import Idealize.ShloMosaic.Lib.Claim

@[expose] public section

noncomputable section

namespace Cert.Proof.Mixing

open Idealize.ShloMosaic hiding ix1 ix2 ix3 ix4 ix5 eq_ix1 eq_ix2 eq_ix3 eq_ix4 eq_ix5
open Idealize.ShloMosaic.ValueIdx
open Idealize.ShloMosaic.TcCoe Idealize.SL.Sem
open Cert.MixerIdeal Cert.MixerIdeal.Gen
open scoped BigOperators

/-- A row of the arrays is a row of a chunk, and a column is a column of a head or group. -/
theorem place (y : S16640x1024.Idx) : ∃ (t : Fin 65) (i : Fin 256) (h : Fin 8) (e : Fin 128), y = ix2 (row t i) (colv h e) := by
  have h0 : (y 0).val < 16640 := (y 0).isLt
  have h1 : (y 1).val < 1024 := (y 1).isLt
  refine ⟨⟨(y 0).val / 256, by omega⟩, ⟨(y 0).val % 256, by omega⟩, ⟨(y 1).val / 128, by omega⟩, ⟨(y 1).val % 128, by omega⟩, idx2 ?_ ?_⟩
  · show (y 0).val = 256 * ((y 0).val / 256) + (y 0).val % 256
    omega
  · show (y 1).val = 128 * ((y 1).val / 128) + (y 1).val % 128
    omega

/-- A row of a chunk is a row of one of its halves. -/
theorem half (i : Fin 256) : ∃ (a : Fin 2) (r : Fin 128), i = rowOf a r := by
  have := i.isLt
  refine ⟨⟨i.val / 128, by omega⟩, ⟨i.val % 128, by omega⟩, Fin.ext ?_⟩
  show i.val = 128 * (i.val / 128) + i.val % 128
  omega

section
variable (m : (ℓ : Loc nD τ sig) → Buf (Elt Ideal) ℓ) (ρ : Dev nD → PrngReg) (c : Dev nD)

theorem first_result [Cert.Pre_decays_bounded.Facts] (hp : Cert.Pre_MixerIdeal_decays_bounded m) :
    Cert.MixerRefIdeal.Read.val_main_v179 (F := Ideal) (argOf m c main_arg0) (argOf m c main_arg1) (argOf m c main_arg2) (argOf m c main_arg3)
      (argOf m c main_arg4) (argOf m c main_arg5) (argOf m c main_arg6) (argOf m c main_arg7) = (dat1 (V3 m ρ) c).arrAt 17 cfg1.N := by
  obtain ⟨D, W, B, h1, h2, h3, hf⟩ := bounded_args _ _ _ _ _ _ _ _ _ _ _ _ (hp c)
  funext y
  obtain ⟨t, i, h, e, rfl⟩ := place y
  exact (ref_attended _ _ _ D W B h1 h2 h3 _ _ _ _ _ t h i e).trans (kernel_attended m ρ c D W B ⟨h1, h2, h3, hf⟩ t h i e).symm

theorem second_result :
    Cert.MixerRefIdeal.Read.val_main_v180 (F := Ideal) (argOf m c main_arg6) (argOf m c main_arg8) (argOf m c main_arg9) (argOf m c main_arg10)
      (argOf m c main_arg11) = (dat1 (V3 m ρ) c).arrAt 18 cfg1.N := by
  funext y
  obtain ⟨t, i, g, k, rfl⟩ := place y
  obtain ⟨a, r, rfl⟩ := half i
  exact (ref_gated _ _ _ _ _ t a r g k).trans (kernel_gated m ρ c t a r g k).symm

end

/-- The reference's first result, of equal arguments. -/
theorem first_args (x0 y0 : Vec Ideal S16640x2048 .bf16) (x1 y1 : Vec Ideal S16640x128 .f32) (x2 y2 : Vec Ideal S2x16x512 .f32) (x3 y3 : Vec Ideal S2x512 .f32) (x4 y4 : Vec Ideal S65x128x512 .bf16) (x5 y5 : Vec Ideal S65x128x512 .bf16) (x6 y6 : Vec Ideal S16640x3072 .bf16) (x7 y7 : Vec Ideal S1024 .f32)
    (h0 : x0 = y0) (h1 : x1 = y1) (h2 : x2 = y2) (h3 : x3 = y3) (h4 : x4 = y4) (h5 : x5 = y5) (h6 : x6 = y6) (h7 : x7 = y7) :
    Cert.MixerRefIdeal.Read.val_main_v179 (F := Ideal) x0 x1 x2 x3 x4 x5 x6 x7 = Cert.MixerRefIdeal.Read.val_main_v179 (F := Ideal) y0 y1 y2 y3 y4 y5 y6 y7 := by
  rw [h0, h1, h2, h3, h4, h5, h6, h7]

/-- The reference's second result, of equal arguments. -/
theorem second_args (x6 y6 : Vec Ideal S16640x3072 .bf16) (x8 y8 : Vec Ideal S1024 .f32) (x9 y9 : Vec Ideal S1024 .f32) (x10 y10 : Vec Ideal S4x8x128x128 .f32) (x11 y11 : Vec Ideal S8x128 .f32)
    (h6 : x6 = y6) (h8 : x8 = y8) (h9 : x9 = y9) (h10 : x10 = y10) (h11 : x11 = y11) :
    Cert.MixerRefIdeal.Read.val_main_v180 (F := Ideal) x6 x8 x9 x10 x11 = Cert.MixerRefIdeal.Read.val_main_v180 (F := Ideal) y6 y8 y9 y10 y11 := by
  rw [h6, h8, h9, h10, h11]

/-- Over the ideal numbers the kernel and the reference leave the same two arrays. -/
theorem same [hPre_decays_bounded : Cert.Pre_decays_bounded.Facts] : Cert.algebraic_MixerIdeal_MixerRefIdeal_pre_decays_bounded := by
  intro m g m' g' hp hagree
  refine ⟨fun c => (dat1 (V3 m g) c).arrAt 17 cfg1.N, fun c => (dat1 (V3 m g) c).arrAt 18 cfg1.N, run m g, ?_⟩
  refine (θ_run _ _ _).mono (fun r h c => ?_) (Cert.MixerRefIdeal.Value.run m' g')
  obtain ⟨a0, a1, a2, a3, a4, a5, a6, a7, a8, a9, a10, a11⟩ := hagree c
  have b0 : StableHlo.launchContents m' c (Proc.devRef .tc Cert.MixerRefIdeal.main_arg0) = argOf m c main_arg0 := a0
  have b1 : StableHlo.launchContents m' c (Proc.devRef .tc Cert.MixerRefIdeal.main_arg1) = argOf m c main_arg1 := a1
  have b2 : StableHlo.launchContents m' c (Proc.devRef .tc Cert.MixerRefIdeal.main_arg2) = argOf m c main_arg2 := a2
  have b3 : StableHlo.launchContents m' c (Proc.devRef .tc Cert.MixerRefIdeal.main_arg3) = argOf m c main_arg3 := a3
  have b4 : StableHlo.launchContents m' c (Proc.devRef .tc Cert.MixerRefIdeal.main_arg4) = argOf m c main_arg4 := a4
  have b5 : StableHlo.launchContents m' c (Proc.devRef .tc Cert.MixerRefIdeal.main_arg5) = argOf m c main_arg5 := a5
  have b6 : StableHlo.launchContents m' c (Proc.devRef .tc Cert.MixerRefIdeal.main_arg6) = argOf m c main_arg6 := a6
  have b7 : StableHlo.launchContents m' c (Proc.devRef .tc Cert.MixerRefIdeal.main_arg7) = argOf m c main_arg7 := a7
  have b8 : StableHlo.launchContents m' c (Proc.devRef .tc Cert.MixerRefIdeal.main_arg8) = argOf m c main_arg8 := a8
  have b9 : StableHlo.launchContents m' c (Proc.devRef .tc Cert.MixerRefIdeal.main_arg9) = argOf m c main_arg9 := a9
  have b10 : StableHlo.launchContents m' c (Proc.devRef .tc Cert.MixerRefIdeal.main_arg10) = argOf m c main_arg10 := a10
  have b11 : StableHlo.launchContents m' c (Proc.devRef .tc Cert.MixerRefIdeal.main_arg11) = argOf m c main_arg11 := a11
  refine ⟨(h c).1.trans ?_, (h c).2.1.trans ?_, (h c).2.2⟩
  · exact (Cert.MixerRefIdeal.Read.val_main_v179_eq (StableHlo.launchContents m' c)).trans
      ((first_args _ _ _ _ _ _ _ _ _ _ _ _ _ _ _ _ b0 b1 b2 b3 b4 b5 b6 b7).trans (first_result m g c hp))
  · exact (Cert.MixerRefIdeal.Read.val_main_v180_eq (StableHlo.launchContents m' c)).trans
      ((second_args _ _ _ _ _ _ _ _ _ _ b6 b8 b9 b10 b11).trans (second_result m g c))

end Cert.Proof.Mixing

end
-- ==== Proof.Merge.lean ====
/-
  The merge of the two branches: each branch's projection times the logistic of its gate, and the two added. The kernel's
  tiles, put together, are that array, which is what the reference computes.
-/
module

public import proofs.«01_k».proof.Defs
public import proofs.«01_k».proof.Proof.Common
public import Idealize.ShloMosaic.Lib.IdealHost
public import proofs.«01_k».proof.Proof.Gen.MergeIdeal.Value
public import proofs.«01_k».proof.Proof.Gen.MergeRefIdeal.Read

@[expose] public section

noncomputable section

namespace Cert.Proof.Merge

open Idealize.ShloMosaic Idealize.ShloMosaic.TcCoe Idealize.SL.Sem Idealize.ShloMosaic.ValueIdx
open Cert.MergeIdeal Cert.MergeIdeal.Gen
open scoped BigOperators

/-- A gate's pre-activation: row `i 0` of the activations times row `o + i 1` of the transposed weight. -/
def gate (o : Nat) (ho : o + 4096 ≤ 11264) (h : Vec Ideal S16640x4096 .bf16) (w : Vec Ideal S11264x4096 .bf16) (i : S16640x4096.Idx) : EReal :=
  ∑ k : Fin 4096, h (ix2 (i 0) k) * w (ix2 ⟨o + (i 1).val, lt_of_lt_of_le (Nat.add_lt_add_left (i 1).isLt o) ho⟩ k)

/-- A branch's projection: row `i 0` of the branch times column `i 1` of the first weight of the stack. -/
def branch (a : Vec Ideal S16640x1024 .bf16) (w : Vec Ideal S4x1024x4096 .f32) (i : S16640x4096.Idx) : EReal :=
  ∑ k : Fin 1024, a (ix2 (i 0) k) * w (ix3 0 k (i 1))

/-- Both branches, each times the logistic of its gate, added. -/
def merged (h : Vec Ideal S16640x4096 .bf16) (a s : Vec Ideal S16640x1024 .bf16) (w : Vec Ideal S11264x4096 .bf16)
    (wa wb : Vec Ideal S4x1024x4096 .f32) : Vec Ideal S16640x4096 .bf16 :=
  fun i => Ideal.logistic (gate 3072 (by decide) h w i) * branch a wa i + Ideal.logistic (gate 7168 (by decide) h w i) * branch s wb i

/-- The body's one store at an index, from its loads. -/
theorem out_apply (x0 : Vec Ideal S1280x4096 .bf16) (x1 x2 : Vec Ideal S1280x1024 .bf16) (x3 x4 : Vec Ideal S256x4096 .bf16)
    (x5 x6 : Vec Ideal S1x1024x256 .f32) (r : Fin 1280) (c : Fin 256) :
    out0_7 x0 x1 x2 x3 x4 x5 x6 (ix2 r c)
      = Ideal.logistic (∑ k : Fin 4096, x0 (ix2 r k) * x3 (ix2 c k)) * (∑ k : Fin 1024, x1 (ix2 r k) * x5 (ix3 0 k c))
        + Ideal.logistic (∑ k : Fin 4096, x0 (ix2 r k) * x4 (ix2 c k)) * (∑ k : Fin 1024, x2 (ix2 r k) * x6 (ix3 0 k c)) := by
  have hc : ∀ (x : Vec Ideal S1x1024x256 .f32) (k : Fin 1024),
      shapeCast S1024x256 x shapeCasts_S1x1024x256_S1024x256 (ix2 k c) = x (ix3 0 k c) := fun x k =>
    (shapeCast_dropUnit_apply ![1024, 256] x shapeCasts_S1x1024x256_S1024x256 (ix2 k c)).trans (congrArg x (idx3 rfl rfl rfl))
  unfold out0_7
  rw [View.canon_unit_zero (S := S1280x256) zeros2, View.ld_unit_zero (S := S1280x4096) zeros2, View.ld_unit_zero (S := S256x4096) zeros2,
    View.ld_unit_zero (S := S256x4096) zeros2, View.ld_unit_zero (S := S1280x1024) zeros2, View.ld_unit_zero (S := S1280x1024) zeros2,
    View.ld_unit_zero (S := S1x1024x256) zeros3, View.ld_unit_zero (S := S1x1024x256) zeros3]
  unfold k0_pay1
  show Ideal.logistic (FloatOps.matmul (F := Ideal) (φ₁ := .bf16) (φ₂ := .bf16) (DotDims.transposedRhs 1280 4096 256) none x0 x3 (constant S1280x256 .f32 0x00000000#32) (ix2 r c))
      * FloatOps.matmul (F := Ideal) (φ₁ := .bf16) (φ₂ := .bf16) (DotDims.plain 1280 1024 256) none x1 (shapeCast S1024x256 x5 shapeCasts_S1x1024x256_S1024x256) (constant S1280x256 .f32 0x00000000#32) (ix2 r c)
    + Ideal.logistic (FloatOps.matmul (F := Ideal) (φ₁ := .bf16) (φ₂ := .bf16) (DotDims.transposedRhs 1280 4096 256) none x0 x4 (constant S1280x256 .f32 0x00000000#32) (ix2 r c))
      * FloatOps.matmul (F := Ideal) (φ₁ := .bf16) (φ₂ := .bf16) (DotDims.plain 1280 1024 256) none x2 (shapeCast S1024x256 x6 shapeCasts_S1x1024x256_S1024x256) (constant S1280x256 .f32 0x00000000#32) (ix2 r c) = _
  rw [product_rows, product_rows, product_cols, product_cols]
  simp only [hc]

/-- Where the blocks of grid point `t` lie. -/
theorem blocks (t : Fin cfg0.N) : (win0_7.index t 0 = t.val / 16 ∧ win0_7.index t 1 = t.val % 16)
    ∧ (win0_0.index t 0 = t.val / 16 ∧ win0_0.index t 1 = 0) ∧ (win0_1.index t 0 = t.val / 16 ∧ win0_1.index t 1 = 0)
    ∧ (win0_2.index t 0 = t.val / 16 ∧ win0_2.index t 1 = 0) ∧ (win0_3.index t 0 = 12 + t.val % 16 ∧ win0_3.index t 1 = 0)
    ∧ (win0_4.index t 0 = 28 + t.val % 16 ∧ win0_4.index t 1 = 0)
    ∧ (win0_5.index t 0 = 0 ∧ win0_5.index t 1 = 0 ∧ win0_5.index t 2 = t.val % 16)
    ∧ (win0_6.index t 0 = 0 ∧ win0_6.index t 1 = 0 ∧ win0_6.index t 2 = t.val % 16) :=
  (by decide +kernel : ∀ t : Fin grid0.N, (win0_7.index t 0 = t.val / 16 ∧ win0_7.index t 1 = t.val % 16)
    ∧ (win0_0.index t 0 = t.val / 16 ∧ win0_0.index t 1 = 0) ∧ (win0_1.index t 0 = t.val / 16 ∧ win0_1.index t 1 = 0)
    ∧ (win0_2.index t 0 = t.val / 16 ∧ win0_2.index t 1 = 0) ∧ (win0_3.index t 0 = 12 + t.val % 16 ∧ win0_3.index t 1 = 0)
    ∧ (win0_4.index t 0 = 28 + t.val % 16 ∧ win0_4.index t 1 = 0)
    ∧ (win0_5.index t 0 = 0 ∧ win0_5.index t 1 = 0 ∧ win0_5.index t 2 = t.val % 16)
    ∧ (win0_6.index t 0 = 0 ∧ win0_6.index t 1 = 0 ∧ win0_6.index t 2 = t.val % 16)) t

/-- Where the output block of point `t` puts its element `(r, d)`. -/
theorem out_at (t : Fin cfg0.N) (r : Fin 1280) (d : Fin 256) :
    (((win0_7.rect t).emb (ix2 r d)) 0).val = t.val / 16 * 1280 + r.val ∧ (((win0_7.rect t).emb (ix2 r d)) 1).val = t.val % 16 * 256 + d.val := by
  obtain ⟨⟨h0, h1⟩, -⟩ := blocks t
  constructor
  · refine (win0_7.rect_emb_val t _ 0).trans ?_
    rw [h0]; rfl
  · refine (win0_7.rect_emb_val t _ 1).trans ?_
    rw [h1]; rfl

variable (m : (ℓ : Loc nD τ sig) → Buf (Elt Ideal) ℓ) (ρ : Dev nD → PrngReg)

/-- The array the launch's arguments merge to. -/
abbrev mergedOf (c : Dev nD) : Vec Ideal S16640x4096 .bf16 :=
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` writes back is its block of the merged array. -/
theorem flushed_merged (c : Dev nD) (t : Fin cfg0.N) : (dats m 0 c).flushed 7 t
    = ((cfg0.win 7).blk t).view.read (Elt Ideal) (mergedOf m c) := by
  obtain ⟨-, ⟨h00, h01⟩, ⟨h10, h11⟩, ⟨h20, h21⟩, ⟨h30, h31⟩, ⟨h40, h41⟩, ⟨h50, h51, h52⟩, h60, h61, h62⟩ := blocks t
  rw [Value.flushed7]
  funext y
  show out0_7 (iblk m c 0 t) (iblk m c 1 t) (iblk m c 2 t) (iblk m c 3 t) (iblk m c 4 t) (iblk m c 5 t) (iblk m c 6 t) y
    = mergedOf m c ((win0_7.rect t).emb y)
  obtain ⟨r, d, rfl⟩ := (⟨_, _, eq_ix2 y⟩ : ∃ (r : Fin 1280) (d : Fin 256), y = ix2 r d)
  obtain ⟨hr, hd⟩ := out_at t r d
  refine (out_apply (iblk m c 0 t) (iblk m c 1 t) (iblk m c 2 t) (iblk m c 3 t) (iblk m c 4 t) (iblk m c 5 t) (iblk m c 6 t) r d).trans ?_
  generalize hi : (win0_7.rect t).emb (ix2 r d) = i at hr hd
  have e0 : ∀ k : Fin 4096, (win0_0.rect t).emb (ix2 r k) = ix2 (i 0) k := fun k => idx2
    ((win0_0.rect_emb_val t _ 0).trans (by rw [h00]; exact hr.symm)) ((win0_0.rect_emb_val_of_index_zero t 1 h01 _).trans rfl)
  have e1 : ∀ k : Fin 1024, (win0_1.rect t).emb (ix2 r k) = ix2 (i 0) k := fun k => idx2
    ((win0_1.rect_emb_val t _ 0).trans (by rw [h10]; exact hr.symm)) ((win0_1.rect_emb_val_of_index_zero t 1 h11 _).trans rfl)
  have e2 : ∀ k : Fin 1024, (win0_2.rect t).emb (ix2 r k) = ix2 (i 0) k := fun k => idx2
    ((win0_2.rect_emb_val t _ 0).trans (by rw [h20]; exact hr.symm)) ((win0_2.rect_emb_val_of_index_zero t 1 h21 _).trans rfl)
  have e3 : ∀ k : Fin 4096, (win0_3.rect t).emb (ix2 d k) = ix2 ⟨3072 + (i 1).val, lt_of_lt_of_le (Nat.add_lt_add_left (i 1).isLt 3072) (by decide)⟩ k := fun k => idx2
    ((win0_3.rect_emb_val t _ 0).trans (by rw [h30]; show (12 + t.val % 16) * 256 + d.val = 3072 + (i 1).val; omega)) ((win0_3.rect_emb_val_of_index_zero t 1 h31 _).trans rfl)
  have e4 : ∀ k : Fin 4096, (win0_4.rect t).emb (ix2 d k) = ix2 ⟨7168 + (i 1).val, lt_of_lt_of_le (Nat.add_lt_add_left (i 1).isLt 7168) (by decide)⟩ k := fun k => idx2
    ((win0_4.rect_emb_val t _ 0).trans (by rw [h40]; show (28 + t.val % 16) * 256 + d.val = 7168 + (i 1).val; omega)) ((win0_4.rect_emb_val_of_index_zero t 1 h41 _).trans rfl)
  have e5 : ∀ k : Fin 1024, (win0_5.rect t).emb (ix3 0 k d) = ix3 0 k (i 1) := fun k => idx3
    ((win0_5.rect_emb_val_of_index_zero t 0 h50 _).trans rfl) ((win0_5.rect_emb_val_of_index_zero t 1 h51 _).trans rfl)
    ((win0_5.rect_emb_val t _ 2).trans (by rw [h52]; exact hd.symm))
  have e6 : ∀ k : Fin 1024, (win0_6.rect t).emb (ix3 0 k d) = ix3 0 k (i 1) := fun k => idx3
    ((win0_6.rect_emb_val_of_index_zero t 0 h60 _).trans rfl) ((win0_6.rect_emb_val_of_index_zero t 1 h61 _).trans rfl)
    ((win0_6.rect_emb_val t _ 2).trans (by rw [h62]; exact hd.symm))
  refine congrArg₂ (fun a b : EReal => a + b)
    (congrArg₂ (fun a b : EReal => Ideal.logistic a * b) (Finset.sum_congr rfl fun k _ => ?_) (Finset.sum_congr rfl fun k _ => ?_))
    (congrArg₂ (fun a b : EReal => Ideal.logistic a * b) (Finset.sum_congr rfl fun k _ => ?_) (Finset.sum_congr rfl fun k _ => ?_))
  · exact congrArg₂ (fun a b : EReal => a * b) (congrArg (m ((c : Thread nD τ).loc main_arg0)) (e0 k)) (congrArg (m ((c : Thread nD τ).loc main_arg3)) (e3 k))
  · exact congrArg₂ (fun a b : EReal => a * b) (congrArg (m ((c : Thread nD τ).loc main_arg1)) (e1 k)) (congrArg (m ((c : Thread nD τ).loc main_arg4)) (e5 k))
  · exact congrArg₂ (fun a b : EReal => a * b) (congrArg (m ((c : Thread nD τ).loc main_arg0)) (e0 k)) (congrArg (m ((c : Thread nD τ).loc main_arg3)) (e4 k))
  · exact congrArg₂ (fun a b : EReal => a * b) (congrArg (m ((c : Thread nD τ).loc main_arg2)) (e2 k)) (congrArg (m ((c : Thread nD τ).loc main_arg5)) (e6 k))

/-- The blocks cover the result. -/
theorem covered (i : S16640x4096.Idx) : ∃ t : Fin cfg0.N, (cfg0.win 7).flush t = true ∧ i ∈ ((cfg0.win 7).blk t).view.set := by
  have h0 : (i 0).val < 16640 := (i 0).isLt
  have h1 : (i 1).val < 4096 := (i 1).isLt
  let t : Fin cfg0.N := ⟨(i 0).val / 1280 * 16 + (i 1).val / 256, by show _ < 208; omega⟩
  have ht : t.val = (i 0).val / 1280 * 16 + (i 1).val / 256 := rfl
  obtain ⟨hr, hd⟩ := out_at t ⟨(i 0).val % 1280, Nat.mod_lt _ (by decide)⟩ ⟨(i 1).val % 256, Nat.mod_lt _ (by decide)⟩
  refine ⟨t, flush0_7 t, ?_⟩
  rw [← (idx2 (hr.trans (by show _ + (i 0).val % 1280 = _; omega)) (hd.trans (by show _ + (i 1).val % 256 = _; omega)) : _ = i)]
  exact ((cfg0.win 7).blk t).view.emb_mem_set _

/-- The result of the launch is the merged array. -/
theorem result (c : Dev nD) : (dats m 0 c).arrAt 7 cfg0.N = mergedOf m c :=
  (dats m 0 c).arrAt_eq_of_cover 7 _ (fun t _ => flushed_merged m c t) covered

open Cert.MergeRefIdeal.Read in
/-- The reference's gates' pre-activations, side by side. -/
theorem reference_gate (o : Nat) (ho : o + 4096 ≤ 11264) (h : Vec Ideal S16640x4096 .bf16) (w : Vec Ideal S11264x4096 .bf16)
    (i : S16640x4096.Idx) (j : Cert.MergeRefIdeal.S16640x8192.Idx) (h0 : (j 0).val = (i 0).val) (h1 : 3072 + (j 1).val = o + (i 1).val) :
    val_main_v3 (F := Ideal) h w j = gate o ho h w i := by
  rw [val_main_v3_apply]
  refine Finset.sum_congr rfl fun k _ => ?_
  rw [val_main_v0_apply, val_main_v2_apply, val_main_v1_apply]
  exact congrArg₂ (fun a b : EReal => a * b) (congrArg h (idx2 h0 rfl)) (congrArg w (idx2 h1 rfl))

/-- Row and column of a flattened product, read back. -/
theorem unflatten {k n K N : Nat} (hk : k < K) (hn : n < N) : (k * N + n) / N % K = k ∧ (k * N + n) % N = n := by
  have hN : 0 < N := Nat.lt_of_le_of_lt (Nat.zero_le n) hn
  refine ⟨?_, ?_⟩
  · rw [Nat.add_comm, Nat.add_mul_div_right _ _ hN, Nat.div_eq_of_lt hn, Nat.zero_add, Nat.mod_eq_of_lt hk]
  · rw [Nat.add_comm, Nat.add_mul_mod_self_right, Nat.mod_eq_of_lt hn]

open Cert.MergeRefIdeal.Read in
/-- The reference's projection of the first branch. -/
theorem reference_branch_a (a : Vec Ideal S16640x1024 .bf16) (w : Vec Ideal S4x1024x4096 .f32) (i : S16640x4096.Idx) :
    val_main_v7 (F := Ideal) a w i = branch a w i := by
  rw [val_main_v7_apply]
  refine Finset.sum_congr rfl fun k _ => ?_
  rw [val_main_v4_apply, val_main_v6_apply, val_main_v5_apply]
  exact congrArg₂ (fun a b : EReal => a * b) (congrArg a (idx2 rfl rfl))
    (congrArg w (idx3 rfl (unflatten k.isLt (i 1).isLt).1 (unflatten (K := 1024) k.isLt (i 1).isLt).2))

open Cert.MergeRefIdeal.Read in
/-- The reference's projection of the second branch. -/
theorem reference_branch_b (a : Vec Ideal S16640x1024 .bf16) (w : Vec Ideal S4x1024x4096 .f32) (i : S16640x4096.Idx) :
    val_main_v11 (F := Ideal) a w i = branch a w i := by
  rw [val_main_v11_apply]
  refine Finset.sum_congr rfl fun k _ => ?_
  rw [val_main_v8_apply, val_main_v10_apply, val_main_v9_apply]
  exact congrArg₂ (fun a b : EReal => a * b) (congrArg a (idx2 rfl rfl))
    (congrArg w (idx3 rfl (unflatten k.isLt (i 1).isLt).1 (unflatten (K := 1024) k.isLt (i 1).isLt).2))

/-- One over one plus the exponential of the negative is the logistic. -/
theorem logistic_spelt (x : EReal) :
    Ideal.div (Ideal.ofBits .f32 0x3F800000#32) (Ideal.ofBits .f32 0x3F800000#32 + Ideal.exp (-x)) = Ideal.logistic x := by
  rw [Ideal.ofBits_one_f32]; rfl

open Cert.MergeRefIdeal.Read in
/-- The reference's result is the merged array. -/
theorem reference_merged (h : Vec Ideal S16640x4096 .bf16) (a s : Vec Ideal S16640x1024 .bf16) (w : Vec Ideal S11264x4096 .bf16)
    (wa wb : Vec Ideal S4x1024x4096 .f32) : val_main_v29 (F := Ideal) h a s w wa wb = merged h a s w wa wb := by
  funext i
  rw [val_main_v29_apply, val_main_v28_apply, val_main_v19_apply, val_main_v27_apply, val_main_v18_apply, val_main_v26_apply,
    val_main_v17_apply, val_main_v25_apply, val_main_cst_0_apply, val_main_cst_2_apply, val_main_v16_apply, val_main_v24_apply,
    val_main_v15_apply, val_main_v23_apply, val_main_cst_apply, val_main_cst_1_apply, val_main_v14_apply, val_main_v22_apply,
    val_main_v13_apply, val_main_v21_apply, val_main_v12_apply, val_main_v20_apply, reference_branch_a, reference_branch_b,
    reference_gate 3072 (by decide) h w i _ rfl rfl,
    reference_gate 7168 (by decide) h w i _ rfl (by show 3072 + (4096 + (i 1).val) = _; omega)]
  exact congrArg₂ (fun a b : EReal => a * branch _ wa i + b * branch _ wb i) (logistic_spelt _) (logistic_spelt _)

/-- Over the ideal numbers the kernel and the reference leave the same array. -/
theorem same [Cert.MergeIdeal.Facts] [Cert.MergeRefIdeal.Facts] : Cert.algebraic_MergeIdeal_MergeRefIdeal := by
  intro m g m' g' _ hagree
  refine ⟨fun c => mergedOf m c, ?_, ?_⟩
  · refine (θ_run _ _ _).mono (fun r h c => ?_) (Value.run_blocks m g)
    exact ⟨(h c).1.trans (result m c), (h c).2⟩
  · refine (θ_run _ _ _).mono (fun r h c => ?_) (Cert.MergeRefIdeal.Value.run m' g')
    obtain ⟨h0, h1, h2, h3, h4, h5⟩ := hagree c
    refine ⟨(h c).1.trans ?_, (h c).2⟩
    refine (Cert.MergeRefIdeal.Read.val_main_v29_eq _ _ _ _ _ _).trans ((reference_merged _ _ _ _ _ _).trans ?_)
    rw [h0, h1, h2, h3, h4, h5]

end Cert.Proof.Merge

end
-- ==== Proof.OutProj.lean ====
/-
  The output projection: the rows times the weight, each row times its stream's gate (the first 256 rows are the context
  stream's), added to the residual. The kernel's tiles, put together, are that array, which is what the reference computes.
-/
module

public import proofs.«01_k».proof.Defs
public import proofs.«01_k».proof.Proof.Common
public import Idealize.ShloMosaic.Lib.WordCmp
public import proofs.«01_k».proof.Proof.Gen.OutProjIdeal.Value
public import proofs.«01_k».proof.Proof.Gen.OutProjRefIdeal.Read

@[expose] public section

noncomputable section

namespace Cert.Proof.OutProj

open Idealize.ShloMosaic Idealize.ShloMosaic.TcCoe Idealize.SL.Sem Idealize.ShloMosaic.ValueIdx
open Cert.OutProjIdeal Cert.OutProjIdeal.Gen
open scoped BigOperators

/-- The residual plus the stream's gate times the projection. -/
def residual (x : Vec Ideal S16640x4096 .bf16) (w : Vec Ideal S4x4096x4096 .f32) (res : Vec Ideal S16640x4096 .f32)
    (mods : Vec Ideal S2x8x4096 .f32) : Vec Ideal S16640x4096 .f32 :=
  fun i => res i + mods (ix3 (if (i 0).val < 256 then 0 else 1) 2 (i 1)) * ∑ k : Fin 4096, x (ix2 (i 0) k) * w (ix3 0 k (i 1))

/-- The test the body makes on a row's number, read as a test on naturals. -/
theorem early (a r : Nat) (ha : a < 13) (hr : r < 1280) :
    IntOp.cmpi .slt (BitVec.ofNat 32 a * BitVec.ofNat 32 1280 + BitVec.ofNat 32 r) (BitVec.ofNat 32 256)
      = BitVec.ofBool (decide (a * 1280 + r < 256)) := by
  rw [← BitVec.ofNat_mul, ← BitVec.ofNat_add, WordCmp.cmpi_slt_ofNat (by omega) (by omega)]

/-- The body's one store at an index, from its loads. -/
theorem out_apply (p : grid0.Coords) (x0 : Vec Ideal S1280x4096 .bf16) (x1 : Vec Ideal S1x4096x512 .f32) (x2 : Vec Ideal S1280x512 .f32)
    (x3 : Vec Ideal S2x8x512 .f32) (r : Fin 1280) (c : Fin 512) :
    out0_4 p x0 x1 x2 x3 (ix2 r c)
      = x2 (ix2 r c) + x3 (ix3 (if (p 0).val * 1280 + r.val < 256 then 0 else 1) 2 c) * ∑ k : Fin 4096, x0 (ix2 r k) * x1 (ix3 0 k c) := by
  have hc : ∀ (x : Vec Ideal S1x4096x512 .f32) (k : Fin 4096),
      shapeCast S4096x512 x shapeCasts_S1x4096x512_S4096x512 (ix2 k c) = x (ix3 0 k c) := fun x k =>
    (shapeCast_dropUnit_apply ![4096, 512] x shapeCasts_S1x4096x512_S4096x512 (ix2 k c)).trans (congrArg x (idx3 rfl rfl rfl))
  unfold out0_4
  rw [View.canon_unit_zero (S := S1280x512) zeros2, View.ld_unit_zero (S := S1280x4096) zeros2,
    View.ld_unit_zero (S := S1x4096x512) zeros3, View.ld_unit_zero (S := S1280x512) zeros2]
  unfold k0_pay1
  simp only [shapeCast_self]
  have hm : ∀ v : IVec S1280x1 1, broadcastTo S1280x512 v broadcasts_S1280x1_S1280x512 (ix2 r c) = v (ix2 r 0) := fun v =>
    broadcastTo_apply v broadcasts_S1280x1_S1280x512 (ix2 r c) (ix2 r 0) (fun a => by
      match a with
      | ⟨0, _⟩ => rfl
      | ⟨1, _⟩ => rfl)
  have hg : ∀ v : FVec Ideal S1x512 .f32, broadcastTo S1280x512 v broadcasts_S1x512_S1280x512 (ix2 r c) = v (ix2 0 c) := fun v =>
    broadcastTo_apply v broadcasts_S1x512_S1280x512 (ix2 r c) (ix2 0 c) (fun a => by
      match a with
      | ⟨0, _⟩ => rfl
      | ⟨1, _⟩ => rfl)
  have hd : ∀ x : Vec Ideal S1x1x512 .f32, shapeCast S1x512 x shapeCasts_S1x1x512_S1x512 (ix2 0 c) = x (ix3 0 0 c) := fun x =>
    (shapeCast_dropUnit_apply ![1, 512] x shapeCasts_S1x1x512_S1x512 (ix2 0 c)).trans (congrArg x (idx3 rfl rfl rfl))
  have h0 : View.ld x3 r0_2 (ix3 0 0 c) = x3 (ix3 0 2 c) :=
    congrArg x3 (idx3 rfl rfl ((Nat.zero_add _).trans (Nat.one_mul _)))
  have h1 : View.ld x3 r0_3 (ix3 0 0 c) = x3 (ix3 1 2 c) :=
    congrArg x3 (idx3 rfl rfl ((Nat.zero_add _).trans (Nat.one_mul _)))
  rw [addf_apply, mulf_apply, select_apply, hm, hg, hg, hd, hd, h0, h1]
  show x2 (ix2 r c) + (if IntOp.cmpi .slt (BitVec.ofNat 32 (p 0).val * BitVec.ofNat 32 1280 + iota .tc S1280x1 32 [0] iota_S1280x1_d0_w32 (ix2 r 0)) (BitVec.ofNat 32 256) = 1#1 then x3 (ix3 0 2 c) else x3 (ix3 1 2 c))
    * FloatOps.matmul (F := Ideal) (φ₁ := .bf16) (φ₂ := .bf16) (DotDims.plain 1280 4096 512) none x0 (shapeCast S4096x512 x1 shapeCasts_S1x4096x512_S4096x512) (constant S1280x512 .f32 0x00000000#32) (ix2 r c) = _
  rw [iota_single_apply, product_cols]
  simp only [hc]
  rw [early (p 0).val r.val (p 0).isLt r.isLt]
  by_cases h : (p 0).val * 1280 + r.val < 256
  · rw [decide_eq_true h, if_pos h]; rfl
  · rw [decide_eq_false h, if_neg h]; rfl

/-- Where the blocks of grid point `t` lie. -/
theorem blocks (t : Fin cfg0.N) : (win0_4.index t 0 = t.val / 8 ∧ win0_4.index t 1 = t.val % 8)
    ∧ (win0_0.index t 0 = t.val / 8 ∧ win0_0.index t 1 = 0)
    ∧ (win0_1.index t 0 = 0 ∧ win0_1.index t 1 = 0 ∧ win0_1.index t 2 = t.val % 8)
    ∧ (win0_2.index t 0 = t.val / 8 ∧ win0_2.index t 1 = t.val % 8)
    ∧ (win0_3.index t 0 = 0 ∧ win0_3.index t 1 = 0 ∧ win0_3.index t 2 = t.val % 8) ∧ (grid0.coords t 0).val = t.val / 8 :=
  (by decide +kernel : ∀ t : Fin grid0.N, (win0_4.index t 0 = t.val / 8 ∧ win0_4.index t 1 = t.val % 8)
    ∧ (win0_0.index t 0 = t.val / 8 ∧ win0_0.index t 1 = 0)
    ∧ (win0_1.index t 0 = 0 ∧ win0_1.index t 1 = 0 ∧ win0_1.index t 2 = t.val % 8)
    ∧ (win0_2.index t 0 = t.val / 8 ∧ win0_2.index t 1 = t.val % 8)
    ∧ (win0_3.index t 0 = 0 ∧ win0_3.index t 1 = 0 ∧ win0_3.index t 2 = t.val % 8) ∧ (grid0.coords t 0).val = t.val / 8) t

/-- Where the output block of point `t` puts its element `(r, d)`. -/
theorem out_at (t : Fin cfg0.N) (r : Fin 1280) (d : Fin 512) :
    (((win0_4.rect t).emb (ix2 r d)) 0).val = t.val / 8 * 1280 + r.val ∧ (((win0_4.rect t).emb (ix2 r d)) 1).val = t.val % 8 * 512 + d.val := by
  obtain ⟨⟨h0, h1⟩, -⟩ := blocks t
  constructor
  · refine (win0_4.rect_emb_val t _ 0).trans ?_
    rw [h0]; rfl
  · refine (win0_4.rect_emb_val t _ 1).trans ?_
    rw [h1]; rfl

variable (m : (ℓ : Loc nD τ sig) → Buf (Elt Ideal) ℓ) (ρ : Dev nD → PrngReg)

/-- The array the launch's arguments give. -/
abbrev residualOf (c : Dev nD) : Vec Ideal S16640x4096 .f32 :=
  residual (m ((c : Thread nD τ).loc main_arg0)) (m ((c : Thread nD τ).loc main_arg1)) (m ((c : Thread nD τ).loc main_arg2))
    (m ((c : Thread nD τ).loc main_arg3))

/-- What point `t` writes back is its block of that array. -/
theorem flushed_residual (c : Dev nD) (t : Fin cfg0.N) : (dats m 0 c).flushed 4 t
    = ((cfg0.win 4).blk t).view.read (Elt Ideal) (residualOf m c) := by
  obtain ⟨⟨h40, h41⟩, ⟨h00, h01⟩, ⟨h10, h11, h12⟩, ⟨h20, h21⟩, ⟨h30, h31, h32⟩, hp⟩ := blocks t
  rw [Value.flushed4]
  funext y
  show out0_4 (grid0.coords t) (iblk m c 0 t) (iblk m c 1 t) (iblk m c 2 t) (iblk m c 3 t) y
    = residualOf m c ((win0_4.rect t).emb y)
  obtain ⟨r, d, rfl⟩ := (⟨_, _, eq_ix2 y⟩ : ∃ (r : Fin 1280) (d : Fin 512), y = ix2 r d)
  obtain ⟨hr, hd⟩ := out_at t r d
  refine (out_apply (grid0.coords t) (iblk m c 0 t) (iblk m c 1 t) (iblk m c 2 t) (iblk m c 3 t) r d).trans ?_
  rw [hp, ← hr]
  have e2 : (win0_2.rect t).emb (ix2 r d) = (win0_4.rect t).emb (ix2 r d) := idx2
    ((win0_2.rect_emb_val t _ 0).trans (by rw [h20]; exact hr.symm)) ((win0_2.rect_emb_val t _ 1).trans (by rw [h21]; exact hd.symm))
  generalize hi : (win0_4.rect t).emb (ix2 r d) = i at hr hd e2
  have e0 : ∀ k : Fin 4096, (win0_0.rect t).emb (ix2 r k) = ix2 (i 0) k := fun k => idx2
    ((win0_0.rect_emb_val t _ 0).trans (by rw [h00]; exact hr.symm)) ((win0_0.rect_emb_val_of_index_zero t 1 h01 _).trans rfl)
  have e1 : ∀ k : Fin 4096, (win0_1.rect t).emb (ix3 0 k d) = ix3 0 k (i 1) := fun k => idx3
    ((win0_1.rect_emb_val_of_index_zero t 0 h10 _).trans rfl) ((win0_1.rect_emb_val_of_index_zero t 1 h11 _).trans rfl)
    ((win0_1.rect_emb_val t _ 2).trans (by rw [h12]; exact hd.symm))
  have e3 : ∀ s : Fin 2, (win0_3.rect t).emb (ix3 s 2 d) = ix3 s 2 (i 1) := fun s => idx3
    ((win0_3.rect_emb_val_of_index_zero t 0 h30 _).trans rfl) ((win0_3.rect_emb_val_of_index_zero t 1 h31 _).trans rfl)
    ((win0_3.rect_emb_val t _ 2).trans (by rw [h32]; exact hd.symm))
  refine congrArg₂ (fun a b : EReal => a + b) (congrArg (m ((c : Thread nD τ).loc main_arg2)) e2)
    (congrArg₂ (fun a b : EReal => a * b) (congrArg (m ((c : Thread nD τ).loc main_arg3)) (e3 _)) (Finset.sum_congr rfl fun k _ => ?_))
  exact congrArg₂ (fun a b : EReal => a * b) (congrArg (m ((c : Thread nD τ).loc main_arg0)) (e0 k)) (congrArg (m ((c : Thread nD τ).loc main_arg1)) (e1 k))

/-- The blocks cover the result. -/
theorem covered (i : S16640x4096.Idx) : ∃ t : Fin cfg0.N, (cfg0.win 4).flush t = true ∧ i ∈ ((cfg0.win 4).blk t).view.set := by
  have h0 : (i 0).val < 16640 := (i 0).isLt
  have h1 : (i 1).val < 4096 := (i 1).isLt
  let t : Fin cfg0.N := ⟨(i 0).val / 1280 * 8 + (i 1).val / 512, by show _ < 104; omega⟩
  have ht : t.val = (i 0).val / 1280 * 8 + (i 1).val / 512 := rfl
  obtain ⟨hr, hd⟩ := out_at t ⟨(i 0).val % 1280, Nat.mod_lt _ (by decide)⟩ ⟨(i 1).val % 512, Nat.mod_lt _ (by decide)⟩
  refine ⟨t, flush0_4 t, ?_⟩
  rw [← (idx2 (hr.trans (by show _ + (i 0).val % 1280 = _; omega)) (hd.trans (by show _ + (i 1).val % 512 = _; omega)) : _ = i)]
  exact ((cfg0.win 4).blk t).view.emb_mem_set _

/-- The result of the launch. -/
theorem result (c : Dev nD) : (dats m 0 c).arrAt 4 cfg0.N = residualOf m c :=
  (dats m 0 c).arrAt_eq_of_cover 4 _ (fun t _ => flushed_residual m c t) covered

open Cert.OutProjRefIdeal.Read in
/-- The reference's projection. -/
theorem reference_projection (x : Vec Ideal S16640x4096 .bf16) (w : Vec Ideal S4x4096x4096 .f32) (i : S16640x4096.Idx) :
    val_main_v3 (F := Ideal) x w i = ∑ k : Fin 4096, x (ix2 (i 0) k) * w (ix3 0 k (i 1)) := by
  rw [val_main_v3_apply]
  refine Finset.sum_congr rfl fun k _ => ?_
  rw [val_main_v0_apply, val_main_v2_apply, val_main_v1_apply]
  have hi : (i 1).val < 4096 := (i 1).isLt
  have hk : k.val < 4096 := k.isLt
  exact congrArg₂ (fun a b : EReal => a * b) (congrArg x (idx2 rfl rfl))
    (congrArg w (idx3 rfl (by show (k.val * 4096 + (i 1).val) / 4096 % 4096 = k.val; omega) (by show (k.val * 4096 + (i 1).val) % 4096 = (i 1).val; omega)))

open Cert.OutProjRefIdeal.Read in
/-- The reference's result, its two streams put together. -/
theorem reference_residual (x : Vec Ideal S16640x4096 .bf16) (w : Vec Ideal S4x4096x4096 .f32) (res : Vec Ideal S16640x4096 .f32)
    (mods : Vec Ideal S2x8x4096 .f32) : val_main_v20 (F := Ideal) x w res mods = residual x w res mods := by
  funext i
  have h0 : (i 0).val < 16640 := (i 0).isLt
  have h1 : (i 1).val < 4096 := (i 1).isLt
  have hi : i = ix2 (i 0) (i 1) := eq_ix2 i
  unfold val_main_v20 residual
  by_cases h : (i 0).val < 256
  · rw [if_pos h]
    refine (concatenate_pair_apply_left (s₁ := Cert.OutProjRefIdeal.S256x4096) (s₂ := Cert.OutProjRefIdeal.S16384x4096) 0 _ _ _ i rfl (ix2 ⟨(i 0).val, h⟩ (i 1)) (fun b => by
      match b with
      | ⟨0, _⟩ => rfl
      | ⟨1, _⟩ => rfl)).trans ?_
    rw [val_main_v11_apply, val_main_v4_apply, val_main_v10_apply, val_main_v9_apply, val_main_v8_apply, val_main_v6_apply,
      val_main_v5_apply, val_main_v7_apply, reference_projection]
    exact congrArg₂ (fun a b : EReal => a + b) (congrArg res (idx2 rfl rfl))
      (congrArg₂ (fun a b : EReal => a * b) (congrArg mods (idx3 rfl rfl (Nat.mod_eq_of_lt h1))) (Finset.sum_congr rfl fun k _ => rfl))
  · rw [if_neg h]
    refine (concatenate_pair_apply_right (s₁ := Cert.OutProjRefIdeal.S256x4096) (s₂ := Cert.OutProjRefIdeal.S16384x4096) 0 _ _ _ i rfl rfl (ix2 ⟨(i 0).val - 256, by omega⟩ (i 1)) (fun b hb => by
      match b with
      | ⟨0, _⟩ => exact absurd rfl hb
      | ⟨1, _⟩ => rfl) (by show (i 0).val - 256 + 256 = (i 0).val; omega)).trans ?_
    have hrow : 256 + ((i 0).val - 256) = (i 0).val := by omega
    rw [val_main_v19_apply, val_main_v12_apply, val_main_v18_apply, val_main_v17_apply, val_main_v16_apply, val_main_v14_apply,
      val_main_v13_apply, val_main_v15_apply, reference_projection]
    exact congrArg₂ (fun a b : EReal => a + b) (congrArg res (idx2 hrow rfl))
      (congrArg₂ (fun a b : EReal => a * b) (congrArg mods (idx3 rfl rfl (Nat.mod_eq_of_lt h1)))
        (Finset.sum_congr rfl fun k _ => congrArg₂ (fun a b : EReal => a * b) (congrArg x (idx2 hrow rfl)) rfl))

/-- Over the ideal numbers the kernel and the reference leave the same array. -/
theorem same [Cert.OutProjIdeal.Facts] [Cert.OutProjRefIdeal.Facts] : Cert.algebraic_OutProjIdeal_OutProjRefIdeal := by
  intro m g m' g' _ hagree
  refine ⟨fun c => residualOf m c, ?_, ?_⟩
  · refine (θ_run _ _ _).mono (fun r h c => ?_) (Value.run_blocks m g)
    exact ⟨(h c).1.trans (result m c), (h c).2⟩
  · refine (θ_run _ _ _).mono (fun r h c => ?_) (Cert.OutProjRefIdeal.Value.run m' g')
    obtain ⟨h0, h1, h2, h3⟩ := hagree c
    refine ⟨(h c).1.trans ?_, (h c).2⟩
    refine (Cert.OutProjRefIdeal.Read.val_main_v20_eq _ _ _ _).trans ((reference_residual _ _ _ _).trans ?_)
    rw [h0, h1, h2, h3]

end Cert.Proof.OutProj

end
-- ==== Proof.HeadProj.FrameIdeal.lean ====
/-
  The projection to the queries', keys' and values' columns and the decays' column block, over any numbers: what each
  grid point leaves in its buffers, and the run of the whole launch. The second result's buffer is stored at the first
  of the four points of a row block only, kept through the next two, and written back at the last.
-/
module

public import proofs.«01_k».proof.Proof.Gen.HeadProjIdeal.Frame
public import proofs.«01_k».proof.Proof.Gen.HeadProjIdeal.Skeleton
public import Idealize.ShloMosaic.Lib.Claim

@[expose] public section

set_option maxRecDepth 16384

noncomputable section

namespace Cert.Proof.HeadProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.HeadProjIdeal Cert.HeadProjIdeal.Gen

variable {F : FTy → Type} [FloatOps F]

/-- What the logic's assertions are about. -/
abbrev World (F : FTy → Type) [FloatOps F] := MT nD τ sig Unit (Elt F) ℕ (UR sig nD τ) ℕ

/-- The whole of each buffer. -/
abbrev wholeRows : Rect S1280x4096 := Rect.unit (s := S1280x4096) ![0, 0] S1280x4096.size inb_S1280x4096_S1280x4096_0_0
abbrev wholeCols : Rect S512x4096 := Rect.unit (s := S512x4096) ![0, 0] S512x4096.size inb_S512x4096_S512x4096_0_0
abbrev wholeSide : Rect S128x4096 := Rect.unit (s := S128x4096) ![0, 0] S128x4096.size inb_S128x4096_S128x4096_0_0
abbrev wholeTile : Rect S1280x512 := Rect.unit (s := S1280x512) ![0, 0] S1280x512.size inb_S1280x512_S1280x512_0_0
abbrev wholeSideTile : Rect S1280x128 := Rect.unit (s := S1280x128) ![0, 0] S1280x128.size inb_S1280x128_S1280x128_0_0

/-- The first result's tile, from the rows and the weight's rows. -/
def tile (x : Vec F S1280x4096 .bf16) (w : Vec F S512x4096 .bf16) : Vec F S1280x512 .bf16 :=
  View.canon [⟨wholeTile, k0_pay1 (View.ld x wholeRows) (View.ld w wholeCols)⟩]

/-- The second result's tile. -/
def sideTile (x : Vec F S1280x4096 .bf16) (w : Vec F S128x4096 .bf16) : Vec F S1280x128 .f32 :=
  View.canon [⟨wholeSideTile, k0_pay2 (View.ld x wholeRows) (View.ld w wholeSide)⟩]

theorem tile_covered (p : Vec F S1280x512 .bf16) (y : S1280x512.Idx) :
    ∃ q ∈ ([⟨wholeTile, p⟩] : List (View.Piece (Elt F) S1280x512 .bf16)), y ∈ q.1.set :=
  View.cover_of_tiled [⟨wholeTile, p⟩] S1280x512.size (by rfl) y

theorem sideTile_covered (p : Vec F S1280x128 .f32) (y : S1280x128.Idx) :
    ∃ q ∈ ([⟨wholeSideTile, p⟩] : List (View.Piece (Elt F) S1280x128 .f32)), y ∈ q.1.set :=
  View.cover_of_tiled [⟨wholeSideTile, p⟩] S1280x128.size (by rfl) y

section body

variable (c : Dev nD) (E : Set ℕ) (i : grid0.Coords)
  (a : Memref sig .tc .vmem S1280x4096 .bf16) (ha : a.IsWhole) (b : Memref sig .tc .vmem S512x4096 .bf16) (hb : b.IsWhole)
  (s : Memref sig .tc .vmem S128x4096 .bf16) (hs : s.IsWhole) (o : Memref sig .tc .vmem S1280x512 .bf16) (ho : o.IsWhole)
  (u : Memref sig .tc .vmem S1280x128 .f32) (hu : u.IsWhole)
  (x : Vec F S1280x4096 .bf16) (w : Vec F S512x4096 .bf16) (v : Vec F S128x4096 .bf16)

set_option maxHeartbeats 1000000 in
/-- At the first point of a row block the body stores both tiles. -/
theorem body_first (hi : k0_cond1 i = 1#1) (K : PUnit → sProp (World F)) :
    iprop(owns (c : Thread nD τ) a fullShare x ∗ owns (c : Thread nD τ) b fullShare w ∗ owns (c : Thread nD τ) s fullShare v
        ∗ (∃ d, owns (c : Thread nD τ) o fullShare d) ∗ (∃ d, owns (c : Thread nD τ) u fullShare d)
        ∗ (iprop(owns (c : Thread nD τ) a fullShare x ∗ owns (c : Thread nD τ) b fullShare w ∗ owns (c : Thread nD τ) s fullShare v
            ∗ owns (c : Thread nD τ) o fullShare (tile x w) ∗ owns (c : Thread nD τ) u fullShare (sideTile x v)) -∗ K ⟨⟩))
      ⊢ wp frame (wpE (defs₀ (F := F)) Variants.none c none) E (cc0_matmul_side i a ha b hb s hs o ho u hu) K := by
  simp only [cc0_matmul_side_eq_skeleton]; unfold cc0_matmul_side_skel
  simp only [hi, ↓reduceDIte]
  unfold owns
  iintro ⟨⟨%fa, %ea, Ha⟩, ⟨%fb, %eb, Hb⟩, ⟨%fs, %es, Hs⟩, ⟨%d, %fo, -, Ho⟩, ⟨%d', %fu, -, Hu⟩, Hk⟩
  subst ea eb es
  sl_exec
  sl_step
  iapply Hk
  isplitl [Ha]
  · iexists fa; isplitr; · ipureintro; rfl
    iexact Ha
  isplitl [Hb]
  · iexists fb; isplitr; · ipureintro; rfl
    iexact Hb
  isplitl [Hs]
  · iexists fs; isplitr; · ipureintro; rfl
    iexact Hs
  isplitl [Ho]
  · iexists _; isplitr
    swap; · iexact Ho
    ipureintro
    exact View.read_writes_eq_canon _ _ _ (tile_covered _)
  iexists _; isplitr
  swap; · iexact Hu
  ipureintro
  exact View.read_writes_eq_canon _ _ _ (sideTile_covered _)

set_option maxHeartbeats 1000000 in
/-- At the other points it stores the first tile and leaves the second as it was. -/
theorem body_rest (hi : ¬k0_cond1 i = 1#1) (z : Vec F S1280x128 .f32) (K : PUnit → sProp (World F)) :
    iprop(owns (c : Thread nD τ) a fullShare x ∗ owns (c : Thread nD τ) b fullShare w ∗ owns (c : Thread nD τ) s fullShare v
        ∗ (∃ d, owns (c : Thread nD τ) o fullShare d) ∗ owns (c : Thread nD τ) u fullShare z
        ∗ (iprop(owns (c : Thread nD τ) a fullShare x ∗ owns (c : Thread nD τ) b fullShare w ∗ owns (c : Thread nD τ) s fullShare v
            ∗ owns (c : Thread nD τ) o fullShare (tile x w) ∗ owns (c : Thread nD τ) u fullShare z) -∗ K ⟨⟩))
      ⊢ wp frame (wpE (defs₀ (F := F)) Variants.none c none) E (cc0_matmul_side i a ha b hb s hs o ho u hu) K := by
  simp only [cc0_matmul_side_eq_skeleton]; unfold cc0_matmul_side_skel
  simp only [hi, ↓reduceDIte]
  unfold owns
  iintro ⟨⟨%fa, %ea, Ha⟩, ⟨%fb, %eb, Hb⟩, ⟨%fs, %es, Hs⟩, ⟨%d, %fo, -, Ho⟩, ⟨%fu, %eu, Hu⟩, Hk⟩
  subst ea eb es eu
  sl_exec
  sl_step
  iapply Hk
  isplitl [Ha]
  · iexists fa; isplitr; · ipureintro; rfl
    iexact Ha
  isplitl [Hb]
  · iexists fb; isplitr; · ipureintro; rfl
    iexact Hb
  isplitl [Hs]
  · iexists fs; isplitr; · ipureintro; rfl
    iexact Hs
  isplitl [Ho]
  · iexists _; isplitr
    swap; · iexact Ho
    ipureintro
    exact View.read_writes_eq_canon _ _ _ (tile_covered _)
  iexists fu; isplitr; · ipureintro; rfl
  iexact Hu

end body

variable (m : (ℓ : Loc nD τ sig) → Buf (Elt F) ℓ) (ρ : Dev nD → PrngReg)

/-- The first point of the row block point `t` works on. -/
def first (t : Fin cfg0.N) : Fin cfg0.N := ⟨t.val - t.val % 4, Nat.lt_of_le_of_lt (Nat.sub_le _ _) t.isLt⟩

/-- The point before. -/
abbrev prev (t : Fin cfg0.N) : Fin cfg0.N := ⟨t.val - 1, Nat.lt_of_le_of_lt (Nat.sub_le _ _) t.isLt⟩

theorem first_eq {t : Fin cfg0.N} (h : t.val % 4 = 0) : first t = t := Fin.ext (by show t.val - t.val % 4 = t.val; omega)

theorem first_prev {t : Fin cfg0.N} (h : t.val % 4 ≠ 0) : first (prev t) = first t :=
  Fin.ext (by show t.val - 1 - (t.val - 1) % 4 = t.val - t.val % 4; omega)

/-- The body stores the second tile at the first point of each row block. -/
theorem stores_iff (t : Fin cfg0.N) : k0_cond1 (grid0.coords t) = 1#1 ↔ t.val % 4 = 0 :=
  (by decide +kernel : ∀ t : Fin grid0.N, k0_cond1 (grid0.coords t) = 1#1 ↔ t.val % 4 = 0) t

theorem idle_first {t : Fin cfg0.N} (h : t.val % 4 = 0) : cfg0.idle 4 (cfg0.grid.coords t) = false := by
  show (!(k0_cond1 (grid0.coords t) == 1#1)) = false
  rw [(stores_iff t).mpr h]; rfl

theorem idle_rest {t : Fin cfg0.N} (h : t.val % 4 ≠ 0) : cfg0.idle 4 (cfg0.grid.coords t) = true := by
  show (!(k0_cond1 (grid0.coords t) == 1#1)) = true
  rw [beq_false_of_ne fun e => h ((stores_iff t).mp e)]; rfl

theorem flush_not {t : Fin cfg0.N} (h : t.val % 4 ≠ 3) : (cfg0.win 4).flush t = false :=
  Bool.eq_false_iff.mpr fun e => h ((flush0_4 t).mp e)

/-- What each point leaves in its buffers: the loaded blocks as they were, the first result's tile of the point's blocks, the
    second's of the blocks of the row block's first point. -/
def left (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => tile (iblk m c 0 t) (X0_1 m c t)
    | ⟨4, _⟩ => sideTile (iblk m c 0 (first t)) (iblk m c 2 (first t))
  Φ _ := Pipeline.ΦA spec0 c
  q w := Pipeline.shareOf spec0 w
  owed _ := 0

theorem left_array (c : Dev nD) (w : Fin cfg0.W) : (left m 0 c).A w = V m c (Pipeline.arrRef spec0 w) := by dsimp only [left]

theorem left0 (c : Dev nD) (t : Fin cfg0.N) : (left m 0 c).after 0 t = iblk m c 0 t := by dsimp only [left]
theorem left1 (c : Dev nD) (t : Fin cfg0.N) : (left m 0 c).after 1 t = X0_1 m c t := by dsimp only [left]
theorem left2 (c : Dev nD) (t : Fin cfg0.N) : (left m 0 c).after 2 t = iblk m c 2 t := by dsimp only [left]
theorem left3 (c : Dev nD) (t : Fin cfg0.N) : (left m 0 c).after 3 t = tile (iblk m c 0 t) (X0_1 m c t) := by dsimp only [left]
theorem left4 (c : Dev nD) (t : Fin cfg0.N) : (left m 0 c).after 4 t = sideTile (iblk m c 0 (first t)) (iblk m c 2 (first t)) := by
  dsimp only [left]

theorem found0 (c : Dev nD) (t : Fin cfg0.N) (d) : (left m 0 c).before 0 t d = iblk m c 0 t :=
  before0_0_of m (left m 0 c) (left_array m c 0) (left0 m c) t d
theorem found1 (c : Dev nD) (t : Fin cfg0.N) (d) : (left m 0 c).before 1 t d = X0_1 m c t :=
  before0_1_of m (left m 0 c) (left_array m c 1) (left1 m c) t d
theorem found2 (c : Dev nD) (t : Fin cfg0.N) (d) : (left m 0 c).before 2 t d = iblk m c 2 t :=
  before0_2_of m (left m 0 c) (left_array m c 2) (left2 m c) t d

/-- After the first point of a row block the second result's buffer holds the tile that point stored. -/
theorem found4 (c : Dev nD) (d) : ∀ (n : ℕ) (t : Fin cfg0.N), t.val % 4 = n + 1 →
    (left m 0 c).before 4 t d = sideTile (iblk m c 0 (first t)) (iblk m c 2 (first t)) := by
  intro n
  induction n with
  | zero =>
    intro t ht
    have hp : (prev t).val % 4 = 0 := by show (t.val - 1) % 4 = 0; omega
    rw [(left m 0 c).before_of_pos 4 t (by omega) rfl d, if_neg (by rw [flush_not (t := prev t) (by omega)]; decide)]
    unfold Dat.left
    rw [idle_first hp, ← first_prev (t := t) (by omega), ← left4]
    rfl
  | succ n ih =>
    intro t ht
    have h4 : t.val % 4 < 4 := Nat.mod_lt _ (by decide)
    have hp : (prev t).val % 4 = n + 1 := by show (t.val - 1) % 4 = n + 1; omega
    rw [(left m 0 c).before_of_pos 4 t (by omega) rfl d, if_neg (by rw [flush_not (t := prev t) (by omega)]; decide)]
    unfold Dat.left
    rw [idle_rest (t := prev t) (by omega), ← first_prev (t := t) (by omega)]
    exact ih (prev t) hp

/-- What the body is called with at point `t`, -/
def given (c : Dev nD) (t : Fin cfg0.N) : sProp (World F) :=
  iprop((left m 0 c).Φ t.castSucc ∗ (left m 0 c).owesAt () t.castSucc
    ∗ (∃ d, owns (c : Thread nD τ) (st0_0 t) fullShare ((left m 0 c).before 0 t d))
    ∗ (∃ d, owns (c : Thread nD τ) (st0_1 t) fullShare ((left m 0 c).before 1 t d))
    ∗ (∃ d, owns (c : Thread nD τ) (st0_2 t) fullShare ((left m 0 c).before 2 t d))
    ∗ (∃ d, owns (c : Thread nD τ) (st0_3 t) fullShare ((left m 0 c).before 3 t d))
    ∗ (∃ d, owns (c : Thread nD τ) (st0_4 t) fullShare ((left m 0 c).before 4 t d)))

/-- and what it hands back. -/
def returned (c : Dev nD) (t : Fin cfg0.N) : sProp (World F) :=
  iprop((left m 0 c).Φ t.succ ∗ (left m 0 c).owesAt () t.succ
    ∗ owns (c : Thread nD τ) (st0_0 t) fullShare ((left m 0 c).after 0 t)
    ∗ owns (c : Thread nD τ) (st0_1 t) fullShare ((left m 0 c).after 1 t)
    ∗ owns (c : Thread nD τ) (st0_2 t) fullShare ((left m 0 c).after 2 t)
    ∗ owns (c : Thread nD τ) (st0_3 t) fullShare ((left m 0 c).after 3 t)
    ∗ (left m 0 c).leavesExact 4 t)

/-- The second result's buffer as the body hands it back at the first point of a row block, -/
theorem hands_first (c : Dev nD) (t : Fin cfg0.N) (h : t.val % 4 = 0) :
    (left m 0 c).leavesExact 4 t = owns (c : Thread nD τ) (st0_4 t) fullShare (sideTile (iblk m c 0 t) (iblk m c 2 t)) := by
  unfold Dat.leavesExact
  rw [idle_first h, left4, first_eq h]

/-- and at the others, if that is how it found it. -/
theorem hands_rest (c : Dev nD) (t : Fin cfg0.N) (h : t.val % 4 ≠ 0) (d) :
    owns (c : Thread nD τ) (st0_4 t) fullShare ((left m 0 c).before 4 t d) ⊢ ((left m 0 c).leavesExact 4 t : sProp (World F)) := by
  have h4 : t.val % 4 < 4 := Nat.mod_lt _ (by decide)
  unfold Dat.leavesExact
  rw [idle_rest h]
  by_cases h3 : t.val % 4 = 3
  · rw [(flush0_4 t).mpr h3, left4, found4 m c d 2 t h3]
  · rw [flush_not h3]
    iintro H; iexists d; iexact H

theorem body_at (c : Dev nD) (t : Fin cfg0.N) :
    given m c t ⊢ wp frame (wpE (defs₀ (F := F)) Variants.none c none) Set.univ (bodyAt0 t) (fun _ => returned m c t) := by
  unfold given returned bodyAt0
  simp only [found0, found1, found2]
  rw [show (left m 0 c).Φ t.succ = (left m 0 c).Φ t.castSucc from rfl,
    show (left m 0 c).owesAt () t.succ = (left m 0 c).owesAt () t.castSucc from rfl,
    left0, left1, left2, left3]
  iintro ⟨HΦ, Hw, ⟨%d0, H0⟩, ⟨%d1, H1⟩, ⟨%d2, H2⟩, ⟨%d3, H3⟩, ⟨%d4, H4⟩⟩
  by_cases h : t.val % 4 = 0
  · rw [hands_first m c t h]
    iapply (body_first c Set.univ (grid0.coords t) _ _ _ _ _ _ _ _ _ _ (iblk m c 0 t) (X0_1 m c t) (iblk m c 2 t) ((stores_iff t).mpr h) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Hw]; · iexact Hw
    isplitl [H0]; · iexact H0
    isplitl [H1]; · iexact H1
    isplitl [H2]; · iexact H2
    isplitl [H3]; · iexact H3
    iexact H4
  · iapply (body_rest c Set.univ (grid0.coords t) _ _ _ _ _ _ _ _ _ _ (iblk m c 0 t) (X0_1 m c t) (iblk m c 2 t)
      (fun e => h ((stores_iff t).mp e)) ((left m 0 c).before 4 t d4) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Hw]; · iexact Hw
    isplitl [H0]; · iexact H0
    isplitl [H1]; · iexact H1
    isplitl [H2]; · iexact H2
    isplitl [H3]; · iexact H3
    iapply (hands_rest m c t h d4)
    iexact H4

theorem body_row (t : Fin cfg0.N) : defs₀ (F := F) .tc cfg0.body (cfg0.bodyArgs t (cfg0.slots t)) = bodyAt0 t := by
  unfold defs₀; rw [Defs.onTc_tc]

theorem body_every (c : Dev nD) : BodyObligation (left (F := F) m 0 c) (defs₀ (F := F)) Variants.none () Set.univ := fun t => by
  rw [bigSep_W0, bigSep_W0, body_row]
  exact triple_restated (body_at m c t) rfl .rfl fun _ => .rfl

-- the launch lemma's implicit arguments are found by unfolding plain definitions in a metavariable's type
set_option backward.isDefEq.respectTransparency.types false in
set_option maxHeartbeats 800000 in
/-- The launch ends with every array at what its write-backs put there and every counter at zero. -/
theorem launch_run : θ_run defs (onTc (τ := τ) (main (F := F))) (s₀ m ρ)
    (fun r => (Pipeline.FramePost cfgs (left m) 0 (V m)) r ∧ r.2.sem = fun _ => 0) :=
  Pipeline.θ_run_frame_shared (Q' := _) cfgs (left m) (0 : Fin 1) launch₀0 defs₀ Variants.none m ρ main
    (hbody := fun c => (body_every m c).loose) (hq := fun _ _ _ => rfl)
    (howed := fun _ _ => rfl) (V := V m) (hmain := hmain m Variants.none) (hA := left_array m) (hΦ := fun _ _ => rfl)

theorem arrays_run : θ_run defs (onTc (τ := τ) (main (F := F))) (s₀ m ρ) (Pipeline.FramePost cfgs (left m) 0 (V m)) :=
  (θ_run defs _ _).mono (fun _ h => h.1) (launch_run m ρ)

/-- The arguments end unchanged and every counter at zero. -/
theorem unchanged_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (left m) (left_array m) (arrays_run m ρ)) ((θ_run defs _ _).mono (fun _ h => h.2) (launch_run m ρ))

end Cert.Proof.HeadProjIdeal

end
-- ==== Proof.HeadProj.Same.lean ====
/-
  The projection to the queries', keys' and values' columns and the decays' column block: the kernel's tiles, put
  together, are the product of the rows with the weight's rows, which is what the reference computes and cuts in two.
-/
module

public import proofs.«01_k».proof.Defs
public import proofs.«01_k».proof.Proof.Common
public import proofs.«01_k».proof.Proof.HeadProj.FrameIdeal
public import proofs.«01_k».proof.Proof.Gen.HeadProjRefIdeal.Read

@[expose] public section

noncomputable section

namespace Cert.Proof.HeadProjIdeal

open Idealize.ShloMosaic Idealize.ShloMosaic.TcCoe Idealize.SL.Sem Idealize.ShloMosaic.ValueIdx
open Cert.HeadProjIdeal Cert.HeadProjIdeal.Gen
open scoped BigOperators

/-- Row `r` of the activations times row `n` of the transposed weight. -/
def entry (x : Vec Ideal S16640x4096 .bf16) (w : Vec Ideal S2176x4096 .bf16) (r : Fin 16640) (n : Fin 2176) : EReal :=
  ∑ k : Fin 4096, x (ix2 r k) * w (ix2 n k)

/-- The first 2048 columns of the product, -/
def heads (x : Vec Ideal S16640x4096 .bf16) (w : Vec Ideal S2176x4096 .bf16) : Vec Ideal S16640x2048 .bf16 :=
  fun i => entry x w (i 0) ⟨(i 1).val, lt_trans (i 1).isLt (by decide)⟩

/-- and the 128 after them. -/
def side (x : Vec Ideal S16640x4096 .bf16) (w : Vec Ideal S2176x4096 .bf16) : Vec Ideal S16640x128 .f32 :=
  fun i => entry x w (i 0) ⟨2048 + (i 1).val, Nat.add_lt_add_left (show (i 1).val < 128 from (i 1).isLt) 2048⟩

/-- Each stored tile holds the product of the two loads. -/
theorem tile_apply (x : Vec Ideal S1280x4096 .bf16) (w : Vec Ideal S512x4096 .bf16) (r : Fin 1280) (d : Fin 512) :
    tile x w (ix2 r d) = ∑ k : Fin 4096, x (ix2 r k) * w (ix2 d k) := by
  unfold tile
  rw [View.canon_unit_zero (S := S1280x512) zeros2, View.ld_unit_zero (S := S1280x4096) zeros2, View.ld_unit_zero (S := S512x4096) zeros2]
  exact product_rows x w r d

theorem sideTile_apply (x : Vec Ideal S1280x4096 .bf16) (w : Vec Ideal S128x4096 .bf16) (r : Fin 1280) (d : Fin 128) :
    sideTile x w (ix2 r d) = ∑ k : Fin 4096, x (ix2 r k) * w (ix2 d k) := by
  unfold sideTile
  rw [View.canon_unit_zero (S := S1280x128) zeros2, View.ld_unit_zero (S := S1280x4096) zeros2, View.ld_unit_zero (S := S128x4096) zeros2]
  exact product_rows x w r d

/-- Where the loaded blocks of grid point `t` lie, -/
theorem loaded (t : Fin cfg0.N) : win0_0.index t 0 = t.val / 4 ∧ win0_0.index t 1 = 0 ∧ win0_1.index t 0 = t.val % 4
    ∧ win0_1.index t 1 = 0 ∧ win0_2.index t 0 = 16 ∧ win0_2.index t 1 = 0 :=
  (by decide +kernel : ∀ t : Fin grid0.N, win0_0.index t 0 = t.val / 4 ∧ win0_0.index t 1 = 0 ∧ win0_1.index t 0 = t.val % 4
    ∧ win0_1.index t 1 = 0 ∧ win0_2.index t 0 = 16 ∧ win0_2.index t 1 = 0) t

/-- and the stored ones. -/
theorem stored (t : Fin cfg0.N) : win0_3.index t 0 = t.val / 4 ∧ win0_3.index t 1 = t.val % 4
    ∧ win0_4.index t 0 = t.val / 4 ∧ win0_4.index t 1 = 0 :=
  (by decide +kernel : ∀ t : Fin grid0.N, win0_3.index t 0 = t.val / 4 ∧ win0_3.index t 1 = t.val % 4
    ∧ win0_4.index t 0 = t.val / 4 ∧ win0_4.index t 1 = 0) t

variable (m : (ℓ : Loc nD τ sig) → Buf (Elt Ideal) ℓ) (ρ : Dev nD → PrngReg)

/-- The rows' block, the weight's block and the decays' block, from the arrays. -/
theorem rows_at (c : Dev nD) (t : Fin cfg0.N) (r : Fin 1280) (k : Fin 4096) (n : Fin 16640) (hn : n.val = t.val / 4 * 1280 + r.val) :
    (iblk m c 0 t : Vec Ideal S1280x4096 .bf16) (ix2 r k) = (m ((c : Thread nD τ).loc main_arg0) : Vec Ideal S16640x4096 .bf16) (ix2 n k) := by
  obtain ⟨h00, h01, -⟩ := loaded t
  have e : (win0_0.rect t).emb (ix2 r k) = ix2 n k := idx2
    ((win0_0.rect_emb_val t _ 0).trans (by rw [h00]; exact hn.symm))
    ((win0_0.rect_emb_val_of_index_zero t 1 h01 _).trans rfl)
  exact congrArg (m ((c : Thread nD τ).loc main_arg0)) e

theorem weight_at (c : Dev nD) (t : Fin cfg0.N) (d : Fin 512) (k : Fin 4096) (n : Fin 2176) (hn : n.val = t.val % 4 * 512 + d.val) :
    (X0_1 m c t : Vec Ideal S512x4096 .bf16) (ix2 d k) = (m ((c : Thread nD τ).loc main_arg1) : Vec Ideal S2176x4096 .bf16) (ix2 n k) := by
  obtain ⟨-, -, h10, h11, -⟩ := loaded t
  unfold X0_1 Pipeline.Window.fill
  rw [dif_pos (moved0_1 t _)]
  unfold iblk
  have e : ∀ y : (win0_1.xblock (grid0.coords t)).Idx, (y 0).val = d.val → (y 1).val = k.val → (win0_1.rect t).emb y = ix2 n k :=
    fun y y0 y1 => idx2
      ((win0_1.rect_emb_val t y 0).trans (by rw [h10, y0]; exact hn.symm))
      ((win0_1.rect_emb_val_of_index_zero t 1 h11 y).trans y1)
  exact congrArg (m ((c : Thread nD τ).loc main_arg1)) (e _ rfl rfl)

theorem side_at (c : Dev nD) (t : Fin cfg0.N) (d : Fin 128) (k : Fin 4096) (n : Fin 2176) (hn : n.val = 2048 + d.val) :
    (iblk m c 2 t : Vec Ideal S128x4096 .bf16) (ix2 d k) = (m ((c : Thread nD τ).loc main_arg1) : Vec Ideal S2176x4096 .bf16) (ix2 n k) := by
  obtain ⟨-, -, -, -, h20, h21⟩ := loaded t
  have e : (win0_2.rect t).emb (ix2 d k) = ix2 n k := idx2
    ((win0_2.rect_emb_val t _ 0).trans (by rw [h20]; exact hn.symm))
    ((win0_2.rect_emb_val_of_index_zero t 1 h21 _).trans rfl)
  exact congrArg (m ((c : Thread nD τ).loc main_arg1)) e

/-- What point `t` writes back is its block of the product's first columns, -/
theorem written_heads (c : Dev nD) (t : Fin cfg0.N) : (left m 0 c).flushed 3 t
    = ((cfg0.win 3).blk t).view.read (Elt Ideal) (heads (m ((c : Thread nD τ).loc main_arg0)) (m ((c : Thread nD τ).loc main_arg1))) := by
  obtain ⟨h30, h31, -⟩ := stored t
  show (cfg0.win 3).cut (grid0.coords t) ((left m 0 c).after 3 t) = _
  rw [left3]
  funext y
  show tile (iblk m c 0 t) (X0_1 m c t) y = heads _ _ ((win0_3.rect t).emb y)
  obtain ⟨r, d, rfl⟩ := (⟨_, _, eq_ix2 y⟩ : ∃ (r : Fin 1280) (d : Fin 512), y = ix2 r d)
  refine (tile_apply (iblk m c 0 t) (X0_1 m c t) r d).trans ?_
  refine Finset.sum_congr rfl fun k _ => congrArg₂ (fun a b : EReal => a * b) (rows_at m c t r k _ ?_) (weight_at m c t d k _ ?_)
  · refine (win0_3.rect_emb_val t (ix2 r d) 0).trans ?_
    rw [h30]; rfl
  · refine (win0_3.rect_emb_val t (ix2 r d) 1).trans ?_
    rw [h31]; rfl

/-- and at the last point of a row block, the rows' block of the columns after them. -/
theorem written_side (c : Dev nD) (t : Fin cfg0.N) : (left m 0 c).flushed 4 t
    = ((cfg0.win 4).blk t).view.read (Elt Ideal) (side (m ((c : Thread nD τ).loc main_arg0)) (m ((c : Thread nD τ).loc main_arg1))) := by
  obtain ⟨-, -, h40, h41⟩ := stored t
  show (cfg0.win 4).cut (grid0.coords t) ((left m 0 c).after 4 t) = _
  rw [left4]
  funext y
  show sideTile (iblk m c 0 (first t)) (iblk m c 2 (first t)) y = side _ _ ((win0_4.rect t).emb y)
  obtain ⟨r, d, rfl⟩ := (⟨_, _, eq_ix2 y⟩ : ∃ (r : Fin 1280) (d : Fin 128), y = ix2 r d)
  refine (sideTile_apply (iblk m c 0 (first t)) (iblk m c 2 (first t)) r d).trans ?_
  refine Finset.sum_congr rfl fun k _ => congrArg₂ (fun a b : EReal => a * b) (rows_at m c (first t) r k _ ?_) (side_at m c (first t) d k _ ?_)
  · refine (win0_4.rect_emb_val t (ix2 r d) 0).trans ?_
    have hf : (first t).val / 4 = t.val / 4 := by show (t.val - t.val % 4) / 4 = t.val / 4; omega
    rw [h40, hf]; rfl
  · exact congrArg (2048 + ·) (win0_4.rect_emb_val_of_index_zero t 1 h41 (ix2 r d))

/-- The blocks cover each result. -/
theorem heads_covered (i : S16640x2048.Idx) : ∃ t : Fin cfg0.N, (cfg0.win 3).flush t = true ∧ i ∈ ((cfg0.win 3).blk t).view.set := by
  have h0 : (i 0).val < 16640 := (i 0).isLt
  have h1 : (i 1).val < 2048 := (i 1).isLt
  let t : Fin cfg0.N := ⟨(i 0).val / 1280 * 4 + (i 1).val / 512, by show _ < 52; omega⟩
  refine ⟨t, flush0_3 t, ?_⟩
  obtain ⟨h30, h31, -⟩ := stored t
  have ht : t.val = (i 0).val / 1280 * 4 + (i 1).val / 512 := rfl
  have e : (win0_3.rect t).emb (ix2 (⟨(i 0).val % 1280, Nat.mod_lt _ (by decide)⟩ : Fin 1280) (⟨(i 1).val % 512, Nat.mod_lt _ (by decide)⟩ : Fin 512)) = i := idx2
    ((win0_3.rect_emb_val t _ 0).trans (by rw [h30, ht]; show _ * 1280 + (i 0).val % 1280 = (i 0).val; omega))
    ((win0_3.rect_emb_val t _ 1).trans (by rw [h31, ht]; show _ * 512 + (i 1).val % 512 = (i 1).val; omega))
  rw [← e]
  exact ((cfg0.win 3).blk t).view.emb_mem_set _

theorem side_covered (i : S16640x128.Idx) : ∃ t : Fin cfg0.N, (cfg0.win 4).flush t = true ∧ i ∈ ((cfg0.win 4).blk t).view.set := by
  have h0 : (i 0).val < 16640 := (i 0).isLt
  let t : Fin cfg0.N := ⟨(i 0).val / 1280 * 4 + 3, by show _ < 52; omega⟩
  have ht : t.val = (i 0).val / 1280 * 4 + 3 := rfl
  refine ⟨t, (flush0_4 t).mpr (by omega), ?_⟩
  obtain ⟨-, -, h40, h41⟩ := stored t
  have e : (win0_4.rect t).emb (ix2 (⟨(i 0).val % 1280, Nat.mod_lt _ (by decide)⟩ : Fin 1280) (i 1 : Fin 128)) = i := idx2
    ((win0_4.rect_emb_val t _ 0).trans (by rw [h40, ht]; show _ * 1280 + (i 0).val % 1280 = (i 0).val; omega))
    ((win0_4.rect_emb_val_of_index_zero t 1 h41 _).trans rfl)
  rw [← e]
  exact ((cfg0.win 4).blk t).view.emb_mem_set _

/-- The launch's results. -/
theorem result_heads (c : Dev nD) : (left m 0 c).arrAt 3 cfg0.N = heads (m ((c : Thread nD τ).loc main_arg0)) (m ((c : Thread nD τ).loc main_arg1)) :=
  (left m 0 c).arrAt_eq_of_cover 3 _ (fun t _ => written_heads m c t) heads_covered

theorem result_side (c : Dev nD) : (left m 0 c).arrAt 4 cfg0.N = side (m ((c : Thread nD τ).loc main_arg0)) (m ((c : Thread nD τ).loc main_arg1)) :=
  (left m 0 c).arrAt_eq_of_cover 4 _ (fun t _ => written_side m c t) side_covered

/-- Every execution ends with both results, the arguments unchanged. -/
theorem results_run : θ_run defs (onTc (τ := τ) (main (F := Ideal))) ⟨m, fun _ => 0, ρ⟩ fun r => ∀ c : Dev nD,
      r.2.mem ((c.tc : Thread nD τ).loc main_v0_0) = heads (m ((c : Thread nD τ).loc main_arg0)) (m ((c : Thread nD τ).loc main_arg1))
      ∧ r.2.mem ((c.tc : Thread nD τ).loc main_v0_1) = side (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(((h c).1 3).trans (result_heads m c)), (((h c).1 4).trans (result_side m c)),
      ((h c).1 0).trans (((left m 0 c).arrAt_in 0 rfl _).trans (left_array m c 0)),
      ((h c).1 2).trans (((left m 0 c).arrAt_in 2 rfl _).trans (left_array m c 2))⟩)
    (arrays_run m ρ)

open Cert.HeadProjRefIdeal.Read in
/-- The reference's product, cut in two. -/
theorem reference_entry (x : Vec Ideal S16640x4096 .bf16) (w : Vec Ideal S2176x4096 .bf16) (r : Fin 16640) (n : Fin 2176)
    (i : Cert.HeadProjRefIdeal.S16640x2176.Idx) (h0 : (i 0).val = r.val) (h1 : (i 1).val = n.val) :
    val_main_v2 (F := Ideal) x w i = entry x w r n := by
  rw [val_main_v2_apply]
  exact Finset.sum_congr rfl fun k _ => congrArg₂ (fun a b : EReal => a * b) (congrArg x (idx2 h0 rfl)) (congrArg w (idx2 h1 rfl))

open Cert.HeadProjRefIdeal.Read in
theorem reference_heads (x : Vec Ideal S16640x4096 .bf16) (w : Vec Ideal S2176x4096 .bf16) : val_main_v4 (F := Ideal) x w = heads x w := by
  funext i
  rw [val_main_v4_apply, val_main_v3_apply]
  exact reference_entry x w _ _ _ rfl rfl

open Cert.HeadProjRefIdeal.Read in
theorem reference_side (x : Vec Ideal S16640x4096 .bf16) (w : Vec Ideal S2176x4096 .bf16) : val_main_v5 (F := Ideal) x w = side x w := by
  funext i
  rw [val_main_v5_apply]
  exact reference_entry x w _ _ _ rfl rfl

/-- Over the ideal numbers the kernel and the reference leave the same two arrays. -/
theorem same [Cert.HeadProjIdeal.Facts] [Cert.HeadProjRefIdeal.Facts] : Cert.algebraic_HeadProjIdeal_HeadProjRefIdeal := by
  intro m g m' g' _ hagree
  refine ⟨fun c => heads (m ((c : Thread nD τ).loc main_arg0)) (m ((c : Thread nD τ).loc main_arg1)),
    fun c => side (m ((c : Thread nD τ).loc main_arg0)) (m ((c : Thread nD τ).loc main_arg1)), results_run m g, ?_⟩
  refine (θ_run _ _ _).mono (fun r h c => ?_) (Cert.HeadProjRefIdeal.Value.run m' g')
  obtain ⟨h0, h1⟩ := hagree c
  refine ⟨(h c).1.trans ?_, (h c).2.1.trans ?_, (h c).2.2⟩
  · refine (Cert.HeadProjRefIdeal.Read.val_main_v4_eq _ _).trans ((reference_heads _ _).trans ?_)
    exact congrArg₂ heads h0 h1
  · refine (Cert.HeadProjRefIdeal.Read.val_main_v5_eq _ _).trans ((reference_side _ _).trans ?_)
    exact congrArg₂ side h0 h1

end Cert.Proof.HeadProjIdeal

end
-- ==== Proof.RestProj.lean ====
/-
  The projection to the output gate's and the spatial gating unit's columns: the kernel's tiles, put together, are the
  product of the rows with the weight's rows, which is what the reference computes.
-/
module

public import proofs.«01_k».proof.Defs
public import proofs.«01_k».proof.Proof.Gen.RestProjIdeal.Value
public import proofs.«01_k».proof.Proof.Gen.RestProjRefIdeal.Read
public import Idealize.ShloMosaic.Lib.MatmulPlain
public import Idealize.ShloMosaic.Lib.ValueIdx

@[expose] public section

noncomputable section

namespace Cert.Proof.RestProj

open Idealize.ShloMosaic Idealize.ShloMosaic.TcCoe Idealize.SL.Sem Idealize.ShloMosaic.ValueIdx
open Cert.RestProjIdeal Cert.RestProjIdeal.Gen
open scoped BigOperators

/-- Row `i 0` of the activations times row `i 1` of the transposed weight. -/
def product (x : Vec Ideal S16640x4096 .bf16) (w : Vec Ideal S11264x4096 .bf16) : Vec Ideal S16640x3072 .bf16 :=
  fun i => ∑ k : Fin 4096, x (ix2 (i 0) k) * w (ix2 ⟨(i 1).val, lt_trans (i 1).isLt (by decide)⟩ k)

/-- The body's one store holds the product of its two loads. -/
theorem out_apply (x : Vec Ideal S1280x4096 .bf16) (w : Vec Ideal S512x4096 .bf16) (r : Fin 1280) (c : Fin 512) :
    out0_2 x w (ix2 r c) = ∑ k : Fin 4096, x (ix2 r k) * w (ix2 c k) := by
  have hz : (![0, 0] : Fin 2 → Nat) = fun _ => 0 := funext fun a => by fin_cases a <;> rfl
  unfold out0_2
  rw [View.canon_unit_zero (S := S1280x512) hz, View.ld_unit_zero (S := S1280x4096) hz, View.ld_unit_zero (S := S512x4096) hz]
  unfold k0_pay1
  show FloatOps.matmul (F := Ideal) (φ₁ := .bf16) (φ₂ := .bf16) (DotDims.transposedRhs 1280 4096 512) none x w (constant S1280x512 .f32 0x00000000#32) (ix2 r c) = _
  rw [Ideal.matmul_transposedRhs_apply, constant_apply]
  show Ideal.ofBits .f32 0x00000000#32 + _ = _
  rw [Ideal.ofBits_zero_f32, zero_add]

/-- Where the blocks of grid point `t` lie. -/
theorem blocks (t : Fin cfg0.N) : win0_2.index t 0 = t.val / 6 ∧ win0_2.index t 1 = t.val % 6
    ∧ win0_0.index t 0 = t.val / 6 ∧ win0_0.index t 1 = 0 ∧ win0_1.index t 0 = t.val % 6 ∧ win0_1.index t 1 = 0 :=
  (by decide +kernel : ∀ t : Fin grid0.N, win0_2.index t 0 = t.val / 6 ∧ win0_2.index t 1 = t.val % 6
    ∧ win0_0.index t 0 = t.val / 6 ∧ win0_0.index t 1 = 0 ∧ win0_1.index t 0 = t.val % 6 ∧ win0_1.index t 1 = 0) t

variable (m : (ℓ : Loc nD τ sig) → Buf (Elt Ideal) ℓ) (ρ : Dev nD → PrngReg)

/-- What point `t` writes back is its block of the product. -/
theorem flushed_product (c : Dev nD) (t : Fin cfg0.N) : (dats m 0 c).flushed 2 t
    = ((cfg0.win 2).blk t).view.read (Elt Ideal) (product (m ((c : Thread nD τ).loc main_arg0)) (m ((c : Thread nD τ).loc main_arg1))) := by
  obtain ⟨h20, h21, h00, h01, h10, h11⟩ := blocks t
  rw [Value.flushed2]
  funext y
  show out0_2 (iblk m c 0 t) (iblk m c 1 t) y = product _ _ ((win0_2.rect t).emb y)
  obtain ⟨r, d, rfl⟩ := (⟨_, _, eq_ix2 y⟩ : ∃ (r : Fin 1280) (d : Fin 512), y = ix2 r d)
  refine (out_apply (iblk m c 0 t) (iblk m c 1 t) r d).trans ?_
  unfold product
  refine Finset.sum_congr rfl fun k _ => ?_
  have e0 : (win0_0.rect t).emb (ix2 r k) = ix2 ((win0_2.rect t).emb (ix2 r d) 0) k := by
    funext a; apply Fin.ext
    match a with
    | ⟨0, _⟩ =>
      refine (win0_0.rect_emb_val t _ 0).trans ?_
      refine Eq.trans ?_ (win0_2.rect_emb_val t (ix2 r d) 0).symm
      rw [h20, h00]; rfl
    | ⟨1, _⟩ =>
      refine (win0_0.rect_emb_val_of_index_zero t 1 h01 _).trans rfl
  have e1 : (win0_1.rect t).emb (ix2 d k) = ix2 ⟨((win0_2.rect t).emb (ix2 r d) 1).val, lt_trans ((win0_2.rect t).emb (ix2 r d) 1).isLt (by decide)⟩ k := by
    funext a; apply Fin.ext
    match a with
    | ⟨0, _⟩ =>
      refine (win0_1.rect_emb_val t _ 0).trans ?_
      refine Eq.trans ?_ (win0_2.rect_emb_val t (ix2 r d) 1).symm
      rw [h21, h10]; rfl
    | ⟨1, _⟩ =>
      refine (win0_1.rect_emb_val_of_index_zero t 1 h11 _).trans rfl
  exact congrArg₂ (fun a b : EReal => a * b) (congrArg (m ((c : Thread nD τ).loc main_arg0)) e0) (congrArg (m ((c : Thread nD τ).loc main_arg1)) e1)

/-- The blocks cover the result. -/
theorem covered (i : S16640x3072.Idx) : ∃ t : Fin cfg0.N, (cfg0.win 2).flush t = true ∧ i ∈ ((cfg0.win 2).blk t).view.set := by
  have h0 : (i 0).val < 16640 := (i 0).isLt
  have h1 : (i 1).val < 3072 := (i 1).isLt
  let t : Fin cfg0.N := ⟨(i 0).val / 1280 * 6 + (i 1).val / 512, by show _ < 78; omega⟩
  refine ⟨t, flush0_2 t, ?_⟩
  obtain ⟨h20, h21, -⟩ := blocks t
  have ht : t.val = (i 0).val / 1280 * 6 + (i 1).val / 512 := rfl
  have e : (win0_2.rect t).emb (ix2 (⟨(i 0).val % 1280, Nat.mod_lt _ (by decide)⟩ : Fin 1280) (⟨(i 1).val % 512, Nat.mod_lt _ (by decide)⟩ : Fin 512)) = i := by
    funext a; apply Fin.ext
    match a with
    | ⟨0, _⟩ =>
      refine (win0_2.rect_emb_val t _ 0).trans ?_
      rw [h20, ht]; show _ * 1280 + (i 0).val % 1280 = (i 0).val; omega
    | ⟨1, _⟩ =>
      refine (win0_2.rect_emb_val t _ 1).trans ?_
      rw [h21, ht]; show _ * 512 + (i 1).val % 512 = (i 1).val; omega
  rw [← e]
  exact ((cfg0.win 2).blk t).view.emb_mem_set _

/-- The result of the launch is the product. -/
theorem result (c : Dev nD) : (dats m 0 c).arrAt 2 cfg0.N = product (m ((c : Thread nD τ).loc main_arg0)) (m ((c : Thread nD τ).loc main_arg1)) :=
  (dats m 0 c).arrAt_eq_of_cover 2 _ (fun t _ => flushed_product m c t) covered

open Cert.RestProjRefIdeal.Read in
/-- The reference's result is the product. -/
theorem reference_product (x : Vec Ideal S16640x4096 .bf16) (w : Vec Ideal S11264x4096 .bf16) :
    val_main_v4 (F := Ideal) x w = product x w := by
  funext i
  rw [val_main_v4_apply, val_main_v3_apply, val_main_v2_apply]
  refine Finset.sum_congr rfl fun k _ => ?_
  refine congrArg₂ (fun a b : EReal => a * b) (congrArg x ?_) (congrArg w ?_)
  · funext a; match a with
    | ⟨0, _⟩ => rfl
    | ⟨1, _⟩ => rfl
  · funext a; match a with
    | ⟨0, _⟩ => rfl
    | ⟨1, _⟩ => rfl

/-- Over the ideal numbers the kernel and the reference leave the same array. -/
theorem same [Cert.RestProjIdeal.Facts] [Cert.RestProjRefIdeal.Facts] : Cert.algebraic_RestProjIdeal_RestProjRefIdeal := by
  intro m g m' g' _ hagree
  refine ⟨fun c => product (m ((c : Thread nD τ).loc main_arg0)) (m ((c : Thread nD τ).loc main_arg1)), ?_, ?_⟩
  · refine (θ_run _ _ _).mono (fun r h c => ?_) (Value.run_blocks m g)
    exact ⟨(h c).1.trans (result m c), (h c).2⟩
  · refine (θ_run _ _ _).mono (fun r h c => ?_) (Cert.RestProjRefIdeal.Value.run m' g')
    obtain ⟨h0, h1⟩ := hagree c
    refine ⟨(h c).1.trans ?_, (h c).2⟩
    refine (Cert.RestProjRefIdeal.Read.val_main_v4_eq _ _).trans ((reference_product _ _).trans ?_)
    exact congrArg₂ product h0 h1

end Cert.Proof.RestProj

end
-- ==== Proof.Experts.Body.lean ====
/-
  One grid point of the expert call: the gated hidden rows times the expert's last weight, from the point's blocks.
-/
module

public import proofs.«01_k».proof.Defs
public import proofs.«01_k».proof.Proof.Common
public import proofs.«01_k».proof.Proof.Gen.ExpertsIdeal.Value
public import Idealize.ShloMosaic.Lib.ValueLayout

@[expose] public section

noncomputable section

namespace Cert.Proof.Experts

open Idealize.ShloMosaic Idealize.ShloMosaic.TcCoe Idealize.SL.Sem Idealize.ShloMosaic.ValueIdx
open Cert.ExpertsIdeal Cert.ExpertsIdeal.Gen
open scoped BigOperators

/-- The three lanes that hold a gate's parts, of the lanes' values. -/
def three (f : Fin 128 → EReal) (e : Fin 16) : EReal :=
  f ⟨e.val, by omega⟩ + f ⟨16 + e.val, by omega⟩ + f ⟨32 + e.val, by omega⟩

/-- A sum over the lanes that keeps those lanes alone. -/
theorem kept_lanes (f : Fin 128 → EReal) (e : Fin 16) :
    (∑ l : Fin 128, if l.val % 16 = e.val ∧ l.val < 48 then f l else 0) = three f e := by
  have hs : (Finset.univ.filter fun l : Fin 128 => l.val % 16 = e.val ∧ l.val < 48)
      = {⟨e.val, by omega⟩, ⟨16 + e.val, by omega⟩, ⟨32 + e.val, by omega⟩} := by
    ext l
    simp only [Finset.mem_filter, Finset.mem_univ, true_and, Finset.mem_insert, Finset.mem_singleton, Fin.ext_iff]
    have := e.isLt
    omega
  rw [← Finset.sum_filter, hs, Finset.sum_insert, Finset.sum_insert, Finset.sum_singleton, ← add_assoc]
  · rfl
  · simp only [Finset.mem_singleton, Fin.ext_iff]; omega
  · simp only [Finset.mem_insert, Finset.mem_singleton, Fin.ext_iff]; omega

/-- Whether lane `n` holds a part of expert `a`'s gate, as the body asks it. -/
def ownBit (a n : BitVec 32) : BitVec 1 :=
  let s : BitVec 32 := Scalar.select (Scalar.cmpi .eq 16#32 0#32) 1#32 16#32
  let q : BitVec 32 := IntOp.remsi .vector n s
  IntOp.andi
    (IntOp.cmpi .eq (Scalar.select (IntOp.andi (IntOp.xori (IntOp.cmpi .slt q 0#32) (Scalar.cmpi .slt s 0#32)) (IntOp.cmpi .ne q 0#32)) (IntOp.addi q s) q) a)
    (IntOp.cmpi .slt n 48#32)

theorem ownBit_eq (e : Fin 16) (l : Fin 128) :
    ownBit (BitVec.ofNat 32 e.val) (BitVec.ofNat 32 l.val) = BitVec.ofBool (decide (l.val % 16 = e.val ∧ l.val < 48)) :=
  (by decide +kernel : ∀ (e : Fin 16) (l : Fin 128),
    ownBit (BitVec.ofNat 32 e.val) (BitVec.ofNat 32 l.val) = BitVec.ofBool (decide (l.val % 16 = e.val ∧ l.val < 48))) e l

/-- The lanes' mask. -/
def own (a : BitVec 32) : IVec S1x128 1 := fun y => ownBit a (iota .tc S1x128 32 [1] iota_S1x128_d1_w32 y)

/-- The gates' rows with the other lanes at zero. -/
def ownRows (a : BitVec 32) (x : Vec Ideal S1x832x128 .f32) : FVec Ideal S832x128 .f32 :=
  select (broadcastTo S832x128 (shapeCast S1x128 (own a) shapeCasts_S1x128_S1x128) broadcasts_S1x128_S832x128)
    (shapeCast S832x128 x shapeCasts_S1x832x128_S832x128) (broadcast S832x128 (Scalar.ofBits .f32 0x00000000#32))

theorem ownRows_apply (e : Fin 16) (x : Vec Ideal S1x832x128 .f32) (r : Fin 832) (l : Fin 128) :
    ownRows (BitVec.ofNat 32 e.val) x (ix2 r l) = if l.val % 16 = e.val ∧ l.val < 48 then x (ix3 0 r l) else 0 := by
  have hx : shapeCast S832x128 x shapeCasts_S1x832x128_S832x128 (ix2 r l) = x (ix3 0 r l) :=
    (shapeCast_dropUnit_apply ![832, 128] x shapeCasts_S1x832x128_S832x128 (ix2 r l)).trans (congrArg x (idx3 rfl rfl rfl))
  have ho : own (BitVec.ofNat 32 e.val) (ix2 0 l) = BitVec.ofBool (decide (l.val % 16 = e.val ∧ l.val < 48)) :=
    (congrArg (ownBit _) (iota_single_apply _ _ _ _ _ _)).trans (ownBit_eq e l)
  unfold ownRows
  rw [select_apply, shapeCast_self, broadcastTo_1b_ab_apply, ho, hx]
  show Scalar.select _ _ (Ideal.ofBits .f32 0x00000000#32) = _
  rw [Ideal.ofBits_zero_f32]
  by_cases h : l.val % 16 = e.val ∧ l.val < 48 <;> simp [h, Scalar.select]

/-- The body's gate of a row. -/
theorem gate_apply (i : grid0.Coords) (e : Fin 16) (he : (i 0).val = e.val) (x : Vec Ideal S1x832x128 .f32) (r : Fin 832) :
    k0_pay2 i x (ix2 r 0) = three (fun l => x (ix3 0 r l)) e := by
  have h : k0_pay2 i x = shapeCast S832x1 (multiReduction .add [1] S832 (ownRows (BitVec.ofNat 32 (i 0).val) x) 0x00000000#32
      reduces_S832x128_S832 (.inl rfl) rfl) shapeCasts_S832_S832x1 := rfl
  rw [h, he, shapeCast_apply _ _ (ix2 r 0) (ix1 r) (by rw [Shape.rowMajor_val_one, Shape.rowMajor_val_two]; show r.val = r.val * 1 + 0; omega), ← kept_lanes]
  refine (Ideal.multiReduction_add_single _ _ _ _ _ _).trans ?_
  refine Finset.sum_congr rfl fun l _ => ?_
  refine Eq.trans (congrArg (ownRows _ x) (idx2 ?_ ?_)) (ownRows_apply e x r l)
  · rfl
  · rfl

/-- The gated hidden rows. -/
def hid (g : FVec Ideal S832x1 .f32) (h1 h3 : FVec Ideal S832x256 .f32) : FVec Ideal S832x256 .bf16 :=
  truncf .bf16 (mulf (mulf (mulf h1 (logistic h1)) h3) (broadcastTo S832x256 g broadcasts_S832x1_S832x256)) bitsLt_bf16_f32

/-- A row of the hidden, of its two pre-activations. -/
def act (a b : EReal) : EReal := a * Ideal.logistic a * b

theorem hid_apply (g : FVec Ideal S832x1 .f32) (h1 h3 : FVec Ideal S832x256 .f32) (r : Fin 832) (f : Fin 256) :
    hid g h1 h3 (ix2 r f) = act (h1 (ix2 r f)) (h3 (ix2 r f)) * g (ix2 r 0) := by
  refine congrArg (fun z : EReal => act (h1 (ix2 r f)) (h3 (ix2 r f)) * z) ?_
  exact broadcastTo_apply g broadcasts_S832x1_S832x256 (ix2 r f) (ix2 r 0) fun a => match a with
    | ⟨0, _⟩ => rfl
    | ⟨1, _⟩ => rfl

theorem weight_in (w : Vec Ideal S1x1x4096x256 .bf16) (k : Fin 4096) (f : Fin 256) :
    shapeCast S4096x256 w shapeCasts_S1x1x4096x256_S4096x256 (ix2 k f) = w (ix4 0 0 k f) :=
  shapeCast_apply w _ (ix2 k f) (ix4 0 0 k f) (by
    rw [Shape.rowMajor_val_two, Shape.rowMajor_val_four]; show ((0 * 1 + 0) * 4096 + k.val) * 256 + f.val = k.val * 256 + f.val; omega)

theorem weight_out (w : Vec Ideal S1x1x256x4096 .bf16) (f : Fin 256) (d : Fin 4096) :
    shapeCast S256x4096 w shapeCasts_S1x1x256x4096_S256x4096 (ix2 f d) = w (ix4 0 0 f d) :=
  shapeCast_apply w _ (ix2 f d) (ix4 0 0 f d) (by
    rw [Shape.rowMajor_val_two, Shape.rowMajor_val_four]; show ((0 * 1 + 0) * 256 + f.val) * 4096 + d.val = f.val * 4096 + d.val; omega)

/-- A pre-activation of the body: the point's rows times a column of a first weight. -/
theorem pre_apply (x : Vec Ideal S1x832x4096 .bf16) (w : Vec Ideal S1x1x4096x256 .bf16) (r : Fin 832) (f : Fin 256) :
    k0_pay4 x w (ix2 r f) = ∑ k : Fin 4096, x (ix3 0 r k) * w (ix4 0 0 k f) := by
  have hx : ∀ k : Fin 4096, shapeCast S832x4096 x shapeCasts_S1x832x4096_S832x4096 (ix2 r k) = x (ix3 0 r k) := fun k =>
    (shapeCast_dropUnit_apply ![832, 4096] x shapeCasts_S1x832x4096_S832x4096 (ix2 r k)).trans (congrArg x (idx3 rfl rfl rfl))
  show FloatOps.matmul (F := Ideal) (φ₁ := .bf16) (φ₂ := .bf16) (DotDims.plain 832 4096 256) none (shapeCast S832x4096 x shapeCasts_S1x832x4096_S832x4096)
    (shapeCast S4096x256 w shapeCasts_S1x1x4096x256_S4096x256) (constant S832x256 .f32 0x00000000#32) (ix2 r f) = _
  rw [product_cols]
  exact Finset.sum_congr rfl fun k _ => congrArg₂ (fun a b : EReal => a * b) (hx k) (weight_in w k f)

/-- What the body stores, from its loads. -/
theorem stored_eq (i : grid0.Coords) (x0 : Vec Ideal S1x832x4096 .bf16) (x1 x2 : Vec Ideal S1x1x4096x256 .bf16) (x3 : Vec Ideal S1x1x256x4096 .bf16)
    (x4 : Vec Ideal S1x832x128 .f32) :
    k0_pay1 (k0_pay2 i x4) (k0_pay3 x0) (k0_pay4 x0 x1) x2 x3
      = shapeCast S1x832x4096 (truncf .bf16 (matmul (φ₁ := .bf16) (φ₂ := .bf16) dot_S832x256_S256x4096_S832x4096_1_0_0_1_n_n none (hid (k0_pay2 i x4) (k0_pay4 x0 x1) (k0_pay4 x0 x2))
          (shapeCast S256x4096 x3 shapeCasts_S1x1x256x4096_S256x4096) (constant S832x4096 .f32 0x00000000#32)) bitsLt_bf16_f32) shapeCasts_S832x4096_S1x832x4096 := rfl

/-- The body's one store at an index. -/
theorem out_apply (i : grid0.Coords) (e : Fin 16) (he : (i 0).val = e.val) (x0 : Vec Ideal S1x832x4096 .bf16) (x1 x2 : Vec Ideal S1x1x4096x256 .bf16)
    (x3 : Vec Ideal S1x1x256x4096 .bf16) (x4 : Vec Ideal S1x832x128 .f32) (r : Fin 832) (d : Fin 4096) :
    out0_5 i x0 x1 x2 x3 x4 (ix3 0 r d)
      = ∑ f : Fin 256, act (∑ k : Fin 4096, x0 (ix3 0 r k) * x1 (ix4 0 0 k f)) (∑ k : Fin 4096, x0 (ix3 0 r k) * x2 (ix4 0 0 k f))
          * three (fun l => x4 (ix3 0 r l)) e * x3 (ix4 0 0 f d) := by
  unfold out0_5
  rw [View.canon_unit_zero (S := S1x832x4096) zeros3, View.ld_unit_zero (S := S1x832x4096) zeros3, View.ld_unit_zero (S := S1x832x128) zeros3,
    View.ld_unit_zero (S := S1x1x4096x256) zeros4, View.ld_unit_zero (S := S1x1x4096x256) zeros4, View.ld_unit_zero (S := S1x1x256x4096) zeros4, stored_eq,
    shapeCast_apply _ _ (ix3 0 r d) (ix2 r d) (by rw [Shape.rowMajor_val_two, Shape.rowMajor_val_three]; show r.val * 4096 + d.val = (0 * 832 + r.val) * 4096 + d.val; omega)]
  show FloatOps.matmul (F := Ideal) (φ₁ := .bf16) (φ₂ := .bf16) (DotDims.plain 832 256 4096) none (hid (k0_pay2 i x4) (k0_pay4 x0 x1) (k0_pay4 x0 x2))
    (shapeCast S256x4096 x3 shapeCasts_S1x1x256x4096_S256x4096) (constant S832x4096 .f32 0x00000000#32) (ix2 r d) = _
  rw [product_cols]
  refine Finset.sum_congr rfl fun f _ => ?_
  rw [hid_apply, pre_apply, pre_apply, gate_apply i e he, weight_out]

end Cert.Proof.Experts

end
-- ==== Proof.Experts.Same.lean ====
/-
  The experts: each row's hidden times the expert's last weight, times the row's gate. The kernel gates the hidden, the
  reference the product; with a gate that is neither negative nor infinite the two are the same sum.
-/
module

public import proofs.«01_k».proof.Defs
public import proofs.«01_k».proof.Proof.Experts.Body
public import proofs.«01_k».proof.Proof.Merge
public import proofs.«01_k».proof.Proof.Gen.ExpertsRefIdeal.Read
public import Idealize.ShloMosaic.Lib.ReduceAll

@[expose] public section

noncomputable section

namespace Cert.Proof.Experts

open Idealize.ShloMosaic Idealize.ShloMosaic.TcCoe Idealize.SL.Sem Idealize.ShloMosaic.ValueIdx
open Cert.ExpertsIdeal Cert.ExpertsIdeal.Gen
open scoped BigOperators

/-- The gate of row `r` of expert `e`. -/
def gateOf (g : Vec Ideal S16x4160x128 .f32) (e : Fin 16) (r : Fin 4160) : EReal := three (fun l => g (ix3 e r l)) e

/-- A pre-activation: row `r` of expert `e` times a column of the expert's weight, in the first layer of the stack. -/
def preOf (x : Vec Ideal S16x4160x4096 .bf16) (w : Vec Ideal S4x16x4096x256 .bf16) (e : Fin 16) (r : Fin 4160) (f : Fin 256) : EReal :=
  ∑ k : Fin 4096, x (ix3 e r k) * w (ix4 0 e k f)

/-- The experts' outputs, each with its gate on the hidden. -/
def expertsOf (x : Vec Ideal S16x4160x4096 .bf16) (g : Vec Ideal S16x4160x128 .f32) (w1 w3 : Vec Ideal S4x16x4096x256 .bf16)
    (w2 : Vec Ideal S4x16x256x4096 .bf16) : Vec Ideal S16x4160x4096 .bf16 :=
  fun i => ∑ f : Fin 256, act (preOf x w1 (i 0) (i 1) f) (preOf x w3 (i 0) (i 1) f) * gateOf g (i 0) (i 1) * w2 (ix4 0 (i 0) f (i 2))

/-- Where the blocks of grid point `t` lie. -/
theorem blocks (t : Fin cfg0.N) : (win0_5.index t 0 = t.val / 5 ∧ win0_5.index t 1 = t.val % 5 ∧ win0_5.index t 2 = 0)
    ∧ (win0_0.index t 0 = t.val / 5 ∧ win0_0.index t 1 = t.val % 5 ∧ win0_0.index t 2 = 0)
    ∧ (win0_1.index t 0 = 0 ∧ win0_1.index t 1 = t.val / 5 ∧ win0_1.index t 2 = 0 ∧ win0_1.index t 3 = 0)
    ∧ (win0_2.index t 0 = 0 ∧ win0_2.index t 1 = t.val / 5 ∧ win0_2.index t 2 = 0 ∧ win0_2.index t 3 = 0)
    ∧ (win0_3.index t 0 = 0 ∧ win0_3.index t 1 = t.val / 5 ∧ win0_3.index t 2 = 0 ∧ win0_3.index t 3 = 0)
    ∧ (win0_4.index t 0 = t.val / 5 ∧ win0_4.index t 1 = t.val % 5 ∧ win0_4.index t 2 = 0)
    ∧ (grid0.coords t 0).val = t.val / 5 :=
  (by decide +kernel : ∀ t : Fin grid0.N, (win0_5.index t 0 = t.val / 5 ∧ win0_5.index t 1 = t.val % 5 ∧ win0_5.index t 2 = 0)
    ∧ (win0_0.index t 0 = t.val / 5 ∧ win0_0.index t 1 = t.val % 5 ∧ win0_0.index t 2 = 0)
    ∧ (win0_1.index t 0 = 0 ∧ win0_1.index t 1 = t.val / 5 ∧ win0_1.index t 2 = 0 ∧ win0_1.index t 3 = 0)
    ∧ (win0_2.index t 0 = 0 ∧ win0_2.index t 1 = t.val / 5 ∧ win0_2.index t 2 = 0 ∧ win0_2.index t 3 = 0)
    ∧ (win0_3.index t 0 = 0 ∧ win0_3.index t 1 = t.val / 5 ∧ win0_3.index t 2 = 0 ∧ win0_3.index t 3 = 0)
    ∧ (win0_4.index t 0 = t.val / 5 ∧ win0_4.index t 1 = t.val % 5 ∧ win0_4.index t 2 = 0)
    ∧ (grid0.coords t 0).val = t.val / 5) t

/-- Where the output block of point `t` puts its element `(0, r, d)`. -/
theorem out_at (t : Fin cfg0.N) (r : Fin 832) (d : Fin 4096) :
    (((win0_5.rect t).emb (ix3 0 r d)) 0).val = t.val / 5 ∧ (((win0_5.rect t).emb (ix3 0 r d)) 1).val = t.val % 5 * 832 + r.val
      ∧ (((win0_5.rect t).emb (ix3 0 r d)) 2).val = d.val := by
  obtain ⟨⟨h0, h1, h2⟩, -⟩ := blocks t
  refine ⟨?_, ?_, ?_⟩
  · refine (win0_5.rect_emb_val t _ 0).trans ?_
    rw [h0]; show t.val / 5 * 1 + 0 = t.val / 5; omega
  · refine (win0_5.rect_emb_val t _ 1).trans ?_
    rw [h1]; rfl
  · exact (win0_5.rect_emb_val_of_index_zero t 2 h2 _).trans rfl

variable (m : (ℓ : Loc nD τ sig) → Buf (Elt Ideal) ℓ) (ρ : Dev nD → PrngReg)

/-- The experts' outputs, of the launch's arguments. -/
abbrev expertsAt (c : Dev nD) : Vec Ideal S16x4160x4096 .bf16 :=
  expertsOf (m ((c : Thread nD τ).loc main_arg0)) (m ((c : Thread nD τ).loc main_arg1)) (m ((c : Thread nD τ).loc main_arg2))
    (m ((c : Thread nD τ).loc main_arg3)) (m ((c : Thread nD τ).loc main_arg4))

/-- Equal parts make equal terms of the output's sum. -/
theorem term_congr {a a' b b' g g' w w' : EReal} (ha : a = a') (hb : b = b') (hg : g = g') (hw : w = w') :
    act a b * g * w = act a' b' * g' * w' := by rw [ha, hb, hg, hw]

/-- What point `t` writes back is its block of the experts' outputs. -/
theorem flushed_experts (c : Dev nD) (t : Fin cfg0.N) : (dats m 0 c).flushed 5 t
    = ((cfg0.win 5).blk t).view.read (Elt Ideal) (expertsAt m c) := by
  obtain ⟨-, ⟨h00, h01, h02⟩, ⟨h10, h11, h12, h13⟩, ⟨h20, h21, h22, h23⟩, ⟨h30, h31, h32, h33⟩, ⟨h40, h41, h42⟩, hc⟩ := blocks t
  rw [Value.flushed5]
  funext y
  show out0_5 (grid0.coords t) (iblk m c 0 t) (iblk m c 1 t) (iblk m c 2 t) (iblk m c 3 t) (iblk m c 4 t) y
    = expertsAt m c ((win0_5.rect t).emb y)
  obtain ⟨z, r, d, rfl⟩ := (⟨_, _, _, eq_ix3 y⟩ : ∃ (z : Fin 1) (r : Fin 832) (d : Fin 4096), y = ix3 z r d)
  obtain rfl : z = 0 := Subsingleton.elim _ _
  obtain ⟨he, hr, hd⟩ := out_at t r d
  generalize hi : (win0_5.rect t).emb (ix3 0 r d) = i at he hr hd
  refine (out_apply (grid0.coords t) (i 0) (hc.trans he.symm) (iblk m c 0 t) (iblk m c 1 t) (iblk m c 2 t) (iblk m c 3 t) (iblk m c 4 t) r d).trans ?_
  have e0 : ∀ k : Fin 4096, (win0_0.rect t).emb (ix3 0 r k) = ix3 (i 0) (i 1) k := fun k => idx3
    ((win0_0.rect_emb_val t _ 0).trans (by rw [h00]; show t.val / 5 * 1 + 0 = (i 0).val; omega))
    ((win0_0.rect_emb_val t _ 1).trans (by rw [h01]; exact hr.symm)) ((win0_0.rect_emb_val_of_index_zero t 2 h02 _).trans rfl)
  have e1 : ∀ (k : Fin 4096) (f : Fin 256), (win0_1.rect t).emb (ix4 0 0 k f) = ix4 0 (i 0) k f := fun k f => idx4
    ((win0_1.rect_emb_val_of_index_zero t 0 h10 _).trans rfl)
    ((win0_1.rect_emb_val t _ 1).trans (by rw [h11]; show t.val / 5 * 1 + 0 = (i 0).val; omega))
    ((win0_1.rect_emb_val_of_index_zero t 2 h12 _).trans rfl) ((win0_1.rect_emb_val_of_index_zero t 3 h13 _).trans rfl)
  have e2 : ∀ (k : Fin 4096) (f : Fin 256), (win0_2.rect t).emb (ix4 0 0 k f) = ix4 0 (i 0) k f := fun k f => idx4
    ((win0_2.rect_emb_val_of_index_zero t 0 h20 _).trans rfl)
    ((win0_2.rect_emb_val t _ 1).trans (by rw [h21]; show t.val / 5 * 1 + 0 = (i 0).val; omega))
    ((win0_2.rect_emb_val_of_index_zero t 2 h22 _).trans rfl) ((win0_2.rect_emb_val_of_index_zero t 3 h23 _).trans rfl)
  have e3 : ∀ f : Fin 256, (win0_3.rect t).emb (ix4 0 0 f d) = ix4 0 (i 0) f (i 2) := fun f => idx4
    ((win0_3.rect_emb_val_of_index_zero t 0 h30 _).trans rfl)
    ((win0_3.rect_emb_val t _ 1).trans (by rw [h31]; show t.val / 5 * 1 + 0 = (i 0).val; omega))
    ((win0_3.rect_emb_val_of_index_zero t 2 h32 _).trans rfl) ((win0_3.rect_emb_val_of_index_zero t 3 h33 _).trans hd.symm)
  have e4 : ∀ l : Fin 128, (win0_4.rect t).emb (ix3 0 r l) = ix3 (i 0) (i 1) l := fun l => idx3
    ((win0_4.rect_emb_val t _ 0).trans (by rw [h40]; show t.val / 5 * 1 + 0 = (i 0).val; omega))
    ((win0_4.rect_emb_val t _ 1).trans (by rw [h41]; exact hr.symm)) ((win0_4.rect_emb_val_of_index_zero t 2 h42 _).trans rfl)
  refine Finset.sum_congr rfl fun f _ => term_congr ?_ ?_ ?_ ?_
  · exact Finset.sum_congr rfl fun k _ => congrArg₂ (fun a b : EReal => a * b) (congrArg (m ((c : Thread nD τ).loc main_arg0)) (e0 k)) (congrArg (m ((c : Thread nD τ).loc main_arg2)) (e1 k f))
  · exact Finset.sum_congr rfl fun k _ => congrArg₂ (fun a b : EReal => a * b) (congrArg (m ((c : Thread nD τ).loc main_arg0)) (e0 k)) (congrArg (m ((c : Thread nD τ).loc main_arg3)) (e2 k f))
  · exact congrArg (fun h : Fin 128 → EReal => three h (i 0)) (funext fun l => congrArg (m ((c : Thread nD τ).loc main_arg1)) (e4 l))
  · exact congrArg (m ((c : Thread nD τ).loc main_arg4)) (e3 f)

/-- The blocks cover the result. -/
theorem covered (i : S16x4160x4096.Idx) : ∃ t : Fin cfg0.N, (cfg0.win 5).flush t = true ∧ i ∈ ((cfg0.win 5).blk t).view.set := by
  have h0 : (i 0).val < 16 := (i 0).isLt
  have h1 : (i 1).val < 4160 := (i 1).isLt
  let t : Fin cfg0.N := ⟨(i 0).val * 5 + (i 1).val / 832, by show _ < 80; omega⟩
  have ht : t.val = (i 0).val * 5 + (i 1).val / 832 := rfl
  obtain ⟨he, hr, hd⟩ := out_at t ⟨(i 1).val % 832, Nat.mod_lt _ (by decide)⟩ (i 2)
  refine ⟨t, flush0_5 t, ?_⟩
  rw [← (idx3 (he.trans (by omega)) (hr.trans (by show _ + (i 1).val % 832 = _; omega)) hd : _ = i)]
  exact ((cfg0.win 5).blk t).view.emb_mem_set _

/-- The result of the launch is the experts' outputs. -/
theorem result (c : Dev nD) : (dats m 0 c).arrAt 5 cfg0.N = expertsAt m c :=
  (dats m 0 c).arrAt_eq_of_cover 5 _ (fun t _ => flushed_experts m c t) covered

open Cert.ExpertsRefIdeal.Read in
theorem reference_pre1 (x : Vec Ideal S16x4160x4096 .bf16) (w : Vec Ideal S4x16x4096x256 .bf16) (i : Cert.ExpertsRefIdeal.S16x4160x256.Idx)
    (e : Fin 16) (r : Fin 4160) (f : Fin 256) (h0 : (i 0).val = e.val) (h1 : (i 1).val = r.val) (h2 : (i 2).val = f.val) :
    val_main_v4 (F := Ideal) x w i = preOf x w e r f := by
  rw [val_main_v4_apply]
  refine Finset.sum_congr rfl fun k _ => ?_
  rw [val_main_v0_apply, val_main_v3_apply, val_main_v2_apply, val_main_v1_apply]
  have hk := k.isLt
  have hf := f.isLt
  have he := e.isLt
  refine congrArg₂ (fun a b : EReal => a * b) (congrArg x (idx3 h0 h1 rfl)) (congrArg w (idx4 rfl ?_ ?_ ?_))
  · show (((i 0).val * 4096 + k.val) * 256 + (i 2).val) / 1048576 % 16 = e.val; omega
  · show (((i 0).val * 4096 + k.val) * 256 + (i 2).val) / 256 % 4096 = k.val; omega
  · show (((i 0).val * 4096 + k.val) * 256 + (i 2).val) % 256 = f.val; omega

open Cert.ExpertsRefIdeal.Read in
theorem reference_pre3 (x : Vec Ideal S16x4160x4096 .bf16) (w : Vec Ideal S4x16x4096x256 .bf16) (i : Cert.ExpertsRefIdeal.S16x4160x256.Idx)
    (e : Fin 16) (r : Fin 4160) (f : Fin 256) (h0 : (i 0).val = e.val) (h1 : (i 1).val = r.val) (h2 : (i 2).val = f.val) :
    val_main_v8 (F := Ideal) x w i = preOf x w e r f := by
  rw [val_main_v8_apply]
  refine Finset.sum_congr rfl fun k _ => ?_
  rw [val_main_v0_apply, val_main_v7_apply, val_main_v6_apply, val_main_v5_apply]
  have hk := k.isLt
  have hf := f.isLt
  have he := e.isLt
  refine congrArg₂ (fun a b : EReal => a * b) (congrArg x (idx3 h0 h1 rfl)) (congrArg w (idx4 rfl ?_ ?_ ?_))
  · show (((i 0).val * 4096 + k.val) * 256 + (i 2).val) / 1048576 % 16 = e.val; omega
  · show (((i 0).val * 4096 + k.val) * 256 + (i 2).val) / 256 % 4096 = k.val; omega
  · show (((i 0).val * 4096 + k.val) * 256 + (i 2).val) % 256 = f.val; omega

open Cert.ExpertsRefIdeal.Read in
/-- The reference's gate of a row. -/
theorem reference_gate (g : Vec Ideal S16x4160x128 .f32) (i : Cert.ExpertsRefIdeal.S16x4160.Idx) (e : Fin 16) (r : Fin 4160)
    (h0 : (i 0).val = e.val) (h1 : (i 1).val = r.val) : val_main_v28 (F := Ideal) g i = gateOf g e r := by
  rw [val_main_v28_apply, val_main_cst_0_apply]
  show Ideal.ofBits .f32 0x00000000#32 + _ = _
  rw [Ideal.ofBits_zero_f32, zero_add]
  have hterm : ∀ k : Fin 16, val_main_v27 (F := Ideal) g (idx_main_v28 i k) = if k = e then gateOf g e r else 0 := fun k => by
    have hbit : val_main_call1_v1 (F := Ideal) (idx_main_v28 i k) = BitVec.ofBool (decide (k = e)) := by
      rw [val_main_call1_v1_apply, val_main_v26_apply, val_main_v24_apply, val_main_v25_apply, val_main_v21_apply, val_main_v23_apply,
        val_main_v20_apply, val_main_v22_apply]
      show IntOp.cmpi .eq (BitVec.ofNat 32 (i 0).val) (BitVec.ofNat 32 k.val) = _
      rw [h0]
      exact (by decide +kernel : ∀ e k : Fin 16, IntOp.cmpi .eq (BitVec.ofNat 32 e.val) (BitVec.ofNat 32 k.val) = BitVec.ofBool (decide (k = e))) e k
    rw [val_main_v27_apply, hbit, val_main_call1_v2_apply, val_main_call1_v0_apply, val_main_cst_apply]
    by_cases hk : k = e
    · subst hk
      simp only [decide_true, if_true]
      show val_main_v19 (F := Ideal) g (idx_main_v28 i k) = _
      rw [val_main_v19_apply, val_main_v17_apply, val_main_v15_apply, val_main_v16_apply, val_main_v18_apply]
      exact congrArg₂ (fun a b : EReal => a + b) (congrArg₂ (fun a b : EReal => a + b) (congrArg g (idx3 h0 h1 rfl)) (congrArg g (idx3 h0 h1 rfl)))
        (congrArg g (idx3 h0 h1 rfl))
    · simp only [hk, decide_false, if_false]
      exact Ideal.ofBits_zero_f32
  simp only [hterm]
  rw [Finset.sum_ite_eq' Finset.univ e, if_pos (Finset.mem_univ e)]

/-- A factor that is neither negative nor infinite goes into a sum of products. -/
theorem factor_in {n : Nat} (g : EReal) (h0 : 0 ≤ g) (ht : g ≠ ⊤) (a b : Fin n → EReal) :
    (∑ f, a f * b f) * g = ∑ f, a f * g * b f := by
  let φ : EReal →+ EReal := ⟨⟨fun y => y * g, zero_mul g⟩, fun y z => EReal.right_distrib_of_nonneg_of_ne_top h0 ht y z⟩
  refine (map_sum φ (fun f => a f * b f) Finset.univ).trans (Finset.sum_congr rfl fun f _ => ?_)
  exact mul_right_comm (a f) (b f) g

open Cert.ExpertsRefIdeal.Read in
/-- The reference's result is the experts' outputs, where the gates are neither negative nor infinite. -/
theorem reference_experts (x : Vec Ideal S16x4160x4096 .bf16) (g : Vec Ideal S16x4160x128 .f32) (w1 w3 : Vec Ideal S4x16x4096x256 .bf16)
    (w2 : Vec Ideal S4x16x256x4096 .bf16) (hg : ∀ e r, 0 ≤ gateOf g e r ∧ gateOf g e r ≠ ⊤) :
    val_main_v32 (F := Ideal) x g w1 w3 w2 = expertsOf x g w1 w3 w2 := by
  funext i
  rw [val_main_v32_apply, val_main_v31_apply, val_main_v14_apply, val_main_v30_apply, val_main_v29_apply, reference_gate g _ (i 0) (i 1) rfl rfl]
  refine Eq.trans (congrArg (fun s : EReal => s * gateOf g (i 0) (i 1)) (Finset.sum_congr rfl fun f _ => ?_))
    (factor_in (gateOf g (i 0) (i 1)) (hg _ _).1 (hg _ _).2 (fun f => act (preOf x w1 (i 0) (i 1) f) (preOf x w3 (i 0) (i 1) f))
      (fun f => w2 (ix4 0 (i 0) f (i 2))))
  rw [val_main_v10_apply, val_main_v9_apply, val_main_call0_v5_apply, val_main_call0_v4_apply, val_main_call0_cst_0_apply, val_main_call0_v3_apply,
    val_main_call0_v2_apply, val_main_call0_cst_apply, val_main_call0_v1_apply, val_main_call0_v0_apply,
    reference_pre1 x w1 _ (i 0) (i 1) f rfl rfl rfl, reference_pre3 x w3 _ (i 0) (i 1) f rfl rfl rfl,
    val_main_v13_apply, val_main_v12_apply, val_main_v11_apply]
  have h0 : (i 0).val < 16 := (i 0).isLt
  have h2 : (i 2).val < 4096 := (i 2).isLt
  have hf := f.isLt
  refine congrArg₂ (fun a b : EReal => a * b) (congrArg (fun s : EReal => preOf x w1 (i 0) (i 1) f * s * preOf x w3 (i 0) (i 1) f) (Merge.logistic_spelt _))
    (congrArg w2 (idx4 rfl ?_ ?_ ?_))
  · show (((i 0).val * 256 + f.val) * 4096 + (i 2).val) / 1048576 % 16 = (i 0).val; omega
  · show (((i 0).val * 256 + f.val) * 4096 + (i 2).val) / 4096 % 256 = f.val; omega
  · show (((i 0).val * 256 + f.val) * 4096 + (i 2).val) % 4096 = (i 2).val; omega

/-- The shapes the precondition's operations state. -/
theorem finite_facts : Cert.Pre_gates_finite.Facts := by
  constructor <;> decide

theorem at_least (z : EReal) (h : BitVec.ofBool (decide (Ideal.ofBits .f32 0x00000000#32 ≤ z)) = 1#1) : 0 ≤ z := by
  rw [Ideal.ofBits_zero_f32] at h
  by_contra c
  simp [c] at h

theorem below (z : EReal) (h : BitVec.ofBool (decide (z < Ideal.ofBits .f32 0x7F800000#32)) = 1#1) : z ≠ ⊤ := by
  have e : Ideal.ofBits .f32 0x7F800000#32 = (⊤ : EReal) := by simp [Ideal.ofBits, Ideal.ieee]
  rw [e] at h
  rintro rfl
  simp at h

instance : Subsingleton Cert.Pre_gates_finite.S_.Idx := ⟨fun a b => funext fun i => i.elim0⟩

/-- The precondition, read back. -/
theorem gates_of [Cert.Pre_gates_finite.Facts] (x : Vec Ideal S16x4160x4096 .bf16) (g : Vec Ideal S16x4160x128 .f32) (w1 w3 : Vec Ideal S4x16x4096x256 .bf16)
    (w2 : Vec Ideal S4x16x256x4096 .bf16) (h : Cert.Pre_gates_finite.fn (F := Ideal) x g w1 w3 w2 = fun _ => 1#1) (e : Fin 16) (r : Fin 4160) :
    0 ≤ gateOf g e r ∧ gateOf g e r ≠ ⊤ := by
  have a := congrFun h ValueIdx.ix0
  simp only [Cert.Pre_gates_finite.fn, Cert.Pre_gates_finite.fn_part1] at a
  obtain ⟨a0, a1⟩ := IntOp.andi_eq_one.1 a
  have b0 := Host.reduce_andi_all _ _ _ _ _ a0 (ix2 e r)
  have b1 := Host.reduce_andi_all _ _ _ _ _ a1 (ix2 e r)
  rw [← reference_gate g (ix2 e r) e r rfl rfl]
  exact ⟨at_least _ b0, below _ b1⟩

/-- Over the ideal numbers the kernel and the reference leave the same array. -/
theorem same [hPre_gates_finite : Cert.Pre_gates_finite.Facts] : Cert.algebraic_ExpertsIdeal_ExpertsRefIdeal_pre_gates_finite := by
  intro m g m' g' hp hagree
  refine ⟨fun c => expertsAt m c, ?_, ?_⟩
  · refine (θ_run _ _ _).mono (fun r h c => ?_) (Value.run_blocks m g)
    exact ⟨(h c).1.trans (result m c), (h c).2⟩
  · refine (θ_run _ _ _).mono (fun r h c => ?_) (Cert.ExpertsRefIdeal.Value.run m' g')
    obtain ⟨h0, h1, h2, h3, h4⟩ := hagree c
    refine ⟨(h c).1.trans ?_, (h c).2⟩
    refine (Cert.ExpertsRefIdeal.Read.val_main_v32_eq _ _ _ _ _).trans ?_
    rw [h0, h1, h2, h3, h4]
    exact reference_experts _ _ _ _ _ (gates_of _ _ _ _ _ (hp c))

end Cert.Proof.Experts

end
-- ==== Proof.lean ====
/-
  The proof of the certificate's claim: each program's frame, and the value claims its hand modules prove.
-/
module

public import proofs.«01_k».proof.Defs
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerRefIdeal
public import proofs.«01_k».proof.Proof.Gen.MixerRefIdeal.Run
public import proofs.«01_k».proof.Proof.Gen.MixerRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.HeadProj
public import proofs.«01_k».proof.Proof.Gen.HeadProj.Skeleton
public import proofs.«01_k».proof.Proof.Gen.HeadProj.Launch
public import proofs.«01_k».proof.Proof.Gen.HeadProj.Points
public import proofs.«01_k».proof.Proof.Gen.HeadProj.Frame
public import proofs.«01_k».proof.Proof.Gen.HeadProjIdeal
public import proofs.«01_k».proof.Proof.Gen.HeadProjIdeal.Skeleton
public import proofs.«01_k».proof.Proof.Gen.HeadProjIdeal.Launch
public import proofs.«01_k».proof.Proof.Gen.HeadProjIdeal.Points
public import proofs.«01_k».proof.Proof.Gen.HeadProjIdeal.Frame
public import proofs.«01_k».proof.Proof.Gen.HeadProjRefIdeal
public import proofs.«01_k».proof.Proof.Gen.HeadProjRefIdeal.Run
public import proofs.«01_k».proof.Proof.Gen.HeadProjRefIdeal.Read
public import proofs.«01_k».proof.Proof.Gen.RestProj
public import proofs.«01_k».proof.Proof.Gen.RestProj.Skeleton
public import proofs.«01_k».proof.Proof.Gen.RestProj.Launch
public import proofs.«01_k».proof.Proof.Gen.RestProj.Points
public import proofs.«01_k».proof.Proof.Gen.RestProj.Frame
public import proofs.«01_k».proof.Proof.Gen.RestProjIdeal
public import proofs.«01_k».proof.Proof.Gen.RestProjIdeal.Skeleton
public import proofs.«01_k».proof.Proof.Gen.RestProjIdeal.Launch
public import proofs.«01_k».proof.Proof.Gen.RestProjIdeal.Points
public import proofs.«01_k».proof.Proof.Gen.RestProjIdeal.Frame
public import proofs.«01_k».proof.Proof.Gen.RestProjIdeal.Value
public import proofs.«01_k».proof.Proof.Gen.RestProjRefIdeal
public import proofs.«01_k».proof.Proof.Gen.RestProjRefIdeal.Run
public import proofs.«01_k».proof.Proof.Gen.RestProjRefIdeal.Read
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsIdeal.Value
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Dispatch
public import proofs.«01_k».proof.Proof.Gen.Dispatch.Skeleton
public import proofs.«01_k».proof.Proof.Gen.Dispatch.Launch
public import proofs.«01_k».proof.Proof.Gen.Dispatch.Points
public import proofs.«01_k».proof.Proof.Gen.Dispatch.Frame
public import proofs.«01_k».proof.Proof.Gen.DispatchIdeal
public import proofs.«01_k».proof.Proof.Gen.DispatchIdeal.Skeleton
public import proofs.«01_k».proof.Proof.Gen.DispatchIdeal.Launch
public import proofs.«01_k».proof.Proof.Gen.DispatchIdeal.Points
public import proofs.«01_k».proof.Proof.Gen.DispatchIdeal.Frame
public import proofs.«01_k».proof.Proof.Gen.DispatchIdeal.Value
public import proofs.«01_k».proof.Proof.Gen.DispatchRefIdeal
public import proofs.«01_k».proof.Proof.Gen.DispatchRefIdeal.Run
public import proofs.«01_k».proof.Proof.Gen.DispatchRefIdeal.Read
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineIdeal.Value
public import proofs.«01_k».proof.Proof.Gen.CombineRefIdeal
public import proofs.«01_k».proof.Proof.Gen.CombineRefIdeal.Run
public import proofs.«01_k».proof.Proof.Gen.CombineRefIdeal.Read
public import proofs.«01_k».proof.Proof.Combine.Same
public import proofs.«01_k».proof.Proof.Dispatch.Same
public import proofs.«01_k».proof.Proof.Mixing.Same
public import proofs.«01_k».proof.Proof.Merge
public import proofs.«01_k».proof.Proof.OutProj
public import proofs.«01_k».proof.Proof.HeadProj.Frame
public import proofs.«01_k».proof.Proof.HeadProj.FrameIdeal
public import proofs.«01_k».proof.Proof.HeadProj.Same
public import proofs.«01_k».proof.Proof.RestProj
public import proofs.«01_k».proof.Proof.Experts.Same
public import Idealize.ShloMosaic.Adequacy
public import Idealize.ShloMosaic.Init

@[expose] public section

noncomputable section

namespace Cert.Proof

open Idealize.ShloMosaic Idealize.SL.Sem

/-- The reference ends with its arguments unchanged, and has no counter to leave. -/
theorem reference_frame_Mixer : Cert.quiescent_MixerRefIdeal (hMixerRefIdeal := Cert.MixerRefIdeal.Gen.facts) := fun m ρ _ =>
  (θ_run _ _ _).mono (fun r h => ⟨fun c => (h c).2.2, sem_eq_zero_of_no_sems (by decide) r.2⟩) (Cert.MixerRefIdeal.Value.run m ρ)

/-- It does so where the precondition holds, too. -/
theorem reference_frame_Mixer_bounded : Cert.quiescent_MixerRefIdeal_pre_decays_bounded (hMixerRefIdeal := Cert.MixerRefIdeal.Gen.facts)
    (hPre_decays_bounded := Cert.Proof.Mixing.bounded_facts) := fun m ρ _ =>
  (θ_run _ _ _).mono (fun r h => ⟨fun c => (h c).2.2, sem_eq_zero_of_no_sems (by decide) r.2⟩) (Cert.MixerRefIdeal.Value.run m ρ)

/-- The reference ends with its arguments unchanged, and has no counter to leave. -/
theorem reference_frame_Merge : Cert.quiescent_MergeRefIdeal (hMergeRefIdeal := Cert.MergeRefIdeal.Gen.facts) := fun m ρ _ =>
  (θ_run _ _ _).mono (fun r h => ⟨fun c => (h c).2, sem_eq_zero_of_no_sems (by decide) r.2⟩) (Cert.MergeRefIdeal.Value.run m ρ)

/-- The reference ends with its arguments unchanged, and has no counter to leave. -/
theorem reference_frame_OutProj : Cert.quiescent_OutProjRefIdeal (hOutProjRefIdeal := Cert.OutProjRefIdeal.Gen.facts) := fun m ρ _ =>
  (θ_run _ _ _).mono (fun r h => ⟨fun c => (h c).2, sem_eq_zero_of_no_sems (by decide) r.2⟩) (Cert.OutProjRefIdeal.Value.run m ρ)

/-- The reference ends with its arguments unchanged, and has no counter to leave. -/
theorem reference_frame_HeadProj : Cert.quiescent_HeadProjRefIdeal (hHeadProjRefIdeal := Cert.HeadProjRefIdeal.Gen.facts) := fun m ρ _ =>
  (θ_run _ _ _).mono (fun r h => ⟨fun c => (h c).2.2, sem_eq_zero_of_no_sems (by decide) r.2⟩) (Cert.HeadProjRefIdeal.Value.run m ρ)

/-- The reference ends with its arguments unchanged, and has no counter to leave. -/
theorem reference_frame_RestProj : Cert.quiescent_RestProjRefIdeal (hRestProjRefIdeal := Cert.RestProjRefIdeal.Gen.facts) := fun m ρ _ =>
  (θ_run _ _ _).mono (fun r h => ⟨fun c => (h c).2, sem_eq_zero_of_no_sems (by decide) r.2⟩) (Cert.RestProjRefIdeal.Value.run m ρ)

/-- The reference ends with its arguments unchanged, and has no counter to leave. -/
theorem reference_frame_Experts : Cert.quiescent_ExpertsRefIdeal (hExpertsRefIdeal := Cert.ExpertsRefIdeal.Gen.facts) := fun m ρ _ =>
  (θ_run _ _ _).mono (fun r h => ⟨fun c => (h c).2, sem_eq_zero_of_no_sems (by decide) r.2⟩) (Cert.ExpertsRefIdeal.Value.run m ρ)

/-- It does so where the precondition holds, too. -/
theorem reference_frame_Experts_finite : Cert.quiescent_ExpertsRefIdeal_pre_gates_finite (hExpertsRefIdeal := Cert.ExpertsRefIdeal.Gen.facts)
    (hPre_gates_finite := Cert.Proof.Experts.finite_facts) := fun m ρ _ =>
  (θ_run _ _ _).mono (fun r h => ⟨fun c => (h c).2, sem_eq_zero_of_no_sems (by decide) r.2⟩) (Cert.ExpertsRefIdeal.Value.run m ρ)

/-- The reference ends with its arguments unchanged, and has no counter to leave. -/
theorem reference_frame_Combine : Cert.quiescent_CombineRefIdeal (hCombineRefIdeal := Cert.CombineRefIdeal.Gen.facts) := fun m ρ _ =>
  (θ_run _ _ _).mono (fun r h => ⟨fun c => (h c).2, sem_eq_zero_of_no_sems (by decide) r.2⟩) (Cert.CombineRefIdeal.Value.run m ρ)

/-- The reference ends with its arguments unchanged, and has no counter to leave. -/
theorem reference_frame_Dispatch : Cert.quiescent_DispatchRefIdeal (hDispatchRefIdeal := Cert.DispatchRefIdeal.Gen.facts) := fun m ρ _ =>
  (θ_run _ _ _).mono (fun r h => ⟨fun c => (h c).2.2.2.2, sem_eq_zero_of_no_sems (by decide) r.2⟩) (Cert.DispatchRefIdeal.Value.run m ρ)

/-- It does so where the precondition holds, too. -/
theorem reference_frame_Dispatch_numbers : Cert.quiescent_DispatchRefIdeal_pre_gates_numbers (hDispatchRefIdeal := Cert.DispatchRefIdeal.Gen.facts)
    (hPre_gates_numbers := Cert.Proof.Dispatch.numbers_facts) := fun m ρ _ =>
  (θ_run _ _ _).mono (fun r h => ⟨fun c => (h c).2.2.2.2, sem_eq_zero_of_no_sems (by decide) r.2⟩) (Cert.DispatchRefIdeal.Value.run m ρ)

theorem claim : Cert.Claim :=
  ⟨Cert.Mixer.Gen.facts, Cert.MixerIdeal.Gen.facts, Cert.MixerRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.HeadProj.Gen.facts, Cert.HeadProjIdeal.Gen.facts, Cert.HeadProjRefIdeal.Gen.facts, Cert.RestProj.Gen.facts, Cert.RestProjIdeal.Gen.facts, Cert.RestProjRefIdeal.Gen.facts, Cert.Experts.Gen.facts, Cert.ExpertsIdeal.Gen.facts, Cert.ExpertsRefIdeal.Gen.facts, Cert.Combine.Gen.facts, Cert.CombineIdeal.Gen.facts, Cert.CombineRefIdeal.Gen.facts, Cert.Dispatch.Gen.facts, Cert.DispatchIdeal.Gen.facts, Cert.DispatchRefIdeal.Gen.facts, Cert.Proof.Mixing.bounded_facts, Cert.Proof.Experts.finite_facts, Cert.Proof.Dispatch.numbers_facts,
    fun m ρ _ => Cert.Mixer.Gen.frame m ρ,
    fun m ρ _ => Cert.MixerIdeal.Gen.frame m ρ,
    fun m ρ _ => Cert.MixerIdeal.Gen.frame m ρ,
    reference_frame_Mixer,
    reference_frame_Mixer_bounded,
    fun m ρ _ => Cert.Merge.Gen.frame m ρ,
    fun m ρ _ => Cert.MergeIdeal.Gen.frame m ρ,
    reference_frame_Merge,
    fun m ρ _ => Cert.OutProj.Gen.frame m ρ,
    fun m ρ _ => Cert.OutProjIdeal.Gen.frame m ρ,
    reference_frame_OutProj,
    fun m ρ _ => Cert.Proof.HeadProj.unchanged_run m ρ,
    fun m ρ _ => Cert.Proof.HeadProjIdeal.unchanged_run m ρ,
    reference_frame_HeadProj,
    fun m ρ _ => Cert.RestProj.Gen.frame m ρ,
    fun m ρ _ => Cert.RestProjIdeal.Gen.frame m ρ,
    reference_frame_RestProj,
    fun m ρ _ => Cert.Experts.Gen.frame m ρ,
    fun m ρ _ => Cert.ExpertsIdeal.Gen.frame m ρ,
    fun m ρ _ => Cert.ExpertsIdeal.Gen.frame m ρ,
    reference_frame_Experts,
    reference_frame_Experts_finite,
    fun m ρ _ => Cert.Combine.Gen.frame m ρ,
    fun m ρ _ => Cert.CombineIdeal.Gen.frame m ρ,
    reference_frame_Combine,
    fun m ρ _ => Cert.Dispatch.Gen.frame m ρ,
    fun m ρ _ => Cert.DispatchIdeal.Gen.frame m ρ,
    fun m ρ _ => Cert.DispatchIdeal.Gen.frame m ρ,
    reference_frame_Dispatch,
    reference_frame_Dispatch_numbers,
    trivial,
    Cert.Proof.Mixing.same (hPre_decays_bounded := Cert.Proof.Mixing.bounded_facts),
    trivial,
    Cert.Proof.Merge.same,
    trivial,
    Cert.Proof.OutProj.same,
    trivial,
    Cert.Proof.HeadProjIdeal.same,
    trivial,
    Cert.Proof.RestProj.same,
    trivial,
    Cert.Proof.Experts.same (hPre_gates_finite := Cert.Proof.Experts.finite_facts),
    trivial,
    Cert.Proof.Combine.same,
    trivial,
    Cert.Proof.Dispatch.same (hPre_gates_numbers := Cert.Proof.Dispatch.numbers_facts)⟩

end Cert.Proof

end
